-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_sorted_by_group : Cert.Pre_sorted_by_group.Facts] (m : (ℓ : Loc Cert.Kernel2.nD Cert.Kernel2.τ Cert.Kernel2.sig) → Buf (Elt Bits) ℓ) : Prop :=
  ∀ c : Dev Cert.Kernel2.nD,
    (Cert.Pre_sorted_by_group.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_sorted_by_group : Cert.Pre_sorted_by_group.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_sorted_by_group.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_sorted_by_group [hPre_sorted_by_group : Cert.Pre_sorted_by_group.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_sorted_by_group.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_recurrence [hPre_finite_recurrence : Cert.Pre_finite_recurrence.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_recurrence.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13)) (m ((c.tc : Thread Cert.Kernel6Ideal.nD Cert.Kernel6Ideal.τ).loc Cert.Kernel6Ideal.main_arg14)) (m ((c.tc : Thread Cert.Kernel6Ideal.nD Cert.Kernel6Ideal.τ).loc Cert.Kernel6Ideal.main_arg15)) (m ((c.tc : Thread Cert.Kernel6Ideal.nD Cert.Kernel6Ideal.τ).loc Cert.Kernel6Ideal.main_arg16)) (m ((c.tc : Thread Cert.Kernel6Ideal.nD Cert.Kernel6Ideal.τ).loc Cert.Kernel6Ideal.main_arg17)) (m ((c.tc : Thread Cert.Kernel6Ideal.nD Cert.Kernel6Ideal.τ).loc Cert.Kernel6Ideal.main_arg18)) (m ((c.tc : Thread Cert.Kernel6Ideal.nD Cert.Kernel6Ideal.τ).loc Cert.Kernel6Ideal.main_arg19)) (m ((c.tc : Thread Cert.Kernel6Ideal.nD Cert.Kernel6Ideal.τ).loc Cert.Kernel6Ideal.main_arg20)) (m ((c.tc : Thread Cert.Kernel6Ideal.nD Cert.Kernel6Ideal.τ).loc Cert.Kernel6Ideal.main_arg21))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_recurrence [hPre_finite_recurrence : Cert.Pre_finite_recurrence.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_recurrence.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13)) (m ((c.tc : Thread Cert.Reference6Ideal.nD Cert.Reference6Ideal.τ).loc Cert.Reference6Ideal.main_arg14)) (m ((c.tc : Thread Cert.Reference6Ideal.nD Cert.Reference6Ideal.τ).loc Cert.Reference6Ideal.main_arg15)) (m ((c.tc : Thread Cert.Reference6Ideal.nD Cert.Reference6Ideal.τ).loc Cert.Reference6Ideal.main_arg16)) (m ((c.tc : Thread Cert.Reference6Ideal.nD Cert.Reference6Ideal.τ).loc Cert.Reference6Ideal.main_arg17)) (m ((c.tc : Thread Cert.Reference6Ideal.nD Cert.Reference6Ideal.τ).loc Cert.Reference6Ideal.main_arg18)) (m ((c.tc : Thread Cert.Reference6Ideal.nD Cert.Reference6Ideal.τ).loc Cert.Reference6Ideal.main_arg19)) (m ((c.tc : Thread Cert.Reference6Ideal.nD Cert.Reference6Ideal.τ).loc Cert.Reference6Ideal.main_arg20)) (m ((c.tc : Thread Cert.Reference6Ideal.nD Cert.Reference6Ideal.τ).loc Cert.Reference6Ideal.main_arg21))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_sorted_by_group : Cert.Pre_sorted_by_group.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_sorted_by_group : Cert.Pre_sorted_by_group.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_sorted_by_group [hReference2Ideal : Cert.Reference2Ideal.Facts] [hPre_sorted_by_group : Cert.Pre_sorted_by_group.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_sorted_by_group m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19)
      ∧ r.2.mem ((c.tc : Thread Cert.Kernel6.nD Cert.Kernel6.τ).loc Cert.Kernel6.main_arg20) = m ((c.tc : Thread Cert.Kernel6.nD Cert.Kernel6.τ).loc Cert.Kernel6.main_arg20)
      ∧ r.2.mem ((c.tc : Thread Cert.Kernel6.nD Cert.Kernel6.τ).loc Cert.Kernel6.main_arg21) = m ((c.tc : Thread Cert.Kernel6.nD Cert.Kernel6.τ).loc Cert.Kernel6.main_arg21))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21))
      ∧ r.2.sem = fun _ => 0)

def quiescent_Kernel6Ideal_pre_finite_recurrence [hKernel6Ideal : Cert.Kernel6Ideal.Facts] [hPre_finite_recurrence : Cert.Pre_finite_recurrence.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_recurrence m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21))
      ∧ r.2.sem = fun _ => 0)

def quiescent_Reference6Ideal_pre_finite_recurrence [hReference6Ideal : Cert.Reference6Ideal.Facts] [hPre_finite_recurrence : Cert.Pre_finite_recurrence.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_recurrence m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_sorted_by_group : Cert.Pre_sorted_by_group.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite_recurrence [hKernel6Ideal : Cert.Kernel6Ideal.Facts] [hReference6Ideal : Cert.Reference6Ideal.Facts] [hPre_finite_recurrence : Cert.Pre_finite_recurrence.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_recurrence m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)) →
    ∃ (v0 : (c : Dev Cert.Kernel6Ideal.nD) → Buf (Elt Ideal) ((c.tc : Thread Cert.Kernel6Ideal.nD Cert.Kernel6Ideal.τ).loc Cert.Kernel6Ideal.main_v20_0)) (v1 : (c : Dev Cert.Kernel6Ideal.nD) → Buf (Elt Ideal) ((c.tc : Thread Cert.Kernel6Ideal.nD Cert.Kernel6Ideal.τ).loc Cert.Kernel6Ideal.main_v20_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20_0) = v0 c
          ∧ r.2.mem ((c.tc : Thread Cert.Kernel6Ideal.nD Cert.Kernel6Ideal.τ).loc Cert.Kernel6Ideal.main_v20_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
          ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
          ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v140) = v0 c
          ∧ r.2.mem ((c.tc : Thread Cert.Reference6Ideal.nD Cert.Reference6Ideal.τ).loc Cert.Reference6Ideal.main_v163) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19)
          ∧ r.2.mem ((c.tc : Thread Cert.Reference6Ideal.nD Cert.Reference6Ideal.τ).loc Cert.Reference6Ideal.main_arg20) = m' ((c.tc : Thread Cert.Reference6Ideal.nD Cert.Reference6Ideal.τ).loc Cert.Reference6Ideal.main_arg20)
          ∧ r.2.mem ((c.tc : Thread Cert.Reference6Ideal.nD Cert.Reference6Ideal.τ).loc Cert.Reference6Ideal.main_arg21) = m' ((c.tc : Thread Cert.Reference6Ideal.nD Cert.Reference6Ideal.τ).loc Cert.Reference6Ideal.main_arg21))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v62) = v0 c
          ∧ r.2.mem ((c.tc : Thread Cert.Reference8Ideal.nD Cert.Reference8Ideal.τ).loc Cert.Reference8Ideal.main_v64) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v44) = v0 c
          ∧ r.2.mem ((c.tc : Thread Cert.Reference9Ideal.nD Cert.Reference9Ideal.τ).loc Cert.Reference9Ideal.main_v89) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v43) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_queries_keys : Cert.Pre_finite_queries_keys.Facts) (hPre_sorted_by_group : Cert.Pre_sorted_by_group.Facts) (hPre_finite_recurrence : Cert.Pre_finite_recurrence.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2) (hPre_sorted_by_group := hPre_sorted_by_group)
    ∧ quiescent_Kernel2Ideal (hKernel2Ideal := hKernel2Ideal) (hPre_sorted_by_group := hPre_sorted_by_group)
    ∧ quiescent_Reference2Ideal (hReference2Ideal := hReference2Ideal)
    ∧ quiescent_Reference2Ideal_pre_sorted_by_group (hReference2Ideal := hReference2Ideal) (hPre_sorted_by_group := hPre_sorted_by_group)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_recurrence (hKernel6Ideal := hKernel6Ideal) (hPre_finite_recurrence := hPre_finite_recurrence)
    ∧ quiescent_Reference6Ideal (hReference6Ideal := hReference6Ideal)
    ∧ quiescent_Reference6Ideal_pre_finite_recurrence (hReference6Ideal := hReference6Ideal) (hPre_finite_recurrence := hPre_finite_recurrence)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal (hKernel2Ideal := hKernel2Ideal) (hReference2Ideal := hReference2Ideal) (hPre_sorted_by_group := hPre_sorted_by_group)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_recurrence (hKernel6Ideal := hKernel6Ideal) (hReference6Ideal := hReference6Ideal) (hPre_finite_recurrence := hPre_finite_recurrence)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_queries_keys.lean ====
abbrev S8x4352x256 : Shape := ⟨3, ![8, 4352, 256]⟩
abbrev S8x2x4352x64 : Shape := ⟨4, ![8, 2, 4352, 64]⟩
abbrev S_ : Shape := ⟨0, ![]⟩

class Facts : Prop where
  bitsLt_bf16_f32 : FTy.bits .bf16 < FTy.bits .f32
  bcast_S_S8x4352x256 : S_.BroadcastsInDim S8x4352x256 (![] : Fin 0 → Fin S8x4352x256.rank)
  reducesTo_S8x4352x256_S_d0_1_2 : S8x4352x256.ReducesTo [0, 1, 2] S_
  h_S_ : 0 < S_.numel
  bcast_S_S8x2x4352x64 : S_.BroadcastsInDim S8x2x4352x64 (![] : Fin 0 → Fin S8x2x4352x64.rank)
  reducesTo_S8x2x4352x64_S_d0_1_2_3 : S8x2x4352x64.ReducesTo [0, 1, 2, 3] S_

variable [Facts]

def fn {F : FTy → Type} [FloatOps F] (main_arg0 : FVec F S8x4352x256 .bf16) (main_arg1 : FVec F S8x2x4352x64 .bf16) (main_arg2 : FVec F S8x2x4352x64 .bf16) : IVec S_ 1 :=
  let main_v0 : FVec F S8x4352x256 .f32 := (extf .f32 · bitsLt_bf16_f32) main_arg0
  let main_v1 : FVec F S8x4352x256 .f32 := Host.absf main_v0
  let main_cst : FVec F S_ .f32 := constant S_ .f32 0x7F800000#32
  let main_v2 : FVec F S8x4352x256 .f32 := broadcastInDim S8x4352x256 ![] bcast_S_S8x4352x256 main_cst
  let main_v3 : IVec S8x4352x256 1 := cmpf .olt main_v1 main_v2
  let main_c : IVec S_ 1 := constantI S_ 1 1#1
  let main_v4 : IVec S_ 1 := (fun x v => Host.reduce IntOp.andi x v reducesTo_S8x4352x256_S_d0_1_2 h_S_) main_v3 main_c
  let main_v5 : FVec F S8x2x4352x64 .f32 := (extf .f32 · bitsLt_bf16_f32) main_arg1
  let main_v6 : FVec F S8x2x4352x64 .f32 := Host.absf main_v5
  let main_cst_0 : FVec F S_ .f32 := constant S_ .f32 0x7F800000#32
  let main_v7 : FVec F S8x2x4352x64 .f32 := broadcastInDim S8x2x4352x64 ![] bcast_S_S8x2x4352x64 main_cst_0
  let main_v8 : IVec S8x2x4352x64 1 := cmpf .olt main_v6 main_v7
  let main_c_1 : IVec S_ 1 := constantI S_ 1 1#1
  let main_v9 : IVec S_ 1 := (fun x v => Host.reduce IntOp.andi x v reducesTo_S8x2x4352x64_S_d0_1_2_3 h_S_) main_v8 main_c_1
  let main_v10 : IVec S_ 1 := andi main_v4 main_v9
  main_v10
-- ==== Pre_finite_recurrence.lean ====
abbrev S8x4352x256 : Shape := ⟨3, ![8, 4352, 256]⟩
abbrev S8x4352x1024 : Shape := ⟨3, ![8, 4352, 1024]⟩
abbrev S16x1x6144 : Shape := ⟨3, ![16, 1, 6144]⟩
abbrev S256 : Shape := ⟨1, ![256]⟩
abbrev S1024x7168 : Shape := ⟨2, ![1024, 7168]⟩
abbrev S4x256x1024 : Shape := ⟨3, ![4, 256, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S_ : Shape := ⟨0, ![]⟩

class Facts : Prop where
  bcast_S_S8x4352x256 : S_.BroadcastsInDim S8x4352x256 (![] : Fin 0 → Fin S8x4352x256.rank)
  reducesTo_S8x4352x256_S_d0_1_2 : S8x4352x256.ReducesTo [0, 1, 2] S_
  h_S_ : 0 < S_.numel

variable [Facts]

def fn {F : FTy → Type} [FloatOps F] (main_arg0 : FVec F S8x4352x256 .f32) (main_arg1 : FVec F S8x4352x256 .f32) (main_arg2 : FVec F S8x4352x256 .f32) (main_arg3 : FVec F S8x4352x256 .f32) (main_arg4 : FVec F S8x4352x256 .bf16) (main_arg5 : FVec F S8x4352x256 .bf16) (main_arg6 : FVec F S8x4352x256 .f32) (main_arg7 : FVec F S8x4352x256 .bf16) (main_arg8 : FVec F S8x4352x256 .bf16) (main_arg9 : FVec F S8x4352x1024 .bf16) (main_arg10 : FVec F S8x4352x1024 .f32) (main_arg11 : FVec F S16x1x6144 .f32) (main_arg12 : FVec F S256 .f32) (main_arg13 : FVec F S1024x7168 .f32) (main_arg14 : FVec F S4x256x1024 .f32) (main_arg15 : FVec F S1024x1024 .f32) (main_arg16 : FVec F S1024 .f32) (main_arg17 : FVec F S1024 .f32) (main_arg18 : FVec F S1024x16 .f32) (main_arg19 : FVec F S16 .f32) (main_arg20 : FVec F S256 .f32) (main_arg21 : FVec F S256 .f32) : IVec S_ 1 :=
  let main_v0 : FVec F S8x4352x256 .f32 := Host.absf main_arg0
  let main_cst : FVec F S_ .f32 := constant S_ .f32 0x7F800000#32
  let main_v1 : FVec F S8x4352x256 .f32 := broadcastInDim S8x4352x256 ![] bcast_S_S8x4352x256 main_cst
  let main_v2 : IVec S8x4352x256 1 := cmpf .olt main_v0 main_v1
  let main_c : IVec S_ 1 := constantI S_ 1 1#1
  let main_v3 : IVec S_ 1 := (fun x v => Host.reduce IntOp.andi x v reducesTo_S8x4352x256_S_d0_1_2 h_S_) main_v2 main_c
  let main_v4 : FVec F S8x4352x256 .f32 := Host.absf main_arg1
  let main_cst_0 : FVec F S_ .f32 := constant S_ .f32 0x7F800000#32
  let main_v5 : FVec F S8x4352x256 .f32 := broadcastInDim S8x4352x256 ![] bcast_S_S8x4352x256 main_cst_0
  let main_v6 : IVec S8x4352x256 1 := cmpf .olt main_v4 main_v5
  let main_c_1 : IVec S_ 1 := constantI S_ 1 1#1
  let main_v7 : IVec S_ 1 := (fun x v => Host.reduce IntOp.andi x v reducesTo_S8x4352x256_S_d0_1_2 h_S_) main_v6 main_c_1
  let main_v8 : IVec S_ 1 := andi main_v3 main_v7
  main_v8
-- ==== Pre_sorted_by_group.lean ====
abbrev S34x1440x1024 : Shape := ⟨3, ![34, 1440, 1024]⟩
abbrev S34x1440x128 : Shape := ⟨3, ![34, 1440, 128]⟩
abbrev S272 : Shape := ⟨1, ![272]⟩
abbrev S16x1024x512 : Shape := ⟨3, ![16, 1024, 512]⟩
abbrev S16x512x1024 : Shape := ⟨3, ![16, 512, 1024]⟩
abbrev S34x8 : Shape := ⟨2, ![34, 8]⟩
abbrev S34x4 : Shape := ⟨2, ![34, 4]⟩
abbrev S_ : Shape := ⟨0, ![]⟩
abbrev S34x1440x4x4 : Shape := ⟨4, ![34, 1440, 4, 4]⟩
abbrev S34x1440x16 : Shape := ⟨3, ![34, 1440, 16]⟩

class Facts : Prop where
  shapeCasts_S272_S34x8 : S272.ShapeCasts S34x8
  slices_S34x8_S34x4_0_0 : S34x8.Slices ![0, 0] S34x4
  slices_S34x8_S34x4_0_4 : S34x8.Slices ![0, 4] S34x4
  bcast_S_S34x4 : S_.BroadcastsInDim S34x4 (![] : Fin 0 → Fin S34x4.rank)
  reducesTo_S34x4_S_d0_1 : S34x4.ReducesTo [0, 1] S_
  h_S_ : 0 < S_.numel
  bcast_S34x4_S34x1440x4x4_0_2 : S34x4.BroadcastsInDim S34x1440x4x4 (![0, 2] : Fin 2 → Fin S34x1440x4x4.rank)
  slices_S34x1440x128_S34x1440x16_0_0_0 : S34x1440x128.Slices ![0, 0, 0] S34x1440x16
  shapeCasts_S34x1440x16_S34x1440x4x4 : S34x1440x16.ShapeCasts S34x1440x4x4
  bcast_S_S34x1440x4x4 : S_.BroadcastsInDim S34x1440x4x4 (![] : Fin 0 → Fin S34x1440x4x4.rank)
  reducesTo_S34x1440x4x4_S_d0_1_2_3 : S34x1440x4x4.ReducesTo [0, 1, 2, 3] S_

variable [Facts]

def fn_part1 {F : FTy → Type} [FloatOps F] (main_arg1 : FVec F S34x1440x128 .f32) (main_v1 : IVec S34x4 32) (main_v2 : IVec S34x4 32) (main_v17 : IVec S34x4 1) (main_c_4 : IVec S_ 32) : IVec S_ 1 :=
  let main_v18 : IVec S34x4 32 := broadcastInDim S34x4 ![] bcast_S_S34x4 main_c_4
  let main_v19 : IVec S34x4 32 := Host.remsi main_v1 main_v18
  let main_c_5 : IVec S_ 32 := constantI S_ 32 0#32
  let main_v20 : IVec S34x4 32 := broadcastInDim S34x4 ![] bcast_S_S34x4 main_c_5
  let main_v21 : IVec S34x4 1 := cmpi .eq main_v19 main_v20
  let main_v22 : IVec S34x4 1 := andi main_v17 main_v21
  let main_c_6 : IVec S_ 1 := constantI S_ 1 1#1
  let main_v23 : IVec S_ 1 := (fun x v => Host.reduce IntOp.andi x v reducesTo_S34x4_S_d0_1 h_S_) main_v22 main_c_6
  let main_v24 : IVec S34x1440x4x4 32 := iotaInDim S34x1440x4x4 32 1
  let main_v25 : IVec S34x1440x4x4 32 := broadcastInDim S34x1440x4x4 ![0, 2] bcast_S34x4_S34x1440x4x4_0_2 main_v1
  let main_v26 : IVec S34x4 32 := addi main_v1 main_v2
  let main_v27 : IVec S34x1440x4x4 32 := broadcastInDim S34x1440x4x4 ![0, 2] bcast_S34x4_S34x1440x4x4_0_2 main_v26
  let main_v28 : IVec S34x1440x4x4 1 := cmpi .sge main_v24 main_v25
  let main_v29 : IVec S34x1440x4x4 1 := cmpi .slt main_v24 main_v27
  let main_v30 : IVec S34x1440x4x4 1 := andi main_v28 main_v29
  let main_v31 : FVec F S34x1440x16 .f32 := (extractStridedSlice S34x1440x16 ![0, 0, 0] · slices_S34x1440x128_S34x1440x16_0_0_0) main_arg1
  let main_v32 : FVec F S34x1440x4x4 .f32 := shapeCast S34x1440x4x4 main_v31 shapeCasts_S34x1440x16_S34x1440x4x4
  let main_cst : FVec F S_ .f32 := constant S_ .f32 0x00000000#32
  let main_v33 : FVec F S34x1440x4x4 .f32 := broadcastInDim S34x1440x4x4 ![] bcast_S_S34x1440x4x4 main_cst
  let main_v34 : IVec S34x1440x4x4 1 := cmpf .oeq main_v32 main_v33
  let main_v35 : IVec S34x1440x4x4 1 := ori main_v30 main_v34
  let main_c_7 : IVec S_ 1 := constantI S_ 1 1#1
  let main_v36 : IVec S_ 1 := (fun x v => Host.reduce IntOp.andi x v reducesTo_S34x1440x4x4_S_d0_1_2_3 h_S_) main_v35 main_c_7
  let main_v37 : IVec S_ 1 := andi main_v23 main_v36
  main_v37

def fn {F : FTy → Type} [FloatOps F] (main_arg0 : FVec F S34x1440x1024 .bf16) (main_arg1 : FVec F S34x1440x128 .f32) (main_arg2 : IVec S272 32) (main_arg3 : FVec F S16x1024x512 .f32) (main_arg4 : FVec F S16x1024x512 .f32) (main_arg5 : FVec F S16x512x1024 .f32) : IVec S_ 1 :=
  let main_v0 : IVec S34x8 32 := shapeCast S34x8 main_arg2 shapeCasts_S272_S34x8
  let main_v1 : IVec S34x4 32 := (extractStridedSlice S34x4 ![0, 0] · slices_S34x8_S34x4_0_0) main_v0
  let main_v2 : IVec S34x4 32 := (extractStridedSlice S34x4 ![0, 4] · slices_S34x8_S34x4_0_4) main_v0
  let main_c : IVec S_ 32 := constantI S_ 32 0#32
  let main_v3 : IVec S34x4 32 := broadcastInDim S34x4 ![] bcast_S_S34x4 main_c
  let main_v4 : IVec S34x4 1 := cmpi .sge main_v1 main_v3
  let main_c_0 : IVec S_ 32 := constantI S_ 32 0#32
  let main_v5 : IVec S34x4 32 := broadcastInDim S34x4 ![] bcast_S_S34x4 main_c_0
  let main_v6 : IVec S34x4 1 := cmpi .sge main_v2 main_v5
  let main_v7 : IVec S34x4 1 := andi main_v4 main_v6
  let main_c_1 : IVec S_ 32 := constantI S_ 32 1152#32
  let main_v8 : IVec S34x4 32 := broadcastInDim S34x4 ![] bcast_S_S34x4 main_c_1
  let main_v9 : IVec S34x4 1 := cmpi .sle main_v1 main_v8
  let main_v10 : IVec S34x4 1 := andi main_v7 main_v9
  let main_c_2 : IVec S_ 32 := constantI S_ 32 1024#32
  let main_v11 : IVec S34x4 32 := broadcastInDim S34x4 ![] bcast_S_S34x4 main_c_2
  let main_v12 : IVec S34x4 1 := cmpi .sle main_v2 main_v11
  let main_v13 : IVec S34x4 1 := andi main_v10 main_v12
  let main_v14 : IVec S34x4 32 := addi main_v1 main_v2
  let main_c_3 : IVec S_ 32 := constantI S_ 32 1152#32
  let main_v15 : IVec S34x4 32 := broadcastInDim S34x4 ![] bcast_S_S34x4 main_c_3
  let main_v16 : IVec S34x4 1 := cmpi .sle main_v14 main_v15
  let main_v17 : IVec S34x4 1 := andi main_v13 main_v16
  let main_c_4 : IVec S_ 32 := constantI S_ 32 16#32
  fn_part1 (F := F) main_arg1 main_v1 main_v2 main_v17 main_c_4
-- ==== Kernel.lean ====
abbrev S8x4352x256 : Shape := ⟨3, ![8, 4352, 256]⟩
abbrev S8x2x4352x64 : Shape := ⟨4, ![8, 2, 4352, 64]⟩
abbrev S1x256x256 : Shape := ⟨3, ![1, 256, 256]⟩
abbrev S1x2x4352x64 : Shape := ⟨4, ![1, 2, 4352, 64]⟩
abbrev S1x1x256x64 : Shape := ⟨4, ![1, 1, 256, 64]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S1x1x4352x64 : Shape := ⟨4, ![1, 1, 4352, 64]⟩
abbrev S4352x64 : Shape := ⟨2, ![4352, 64]⟩
abbrev S256x4352 : Shape := ⟨2, ![256, 4352]⟩

abbrev nBuf : Space → Nat
  | .hbm => 4
  | .vmem => 8
  | .smem => 0
  | _ => 0

abbrev bufTy : (tb : Table) → Fin (tcTables nBuf tb) → BufTy
  | .hbm, ⟨0, _⟩ => ⟨S8x4352x256, .bf16⟩
  | .hbm, ⟨1, _⟩ => ⟨S8x2x4352x64, .bf16⟩
  | .hbm, ⟨2, _⟩ => ⟨S8x2x4352x64, .bf16⟩
  | .hbm, ⟨3, _⟩ => ⟨S8x4352x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x2x4352x64, .bf16⟩
  | .local _ .vmem, ⟨3, _⟩ => ⟨S1x2x4352x64, .bf16⟩
  | .local _ .vmem, ⟨4, _⟩ => ⟨S1x2x4352x64, .bf16⟩
  | .local _ .vmem, ⟨5, _⟩ => ⟨S1x2x4352x64, .bf16⟩
  | .local _ .vmem, ⟨6, _⟩ => ⟨S1x256x256, .bf16⟩
  | .local _ .vmem, ⟨7, _⟩ => ⟨S1x256x256, .bf16⟩
  | _, _ => ⟨S8x4352x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 17], ![false, false]⟩

def k0_cond1 (i : grid0.Coords) : BitVec 1 :=
  let arg1 : BitVec 32 := BitVec.ofNat 32 (i 1).val
  let c1_i32 : BitVec 32 := 1#32
  let v0 : BitVec 1 := Scalar.cmpi .slt arg1 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c1_i32_0 : BitVec 32 := 1#32
  let v3 : BitVec 1 := Scalar.cmpi .sge arg1 c1_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4352x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x4352x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x4352x256 : Shape := ⟨3, ![8, 4352, 256]⟩
abbrev S8x2x4352x64 : Shape := ⟨4, ![8, 2, 4352, 64]⟩
abbrev S8x4352x4x64 : Shape := ⟨4, ![8, 4352, 4, 64]⟩
abbrev S8x4352x2x64 : Shape := ⟨4, ![8, 4352, 2, 64]⟩
abbrev S8x256x4x64 : Shape := ⟨4, ![8, 256, 4, 64]⟩
abbrev S8x256x2x64 : Shape := ⟨4, ![8, 256, 2, 64]⟩
abbrev S8x256x2x2x64 : Shape := ⟨5, ![8, 256, 2, 2, 64]⟩
abbrev S8x2x256x256x2 : Shape := ⟨5, ![8, 2, 256, 256, 2]⟩
abbrev S8x2x2x256x256 : Shape := ⟨5, ![8, 2, 2, 256, 256]⟩
abbrev S_ : Shape := ⟨0, ![]⟩
abbrev S8x2x2x256 : Shape := ⟨4, ![8, 2, 2, 256]⟩
abbrev S8x2x2x256x1 : Shape := ⟨5, ![8, 2, 2, 256, 1]⟩
abbrev S8x2x64x2x256 : Shape := ⟨5, ![8, 2, 64, 2, 256]⟩
abbrev S8x256x256 : Shape := ⟨3, ![8, 256, 256]⟩
abbrev S8x4096x4x64 : Shape := ⟨4, ![8, 4096, 4, 64]⟩
abbrev S8x4096x2x2x64 : Shape := ⟨5, ![8, 4096, 2, 2, 64]⟩
abbrev S8x2x4352x4096x2 : Shape := ⟨5, ![8, 2, 4352, 4096, 2]⟩
abbrev S8x2x2x4096x4352 : Shape := ⟨5, ![8, 2, 2, 4096, 4352]⟩
abbrev S8x2x2x4096 : Shape := ⟨4, ![8, 2, 2, 4096]⟩
abbrev S8x2x2x4096x1 : Shape := ⟨5, ![8, 2, 2, 4096, 1]⟩
abbrev S8x2x64x2x4096 : Shape := ⟨5, ![8, 2, 64, 2, 4096]⟩
abbrev S8x4096x256 : Shape := ⟨3, ![8, 4096, 256]⟩

abbrev nBuf : Space → Nat
  | .hbm => 55
  | .vmem => 0
  | .smem => 0
  | _ => 0

abbrev bufTy : (tb : Table) → Fin (tcTables nBuf tb) → BufTy
  | .hbm, ⟨0, _⟩ => ⟨S8x4352x256, .bf16⟩
  | .hbm, ⟨1, _⟩ => ⟨S8x2x4352x64, .bf16⟩
  | .hbm, ⟨2, _⟩ => ⟨S8x2x4352x64, .bf16⟩
  | .hbm, ⟨3, _⟩ => ⟨S8x4352x256, .f32⟩
  | .hbm, ⟨4, _⟩ => ⟨S8x4352x4x64, .f32⟩
  | .hbm, ⟨5, _⟩ => ⟨S8x2x4352x64, .f32⟩
  | .hbm, ⟨6, _⟩ => ⟨S8x4352x2x64, .f32⟩
  | .hbm, ⟨7, _⟩ => ⟨S8x2x4352x64, .f32⟩
  | .hbm, ⟨8, _⟩ => ⟨S8x4352x2x64, .f32⟩
  | .hbm, ⟨9, _⟩ => ⟨S8x256x4x64, .f32⟩
  | .hbm, ⟨10, _⟩ => ⟨S8x256x2x64, .f32⟩
  | .hbm, ⟨11, _⟩ => ⟨S8x256x2x64, .f32⟩
  | .hbm, ⟨12, _⟩ => ⟨S8x256x2x2x64, .f32⟩
  | .hbm, ⟨13, _⟩ => ⟨S8x2x256x256x2, .f32⟩
  | .hbm, ⟨14, _⟩ => ⟨S8x2x2x256x256, .f32⟩
  | .hbm, ⟨15, _⟩ => ⟨S_, .f32⟩
  | .hbm, ⟨16, _⟩ => ⟨S8x2x2x256, .f32⟩
  | .hbm, ⟨17, _⟩ => ⟨S_, .f32⟩
  | .hbm, ⟨18, _⟩ => ⟨S8x2x2x256, .f32⟩
  | .hbm, ⟨19, _⟩ => ⟨S8x2x2x256, .f32⟩
  | .hbm, ⟨20, _⟩ => ⟨S8x2x2x256x1, .f32⟩
  | .hbm, ⟨21, _⟩ => ⟨S8x2x2x256x256, .f32⟩
  | .hbm, ⟨22, _⟩ => ⟨S8x2x2x256x256, .f32⟩
  | .hbm, ⟨23, _⟩ => ⟨S8x2x2x256x256, .f32⟩
  | .hbm, ⟨24, _⟩ => ⟨S_, .f32⟩
  | .hbm, ⟨25, _⟩ => ⟨S8x2x2x256, .f32⟩
  | .hbm, ⟨26, _⟩ => ⟨S8x2x2x256x1, .f32⟩
  | .hbm, ⟨27, _⟩ => ⟨S8x2x2x256x256, .f32⟩
  | .hbm, ⟨28, _⟩ => ⟨S8x2x2x256x256, .f32⟩
  | .hbm, ⟨29, _⟩ => ⟨S8x2x64x2x256, .f32⟩
  | .hbm, ⟨30, _⟩ => ⟨S8x256x2x2x64, .f32⟩
  | .hbm, ⟨31, _⟩ => ⟨S8x256x256, .f32⟩
  | .hbm, ⟨32, _⟩ => ⟨S8x4096x4x64, .f32⟩
  | .hbm, ⟨33, _⟩ => ⟨S8x4096x2x2x64, .f32⟩
  | .hbm, ⟨34, _⟩ => ⟨S8x2x4352x4096x2, .f32⟩
  | .hbm, ⟨35, _⟩ => ⟨S8x2x2x4096x4352, .f32⟩
  | .hbm, ⟨36, _⟩ => ⟨S_, .f32⟩
  | .hbm, ⟨37, _⟩ => ⟨S8x2x2x4096, .f32⟩
  | .hbm, ⟨38, _⟩ => ⟨S_, .f32⟩
  | .hbm, ⟨39, _⟩ => ⟨S8x2x2x4096, .f32⟩
  | .hbm, ⟨40, _⟩ => ⟨S8x2x2x4096, .f32⟩
  | .hbm, ⟨41, _⟩ => ⟨S8x2x2x4096x1, .f32⟩
  | .hbm, ⟨42, _⟩ => ⟨S8x2x2x4096x4352, .f32⟩
  | .hbm, ⟨43, _⟩ => ⟨S8x2x2x4096x4352, .f32⟩
  | .hbm, ⟨44, _⟩ => ⟨S8x2x2x4096x4352, .f32⟩
  | .hbm, ⟨45, _⟩ => ⟨S_, .f32⟩
  | .hbm, ⟨46, _⟩ => ⟨S8x2x2x4096, .f32⟩
  | .hbm, ⟨47, _⟩ => ⟨S8x2x2x4096x1, .f32⟩
  | .hbm, ⟨48, _⟩ => ⟨S8x2x2x4096x4352, .f32⟩
  | .hbm, ⟨49, _⟩ => ⟨S8x2x2x4096x4352, .f32⟩
  | .hbm, ⟨50, _⟩ => ⟨S8x2x64x2x4096, .f32⟩
  | .hbm, ⟨51, _⟩ => ⟨S8x4096x2x2x64, .f32⟩
  | .hbm, ⟨52, _⟩ => ⟨S8x4096x256, .f32⟩
  | .hbm, ⟨53, _⟩ => ⟨S8x4352x256, .f32⟩
  | .hbm, ⟨54, _⟩ => ⟨S8x4352x256, .bf16⟩
  | _, _ => ⟨S8x4352x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Kernel2.lean ====
abbrev S34x1440x1024 : Shape := ⟨3, ![34, 1440, 1024]⟩
abbrev S34x1440x128 : Shape := ⟨3, ![34, 1440, 128]⟩
abbrev S272 : Shape := ⟨1, ![272]⟩
abbrev S16x1024x512 : Shape := ⟨3, ![16, 1024, 512]⟩
abbrev S16x512x1024 : Shape := ⟨3, ![16, 512, 1024]⟩
abbrev S4x34x1440x1024 : Shape := ⟨4, ![4, 34, 1440, 1024]⟩
abbrev S1x1440x1024 : Shape := ⟨3, ![1, 1440, 1024]⟩
abbrev S1x1440x128 : Shape := ⟨3, ![1, 1440, 128]⟩
abbrev S4x1024x512 : Shape := ⟨3, ![4, 1024, 512]⟩
abbrev S4x512x1024 : Shape := ⟨3, ![4, 512, 1024]⟩
abbrev S1x1x1440x1024 : Shape := ⟨4, ![1, 1, 1440, 1024]⟩
abbrev S1 : Shape := ⟨1, ![1]⟩
abbrev S288x128 : Shape := ⟨2, ![288, 128]⟩
abbrev S1x288x1024 : Shape := ⟨3, ![1, 288, 1024]⟩
abbrev S288x1024 : Shape := ⟨2, ![288, 1024]⟩
abbrev S1x288x128 : Shape := ⟨3, ![1, 288, 128]⟩
abbrev S1x1x288x1024 : Shape := ⟨4, ![1, 1, 288, 1024]⟩
abbrev S1x1024x512 : Shape := ⟨3, ![1, 1024, 512]⟩
abbrev S1024x512 : Shape := ⟨2, ![1024, 512]⟩
abbrev S288x512 : Shape := ⟨2, ![288, 512]⟩
abbrev S288 : Shape := ⟨1, ![288]⟩
abbrev S288x1 : Shape := ⟨2, ![288, 1]⟩
abbrev S1x512x1024 : Shape := ⟨3, ![1, 512, 1024]⟩
abbrev S512x1024 : Shape := ⟨2, ![512, 1024]⟩
abbrev S_ : Shape := ⟨0, ![]⟩

abbrev nBuf : Space → Nat
  | .hbm => 13
  | .vmem => 12
  | .smem => 1
  | _ => 0

abbrev bufTy : (tb : Table) → Fin (tcTables nBuf tb) → BufTy
  | .hbm, ⟨0, _⟩ => ⟨S34x1440x1024, .bf16⟩
  | .hbm, ⟨1, _⟩ => ⟨S34x1440x128, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S16x1024x512, .bf16⟩
  | .hbm, ⟨6, _⟩ => ⟨S16x1024x512, .bf16⟩
  | .hbm, ⟨7, _⟩ => ⟨S16x512x1024, .bf16⟩
  | .hbm, ⟨8, _⟩ => ⟨S4x34x1440x1024, .bf16⟩
  | .hbm, ⟨9, _⟩ => ⟨S4x34x1440x1024, .f32⟩
  | .hbm, ⟨10, _⟩ => ⟨S_, .f32⟩
  | .hbm, ⟨11, _⟩ => ⟨S34x1440x1024, .f32⟩
  | .hbm, ⟨12, _⟩ => ⟨S34x1440x1024, .bf16⟩
  | .local _ .vmem, ⟨0, _⟩ => ⟨S1x1440x1024, .bf16⟩
  | .local _ .vmem, ⟨1, _⟩ => ⟨S1x1440x1024, .bf16⟩
  | .local _ .vmem, ⟨2, _⟩ => ⟨S1x1440x128, .f32⟩
  | .local _ .vmem, ⟨3, _⟩ => ⟨S1x1440x128, .f32⟩
  | .local _ .vmem, ⟨4, _⟩ => ⟨S4x1024x512, .bf16⟩
  | .local _ .vmem, ⟨5, _⟩ => ⟨S4x1024x512, .bf16⟩
  | .local _ .vmem, ⟨6, _⟩ => ⟨S4x1024x512, .bf16⟩
  | .local _ .vmem, ⟨7, _⟩ => ⟨S4x1024x512, .bf16⟩
  | .local _ .vmem, ⟨8, _⟩ => ⟨S4x512x1024, .bf16⟩
  | .local _ .vmem, ⟨9, _⟩ => ⟨S4x512x1024, .bf16⟩
  | .local _ .vmem, ⟨10, _⟩ => ⟨S1x1x1440x1024, .bf16⟩
  | .local _ .vmem, ⟨11, _⟩ => ⟨S1x1x1440x1024, .bf16⟩
  | .local _ .smem, ⟨0, _⟩ => ⟨S272, .i32⟩
  | _, _ => ⟨S34x1440x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 34], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let c8_i32 : BitVec 32 := 8#32
  let v4 : BitVec 32 := Scalar.muli arg1 c8_i32
  let arg0 : BitVec 32 := BitVec.ofNat 32 (i 0).val
  let v5 : BitVec 32 := Scalar.addi v4 arg0
  let v6 : Index := Scalar.indexCast v5
  ![v6.toNat]
def k0_off2 (i : grid0.Coords) : Fin 1 → Nat :=
  let arg1 : BitVec 32 := BitVec.ofNat 32 (i 1).val
  let c8_i32_3 : BitVec 32 := 8#32
  let v8 : BitVec 32 := Scalar.muli arg1 c8_i32_3
  let c4_i32 : BitVec 32 := 4#32
  let v9 : BitVec 32 := Scalar.addi v8 c4_i32
  let arg0 : BitVec 32 := BitVec.ofNat 32 (i 0).val
  let v10 : BitVec 32 := Scalar.addi v9 arg0
  let v11 : Index := Scalar.indexCast v10
  ![v11.toNat]
@[reducible] def k0_t1_loop (v12 : BitVec 32) : Scf.Loop 32 :=
  let c0_i32_4 : BitVec 32 := 0#32
  let c287_i32 : BitVec 32 := 287#32
  let v14 : BitVec 32 := Scalar.addi v12 c287_i32
  let c288_i32 : BitVec 32 := 288#32
  let v15 : BitVec 32 := Scalar.divsi v14 c288_i32
  let v16 : BitVec 32 := Scalar.subi v15 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_5 : BitVec 32 := 1#32
  ⟨c0_i32_4, v20, c1_i32_5⟩

def k0_mult1 (v7 : BitVec 32) (v12 : BitVec 32) (k0_t1 : Fin (k0_t1_loop v12).trips) : BitVec 32 :=
  let c0_i32_4 : BitVec 32 := 0#32
  let c1_i32_5 : BitVec 32 := 1#32
  let arg9 : BitVec 32 := Scf.iv c0_i32_4 c1_i32_5 k0_t1
  let c288_i32_7 : BitVec 32 := 288#32
  let v21 : BitVec 32 := Scalar.muli arg9 c288_i32_7
  let v22 : BitVec 32 := Scalar.addi v7 v21
  v22
def k0_off3 (v7 : BitVec 32) (v12 : BitVec 32) (k0_t1 : Fin (k0_t1_loop v12).trips) : Fin 3 → Nat :=
  let c0_8 : Index := 0#32
  let c0_i32_4 : BitVec 32 := 0#32
  let c1_i32_5 : BitVec 32 := 1#32
  let arg9 : BitVec 32 := Scf.iv c0_i32_4 c1_i32_5 k0_t1
  let c288_i32_7 : BitVec 32 := 288#32
  let v21 : BitVec 32 := Scalar.muli arg9 c288_i32_7
  let v22 : BitVec 32 := Scalar.addi v7 v21
  let v23 : BitVec 32 := v22
  let v24 : Index := Scalar.indexCast v23
  let c0_9 : Index := 0#32
  ![0, v24.toNat, 0]
def k0_off4 (v7 : BitVec 32) (v12 : BitVec 32) (k0_t1 : Fin (k0_t1_loop v12).trips) : Fin 3 → Nat :=
  let c0_10 : Index := 0#32
  let c0_i32_4 : BitVec 32 := 0#32
  let c1_i32_5 : BitVec 32 := 1#32
  let arg9 : BitVec 32 := Scf.iv c0_i32_4 c1_i32_5 k0_t1
  let c288_i32_7 : BitVec 32 := 288#32
  let v21 : BitVec 32 := Scalar.muli arg9 c288_i32_7
  let v22 : BitVec 32 := Scalar.addi v7 v21
  let v23 : BitVec 32 := v22
  let v27 : Index := Scalar.indexCast v23
  let c0_11 : Index := 0#32
  ![0, v27.toNat, 0]
def k0_off5 (v7 : BitVec 32) (v12 : BitVec 32) (k0_t1 : Fin (k0_t1_loop v12).trips) : Fin 4 → Nat :=
  let c0_12 : Index := 0#32
  let c0_13 : Index := 0#32
  let c0_i32_4 : BitVec 32 := 0#32
  let c1_i32_5 : BitVec 32 := 1#32
  let arg9 : BitVec 32 := Scf.iv c0_i32_4 c1_i32_5 k0_t1
  let c288_i32_7 : BitVec 32 := 288#32
  let v21 : BitVec 32 := Scalar.muli arg9 c288_i32_7
  let v22 : BitVec 32 := Scalar.addi v7 v21
  let v23 : BitVec 32 := v22
  let v30 : Index := Scalar.indexCast v23
  let c0_14 : Index := 0#32
  ![0, 0, v30.toNat, 0]
@[reducible] def k0_t2_loop (v12 : BitVec 32) : Scf.Loop 32 :=
  let c0_i32_4 : BitVec 32 := 0#32
  let c287_i32 : BitVec 32 := 287#32
  let v14 : BitVec 32 := Scalar.addi v12 c287_i32
  let c288_i32 : BitVec 32 := 288#32
  let v15 : BitVec 32 := Scalar.divsi v14 c288_i32
  let v16 : BitVec 32 := Scalar.subi v15 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let v17 : BitVec 32 := Scalar.addi c0_i32_4 v16
  let c1_i32_6 : BitVec 32 := 1#32
  ⟨v20, v17, c1_i32_6⟩
def k0_mult2 (v7 : BitVec 32) (v12 : BitVec 32) (k0_t2 : Fin (k0_t2_loop v12).trips) : BitVec 32 :=
  let c0_i32_4 : BitVec 32 := 0#32
  let c287_i32 : BitVec 32 := 287#32
  let v14 : BitVec 32 := Scalar.addi v12 c287_i32
  let c288_i32 : BitVec 32 := 288#32
  let v15 : BitVec 32 := Scalar.divsi v14 c288_i32
  let v16 : BitVec 32 := Scalar.subi v15 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_6 : BitVec 32 := 1#32
  let arg9 : BitVec 32 := Scf.iv v20 c1_i32_6 k0_t2
  let c288_i32_7 : BitVec 32 := 288#32
  let v21 : BitVec 32 := Scalar.muli arg9 c288_i32_7
  let v22 : BitVec 32 := Scalar.addi v7 v21
  v22
def k0_off6 (v7 : BitVec 32) (v12 : BitVec 32) (k0_t2 : Fin (k0_t2_loop v12).trips) : Fin 3 → Nat :=
  let c0_8 : Index := 0#32
  let c0_i32_4 : BitVec 32 := 0#32
  let c287_i32 : BitVec 32 := 287#32
  let v14 : BitVec 32 := Scalar.addi v12 c287_i32
  let c288_i32 : BitVec 32 := 288#32
  let v15 : BitVec 32 := Scalar.divsi v14 c288_i32
  let v16 : BitVec 32 := Scalar.subi v15 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_6 : BitVec 32 := 1#32
  let arg9 : BitVec 32 := Scf.iv v20 c1_i32_6 k0_t2
  let c288_i32_7 : BitVec 32 := 288#32
  let v21 : BitVec 32 := Scalar.muli arg9 c288_i32_7
  let v22 : BitVec 32 := Scalar.addi v7 v21
  let v23 : BitVec 32 := v22
  let v24 : Index := Scalar.indexCast v23
  let c0_9 : Index := 0#32
  ![0, v24.toNat, 0]
def k0_off7 (v7 : BitVec 32) (v12 : BitVec 32) (k0_t2 : Fin (k0_t2_loop v12).trips) : Fin 3 → Nat :=
  let c0_10 : Index := 0#32
  let c0_i32_4 : BitVec 32 := 0#32
  let c287_i32 : BitVec 32 := 287#32
  let v14 : BitVec 32 := Scalar.addi v12 c287_i32
  let c288_i32 : BitVec 32 := 288#32
  let v15 : BitVec 32 := Scalar.divsi v14 c288_i32
  let v16 : BitVec 32 := Scalar.subi v15 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_6 : BitVec 32 := 1#32
  let arg9 : BitVec 32 := Scf.iv v20 c1_i32_6 k0_t2
  let c288_i32_7 : BitVec 32 := 288#32
  let v21 : BitVec 32 := Scalar.muli arg9 c288_i32_7
  let v22 : BitVec 32 := Scalar.addi v7 v21
  let v23 : BitVec 32 := v22
  let v27 : Index := Scalar.indexCast v23
  let c0_11 : Index := 0#32
  ![0, v27.toNat, 0]
def k0_off8 (v7 : BitVec 32) (v12 : BitVec 32) (k0_t2 : Fin (k0_t2_loop v12).trips) : Fin 4 → Nat :=
  let c0_12 : Index := 0#32
  let c0_13 : Index := 0#32
  let c0_i32_4 : BitVec 32 := 0#32
  let c287_i32 : BitVec 32 := 287#32
  let v14 : BitVec 32 := Scalar.addi v12 c287_i32
  let c288_i32 : BitVec 32 := 288#32
  let v15 : BitVec 32 := Scalar.divsi v14 c288_i32
  let v16 : BitVec 32 := Scalar.subi v15 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_6 : BitVec 32 := 1#32
  let arg9 : BitVec 32 := Scf.iv v20 c1_i32_6 k0_t2
  let c288_i32_7 : BitVec 32 := 288#32
  let v21 : BitVec 32 := Scalar.muli arg9 c288_i32_7
  let v22 : BitVec 32 := Scalar.addi v7 v21
  let v23 : BitVec 32 := v22
  let v30 : Index := Scalar.indexCast v23
  let c0_14 : Index := 0#32
  ![0, 0, v30.toNat, 0]

def k0_chk1 (v7 : BitVec 32) (v12 : BitVec 32) : Prop :=
  ((k0_t1_loop v12).OK) ∧
  (∀ k0_t1 : Fin (k0_t1_loop v12).trips, 16 ∣ (k0_mult1 v7 v12 k0_t1).toNat) ∧
  (∀ k0_t1 : Fin (k0_t1_loop v12).trips, ∀ a, (k0_off3 v7 v12 k0_t1) a + S1x288x1024.size a ≤ S1x1440x1024.size a) ∧
  (∀ k0_t1 : Fin (k0_t1_loop v12).trips, ∀ a, (k0_off4 v7 v12 k0_t1) a + S1x288x128.size a ≤ S1x1440x128.size a) ∧
  (∀ k0_t1 : Fin (k0_t1_loop v12).trips, ∀ a, (k0_off5 v7 v12 k0_t1) a + S1x1x288x1024.size a ≤ S1x1x1440x1024.size a) ∧
  (∀ k0_t1 : Fin (k0_t1_loop v12).trips, ∀ (hinb : ∀ a, (k0_off5 v7 v12 k0_t1) a + S1x1x288x1024.size a ≤ S1x1x1440x1024.size a), (Rect.unit (s := S1x1x1440x1024) (k0_off5 v7 v12 k0_t1) S1x1x288x1024.size hinb).PackedRows (EltTy.packing .bf16)) ∧
  ((k0_t2_loop v12).OK) ∧
  (∀ k0_t2 : Fin (k0_t2_loop v12).trips, 16 ∣ (k0_mult2 v7 v12 k0_t2).toNat) ∧
  (∀ k0_t2 : Fin (k0_t2_loop v12).trips, ∀ a, (k0_off6 v7 v12 k0_t2) a + S1x288x1024.size a ≤ S1x1440x1024.size a) ∧
  (∀ k0_t2 : Fin (k0_t2_loop v12).trips, ∀ a, (k0_off7 v7 v12 k0_t2) a + S1x288x128.size a ≤ S1x1440x128.size a) ∧
  (∀ k0_t2 : Fin (k0_t2_loop v12).trips, ∀ a, (k0_off8 v7 v12 k0_t2) a + S1x1x288x1024.size a ≤ S1x1x1440x1024.size a) ∧
  (∀ k0_t2 : Fin (k0_t2_loop v12).trips, ∀ (hinb : ∀ a, (k0_off8 v7 v12 k0_t2) a + S1x1x288x1024.size a ≤ S1x1x1440x1024.size a), (Rect.unit (s := S1x1x1440x1024) (k0_off8 v7 v12 k0_t2) S1x1x288x1024.size hinb).PackedRows (EltTy.packing .bf16))
theorem k0_t1_ok : ∀ (v7 : BitVec 32) (v12 : BitVec 32) (k0_hw1 : k0_chk1 v7 v12), (k0_t1_loop v12).OK := fun v7 v12 k0_hw1 => k0_hw1.1
theorem k0_mult1_dvd : ∀ (v7 : BitVec 32) (v12 : BitVec 32) (k0_hw1 : k0_chk1 v7 v12) (k0_t1 : Fin (k0_t1_loop v12).trips), 16 ∣ (k0_mult1 v7 v12 k0_t1).toNat := fun v7 v12 k0_hw1 k0_t1 => k0_hw1.2.1 k0_t1
theorem k0_off3_inb : ∀ (v7 : BitVec 32) (v12 : BitVec 32) (k0_hw1 : k0_chk1 v7 v12) (k0_t1 : Fin (k0_t1_loop v12).trips), ∀ a, (k0_off3 v7 v12 k0_t1) a + S1x288x1024.size a ≤ S1x1440x1024.size a := fun v7 v12 k0_hw1 k0_t1 => k0_hw1.2.2.1 k0_t1
theorem k0_off4_inb : ∀ (v7 : BitVec 32) (v12 : BitVec 32) (k0_hw1 : k0_chk1 v7 v12) (k0_t1 : Fin (k0_t1_loop v12).trips), ∀ a, (k0_off4 v7 v12 k0_t1) a + S1x288x128.size a ≤ S1x1440x128.size a := fun v7 v12 k0_hw1 k0_t1 => k0_hw1.2.2.2.1 k0_t1
theorem k0_off5_inb : ∀ (v7 : BitVec 32) (v12 : BitVec 32) (k0_hw1 : k0_chk1 v7 v12) (k0_t1 : Fin (k0_t1_loop v12).trips), ∀ a, (k0_off5 v7 v12 k0_t1) a + S1x1x288x1024.size a ≤ S1x1x1440x1024.size a := fun v7 v12 k0_hw1 k0_t1 => k0_hw1.2.2.2.2.1 k0_t1
theorem k0_off5_packedbf16 : ∀ (v7 : BitVec 32) (v12 : BitVec 32) (k0_hw1 : k0_chk1 v7 v12) (k0_t1 : Fin (k0_t1_loop v12).trips), (Rect.unit (s := S1x1x1440x1024) (k0_off5 v7 v12 k0_t1) S1x1x288x1024.size (k0_off5_inb v7 v12 k0_hw1 k0_t1)).PackedRows (EltTy.packing .bf16) := fun v7 v12 k0_hw1 k0_t1 => k0_hw1.2.2.2.2.2.1 k0_t1 (k0_off5_inb v7 v12 k0_hw1 k0_t1)
theorem k0_t2_ok : ∀ (v7 : BitVec 32) (v12 : BitVec 32) (k0_hw1 : k0_chk1 v7 v12), (k0_t2_loop v12).OK := fun v7 v12 k0_hw1 => k0_hw1.2.2.2.2.2.2.1
theorem k0_mult2_dvd : ∀ (v7 : BitVec 32) (v12 : BitVec 32) (k0_hw1 : k0_chk1 v7 v12) (k0_t2 : Fin (k0_t2_loop v12).trips), 16 ∣ (k0_mult2 v7 v12 k0_t2).toNat := fun v7 v12 k0_hw1 k0_t2 => k0_hw1.2.2.2.2.2.2.2.1 k0_t2
theorem k0_off6_inb : ∀ (v7 : BitVec 32) (v12 : BitVec 32) (k0_hw1 : k0_chk1 v7 v12) (k0_t2 : Fin (k0_t2_loop v12).trips), ∀ a, (k0_off6 v7 v12 k0_t2) a + S1x288x1024.size a ≤ S1x1440x1024.size a := fun v7 v12 k0_hw1 k0_t2 => k0_hw1.2.2.2.2.2.2.2.2.1 k0_t2
theorem k0_off7_inb : ∀ (v7 : BitVec 32) (v12 : BitVec 32) (k0_hw1 : k0_chk1 v7 v12) (k0_t2 : Fin (k0_t2_loop v12).trips), ∀ a, (k0_off7 v7 v12 k0_t2) a + S1x288x128.size a ≤ S1x1440x128.size a := fun v7 v12 k0_hw1 k0_t2 => k0_hw1.2.2.2.2.2.2.2.2.2.1 k0_t2
theorem k0_off8_inb : ∀ (v7 : BitVec 32) (v12 : BitVec 32) (k0_hw1 : k0_chk1 v7 v12) (k0_t2 : Fin (k0_t2_loop v12).trips), ∀ a, (k0_off8 v7 v12 k0_t2) a + S1x1x288x1024.size a ≤ S1x1x1440x1024.size a := fun v7 v12 k0_hw1 k0_t2 => k0_hw1.2.2.2.2.2.2.2.2.2.2.1 k0_t2
theorem k0_off8_packedbf16 : ∀ (v7 : BitVec 32) (v12 : BitVec 32) (k0_hw1 : k0_chk1 v7 v12) (k0_t2 : Fin (k0_t2_loop v12).trips), (Rect.unit (s := S1x1x1440x1024) (k0_off8 v7 v12 k0_t2) S1x1x288x1024.size (k0_off8_inb v7 v12 k0_hw1 k0_t2)).PackedRows (EltTy.packing .bf16) := fun v7 v12 k0_hw1 k0_t2 => k0_hw1.2.2.2.2.2.2.2.2.2.2.2 k0_t2 (k0_off8_inb v7 v12 k0_hw1 k0_t2)

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1440x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1440x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1440x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S34x1440x1024 : Shape := ⟨3, ![34, 1440, 1024]⟩
abbrev S34x1440x128 : Shape := ⟨3, ![34, 1440, 128]⟩
abbrev S272 : Shape := ⟨1, ![272]⟩
abbrev S16x1024x512 : Shape := ⟨3, ![16, 1024, 512]⟩
abbrev S16x512x1024 : Shape := ⟨3, ![16, 512, 1024]⟩
abbrev S34x1440x16 : Shape := ⟨3, ![34, 1440, 16]⟩
abbrev S34x1440x16x512 : Shape := ⟨4, ![34, 1440, 16, 512]⟩
abbrev S_ : Shape := ⟨0, ![]⟩
abbrev S16x1024x34x1440 : Shape := ⟨4, ![16, 1024, 34, 1440]⟩
abbrev S34x1440x16x1024 : Shape := ⟨4, ![34, 1440, 16, 1024]⟩

abbrev nBuf : Space → Nat
  | .hbm => 24
  | .vmem => 0
  | .smem => 0
  | _ => 0

abbrev bufTy : (tb : Table) → Fin (tcTables nBuf tb) → BufTy
  | .hbm, ⟨0, _⟩ => ⟨S34x1440x1024, .bf16⟩
  | .hbm, ⟨1, _⟩ => ⟨S34x1440x128, .f32⟩
  | .hbm, ⟨2, _⟩ => ⟨S272, .i32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S34x1440x1024, .f32⟩
  | .hbm, ⟨7, _⟩ => ⟨S34x1440x16, .f32⟩
  | .hbm, ⟨8, _⟩ => ⟨S34x1440x16x512, .f32⟩
  | .hbm, ⟨9, _⟩ => ⟨S34x1440x16x512, .f32⟩
  | .hbm, ⟨10, _⟩ => ⟨S34x1440x16x512, .f32⟩
  | .hbm, ⟨11, _⟩ => ⟨S_, .f32⟩
  | .hbm, ⟨12, _⟩ => ⟨S34x1440x16x512, .f32⟩
  | .hbm, ⟨13, _⟩ => ⟨S34x1440x16x512, .f32⟩
  | .hbm, ⟨14, _⟩ => ⟨S_, .f32⟩
  | .hbm, ⟨15, _⟩ => ⟨S34x1440x16x512, .f32⟩
  | .hbm, ⟨16, _⟩ => ⟨S34x1440x16x512, .f32⟩
  | .hbm, ⟨17, _⟩ => ⟨S34x1440x16x512, .f32⟩
  | .hbm, ⟨18, _⟩ => ⟨S34x1440x16x512, .f32⟩
  | .hbm, ⟨19, _⟩ => ⟨S34x1440x16x512, .f32⟩
  | .hbm, ⟨20, _⟩ => ⟨S16x1024x34x1440, .f32⟩
  | .hbm, ⟨21, _⟩ => ⟨S34x1440x16x1024, .f32⟩
  | .hbm, ⟨22, _⟩ => ⟨S34x1440x1024, .f32⟩
  | .hbm, ⟨23, _⟩ => ⟨S34x1440x1024, .bf16⟩
  | _, _ => ⟨S34x1440x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩

abbrev nD : Nat := 1
abbrev τ : Topo := Topo.v7x

variable {F : FTy → Type} [FloatOps F]
-- ==== Kernel3.lean ====
abbrev S34816x1024 : Shape := ⟨2, ![34816, 1024]⟩
abbrev S1024x7168 : Shape := ⟨2, ![1024, 7168]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S34816x1024, .bf16⟩
  | .hbm, ⟨1, _⟩ => ⟨S1024x7168, .f32⟩
  | .hbm, ⟨2, _⟩ => ⟨S1024x7168, .bf16⟩
  | .hbm, ⟨3, _⟩ => ⟨S1024x1024, .bf16⟩
  | .hbm, ⟨4, _⟩ => ⟨S34816x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S34816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![34, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S34816x1024 : Shape := ⟨2, ![34816, 1024]⟩
abbrev S1024x7168 : Shape := ⟨2, ![1024, 7168]⟩
abbrev S34816x7168 : Shape := ⟨2, ![34816, 7168]⟩
abbrev S34816x768 : Shape := ⟨2, ![34816, 768]⟩
abbrev S34816x512 : Shape := ⟨2, ![34816, 512]⟩
abbrev S34816x4096 : Shape := ⟨2, ![34816, 4096]⟩

abbrev nBuf : Space → Nat
  | .hbm => 10
  | .vmem => 0
  | .smem => 0
  | _ => 0

abbrev bufTy : (tb : Table) → Fin (tcTables nBuf tb) → BufTy
  | .hbm, ⟨0, _⟩ => ⟨S34816x1024, .bf16⟩
  | .hbm, ⟨1, _⟩ => ⟨S1024x7168, .f32⟩
  | .hbm, ⟨2, _⟩ => ⟨S34816x1024, .f32⟩
  | .hbm, ⟨3, _⟩ => ⟨S34816x7168, .f32⟩
  | .hbm, ⟨4, _⟩ => ⟨S34816x1024, .f32⟩
  | .hbm, ⟨5, _⟩ => ⟨S34816x768, .f32⟩
  | .hbm, ⟨6, _⟩ => ⟨S34816x768, .f32⟩
  | .hbm, ⟨7, _⟩ => ⟨S34816x512, .f32⟩
  | .hbm, ⟨8, _⟩ => ⟨S34816x4096, .f32⟩
  | .hbm, ⟨9, _⟩ => ⟨S34816x1024, .bf16⟩
  | _, _ => ⟨S34816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel4.lean ====
abbrev S34816x1024 : Shape := ⟨2, ![34816, 1024]⟩
abbrev S1024x7168 : Shape := ⟨2, ![1024, 7168]⟩
abbrev S1024x1536 : Shape := ⟨2, ![1024, 1536]⟩
abbrev S34816x1536 : Shape := ⟨2, ![34816, 1536]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S34816x1024, .bf16⟩
  | .hbm, ⟨1, _⟩ => ⟨S1024x7168, .f32⟩
  | .hbm, ⟨2, _⟩ => ⟨S1024x7168, .bf16⟩
  | .hbm, ⟨3, _⟩ => ⟨S1024x1536, .bf16⟩
  | .hbm, ⟨4, _⟩ => ⟨S34816x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S34816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![34, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S34816x1024 : Shape := ⟨2, ![34816, 1024]⟩
abbrev S1024x7168 : Shape := ⟨2, ![1024, 7168]⟩
abbrev S34816x7168 : Shape := ⟨2, ![34816, 7168]⟩
abbrev S34816x768 : Shape := ⟨2, ![34816, 768]⟩
abbrev S34816x512 : Shape := ⟨2, ![34816, 512]⟩
abbrev S34816x4096 : Shape := ⟨2, ![34816, 4096]⟩
abbrev S34816x1536 : Shape := ⟨2, ![34816, 1536]⟩

abbrev nBuf : Space → Nat
  | .hbm => 11
  | .vmem => 0
  | .smem => 0
  | _ => 0

abbrev bufTy : (tb : Table) → Fin (tcTables nBuf tb) → BufTy
  | .hbm, ⟨0, _⟩ => ⟨S34816x1024, .bf16⟩
  | .hbm, ⟨1, _⟩ => ⟨S1024x7168, .f32⟩
  | .hbm, ⟨2, _⟩ => ⟨S34816x1024, .f32⟩
  | .hbm, ⟨3, _⟩ => ⟨S34816x7168, .f32⟩
  | .hbm, ⟨4, _⟩ => ⟨S34816x1024, .f32⟩
  | .hbm, ⟨5, _⟩ => ⟨S34816x768, .f32⟩
  | .hbm, ⟨6, _⟩ => ⟨S34816x768, .f32⟩
  | .hbm, ⟨7, _⟩ => ⟨S34816x512, .f32⟩
  | .hbm, ⟨8, _⟩ => ⟨S34816x4096, .f32⟩
  | .hbm, ⟨9, _⟩ => ⟨S34816x1536, .f32⟩
  | .hbm, ⟨10, _⟩ => ⟨S34816x1536, .bf16⟩
  | _, _ => ⟨S34816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel5.lean ====
abbrev S34816x1024 : Shape := ⟨2, ![34816, 1024]⟩
abbrev S1024x7168 : Shape := ⟨2, ![1024, 7168]⟩
abbrev S1024x512 : Shape := ⟨2, ![1024, 512]⟩
abbrev S34816x512 : Shape := ⟨2, ![34816, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S34816x1024, .bf16⟩
  | .hbm, ⟨1, _⟩ => ⟨S1024x7168, .f32⟩
  | .hbm, ⟨2, _⟩ => ⟨S1024x7168, .bf16⟩
  | .hbm, ⟨3, _⟩ => ⟨S1024x512, .bf16⟩
  | .hbm, ⟨4, _⟩ => ⟨S34816x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S34816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![34, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S34816x1024 : Shape := ⟨2, ![34816, 1024]⟩
abbrev S1024x7168 : Shape := ⟨2, ![1024, 7168]⟩
abbrev S34816x7168 : Shape := ⟨2, ![34816, 7168]⟩
abbrev S34816x768 : Shape := ⟨2, ![34816, 768]⟩
abbrev S34816x512 : Shape := ⟨2, ![34816, 512]⟩
abbrev S34816x4096 : Shape := ⟨2, ![34816, 4096]⟩

abbrev nBuf : Space → Nat
  | .hbm => 10
  | .vmem => 0
  | .smem => 0
  | _ => 0

abbrev bufTy : (tb : Table) → Fin (tcTables nBuf tb) → BufTy
  | .hbm, ⟨0, _⟩ => ⟨S34816x1024, .bf16⟩
  | .hbm, ⟨1, _⟩ => ⟨S1024x7168, .f32⟩
  | .hbm, ⟨2, _⟩ => ⟨S34816x1024, .f32⟩
  | .hbm, ⟨3, _⟩ => ⟨S34816x7168, .f32⟩
  | .hbm, ⟨4, _⟩ => ⟨S34816x1024, .f32⟩
  | .hbm, ⟨5, _⟩ => ⟨S34816x768, .f32⟩
  | .hbm, ⟨6, _⟩ => ⟨S34816x768, .f32⟩
  | .hbm, ⟨7, _⟩ => ⟨S34816x512, .f32⟩
  | .hbm, ⟨8, _⟩ => ⟨S34816x4096, .f32⟩
  | .hbm, ⟨9, _⟩ => ⟨S34816x512, .bf16⟩
  | _, _ => ⟨S34816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel6.lean ====
abbrev S8x4352x256 : Shape := ⟨3, ![8, 4352, 256]⟩
abbrev S8x4352x1024 : Shape := ⟨3, ![8, 4352, 1024]⟩
abbrev S16x1x6144 : Shape := ⟨3, ![16, 1, 6144]⟩
abbrev S256 : Shape := ⟨1, ![256]⟩
abbrev S1024x7168 : Shape := ⟨2, ![1024, 7168]⟩
abbrev S4x256x1024 : Shape := ⟨3, ![4, 256, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S1024x4096 : Shape := ⟨2, ![1024, 4096]⟩
abbrev S16x1024 : Shape := ⟨2, ![16, 1024]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S16x1 : Shape := ⟨2, ![16, 1]⟩
abbrev S24x17408 : Shape := ⟨2, ![24, 17408]⟩
abbrev S2x256x256 : Shape := ⟨3, ![2, 256, 256]⟩
abbrev S2x256x1024 : Shape := ⟨3, ![2, 256, 1024]⟩
abbrev S1x1x1024 : Shape := ⟨3, ![1, 1, 1024]⟩
abbrev S24x256 : Shape := ⟨2, ![24, 256]⟩
abbrev S512x256 : Shape := ⟨2, ![512, 256]⟩
abbrev S512x1024 : Shape := ⟨2, ![512, 1024]⟩
abbrev S1x256x1024 : Shape := ⟨3, ![1, 256, 1024]⟩
abbrev S256x1024 : Shape := ⟨2, ![256, 1024]⟩
abbrev S16x256 : Shape := ⟨2, ![16, 256]⟩

abbrev nBuf : Space → Nat
  | .hbm => 47
  | .vmem => 53
  | .smem => 0
  | _ => 0

abbrev bufTy : (tb : Table) → Fin (tcTables nBuf tb) → BufTy
  | .hbm, ⟨0, _⟩ => ⟨S8x4352x256, .f32⟩
  | .hbm, ⟨1, _⟩ => ⟨S8x4352x256, .f32⟩
  | .hbm, ⟨2, _⟩ => ⟨S8x4352x256, .f32⟩
  | .hbm, ⟨3, _⟩ => ⟨S8x4352x256, .f32⟩
  | .hbm, ⟨4, _⟩ => ⟨S8x4352x256, .bf16⟩
  | .hbm, ⟨5, _⟩ => ⟨S8x4352x256, .bf16⟩
  | .hbm, ⟨6, _⟩ => ⟨S8x4352x256, .f32⟩
  | .hbm, ⟨7, _⟩ => ⟨S8x4352x256, .bf16⟩
  | .hbm, ⟨8, _⟩ => ⟨S8x4352x256, .bf16⟩
  | .hbm, ⟨9, _⟩ => ⟨S8x4352x1024, .bf16⟩
  | .hbm, ⟨10, _⟩ => ⟨S8x4352x1024, .f32⟩
  | .hbm, ⟨11, _⟩ => ⟨S16x1x6144, .f32⟩
  | .hbm, ⟨12, _⟩ => ⟨S256, .f32⟩
  | .hbm, ⟨13, _⟩ => ⟨S1024x7168, .f32⟩
  | .hbm, ⟨14, _⟩ => ⟨S4x256x1024, .f32⟩
  | .hbm, ⟨15, _⟩ => ⟨S1024x1024, .f32⟩
  | .hbm, ⟨16, _⟩ => ⟨S1024, .f32⟩
  | .hbm, ⟨17, _⟩ => ⟨S1024, .f32⟩
  | .hbm, ⟨18, _⟩ => ⟨S1024x16, .f32⟩
  | .hbm, ⟨19, _⟩ => ⟨S16, .f32⟩
  | .hbm, ⟨20, _⟩ => ⟨S256, .f32⟩
  | .hbm, ⟨21, _⟩ => ⟨S256, .f32⟩
  | .hbm, ⟨22, _⟩ => ⟨S1024x7168, .bf16⟩
  | .hbm, ⟨23, _⟩ => ⟨S1024x4096, .bf16⟩
  | .hbm, ⟨24, _⟩ => ⟨S4x256x1024, .bf16⟩
  | .hbm, ⟨25, _⟩ => ⟨S1024x1024, .bf16⟩
  | .hbm, ⟨26, _⟩ => ⟨S16x1024, .f32⟩
  | .hbm, ⟨27, _⟩ => ⟨S256, .i32⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S1x256, .i32⟩
  | .hbm, ⟨33, _⟩ => ⟨S256x256, .i32⟩
  | .hbm, ⟨34, _⟩ => ⟨S256x256, .i32⟩
  | .hbm, ⟨35, _⟩ => ⟨S256x256, .i1⟩
  | .hbm, ⟨36, _⟩ => ⟨S256x256, .f32⟩
  | .hbm, ⟨37, _⟩ => ⟨S1x256, .f32⟩
  | .hbm, ⟨38, _⟩ => ⟨S1x1024, .f32⟩
  | .hbm, ⟨39, _⟩ => ⟨S1x1024, .f32⟩
  | .hbm, ⟨40, _⟩ => ⟨S16x1, .f32⟩
  | .hbm, ⟨41, _⟩ => ⟨S1x256, .f32⟩
  | .hbm, ⟨42, _⟩ => ⟨S1x256, .f32⟩
  | .hbm, ⟨43, _⟩ => ⟨S8x4352x1024, .f32⟩
  | .hbm, ⟨44, _⟩ => ⟨S8x4352x1024, .bf16⟩
  | .hbm, ⟨45, _⟩ => ⟨S24x17408, .f32⟩
  | .hbm, ⟨46, _⟩ => ⟨S24x17408, .f32⟩
  | .local _ .vmem, ⟨0, _⟩ => ⟨S2x256x256, .f32⟩
  | .local _ .vmem, ⟨1, _⟩ => ⟨S2x256x256, .f32⟩
  | .local _ .vmem, ⟨2, _⟩ => ⟨S2x256x256, .f32⟩
  | .local _ .vmem, ⟨3, _⟩ => ⟨S2x256x256, .f32⟩
  | .local _ .vmem, ⟨4, _⟩ => ⟨S2x256x256, .f32⟩
  | .local _ .vmem, ⟨5, _⟩ => ⟨S2x256x256, .f32⟩
  | .local _ .vmem, ⟨6, _⟩ => ⟨S2x256x256, .f32⟩
  | .local _ .vmem, ⟨7, _⟩ => ⟨S2x256x256, .f32⟩
  | .local _ .vmem, ⟨8, _⟩ => ⟨S2x256x256, .bf16⟩
  | .local _ .vmem, ⟨9, _⟩ => ⟨S2x256x256, .bf16⟩
  | .local _ .vmem, ⟨10, _⟩ => ⟨S2x256x256, .bf16⟩
  | .local _ .vmem, ⟨11, _⟩ => ⟨S2x256x256, .bf16⟩
  | .local _ .vmem, ⟨12, _⟩ => ⟨S2x256x256, .f32⟩
  | .local _ .vmem, ⟨13, _⟩ => ⟨S2x256x256, .f32⟩
  | .local _ .vmem, ⟨14, _⟩ => ⟨S2x256x256, .bf16⟩
  | .local _ .vmem, ⟨15, _⟩ => ⟨S2x256x256, .bf16⟩
  | .local _ .vmem, ⟨16, _⟩ => ⟨S2x256x256, .bf16⟩
  | .local _ .vmem, ⟨17, _⟩ => ⟨S2x256x256, .bf16⟩
  | .local _ .vmem, ⟨18, _⟩ => ⟨S2x256x1024, .bf16⟩
  | .local _ .vmem, ⟨19, _⟩ => ⟨S2x256x1024, .bf16⟩
  | .local _ .vmem, ⟨20, _⟩ => ⟨S2x256x1024, .f32⟩
  | .local _ .vmem, ⟨21, _⟩ => ⟨S2x256x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1x1024, .f32⟩
  | .local _ .vmem, ⟨29, _⟩ => ⟨S1x1x1024, .f32⟩
  | .local _ .vmem, ⟨30, _⟩ => ⟨S1x1x1024, .f32⟩
  | .local _ .vmem, ⟨31, _⟩ => ⟨S1x1x1024, .f32⟩
  | .local _ .vmem, ⟨32, _⟩ => ⟨S1x1x1024, .f32⟩
  | .local _ .vmem, ⟨33, _⟩ => ⟨S1x1x1024, .f32⟩
  | .local _ .vmem, ⟨34, _⟩ => ⟨S1x256, .f32⟩
  | .local _ .vmem, ⟨35, _⟩ => ⟨S1024x4096, .bf16⟩
  | .local _ .vmem, ⟨36, _⟩ => ⟨S4x256x1024, .bf16⟩
  | .local _ .vmem, ⟨37, _⟩ => ⟨S1024x1024, .bf16⟩
  | .local _ .vmem, ⟨38, _⟩ => ⟨S1x1024, .f32⟩
  | .local _ .vmem, ⟨39, _⟩ => ⟨S1x1024, .f32⟩
  | .local _ .vmem, ⟨40, _⟩ => ⟨S16x1024, .f32⟩
  | .local _ .vmem, ⟨41, _⟩ => ⟨S16x1, .f32⟩
  | .local _ .vmem, ⟨42, _⟩ => ⟨S1x256, .f32⟩
  | .local _ .vmem, ⟨43, _⟩ => ⟨S1x256, .f32⟩
  | .local _ .vmem, ⟨44, _⟩ => ⟨S256x256, .f32⟩
  | .local _ .vmem, ⟨45, _⟩ => ⟨S2x256x1024, .f32⟩
  | .local _ .vmem, ⟨46, _⟩ => ⟨S2x256x1024, .f32⟩
  | .local _ .vmem, ⟨47, _⟩ => ⟨S2x256x1024, .bf16⟩
  | .local _ .vmem, ⟨48, _⟩ => ⟨S2x256x1024, .bf16⟩
  | .local _ .vmem, ⟨49, _⟩ => ⟨S24x256, .f32⟩
  | .local _ .vmem, ⟨50, _⟩ => ⟨S24x256, .f32⟩
  | .local _ .vmem, ⟨51, _⟩ => ⟨S24x256, .f32⟩
  | .local _ .vmem, ⟨52, _⟩ => ⟨S24x256, .f32⟩
  | _, _ => ⟨S8x4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20_0 : Ref sig .tc := ⟨.hbm, 43, rfl⟩
abbrev main_v20_1 : Ref sig .tc := ⟨.hbm, 44, rfl⟩
abbrev main_v20_2 : Ref sig .tc := ⟨.hbm, 45, rfl⟩
abbrev main_v20_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg18_0 : Ref sig .tc := ⟨.vmem, 35, rfl⟩
abbrev cc0_stg19_0 : Ref sig .tc := ⟨.vmem, 36, rfl⟩
abbrev cc0_stg20_0 : Ref sig .tc := ⟨.vmem, 37, rfl⟩
abbrev cc0_stg21_0 : Ref sig .tc := ⟨.vmem, 38, rfl⟩
abbrev cc0_stg22_0 : Ref sig .tc := ⟨.vmem, 39, rfl⟩
abbrev cc0_stg23_0 : Ref sig .tc := ⟨.vmem, 40, rfl⟩
abbrev cc0_stg24_0 : Ref sig .tc := ⟨.vmem, 41, rfl⟩
abbrev cc0_stg25_0 : Ref sig .tc := ⟨.vmem, 42, rfl⟩
abbrev cc0_stg26_0 : Ref sig .tc := ⟨.vmem, 43, rfl⟩
abbrev cc0_stg27_0 : Ref sig .tc := ⟨.vmem, 44, rfl⟩
abbrev cc0_stg28_0 : Ref sig .tc := ⟨.vmem, 45, rfl⟩
abbrev cc0_stg28_1 : Ref sig .tc := ⟨.vmem, 46, rfl⟩
abbrev cc0_stg29_0 : Ref sig .tc := ⟨.vmem, 47, rfl⟩
abbrev cc0_stg29_1 : Ref sig .tc := ⟨.vmem, 48, rfl⟩
abbrev cc0_stg30_0 : Ref sig .tc := ⟨.vmem, 49, rfl⟩
abbrev cc0_stg30_1 : Ref sig .tc := ⟨.vmem, 50, rfl⟩
abbrev cc0_stg31_0 : Ref sig .tc := ⟨.vmem, 51, rfl⟩
abbrev cc0_stg31_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem18_0 : DmaSem sig := 35
abbrev cc0_sem19_0 : DmaSem sig := 36
abbrev cc0_sem20_0 : DmaSem sig := 37
abbrev cc0_sem21_0 : DmaSem sig := 38
abbrev cc0_sem22_0 : DmaSem sig := 39
abbrev cc0_sem23_0 : DmaSem sig := 40
abbrev cc0_sem24_0 : DmaSem sig := 41
abbrev cc0_sem25_0 : DmaSem sig := 42
abbrev cc0_sem26_0 : DmaSem sig := 43
abbrev cc0_sem27_0 : DmaSem sig := 44
abbrev cc0_sem28_0 : DmaSem sig := 45
abbrev cc0_sem28_1 : DmaSem sig := 46
abbrev cc0_sem29_0 : DmaSem sig := 47
abbrev cc0_sem29_1 : DmaSem sig := 48
abbrev cc0_sem30_0 : DmaSem sig := 49
abbrev cc0_sem30_1 : DmaSem sig := 50
abbrev cc0_sem31_0 : DmaSem sig := 51
abbrev cc0_sem31_1 : DmaSem sig := 52

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c2_i32 : BitVec 32 := 2#32
  let v1 : BitVec 32 := Scalar.muli arg0 c2_i32
  let c0_i32 : BitVec 32 := 0#32
  let v2 : BitVec 32 := Scalar.addi v1 c0_i32
  let c8_i32 : BitVec 32 := 8#32
  let v3 : BitVec 32 := Scalar.select v0 c8_i32 v2
  let c0_i32_0 : BitVec 32 := 0#32
  let c2_i32_1 : BitVec 32 := 2#32
  let c0_i32_2 : BitVec 32 := 0#32
  ![v3.toNat, c0_i32_0.toNat, c2_i32_1.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c2_i32 : BitVec 32 := 2#32
  let v1 : BitVec 32 := Scalar.muli arg0 c2_i32
  let c0_i32 : BitVec 32 := 0#32
  let v2 : BitVec 32 := Scalar.addi v1 c0_i32
  let c8_i32 : BitVec 32 := 8#32
  let v3 : BitVec 32 := Scalar.select v0 c8_i32 v2
  let c0_i32_0 : BitVec 32 := 0#32
  let c3_i32 : BitVec 32 := 3#32
  let c0_i32_1 : BitVec 32 := 0#32
  ![v3.toNat, c0_i32_0.toNat, c3_i32.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c2_i32 : BitVec 32 := 2#32
  let v1 : BitVec 32 := Scalar.muli arg0 c2_i32
  let c0_i32 : BitVec 32 := 0#32
  let v2 : BitVec 32 := Scalar.addi v1 c0_i32
  let c8_i32 : BitVec 32 := 8#32
  let v3 : BitVec 32 := Scalar.select v0 c8_i32 v2
  let c0_i32_0 : BitVec 32 := 0#32
  let c4_i32 : BitVec 32 := 4#32
  let c0_i32_1 : BitVec 32 := 0#32
  ![v3.toNat, c0_i32_0.toNat, c4_i32.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c2_i32 : BitVec 32 := 2#32
  let v1 : BitVec 32 := Scalar.muli arg0 c2_i32
  let c1_i32_0 : BitVec 32 := 1#32
  let v2 : BitVec 32 := Scalar.addi v1 c1_i32_0
  let c8_i32 : BitVec 32 := 8#32
  let v3 : BitVec 32 := Scalar.select v0 c8_i32 v2
  let c0_i32 : BitVec 32 := 0#32
  let c2_i32_1 : BitVec 32 := 2#32
  let c0_i32_2 : BitVec 32 := 0#32
  ![v3.toNat, c0_i32.toNat, c2_i32_1.toNat]

def cc0_transform_15 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c2_i32 : BitVec 32 := 2#32
  let v1 : BitVec 32 := Scalar.muli arg0 c2_i32
  let c1_i32_0 : BitVec 32 := 1#32
  let v2 : BitVec 32 := Scalar.addi v1 c1_i32_0
  let c8_i32 : BitVec 32 := 8#32
  let v3 : BitVec 32 := Scalar.select v0 c8_i32 v2
  let c0_i32 : BitVec 32 := 0#32
  let c3_i32 : BitVec 32 := 3#32
  let c0_i32_1 : BitVec 32 := 0#32
  ![v3.toNat, c0_i32.toNat, c3_i32.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c2_i32 : BitVec 32 := 2#32
  let v1 : BitVec 32 := Scalar.muli arg0 c2_i32
  let c1_i32_0 : BitVec 32 := 1#32
  let v2 : BitVec 32 := Scalar.addi v1 c1_i32_0
  let c8_i32 : BitVec 32 := 8#32
  let v3 : BitVec 32 := Scalar.select v0 c8_i32 v2
  let c0_i32 : BitVec 32 := 0#32
  let c4_i32 : BitVec 32 := 4#32
  let c0_i32_1 : BitVec 32 := 0#32
  ![v3.toNat, c0_i32.toNat, c4_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_30 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![c0_i32.toNat, v1.toNat]

def cc0_transform_31 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S2x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x4096 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S4x256x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S16x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S16x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S256x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 2 → Memref sig .tc .vmem S2x256x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S2x256x1024 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S24x256 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S24x256 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]
-- ==== Reference6Ideal.lean ====
abbrev S8x4352x256 : Shape := ⟨3, ![8, 4352, 256]⟩
abbrev S8x4352x1024 : Shape := ⟨3, ![8, 4352, 1024]⟩
abbrev S16x1x6144 : Shape := ⟨3, ![16, 1, 6144]⟩
abbrev S256 : Shape := ⟨1, ![256]⟩
abbrev S1024x7168 : Shape := ⟨2, ![1024, 7168]⟩
abbrev S4x256x1024 : Shape := ⟨3, ![4, 256, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S8x4352x4x64 : Shape := ⟨4, ![8, 4352, 4, 64]⟩
abbrev S_ : Shape := ⟨0, ![]⟩
abbrev S8x4352x4 : Shape := ⟨3, ![8, 4352, 4]⟩
abbrev S8x4352x4x1 : Shape := ⟨4, ![8, 4352, 4, 1]⟩
abbrev S1x1x256 : Shape := ⟨3, ![1, 1, 256]⟩
abbrev S8x4352x7168 : Shape := ⟨3, ![8, 4352, 7168]⟩
abbrev S8x4352x768 : Shape := ⟨3, ![8, 4352, 768]⟩
abbrev S8x4352x512 : Shape := ⟨3, ![8, 4352, 512]⟩
abbrev S8x4352x4096 : Shape := ⟨3, ![8, 4352, 4096]⟩
abbrev S8x4352x4x1024 : Shape := ⟨4, ![8, 4352, 4, 1024]⟩
abbrev S8x4352x1x1024 : Shape := ⟨4, ![8, 4352, 1, 1024]⟩
abbrev S1x256x1024 : Shape := ⟨3, ![1, 256, 1024]⟩
abbrev S256x1024 : Shape := ⟨2, ![256, 1024]⟩
abbrev S16x1x1024 : Shape := ⟨3, ![16, 1, 1024]⟩
abbrev S1x1x1024 : Shape := ⟨3, ![1, 1, 1024]⟩
abbrev S8x256x1024 : Shape := ⟨3, ![8, 256, 1024]⟩
abbrev S8x1x1024 : Shape := ⟨3, ![8, 1, 1024]⟩
abbrev S8x4096x1024 : Shape := ⟨3, ![8, 4096, 1024]⟩
abbrev S8x4352 : Shape := ⟨2, ![8, 4352]⟩
abbrev S8x4352x1 : Shape := ⟨3, ![8, 4352, 1]⟩

abbrev nBuf : Space → Nat
  | .hbm => 205
  | .vmem => 0
  | .smem => 0
  | _ => 0

abbrev hbmTy0_0 (i : Nat) : BufTy := match i % 128 with
  | 0 => ⟨S8x4352x256, .f32⟩
  | 1 => ⟨S8x4352x256, .f32⟩
  | 2 => ⟨S8x4352x256, .f32⟩
  | 3 => ⟨S8x4352x256, .f32⟩
  | 4 => ⟨S8x4352x256, .bf16⟩
  | 5 => ⟨S8x4352x256, .bf16⟩
  | 6 => ⟨S8x4352x256, .f32⟩
  | 7 => ⟨S8x4352x256, .bf16⟩
  | 8 => ⟨S8x4352x256, .bf16⟩
  | 9 => ⟨S8x4352x1024, .bf16⟩
  | 10 => ⟨S8x4352x1024, .f32⟩
  | 11 => ⟨S16x1x6144, .f32⟩
  | 12 => ⟨S256, .f32⟩
  | 13 => ⟨S1024x7168, .f32⟩
  | 14 => ⟨S4x256x1024, .f32⟩
  | 15 => ⟨S1024x1024, .f32⟩
  | 16 => ⟨S1024, .f32⟩
  | 17 => ⟨S1024, .f32⟩
  | 18 => ⟨S1024x16, .f32⟩
  | 19 => ⟨S16, .f32⟩
  | 20 => ⟨S256, .f32⟩
  | 21 => ⟨S256, .f32⟩
  | 22 => ⟨S8x4352x256, .f32⟩
  | 23 => ⟨S8x4352x4x64, .f32⟩
  | 24 => ⟨S_, .f32⟩
  | 25 => ⟨S8x4352x4, .f32⟩
  | 26 => ⟨S8x4352x4x1, .f32⟩
  | 27 => ⟨S_, .f32⟩
  | 28 => ⟨S8x4352x4x1, .f32⟩
  | 29 => ⟨S8x4352x4x1, .f32⟩
  | 30 => ⟨S8x4352x4x64, .f32⟩
  | 31 => ⟨S8x4352x4x64, .f32⟩
  | 32 => ⟨S8x4352x4x64, .f32⟩
  | 33 => ⟨S_, .f32⟩
  | 34 => ⟨S8x4352x4, .f32⟩
  | 35 => ⟨S8x4352x4x1, .f32⟩
  | 36 => ⟨S_, .f32⟩
  | 37 => ⟨S8x4352x4x1, .f32⟩
  | 38 => ⟨S8x4352x4x1, .f32⟩
  | 39 => ⟨S8x4352x4x64, .f32⟩
  | 40 => ⟨S8x4352x4x64, .f32⟩
  | 41 => ⟨S_, .f32⟩
  | 42 => ⟨S8x4352x4x1, .f32⟩
  | 43 => ⟨S8x4352x4x1, .f32⟩
  | 44 => ⟨S8x4352x4x1, .f32⟩
  | 45 => ⟨S8x4352x4x64, .f32⟩
  | 46 => ⟨S8x4352x4x64, .f32⟩
  | 47 => ⟨S8x4352x256, .f32⟩
  | 48 => ⟨S1x1x256, .f32⟩
  | 49 => ⟨S8x4352x256, .f32⟩
  | 50 => ⟨S8x4352x256, .f32⟩
  | 51 => ⟨S1x1x256, .f32⟩
  | 52 => ⟨S8x4352x256, .f32⟩
  | 53 => ⟨S8x4352x256, .f32⟩
  | 54 => ⟨S8x4352x256, .f32⟩
  | 55 => ⟨S8x4352x256, .f32⟩
  | 56 => ⟨S8x4352x256, .f32⟩
  | 57 => ⟨S8x4352x256, .f32⟩
  | 58 => ⟨S1x1x256, .f32⟩
  | 59 => ⟨S8x4352x256, .f32⟩
  | 60 => ⟨S8x4352x256, .f32⟩
  | 61 => ⟨S8x4352x256, .f32⟩
  | 62 => ⟨S8x4352x256, .f32⟩
  | 63 => ⟨S8x4352x1024, .f32⟩
  | 64 => ⟨S8x4352x7168, .f32⟩
  | 65 => ⟨S8x4352x1024, .f32⟩
  | 66 => ⟨S8x4352x768, .f32⟩
  | 67 => ⟨S8x4352x768, .f32⟩
  | 68 => ⟨S8x4352x512, .f32⟩
  | 69 => ⟨S8x4352x4096, .f32⟩
  | 70 => ⟨S8x4352x256, .f32⟩
  | 71 => ⟨S8x4352x256, .f32⟩
  | 72 => ⟨S8x4352x4096, .f32⟩
  | 73 => ⟨S8x4352x4096, .f32⟩
  | 74 => ⟨S_, .f32⟩
  | 75 => ⟨S8x4352x4096, .f32⟩
  | 76 => ⟨S8x4352x4096, .f32⟩
  | 77 => ⟨S_, .f32⟩
  | 78 => ⟨S8x4352x4096, .f32⟩
  | 79 => ⟨S8x4352x4096, .f32⟩
  | 80 => ⟨S8x4352x4x1024, .f32⟩
  | 81 => ⟨S8x4352x1x1024, .f32⟩
  | 82 => ⟨S8x4352x1024, .f32⟩
  | 83 => ⟨S1x256x1024, .f32⟩
  | 84 => ⟨S256x1024, .f32⟩
  | 85 => ⟨S8x4352x1024, .f32⟩
  | 86 => ⟨S8x4352x1024, .f32⟩
  | 87 => ⟨S8x4352x1x1024, .f32⟩
  | 88 => ⟨S8x4352x1024, .f32⟩
  | 89 => ⟨S1x256x1024, .f32⟩
  | 90 => ⟨S256x1024, .f32⟩
  | 91 => ⟨S8x4352x1024, .f32⟩
  | 92 => ⟨S8x4352x1024, .f32⟩
  | 93 => ⟨S8x4352x1024, .f32⟩
  | 94 => ⟨S8x4352x1x1024, .f32⟩
  | 95 => ⟨S8x4352x1024, .f32⟩
  | 96 => ⟨S1x256x1024, .f32⟩
  | 97 => ⟨S256x1024, .f32⟩
  | 98 => ⟨S8x4352x1024, .f32⟩
  | 99 => ⟨S8x4352x1024, .f32⟩
  | 100 => ⟨S8x4352x1024, .f32⟩
  | 101 => ⟨S8x4352x1x1024, .f32⟩
  | 102 => ⟨S8x4352x1024, .f32⟩
  | 103 => ⟨S1x256x1024, .f32⟩
  | 104 => ⟨S256x1024, .f32⟩
  | 105 => ⟨S8x4352x1024, .f32⟩
  | 106 => ⟨S8x4352x1024, .f32⟩
  | 107 => ⟨S8x4352x1024, .f32⟩
  | 108 => ⟨S8x4352x1024, .f32⟩
  | 109 => ⟨S16x1x1024, .f32⟩
  | 110 => ⟨S16x1x1024, .f32⟩
  | 111 => ⟨S16x1x1024, .f32⟩
  | 112 => ⟨S16x1x1024, .f32⟩
  | 113 => ⟨S16x1x1024, .f32⟩
  | 114 => ⟨S16x1x1024, .f32⟩
  | 115 => ⟨S1x1x1024, .f32⟩
  | 116 => ⟨S8x256x1024, .f32⟩
  | 117 => ⟨S8x1x1024, .f32⟩
  | 118 => ⟨S8x4096x1024, .f32⟩
  | 119 => ⟨S8x4352x1024, .f32⟩
  | 120 => ⟨S16x1x1024, .f32⟩
  | 121 => ⟨S16x1x1024, .f32⟩
  | 122 => ⟨S16x1x1024, .f32⟩
  | 123 => ⟨S16x1x1024, .f32⟩
  | 124 => ⟨S16x1x1024, .f32⟩
  | 125 => ⟨S16x1x1024, .f32⟩
  | 126 => ⟨S1x1x1024, .f32⟩
  | 127 => ⟨S8x256x1024, .f32⟩
  | _ => ⟨S8x4352x256, .f32⟩

abbrev hbmTy0_1 (i : Nat) : BufTy := match i % 128 with
  | 0 => ⟨S8x1x1024, .f32⟩
  | 1 => ⟨S8x4096x1024, .f32⟩
  | 2 => ⟨S8x4352x1024, .f32⟩
  | 3 => ⟨S16x1x1024, .f32⟩
  | 4 => ⟨S16x1x1024, .f32⟩
  | 5 => ⟨S16x1x1024, .f32⟩
  | 6 => ⟨S16x1x1024, .f32⟩
  | 7 => ⟨S16x1x1024, .f32⟩
  | 8 => ⟨S16x1x1024, .f32⟩
  | 9 => ⟨S1x1x1024, .f32⟩
  | 10 => ⟨S8x256x1024, .f32⟩
  | 11 => ⟨S8x1x1024, .f32⟩
  | 12 => ⟨S8x4096x1024, .f32⟩
  | 13 => ⟨S8x4352x1024, .f32⟩
  | 14 => ⟨S_, .f32⟩
  | 15 => ⟨S8x4352x1024, .f32⟩
  | 16 => ⟨S8x4352x1024, .f32⟩
  | 17 => ⟨S8x4352x1024, .f32⟩
  | 18 => ⟨S8x4352x1024, .f32⟩
  | 19 => ⟨S_, .f32⟩
  | 20 => ⟨S8x4352, .f32⟩
  | 21 => ⟨S8x4352x1, .f32⟩
  | 22 => ⟨S_, .f32⟩
  | 23 => ⟨S8x4352x1, .f32⟩
  | 24 => ⟨S8x4352x1, .f32⟩
  | 25 => ⟨S8x4352x1024, .f32⟩
  | 26 => ⟨S8x4352x1024, .f32⟩
  | 27 => ⟨S8x4352x1024, .f32⟩
  | 28 => ⟨S_, .f32⟩
  | 29 => ⟨S8x4352, .f32⟩
  | 30 => ⟨S8x4352x1, .f32⟩
  | 31 => ⟨S_, .f32⟩
  | 32 => ⟨S8x4352x1, .f32⟩
  | 33 => ⟨S8x4352x1, .f32⟩
  | 34 => ⟨S8x4352x1024, .f32⟩
  | 35 => ⟨S8x4352x1024, .f32⟩
  | 36 => ⟨S_, .f32⟩
  | 37 => ⟨S8x4352x1, .f32⟩
  | 38 => ⟨S8x4352x1, .f32⟩
  | 39 => ⟨S8x4352x1, .f32⟩
  | 40 => ⟨S8x4352x1024, .f32⟩
  | 41 => ⟨S8x4352x1024, .f32⟩
  | 42 => ⟨S1x1x1024, .f32⟩
  | 43 => ⟨S8x4352x1024, .f32⟩
  | 44 => ⟨S8x4352x1024, .f32⟩
  | 45 => ⟨S1x1x1024, .f32⟩
  | 46 => ⟨S8x4352x1024, .f32⟩
  | 47 => ⟨S8x4352x1024, .f32⟩
  | 48 => ⟨S_, .f32⟩
  | 49 => ⟨S8x4352, .f32⟩
  | 50 => ⟨S8x4352x1, .f32⟩
  | 51 => ⟨S_, .f32⟩
  | 52 => ⟨S8x4352x1, .f32⟩
  | 53 => ⟨S8x4352x1, .f32⟩
  | 54 => ⟨S8x4352x1024, .f32⟩
  | 55 => ⟨S8x4352x1024, .f32⟩
  | 56 => ⟨S8x4352x1024, .f32⟩
  | 57 => ⟨S_, .f32⟩
  | 58 => ⟨S8x4352, .f32⟩
  | 59 => ⟨S8x4352x1, .f32⟩
  | 60 => ⟨S_, .f32⟩
  | 61 => ⟨S8x4352x1, .f32⟩
  | 62 => ⟨S8x4352x1, .f32⟩
  | 63 => ⟨S8x4352x1024, .f32⟩
  | 64 => ⟨S8x4352x1024, .f32⟩
  | 65 => ⟨S_, .f32⟩
  | 66 => ⟨S8x4352x1, .f32⟩
  | 67 => ⟨S8x4352x1, .f32⟩
  | 68 => ⟨S8x4352x1, .f32⟩
  | 69 => ⟨S8x4352x1024, .f32⟩
  | 70 => ⟨S8x4352x1024, .f32⟩
  | 71 => ⟨S_, .f32⟩
  | 72 => ⟨S8x4352x1024, .f32⟩
  | 73 => ⟨S8x4352x1024, .f32⟩
  | 74 => ⟨S8x4352x1024, .f32⟩
  | 75 => ⟨S8x4352x1024, .f32⟩
  | 76 => ⟨S8x4352x1024, .bf16⟩
  | _ => ⟨S8x4352x256, .f32⟩

abbrev hbmTy (i : Nat) : BufTy := match i / 128 with
  | 0 => hbmTy0_0 i
  | 1 => hbmTy0_1 i
  | _ => ⟨S8x4352x256, .f32⟩

abbrev bufTy : (tb : Table) → Fin (tcTables nBuf tb) → BufTy
  | .hbm, ⟨i, _⟩ => hbmTy i
  | _, _ => ⟨S8x4352x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_v3 : Ref sig .tc := ⟨.hbm, 26, rfl⟩
abbrev main_cst_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_v10 : Ref sig .tc := ⟨.hbm, 35, rfl⟩
abbrev main_cst_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_3 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_4 : Ref sig .tc := ⟨.hbm, 74, rfl⟩
abbrev main_v47 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_6 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_7 : Ref sig .tc := ⟨.hbm, 147, rfl⟩
abbrev main_v117 : Ref sig .tc := ⟨.hbm, 148, rfl⟩
abbrev main_v118 : Ref sig .tc := ⟨.hbm, 149, rfl⟩
abbrev main_cst_8 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_9 : Ref sig .tc := ⟨.hbm, 156, rfl⟩
abbrev main_v124 : Ref sig .tc := ⟨.hbm, 157, rfl⟩
abbrev main_v125 : Ref sig .tc := ⟨.hbm, 158, rfl⟩
abbrev main_cst_10 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_11 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_cst_12 : Ref sig .tc := ⟨.hbm, 176, rfl⟩
abbrev main_v141 : Ref sig .tc := ⟨.hbm, 177, rfl⟩
abbrev main_v142 : Ref sig .tc := ⟨.hbm, 178, rfl⟩
abbrev main_cst_13 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_14 : Ref sig .tc := ⟨.hbm, 185, rfl⟩
abbrev main_v148 : Ref sig .tc := ⟨.hbm, 186, rfl⟩
abbrev main_v149 : Ref sig .tc := ⟨.hbm, 187, rfl⟩
abbrev main_cst_15 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_cst_16 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_cst_17 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩

abbrev nD : Nat := 1
abbrev τ : Topo := Topo.v7x

variable {F : FTy → Type} [FloatOps F]
-- ==== Kernel7.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x6144, .f32⟩
  | .hbm, ⟨30, _⟩ => ⟨S1024x6144, .f32⟩
  | .hbm, ⟨31, _⟩ => ⟨S16x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S16x6144, .f32⟩
  | .hbm, ⟨36, _⟩ => ⟨S16x6144, .f32⟩
  | .hbm, ⟨37, _⟩ => ⟨S1x16x6144, .f32⟩
  | .hbm, ⟨38, _⟩ => ⟨S1x16x6144, .f32⟩
  | .hbm, ⟨39, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel8.lean ====
abbrev S8x256x1024 : Shape := ⟨3, ![8, 256, 1024]⟩
abbrev S8x4096x1024 : Shape := ⟨3, ![8, 4096, 1024]⟩
abbrev S16x1x6144 : Shape := ⟨3, ![16, 1, 6144]⟩
abbrev S8x4352x1024 : Shape := ⟨3, ![8, 4352, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S16x1x6144, .f32⟩
  | .hbm, ⟨3, _⟩ => ⟨S8x4352x1024, .f32⟩
  | .hbm, ⟨4, _⟩ => ⟨S8x4352x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .bf16⟩
  | .local _ .vmem, ⟨11, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c8_i32 : BitVec 32 := 8#32
  let v1 : BitVec 32 := Scalar.select v0 c8_i32 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c8_i32 : BitVec 32 := 8#32
  let v1 : BitVec 32 := Scalar.select v0 c8_i32 arg0
  let c0_i32 : BitVec 32 := 0#32
  let c1_i32_0 : BitVec 32 := 1#32
  let c0_i32_1 : BitVec 32 := 0#32
  ![v1.toNat, c0_i32.toNat, c1_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8x256x1024 : Shape := ⟨3, ![8, 256, 1024]⟩
abbrev S8x4096x1024 : Shape := ⟨3, ![8, 4096, 1024]⟩
abbrev S16x1x6144 : Shape := ⟨3, ![16, 1, 6144]⟩
abbrev S8x1x6144 : Shape := ⟨3, ![8, 1, 6144]⟩
abbrev S8x1x1024 : Shape := ⟨3, ![8, 1, 1024]⟩
abbrev S1x1x6144 : Shape := ⟨3, ![1, 1, 6144]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S8x256 : Shape := ⟨2, ![8, 256]⟩
abbrev S8x256x1 : Shape := ⟨3, ![8, 256, 1]⟩
abbrev S8x4352x1024 : Shape := ⟨3, ![8, 4352, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S16x1x6144, .f32⟩
  | .hbm, ⟨3, _⟩ => ⟨S8x1x6144, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S1x1x6144, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S_, .f32⟩
  | .hbm, ⟨48, _⟩ => ⟨S8x256, .f32⟩
  | .hbm, ⟨49, _⟩ => ⟨S8x256x1, .f32⟩
  | .hbm, ⟨50, _⟩ => ⟨S_, .f32⟩
  | .hbm, ⟨51, _⟩ => ⟨S8x256x1, .f32⟩
  | .hbm, ⟨52, _⟩ => ⟨S8x256x1, .f32⟩
  | .hbm, ⟨53, _⟩ => ⟨S8x256x1024, .f32⟩
  | .hbm, ⟨54, _⟩ => ⟨S8x256x1024, .f32⟩
  | .hbm, ⟨55, _⟩ => ⟨S8x256x1024, .f32⟩
  | .hbm, ⟨56, _⟩ => ⟨S_, .f32⟩
  | .hbm, ⟨57, _⟩ => ⟨S8x256, .f32⟩
  | .hbm, ⟨58, _⟩ => ⟨S8x256x1, .f32⟩
  | .hbm, ⟨59, _⟩ => ⟨S_, .f32⟩
  | .hbm, ⟨60, _⟩ => ⟨S8x256x1, .f32⟩
  | .hbm, ⟨61, _⟩ => ⟨S8x256x1, .f32⟩
  | .hbm, ⟨62, _⟩ => ⟨S8x256x1024, .f32⟩
  | .hbm, ⟨63, _⟩ => ⟨S8x256x1024, .f32⟩
  | .hbm, ⟨64, _⟩ => ⟨S_, .f32⟩
  | .hbm, ⟨65, _⟩ => ⟨S8x256x1, .f32⟩
  | .hbm, ⟨66, _⟩ => ⟨S8x256x1, .f32⟩
  | .hbm, ⟨67, _⟩ => ⟨S8x256x1, .f32⟩
  | .hbm, ⟨68, _⟩ => ⟨S8x256x1024, .f32⟩
  | .hbm, ⟨69, _⟩ => ⟨S8x256x1024, .f32⟩
  | .hbm, ⟨70, _⟩ => ⟨S_, .f32⟩
  | .hbm, ⟨71, _⟩ => ⟨S1x1x1024, .f32⟩
  | .hbm, ⟨72, _⟩ => ⟨S1x1x1024, .f32⟩
  | .hbm, ⟨73, _⟩ => ⟨S8x256x1024, .f32⟩
  | .hbm, ⟨74, _⟩ => ⟨S8x256x1024, .f32⟩
  | .hbm, ⟨75, _⟩ => ⟨S8x256x1024, .f32⟩
  | .hbm, ⟨76, _⟩ => ⟨S8x256x1024, .f32⟩
  | .hbm, ⟨77, _⟩ => ⟨S8x4352x1024, .f32⟩
  | .hbm, ⟨78, _⟩ => ⟨S8x4352x1024, .f32⟩
  | .hbm, ⟨79, _⟩ => ⟨S8x4352x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩

abbrev nD : Nat := 1
abbrev τ : Topo := Topo.v7x

variable {F : FTy → Type} [FloatOps F]
-- ==== Kernel9.lean ====
abbrev S8x4352x1024 : Shape := ⟨3, ![8, 4352, 1024]⟩
abbrev S34816x1152 : Shape := ⟨2, ![34816, 1152]⟩
abbrev S34x1440x1024 : Shape := ⟨3, ![34, 1440, 1024]⟩
abbrev S16x1x6144 : Shape := ⟨3, ![16, 1, 6144]⟩
abbrev S1024 : Shape := ⟨1, ![1024]⟩
abbrev S1x1024 : Shape := ⟨2, ![1, 1024]⟩
abbrev S1x256x1024 : Shape := ⟨3, ![1, 256, 1024]⟩
abbrev S256x1152 : Shape := ⟨2, ![256, 1152]⟩
abbrev S1x1152x1024 : Shape := ⟨3, ![1, 1152, 1024]⟩
abbrev S1x1x1024 : Shape := ⟨3, ![1, 1, 1024]⟩
abbrev S1152x1024 : Shape := ⟨2, ![1152, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 18
  | .smem => 0
  | _ => 0

abbrev bufTy : (tb : Table) → Fin (tcTables nBuf tb) → BufTy
  | .hbm, ⟨0, _⟩ => ⟨S8x4352x1024, .f32⟩
  | .hbm, ⟨1, _⟩ => ⟨S34816x1152, .bf16⟩
  | .hbm, ⟨2, _⟩ => ⟨S34x1440x1024, .bf16⟩
  | .hbm, ⟨3, _⟩ => ⟨S16x1x6144, .f32⟩
  | .hbm, ⟨4, _⟩ => ⟨S1024, .f32⟩
  | .hbm, ⟨5, _⟩ => ⟨S1024, .f32⟩
  | .hbm, ⟨6, _⟩ => ⟨S16x1x6144, .f32⟩
  | .hbm, ⟨7, _⟩ => ⟨S1x1024, .f32⟩
  | .hbm, ⟨8, _⟩ => ⟨S1x1024, .f32⟩
  | .hbm, ⟨9, _⟩ => ⟨S8x4352x1024, .f32⟩
  | .hbm, ⟨10, _⟩ => ⟨S8x4352x1024, .bf16⟩
  | .local _ .vmem, ⟨0, _⟩ => ⟨S1x256x1024, .f32⟩
  | .local _ .vmem, ⟨1, _⟩ => ⟨S1x256x1024, .f32⟩
  | .local _ .vmem, ⟨2, _⟩ => ⟨S256x1152, .bf16⟩
  | .local _ .vmem, ⟨3, _⟩ => ⟨S256x1152, .bf16⟩
  | .local _ .vmem, ⟨4, _⟩ => ⟨S1x1152x1024, .bf16⟩
  | .local _ .vmem, ⟨5, _⟩ => ⟨S1x1152x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .bf16⟩
  | .local _ .vmem, ⟨17, _⟩ => ⟨S1x256x1024, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c8_i32 : BitVec 32 := 8#32
  let v1 : BitVec 32 := Scalar.select v0 c8_i32 arg0
  let c0_i32 : BitVec 32 := 0#32
  let c5_i32 : BitVec 32 := 5#32
  let c0_i32_0 : BitVec 32 := 0#32
  ![v1.toNat, c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c8_i32 : BitVec 32 := 8#32
  let v1 : BitVec 32 := Scalar.select v0 c8_i32 arg0
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c8_i32 : BitVec 32 := 8#32
  let v1 : BitVec 32 := Scalar.select v0 c8_i32 arg0
  let c0_i32 : BitVec 32 := 0#32
  let c1_i32_0 : BitVec 32 := 1#32
  let c0_i32_1 : BitVec 32 := 0#32
  ![v1.toNat, c0_i32.toNat, c1_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference9Ideal.lean ====
abbrev S8x4352x1024 : Shape := ⟨3, ![8, 4352, 1024]⟩
abbrev S34816x1152 : Shape := ⟨2, ![34816, 1152]⟩
abbrev S34x1440x1024 : Shape := ⟨3, ![34, 1440, 1024]⟩
abbrev S16x1x6144 : Shape := ⟨3, ![16, 1, 6144]⟩
abbrev S1024 : Shape := ⟨1, ![1024]⟩
abbrev S_ : Shape := ⟨0, ![]⟩
abbrev S16x1x1024 : Shape := ⟨3, ![16, 1, 1024]⟩
abbrev S1x1x1024 : Shape := ⟨3, ![1, 1, 1024]⟩
abbrev S8x256x1024 : Shape := ⟨3, ![8, 256, 1024]⟩
abbrev S8x1x1024 : Shape := ⟨3, ![8, 1, 1024]⟩
abbrev S8x4096x1024 : Shape := ⟨3, ![8, 4096, 1024]⟩
abbrev S34x1024x1152 : Shape := ⟨3, ![34, 1024, 1152]⟩
abbrev S34x1152x1024 : Shape := ⟨3, ![34, 1152, 1024]⟩
abbrev S34x1024x1024 : Shape := ⟨3, ![34, 1024, 1024]⟩
abbrev S8x4352 : Shape := ⟨2, ![8, 4352]⟩
abbrev S8x4352x1 : Shape := ⟨3, ![8, 4352, 1]⟩

abbrev nBuf : Space → Nat
  | .hbm => 109
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S34816x1152, .bf16⟩
  | .hbm, ⟨2, _⟩ => ⟨S34x1440x1024, .bf16⟩
  | .hbm, ⟨3, _⟩ => ⟨S16x1x6144, .f32⟩
  | .hbm, ⟨4, _⟩ => ⟨S1024, .f32⟩
  | .hbm, ⟨5, _⟩ => ⟨S1024, .f32⟩
  | .hbm, ⟨6, _⟩ => ⟨S16x1x6144, .f32⟩
  | .hbm, ⟨7, _⟩ => ⟨S_, .f32⟩
  | .hbm, ⟨8, _⟩ => ⟨S8x4352x1024, .f32⟩
  | .hbm, ⟨9, _⟩ => ⟨S8x4352x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S1x1x1024, .f32⟩
  | .hbm, ⟨17, _⟩ => ⟨S8x256x1024, .f32⟩
  | .hbm, ⟨18, _⟩ => ⟨S8x1x1024, .f32⟩
  | .hbm, ⟨19, _⟩ => ⟨S8x4096x1024, .f32⟩
  | .hbm, ⟨20, _⟩ => ⟨S8x4352x1024, .f32⟩
  | .hbm, ⟨21, _⟩ => ⟨S34816x1152, .f32⟩
  | .hbm, ⟨22, _⟩ => ⟨S34x1024x1152, .f32⟩
  | .hbm, ⟨23, _⟩ => ⟨S34x1152x1024, .bf16⟩
  | .hbm, ⟨24, _⟩ => ⟨S34x1152x1024, .f32⟩
  | .hbm, ⟨25, _⟩ => ⟨S34x1024x1024, .f32⟩
  | .hbm, ⟨26, _⟩ => ⟨S8x4352x1024, .f32⟩
  | .hbm, ⟨27, _⟩ => ⟨S8x4352x1024, .f32⟩
  | .hbm, ⟨28, _⟩ => ⟨S8x4352x1024, .f32⟩
  | .hbm, ⟨29, _⟩ => ⟨S_, .f32⟩
  | .hbm, ⟨30, _⟩ => ⟨S8x4352, .f32⟩
  | .hbm, ⟨31, _⟩ => ⟨S8x4352x1, .f32⟩
  | .hbm, ⟨32, _⟩ => ⟨S_, .f32⟩
  | .hbm, ⟨33, _⟩ => ⟨S8x4352x1, .f32⟩
  | .hbm, ⟨34, _⟩ => ⟨S8x4352x1, .f32⟩
  | .hbm, ⟨35, _⟩ => ⟨S8x4352x1024, .f32⟩
  | .hbm, ⟨36, _⟩ => ⟨S8x4352x1024, .f32⟩
  | .hbm, ⟨37, _⟩ => ⟨S8x4352x1024, .f32⟩
  | .hbm, ⟨38, _⟩ => ⟨S_, .f32⟩
  | .hbm, ⟨39, _⟩ => ⟨S8x4352, .f32⟩
  | .hbm, ⟨40, _⟩ => ⟨S8x4352x1, .f32⟩
  | .hbm, ⟨41, _⟩ => ⟨S_, .f32⟩
  | .hbm, ⟨42, _⟩ => ⟨S8x4352x1, .f32⟩
  | .hbm, ⟨43, _⟩ => ⟨S8x4352x1, .f32⟩
  | .hbm, ⟨44, _⟩ => ⟨S8x4352x1024, .f32⟩
  | .hbm, ⟨45, _⟩ => ⟨S8x4352x1024, .f32⟩
  | .hbm, ⟨46, _⟩ => ⟨S_, .f32⟩
  | .hbm, ⟨47, _⟩ => ⟨S8x4352x1, .f32⟩
  | .hbm, ⟨48, _⟩ => ⟨S8x4352x1, .f32⟩
  | .hbm, ⟨49, _⟩ => ⟨S8x4352x1, .f32⟩
  | .hbm, ⟨50, _⟩ => ⟨S8x4352x1024, .f32⟩
  | .hbm, ⟨51, _⟩ => ⟨S8x4352x1024, .f32⟩
  | .hbm, ⟨52, _⟩ => ⟨S1x1x1024, .f32⟩
  | .hbm, ⟨53, _⟩ => ⟨S8x4352x1024, .f32⟩
  | .hbm, ⟨54, _⟩ => ⟨S8x4352x1024, .f32⟩
  | .hbm, ⟨55, _⟩ => ⟨S1x1x1024, .f32⟩
  | .hbm, ⟨56, _⟩ => ⟨S8x4352x1024, .f32⟩
  | .hbm, ⟨57, _⟩ => ⟨S8x4352x1024, .f32⟩
  | .hbm, ⟨58, _⟩ => ⟨S16x1x1024, .f32⟩
  | .hbm, ⟨59, _⟩ => ⟨S16x1x1024, .f32⟩
  | .hbm, ⟨60, _⟩ => ⟨S16x1x1024, .f32⟩
  | .hbm, ⟨61, _⟩ => ⟨S16x1x1024, .f32⟩
  | .hbm, ⟨62, _⟩ => ⟨S16x1x1024, .f32⟩
  | .hbm, ⟨63, _⟩ => ⟨S16x1x1024, .f32⟩
  | .hbm, ⟨64, _⟩ => ⟨S1x1x1024, .f32⟩
  | .hbm, ⟨65, _⟩ => ⟨S8x256x1024, .f32⟩
  | .hbm, ⟨66, _⟩ => ⟨S8x1x1024, .f32⟩
  | .hbm, ⟨67, _⟩ => ⟨S8x4096x1024, .f32⟩
  | .hbm, ⟨68, _⟩ => ⟨S8x4352x1024, .f32⟩
  | .hbm, ⟨69, _⟩ => ⟨S16x1x1024, .f32⟩
  | .hbm, ⟨70, _⟩ => ⟨S16x1x1024, .f32⟩
  | .hbm, ⟨71, _⟩ => ⟨S16x1x1024, .f32⟩
  | .hbm, ⟨72, _⟩ => ⟨S16x1x1024, .f32⟩
  | .hbm, ⟨73, _⟩ => ⟨S16x1x1024, .f32⟩
  | .hbm, ⟨74, _⟩ => ⟨S16x1x1024, .f32⟩
  | .hbm, ⟨75, _⟩ => ⟨S1x1x1024, .f32⟩
  | .hbm, ⟨76, _⟩ => ⟨S8x256x1024, .f32⟩
  | .hbm, ⟨77, _⟩ => ⟨S8x1x1024, .f32⟩
  | .hbm, ⟨78, _⟩ => ⟨S8x4096x1024, .f32⟩
  | .hbm, ⟨79, _⟩ => ⟨S8x4352x1024, .f32⟩
  | .hbm, ⟨80, _⟩ => ⟨S_, .f32⟩
  | .hbm, ⟨81, _⟩ => ⟨S8x4352, .f32⟩
  | .hbm, ⟨82, _⟩ => ⟨S8x4352x1, .f32⟩
  | .hbm, ⟨83, _⟩ => ⟨S_, .f32⟩
  | .hbm, ⟨84, _⟩ => ⟨S8x4352x1, .f32⟩
  | .hbm, ⟨85, _⟩ => ⟨S8x4352x1, .f32⟩
  | .hbm, ⟨86, _⟩ => ⟨S8x4352x1024, .f32⟩
  | .hbm, ⟨87, _⟩ => ⟨S8x4352x1024, .f32⟩
  | .hbm, ⟨88, _⟩ => ⟨S8x4352x1024, .f32⟩
  | .hbm, ⟨89, _⟩ => ⟨S_, .f32⟩
  | .hbm, ⟨90, _⟩ => ⟨S8x4352, .f32⟩
  | .hbm, ⟨91, _⟩ => ⟨S8x4352x1, .f32⟩
  | .hbm, ⟨92, _⟩ => ⟨S_, .f32⟩
  | .hbm, ⟨93, _⟩ => ⟨S8x4352x1, .f32⟩
  | .hbm, ⟨94, _⟩ => ⟨S8x4352x1, .f32⟩
  | .hbm, ⟨95, _⟩ => ⟨S8x4352x1024, .f32⟩
  | .hbm, ⟨96, _⟩ => ⟨S8x4352x1024, .f32⟩
  | .hbm, ⟨97, _⟩ => ⟨S_, .f32⟩
  | .hbm, ⟨98, _⟩ => ⟨S8x4352x1, .f32⟩
  | .hbm, ⟨99, _⟩ => ⟨S8x4352x1, .f32⟩
  | .hbm, ⟨100, _⟩ => ⟨S8x4352x1, .f32⟩
  | .hbm, ⟨101, _⟩ => ⟨S8x4352x1024, .f32⟩
  | .hbm, ⟨102, _⟩ => ⟨S8x4352x1024, .f32⟩
  | .hbm, ⟨103, _⟩ => ⟨S_, .f32⟩
  | .hbm, ⟨104, _⟩ => ⟨S8x4352x1024, .f32⟩
  | .hbm, ⟨105, _⟩ => ⟨S8x4352x1024, .f32⟩
  | .hbm, ⟨106, _⟩ => ⟨S8x4352x1024, .f32⟩
  | .hbm, ⟨107, _⟩ => ⟨S8x4352x1024, .f32⟩
  | .hbm, ⟨108, _⟩ => ⟨S8x4352x1024, .bf16⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_5 : Ref sig .tc := ⟨.hbm, 80, rfl⟩
abbrev main_v67 : Ref sig .tc := ⟨.hbm, 81, rfl⟩
abbrev main_v68 : Ref sig .tc := ⟨.hbm, 82, rfl⟩
abbrev main_cst_6 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_7 : Ref sig .tc := ⟨.hbm, 89, rfl⟩
abbrev main_v74 : Ref sig .tc := ⟨.hbm, 90, rfl⟩
abbrev main_v75 : Ref sig .tc := ⟨.hbm, 91, rfl⟩
abbrev main_cst_8 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_9 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_10 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩

abbrev nD : Nat := 1
abbrev τ : Topo := Topo.v7x

variable {F : FTy → Type} [FloatOps F]
-- ==== Kernel10.lean ====
abbrev S8x4352x1024 : Shape := ⟨3, ![8, 4352, 1024]⟩
abbrev S34816x1152 : Shape := ⟨2, ![34816, 1152]⟩
abbrev S34x1440x1024 : Shape := ⟨3, ![34, 1440, 1024]⟩
abbrev S16x1x6144 : Shape := ⟨3, ![16, 1, 6144]⟩
abbrev S1024 : Shape := ⟨1, ![1024]⟩
abbrev S1x1024 : Shape := ⟨2, ![1, 1024]⟩
abbrev S8x4096x1024 : Shape := ⟨3, ![8, 4096, 1024]⟩
abbrev S1x256x1024 : Shape := ⟨3, ![1, 256, 1024]⟩
abbrev S256x1152 : Shape := ⟨2, ![256, 1152]⟩
abbrev S1x1152x1024 : Shape := ⟨3, ![1, 1152, 1024]⟩
abbrev S1x1x1024 : Shape := ⟨3, ![1, 1, 1024]⟩
abbrev S1152x1024 : Shape := ⟨2, ![1152, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S8x4352x1024, .f32⟩
  | .hbm, ⟨1, _⟩ => ⟨S34816x1152, .bf16⟩
  | .hbm, ⟨2, _⟩ => ⟨S34x1440x1024, .bf16⟩
  | .hbm, ⟨3, _⟩ => ⟨S16x1x6144, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1152, .bf16⟩
  | .local _ .vmem, ⟨3, _⟩ => ⟨S256x1152, .bf16⟩
  | .local _ .vmem, ⟨4, _⟩ => ⟨S1x1152x1024, .bf16⟩
  | .local _ .vmem, ⟨5, _⟩ => ⟨S1x1152x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c8_i32 : BitVec 32 := 8#32
  let v1 : BitVec 32 := Scalar.select v0 c8_i32 arg0
  let c0_i32 : BitVec 32 := 0#32
  let c5_i32 : BitVec 32 := 5#32
  let c0_i32_0 : BitVec 32 := 0#32
  ![v1.toNat, c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S8x4352x1024 : Shape := ⟨3, ![8, 4352, 1024]⟩
abbrev S34816x1152 : Shape := ⟨2, ![34816, 1152]⟩
abbrev S34x1440x1024 : Shape := ⟨3, ![34, 1440, 1024]⟩
abbrev S16x1x6144 : Shape := ⟨3, ![16, 1, 6144]⟩
abbrev S1024 : Shape := ⟨1, ![1024]⟩
abbrev S8x4096x1024 : Shape := ⟨3, ![8, 4096, 1024]⟩
abbrev S34x1024x1152 : Shape := ⟨3, ![34, 1024, 1152]⟩
abbrev S34x1152x1024 : Shape := ⟨3, ![34, 1152, 1024]⟩
abbrev S34x1024x1024 : Shape := ⟨3, ![34, 1024, 1024]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S34816x1152, .bf16⟩
  | .hbm, ⟨2, _⟩ => ⟨S34x1440x1024, .bf16⟩
  | .hbm, ⟨3, _⟩ => ⟨S16x1x6144, .f32⟩
  | .hbm, ⟨4, _⟩ => ⟨S1024, .f32⟩
  | .hbm, ⟨5, _⟩ => ⟨S1024, .f32⟩
  | .hbm, ⟨6, _⟩ => ⟨S8x4096x1024, .f32⟩
  | .hbm, ⟨7, _⟩ => ⟨S34816x1152, .f32⟩
  | .hbm, ⟨8, _⟩ => ⟨S34x1024x1152, .f32⟩
  | .hbm, ⟨9, _⟩ => ⟨S34x1152x1024, .bf16⟩
  | .hbm, ⟨10, _⟩ => ⟨S34x1152x1024, .f32⟩
  | .hbm, ⟨11, _⟩ => ⟨S34x1024x1024, .f32⟩
  | .hbm, ⟨12, _⟩ => ⟨S8x4352x1024, .f32⟩
  | .hbm, ⟨13, _⟩ => ⟨S8x4096x1024, .f32⟩
  | .hbm, ⟨14, _⟩ => ⟨S8x1x6144, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S_, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1024, .f32⟩
  | .hbm, ⟨43, _⟩ => ⟨S8x4096x1024, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x4096x1, .f32⟩
  | .hbm, ⟨48, _⟩ => ⟨S8x4096x1024, .f32⟩
  | .hbm, ⟨49, _⟩ => ⟨S8x4096x1024, .f32⟩
  | .hbm, ⟨50, _⟩ => ⟨S1x1x1024, .f32⟩
  | .hbm, ⟨51, _⟩ => ⟨S8x4096x1024, .f32⟩
  | .hbm, ⟨52, _⟩ => ⟨S8x4096x1024, .f32⟩
  | .hbm, ⟨53, _⟩ => ⟨S1x1x1024, .f32⟩
  | .hbm, ⟨54, _⟩ => ⟨S8x4096x1024, .f32⟩
  | .hbm, ⟨55, _⟩ => ⟨S8x4096x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Proof.MergeRun.lean ====
module

public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel6Ideal.Run

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! The body of the merge kernel, run once over the extended reals. -/

/-- One buffer of output 28, through which its block is read. -/
abbrev VO0_28 : View sig .tc .vmem S2x256x1024 .f32 := (Memref.whole cc0_stg28_0 : Memref sig .tc .vmem S2x256x1024 .f32).view
/-- One buffer of output 29, through which its block is read. -/
abbrev VO0_29 : View sig .tc .vmem S2x256x1024 .bf16 := (Memref.whole cc0_stg29_0 : Memref sig .tc .vmem S2x256x1024 .bf16).view
/-- One buffer of output 30, through which its block is read. -/
abbrev VO0_30 : View sig .tc .vmem S24x256 .f32 := (Memref.whole cc0_stg30_0 : Memref sig .tc .vmem S24x256 .f32).view
/-- One buffer of output 31, through which its block is read. -/
abbrev VO0_31 : View sig .tc .vmem S24x256 .f32 := (Memref.whole cc0_stg31_0 : Memref sig .tc .vmem S24x256 .f32).view
/-- The buffer of window 0 at a grid step. -/
abbrev ms0_0 (t : Fin cfg0.N) : Memref sig .tc .vmem S2x256x256 .f32 := win0_0.stage (cfg0.slots t 0)
/-- That buffer is a whole one. -/
abbrev hs0_0 (t : Fin cfg0.N) : (ms0_0 t).IsWhole := hstage0_0 ((cfg0.slots t 0).cast nbuf0_0)
/-- The buffer of window 1 at a grid step. -/
abbrev ms0_1 (t : Fin cfg0.N) : Memref sig .tc .vmem S2x256x256 .f32 := win0_1.stage (cfg0.slots t 1)
/-- That buffer is a whole one. -/
abbrev hs0_1 (t : Fin cfg0.N) : (ms0_1 t).IsWhole := hstage0_1 ((cfg0.slots t 1).cast nbuf0_1)
/-- The buffer of window 2 at a grid step. -/
abbrev ms0_2 (t : Fin cfg0.N) : Memref sig .tc .vmem S2x256x256 .f32 := win0_2.stage (cfg0.slots t 2)
/-- That buffer is a whole one. -/
abbrev hs0_2 (t : Fin cfg0.N) : (ms0_2 t).IsWhole := hstage0_2 ((cfg0.slots t 2).cast nbuf0_2)
/-- The buffer of window 3 at a grid step. -/
abbrev ms0_3 (t : Fin cfg0.N) : Memref sig .tc .vmem S2x256x256 .f32 := win0_3.stage (cfg0.slots t 3)
/-- That buffer is a whole one. -/
abbrev hs0_3 (t : Fin cfg0.N) : (ms0_3 t).IsWhole := hstage0_3 ((cfg0.slots t 3).cast nbuf0_3)
/-- The buffer of window 4 at a grid step. -/
abbrev ms0_4 (t : Fin cfg0.N) : Memref sig .tc .vmem S2x256x256 .bf16 := win0_4.stage (cfg0.slots t 4)
/-- That buffer is a whole one. -/
abbrev hs0_4 (t : Fin cfg0.N) : (ms0_4 t).IsWhole := hstage0_4 ((cfg0.slots t 4).cast nbuf0_4)
/-- The buffer of window 5 at a grid step. -/
abbrev ms0_5 (t : Fin cfg0.N) : Memref sig .tc .vmem S2x256x256 .bf16 := win0_5.stage (cfg0.slots t 5)
/-- That buffer is a whole one. -/
abbrev hs0_5 (t : Fin cfg0.N) : (ms0_5 t).IsWhole := hstage0_5 ((cfg0.slots t 5).cast nbuf0_5)
/-- The buffer of window 6 at a grid step. -/
abbrev ms0_6 (t : Fin cfg0.N) : Memref sig .tc .vmem S2x256x256 .f32 := win0_6.stage (cfg0.slots t 6)
/-- That buffer is a whole one. -/
abbrev hs0_6 (t : Fin cfg0.N) : (ms0_6 t).IsWhole := hstage0_6 ((cfg0.slots t 6).cast nbuf0_6)
/-- The buffer of window 7 at a grid step. -/
abbrev ms0_7 (t : Fin cfg0.N) : Memref sig .tc .vmem S2x256x256 .bf16 := win0_7.stage (cfg0.slots t 7)
/-- That buffer is a whole one. -/
abbrev hs0_7 (t : Fin cfg0.N) : (ms0_7 t).IsWhole := hstage0_7 ((cfg0.slots t 7).cast nbuf0_7)
/-- The buffer of window 8 at a grid step. -/
abbrev ms0_8 (t : Fin cfg0.N) : Memref sig .tc .vmem S2x256x256 .bf16 := win0_8.stage (cfg0.slots t 8)
/-- That buffer is a whole one. -/
abbrev hs0_8 (t : Fin cfg0.N) : (ms0_8 t).IsWhole := hstage0_8 ((cfg0.slots t 8).cast nbuf0_8)
/-- The buffer of window 9 at a grid step. -/
abbrev ms0_9 (t : Fin cfg0.N) : Memref sig .tc .vmem S2x256x1024 .bf16 := win0_9.stage (cfg0.slots t 9)
/-- That buffer is a whole one. -/
abbrev hs0_9 (t : Fin cfg0.N) : (ms0_9 t).IsWhole := hstage0_9 ((cfg0.slots t 9).cast nbuf0_9)
/-- The buffer of window 10 at a grid step. -/
abbrev ms0_10 (t : Fin cfg0.N) : Memref sig .tc .vmem S2x256x1024 .f32 := win0_10.stage (cfg0.slots t 10)
/-- That buffer is a whole one. -/
abbrev hs0_10 (t : Fin cfg0.N) : (ms0_10 t).IsWhole := hstage0_10 ((cfg0.slots t 10).cast nbuf0_10)
/-- The buffer of window 11 at a grid step. -/
abbrev ms0_11 (t : Fin cfg0.N) : Memref sig .tc .vmem S1x1x1024 .f32 := win0_11.stage (cfg0.slots t 11)
/-- That buffer is a whole one. -/
abbrev hs0_11 (t : Fin cfg0.N) : (ms0_11 t).IsWhole := hstage0_11 ((cfg0.slots t 11).cast nbuf0_11)
/-- The buffer of window 12 at a grid step. -/
abbrev ms0_12 (t : Fin cfg0.N) : Memref sig .tc .vmem S1x1x1024 .f32 := win0_12.stage (cfg0.slots t 12)
/-- That buffer is a whole one. -/
abbrev hs0_12 (t : Fin cfg0.N) : (ms0_12 t).IsWhole := hstage0_12 ((cfg0.slots t 12).cast nbuf0_12)
/-- The buffer of window 13 at a grid step. -/
abbrev ms0_13 (t : Fin cfg0.N) : Memref sig .tc .vmem S1x1x1024 .f32 := win0_13.stage (cfg0.slots t 13)
/-- That buffer is a whole one. -/
abbrev hs0_13 (t : Fin cfg0.N) : (ms0_13 t).IsWhole := hstage0_13 ((cfg0.slots t 13).cast nbuf0_13)
/-- The buffer of window 14 at a grid step. -/
abbrev ms0_14 (t : Fin cfg0.N) : Memref sig .tc .vmem S1x1x1024 .f32 := win0_14.stage (cfg0.slots t 14)
/-- That buffer is a whole one. -/
abbrev hs0_14 (t : Fin cfg0.N) : (ms0_14 t).IsWhole := hstage0_14 ((cfg0.slots t 14).cast nbuf0_14)
/-- The buffer of window 15 at a grid step. -/
abbrev ms0_15 (t : Fin cfg0.N) : Memref sig .tc .vmem S1x1x1024 .f32 := win0_15.stage (cfg0.slots t 15)
/-- That buffer is a whole one. -/
abbrev hs0_15 (t : Fin cfg0.N) : (ms0_15 t).IsWhole := hstage0_15 ((cfg0.slots t 15).cast nbuf0_15)
/-- The buffer of window 16 at a grid step. -/
abbrev ms0_16 (t : Fin cfg0.N) : Memref sig .tc .vmem S1x1x1024 .f32 := win0_16.stage (cfg0.slots t 16)
/-- That buffer is a whole one. -/
abbrev hs0_16 (t : Fin cfg0.N) : (ms0_16 t).IsWhole := hstage0_16 ((cfg0.slots t 16).cast nbuf0_16)
/-- The buffer of window 17 at a grid step. -/
abbrev ms0_17 (t : Fin cfg0.N) : Memref sig .tc .vmem S1x256 .f32 := win0_17.stage (cfg0.slots t 17)
/-- That buffer is a whole one. -/
abbrev hs0_17 (t : Fin cfg0.N) : (ms0_17 t).IsWhole := hstage0_17 ((cfg0.slots t 17).cast nbuf0_17)
/-- The buffer of window 18 at a grid step. -/
abbrev ms0_18 (t : Fin cfg0.N) : Memref sig .tc .vmem S1024x4096 .bf16 := win0_18.stage (cfg0.slots t 18)
/-- That buffer is a whole one. -/
abbrev hs0_18 (t : Fin cfg0.N) : (ms0_18 t).IsWhole := hstage0_18 ((cfg0.slots t 18).cast nbuf0_18)
/-- The buffer of window 19 at a grid step. -/
abbrev ms0_19 (t : Fin cfg0.N) : Memref sig .tc .vmem S4x256x1024 .bf16 := win0_19.stage (cfg0.slots t 19)
/-- That buffer is a whole one. -/
abbrev hs0_19 (t : Fin cfg0.N) : (ms0_19 t).IsWhole := hstage0_19 ((cfg0.slots t 19).cast nbuf0_19)
/-- The buffer of window 20 at a grid step. -/
abbrev ms0_20 (t : Fin cfg0.N) : Memref sig .tc .vmem S1024x1024 .bf16 := win0_20.stage (cfg0.slots t 20)
/-- That buffer is a whole one. -/
abbrev hs0_20 (t : Fin cfg0.N) : (ms0_20 t).IsWhole := hstage0_20 ((cfg0.slots t 20).cast nbuf0_20)
/-- The buffer of window 21 at a grid step. -/
abbrev ms0_21 (t : Fin cfg0.N) : Memref sig .tc .vmem S1x1024 .f32 := win0_21.stage (cfg0.slots t 21)
/-- That buffer is a whole one. -/
abbrev hs0_21 (t : Fin cfg0.N) : (ms0_21 t).IsWhole := hstage0_21 ((cfg0.slots t 21).cast nbuf0_21)
/-- The buffer of window 22 at a grid step. -/
abbrev ms0_22 (t : Fin cfg0.N) : Memref sig .tc .vmem S1x1024 .f32 := win0_22.stage (cfg0.slots t 22)
/-- That buffer is a whole one. -/
abbrev hs0_22 (t : Fin cfg0.N) : (ms0_22 t).IsWhole := hstage0_22 ((cfg0.slots t 22).cast nbuf0_22)
/-- The buffer of window 23 at a grid step. -/
abbrev ms0_23 (t : Fin cfg0.N) : Memref sig .tc .vmem S16x1024 .f32 := win0_23.stage (cfg0.slots t 23)
/-- That buffer is a whole one. -/
abbrev hs0_23 (t : Fin cfg0.N) : (ms0_23 t).IsWhole := hstage0_23 ((cfg0.slots t 23).cast nbuf0_23)
/-- The buffer of window 24 at a grid step. -/
abbrev ms0_24 (t : Fin cfg0.N) : Memref sig .tc .vmem S16x1 .f32 := win0_24.stage (cfg0.slots t 24)
/-- That buffer is a whole one. -/
abbrev hs0_24 (t : Fin cfg0.N) : (ms0_24 t).IsWhole := hstage0_24 ((cfg0.slots t 24).cast nbuf0_24)
/-- The buffer of window 25 at a grid step. -/
abbrev ms0_25 (t : Fin cfg0.N) : Memref sig .tc .vmem S1x256 .f32 := win0_25.stage (cfg0.slots t 25)
/-- That buffer is a whole one. -/
abbrev hs0_25 (t : Fin cfg0.N) : (ms0_25 t).IsWhole := hstage0_25 ((cfg0.slots t 25).cast nbuf0_25)
/-- The buffer of window 26 at a grid step. -/
abbrev ms0_26 (t : Fin cfg0.N) : Memref sig .tc .vmem S1x256 .f32 := win0_26.stage (cfg0.slots t 26)
/-- That buffer is a whole one. -/
abbrev hs0_26 (t : Fin cfg0.N) : (ms0_26 t).IsWhole := hstage0_26 ((cfg0.slots t 26).cast nbuf0_26)
/-- The buffer of window 27 at a grid step. -/
abbrev ms0_27 (t : Fin cfg0.N) : Memref sig .tc .vmem S256x256 .f32 := win0_27.stage (cfg0.slots t 27)
/-- That buffer is a whole one. -/
abbrev hs0_27 (t : Fin cfg0.N) : (ms0_27 t).IsWhole := hstage0_27 ((cfg0.slots t 27).cast nbuf0_27)
/-- The buffer of window 28 at a grid step. -/
abbrev ms0_28 (t : Fin cfg0.N) : Memref sig .tc .vmem S2x256x1024 .f32 := win0_28.stage (cfg0.slots t 28)
/-- That buffer is a whole one. -/
abbrev hs0_28 (t : Fin cfg0.N) : (ms0_28 t).IsWhole := hstage0_28 ((cfg0.slots t 28).cast nbuf0_28)
/-- The buffer of window 29 at a grid step. -/
abbrev ms0_29 (t : Fin cfg0.N) : Memref sig .tc .vmem S2x256x1024 .bf16 := win0_29.stage (cfg0.slots t 29)
/-- That buffer is a whole one. -/
abbrev hs0_29 (t : Fin cfg0.N) : (ms0_29 t).IsWhole := hstage0_29 ((cfg0.slots t 29).cast nbuf0_29)
/-- The buffer of window 30 at a grid step. -/
abbrev ms0_30 (t : Fin cfg0.N) : Memref sig .tc .vmem S24x256 .f32 := win0_30.stage (cfg0.slots t 30)
/-- That buffer is a whole one. -/
abbrev hs0_30 (t : Fin cfg0.N) : (ms0_30 t).IsWhole := hstage0_30 ((cfg0.slots t 30).cast nbuf0_30)
/-- The buffer of window 31 at a grid step. -/
abbrev ms0_31 (t : Fin cfg0.N) : Memref sig .tc .vmem S24x256 .f32 := win0_31.stage (cfg0.slots t 31)
/-- That buffer is a whole one. -/
abbrev hs0_31 (t : Fin cfg0.N) : (ms0_31 t).IsWhole := hstage0_31 ((cfg0.slots t 31).cast nbuf0_31)

set_option maxHeartbeats 20000000 in
/-- The body of the merge, run once over the extended reals: what its stores leave in the four
    output buffers, as pieces, together with the proof that from whole input buffers it ends
    with the inputs as they were and those pieces written. -/
noncomputable def kernelRun0_A (c : Dev nD) (i : grid0.Coords) (arg2 : Memref sig .tc .vmem S2x256x256 .f32) (harg2 : arg2.IsWhole) (arg3 : Memref sig .tc .vmem S2x256x256 .f32) (harg3 : arg3.IsWhole) (arg4 : Memref sig .tc .vmem S2x256x256 .f32) (harg4 : arg4.IsWhole) (arg5 : Memref sig .tc .vmem S2x256x256 .f32) (harg5 : arg5.IsWhole) (arg6 : Memref sig .tc .vmem S2x256x256 .bf16) (harg6 : arg6.IsWhole) (arg7 : Memref sig .tc .vmem S2x256x256 .bf16) (harg7 : arg7.IsWhole) (arg8 : Memref sig .tc .vmem S2x256x256 .f32) (harg8 : arg8.IsWhole) (arg9 : Memref sig .tc .vmem S2x256x256 .bf16) (harg9 : arg9.IsWhole) (arg10 : Memref sig .tc .vmem S2x256x256 .bf16) (harg10 : arg10.IsWhole) (arg11 : Memref sig .tc .vmem S2x256x1024 .bf16) (harg11 : arg11.IsWhole) (arg12 : Memref sig .tc .vmem S2x256x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x256 .f32) (harg19 : arg19.IsWhole) (arg20 : Memref sig .tc .vmem S1024x4096 .bf16) (harg20 : arg20.IsWhole) (arg21 : Memref sig .tc .vmem S4x256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S1x1024 .f32) (harg24 : arg24.IsWhole) (arg25 : Memref sig .tc .vmem S16x1024 .f32) (harg25 : arg25.IsWhole) (arg26 : Memref sig .tc .vmem S16x1 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S256x256 .f32) (harg29 : arg29.IsWhole) (arg30 : Memref sig .tc .vmem S2x256x1024 .f32) (harg30 : arg30.IsWhole) (arg31 : Memref sig .tc .vmem S2x256x1024 .bf16) (harg31 : arg31.IsWhole) (arg32 : Memref sig .tc .vmem S24x256 .f32) (harg32 : arg32.IsWhole) (arg33 : Memref sig .tc .vmem S24x256 .f32) (harg33 : arg33.IsWhole)
    (x0 : Vec F S2x256x256 .f32) (x1 : Vec F S2x256x256 .f32) (x2 : Vec F S2x256x256 .f32) (x3 : Vec F S2x256x256 .f32) (x4 : Vec F S2x256x256 .bf16) (x5 : Vec F S2x256x256 .bf16) (x6 : Vec F S2x256x256 .f32) (x7 : Vec F S2x256x256 .bf16) (x8 : Vec F S2x256x256 .bf16) (x9 : Vec F S2x256x1024 .bf16) (x10 : Vec F S2x256x1024 .f32) (x11 : Vec F S1x1x1024 .f32) (x12 : Vec F S1x1x1024 .f32) (x13 : Vec F S1x1x1024 .f32) (x14 : Vec F S1x1x1024 .f32) (x15 : Vec F S1x1x1024 .f32) (x16 : Vec F S1x1x1024 .f32) (x17 : Vec F S1x256 .f32) (x18 : Vec F S1024x4096 .bf16) (x19 : Vec F S4x256x1024 .bf16) (x20 : Vec F S1024x1024 .bf16) (x21 : Vec F S1x1024 .f32) (x22 : Vec F S1x1024 .f32) (x23 : Vec F S16x1024 .f32) (x24 : Vec F S16x1 .f32) (x25 : Vec F S1x256 .f32) (x26 : Vec F S1x256 .f32) (x27 : Vec F S256x256 .f32) :
    Σ' (L28 : List (View.Piece (Elt F) S2x256x1024 .f32)), Σ' (L29 : List (View.Piece (Elt F) S2x256x1024 .bf16)), Σ' (L30 : List (View.Piece (Elt F) S24x256 .f32)), { L31 : List (View.Piece (Elt F) S24x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ (∃ f, arg30.view.loc (c : Thread nD τ) ↦[arg30.view.set]{fullShare} arg30.view.writes (Elt F) f L28) ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f L31)) -∗ K ⟨⟩))
          ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K } := by
  refine ⟨?_, ?_, ?_, ?_, fun E K => ?run⟩
  case run =>
    simp only [cc0_merge_eq_skeleton]; unfold cc0_merge_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, ⟨%d29, %f29, -, H29⟩, ⟨%d30, %f30, -, H30⟩, ⟨%d31, %f31, -, H31⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]; · iexists _; iexact H28
    isplitl [H29]; · iexists _; iexact H29
    isplitl [H30]; · iexists _; iexact H30
    iexists _; iexact H31

end Cert.Kernel6Ideal.Run

end
-- ==== Proof.MergeFrame.lean ====
module

public import proofs.«01_k».proof.Proof.MergeRun
public import Idealize.ShloMosaic.Lib.Claim

@[expose] public section

set_option maxRecDepth 16384

noncomputable section

namespace Cert.Kernel6Ideal.Run

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! From the run of the body to the frame of the merge over the extended reals. -/

/-- The two stores to output 28 cover its block. -/
theorem cover0_A_28 (c : Dev nD) (i : grid0.Coords) (arg2 : Memref sig .tc .vmem S2x256x256 .f32) (harg2 : arg2.IsWhole) (arg3 : Memref sig .tc .vmem S2x256x256 .f32) (harg3 : arg3.IsWhole) (arg4 : Memref sig .tc .vmem S2x256x256 .f32) (harg4 : arg4.IsWhole) (arg5 : Memref sig .tc .vmem S2x256x256 .f32) (harg5 : arg5.IsWhole) (arg6 : Memref sig .tc .vmem S2x256x256 .bf16) (harg6 : arg6.IsWhole) (arg7 : Memref sig .tc .vmem S2x256x256 .bf16) (harg7 : arg7.IsWhole) (arg8 : Memref sig .tc .vmem S2x256x256 .f32) (harg8 : arg8.IsWhole) (arg9 : Memref sig .tc .vmem S2x256x256 .bf16) (harg9 : arg9.IsWhole) (arg10 : Memref sig .tc .vmem S2x256x256 .bf16) (harg10 : arg10.IsWhole) (arg11 : Memref sig .tc .vmem S2x256x1024 .bf16) (harg11 : arg11.IsWhole) (arg12 : Memref sig .tc .vmem S2x256x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x256 .f32) (harg19 : arg19.IsWhole) (arg20 : Memref sig .tc .vmem S1024x4096 .bf16) (harg20 : arg20.IsWhole) (arg21 : Memref sig .tc .vmem S4x256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S1x1024 .f32) (harg24 : arg24.IsWhole) (arg25 : Memref sig .tc .vmem S16x1024 .f32) (harg25 : arg25.IsWhole) (arg26 : Memref sig .tc .vmem S16x1 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S256x256 .f32) (harg29 : arg29.IsWhole) (arg30 : Memref sig .tc .vmem S2x256x1024 .f32) (harg30 : arg30.IsWhole) (arg31 : Memref sig .tc .vmem S2x256x1024 .bf16) (harg31 : arg31.IsWhole) (arg32 : Memref sig .tc .vmem S24x256 .f32) (harg32 : arg32.IsWhole) (arg33 : Memref sig .tc .vmem S24x256 .f32) (harg33 : arg33.IsWhole)
    (x0 : Vec F S2x256x256 .f32) (x1 : Vec F S2x256x256 .f32) (x2 : Vec F S2x256x256 .f32) (x3 : Vec F S2x256x256 .f32) (x4 : Vec F S2x256x256 .bf16) (x5 : Vec F S2x256x256 .bf16) (x6 : Vec F S2x256x256 .f32) (x7 : Vec F S2x256x256 .bf16) (x8 : Vec F S2x256x256 .bf16) (x9 : Vec F S2x256x1024 .bf16) (x10 : Vec F S2x256x1024 .f32) (x11 : Vec F S1x1x1024 .f32) (x12 : Vec F S1x1x1024 .f32) (x13 : Vec F S1x1x1024 .f32) (x14 : Vec F S1x1x1024 .f32) (x15 : Vec F S1x1x1024 .f32) (x16 : Vec F S1x1x1024 .f32) (x17 : Vec F S1x256 .f32) (x18 : Vec F S1024x4096 .bf16) (x19 : Vec F S4x256x1024 .bf16) (x20 : Vec F S1024x1024 .bf16) (x21 : Vec F S1x1024 .f32) (x22 : Vec F S1x1024 .f32) (x23 : Vec F S16x1024 .f32) (x24 : Vec F S16x1 .f32) (x25 : Vec F S1x256 .f32) (x26 : Vec F S1x256 .f32) (x27 : Vec F S256x256 .f32) (y : S2x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25 x26 x27).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25 x26 x27).1 S1x256x1024.size (by sl_kernel_rfl) y

/-- Output 28 after the body, read off its pieces. -/
def out0_A_28 (c : Dev nD) (i : grid0.Coords) (arg2 : Memref sig .tc .vmem S2x256x256 .f32) (harg2 : arg2.IsWhole) (arg3 : Memref sig .tc .vmem S2x256x256 .f32) (harg3 : arg3.IsWhole) (arg4 : Memref sig .tc .vmem S2x256x256 .f32) (harg4 : arg4.IsWhole) (arg5 : Memref sig .tc .vmem S2x256x256 .f32) (harg5 : arg5.IsWhole) (arg6 : Memref sig .tc .vmem S2x256x256 .bf16) (harg6 : arg6.IsWhole) (arg7 : Memref sig .tc .vmem S2x256x256 .bf16) (harg7 : arg7.IsWhole) (arg8 : Memref sig .tc .vmem S2x256x256 .f32) (harg8 : arg8.IsWhole) (arg9 : Memref sig .tc .vmem S2x256x256 .bf16) (harg9 : arg9.IsWhole) (arg10 : Memref sig .tc .vmem S2x256x256 .bf16) (harg10 : arg10.IsWhole) (arg11 : Memref sig .tc .vmem S2x256x1024 .bf16) (harg11 : arg11.IsWhole) (arg12 : Memref sig .tc .vmem S2x256x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x256 .f32) (harg19 : arg19.IsWhole) (arg20 : Memref sig .tc .vmem S1024x4096 .bf16) (harg20 : arg20.IsWhole) (arg21 : Memref sig .tc .vmem S4x256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S1x1024 .f32) (harg24 : arg24.IsWhole) (arg25 : Memref sig .tc .vmem S16x1024 .f32) (harg25 : arg25.IsWhole) (arg26 : Memref sig .tc .vmem S16x1 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S256x256 .f32) (harg29 : arg29.IsWhole) (arg30 : Memref sig .tc .vmem S2x256x1024 .f32) (harg30 : arg30.IsWhole) (arg31 : Memref sig .tc .vmem S2x256x1024 .bf16) (harg31 : arg31.IsWhole) (arg32 : Memref sig .tc .vmem S24x256 .f32) (harg32 : arg32.IsWhole) (arg33 : Memref sig .tc .vmem S24x256 .f32) (harg33 : arg33.IsWhole)
    (x0 : Vec F S2x256x256 .f32) (x1 : Vec F S2x256x256 .f32) (x2 : Vec F S2x256x256 .f32) (x3 : Vec F S2x256x256 .f32) (x4 : Vec F S2x256x256 .bf16) (x5 : Vec F S2x256x256 .bf16) (x6 : Vec F S2x256x256 .f32) (x7 : Vec F S2x256x256 .bf16) (x8 : Vec F S2x256x256 .bf16) (x9 : Vec F S2x256x1024 .bf16) (x10 : Vec F S2x256x1024 .f32) (x11 : Vec F S1x1x1024 .f32) (x12 : Vec F S1x1x1024 .f32) (x13 : Vec F S1x1x1024 .f32) (x14 : Vec F S1x1x1024 .f32) (x15 : Vec F S1x1x1024 .f32) (x16 : Vec F S1x1x1024 .f32) (x17 : Vec F S1x256 .f32) (x18 : Vec F S1024x4096 .bf16) (x19 : Vec F S4x256x1024 .bf16) (x20 : Vec F S1024x1024 .bf16) (x21 : Vec F S1x1024 .f32) (x22 : Vec F S1x1024 .f32) (x23 : Vec F S16x1024 .f32) (x24 : Vec F S16x1 .f32) (x25 : Vec F S1x256 .f32) (x26 : Vec F S1x256 .f32) (x27 : Vec F S256x256 .f32) : Vec F S2x256x1024 .f32 :=
  VO0_28.read (Elt F) (VO0_28.writes (Elt F) VO0_28.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25 x26 x27).1)

/-- The two stores to output 29 cover its block. -/
theorem cover0_A_29 (c : Dev nD) (i : grid0.Coords) (arg2 : Memref sig .tc .vmem S2x256x256 .f32) (harg2 : arg2.IsWhole) (arg3 : Memref sig .tc .vmem S2x256x256 .f32) (harg3 : arg3.IsWhole) (arg4 : Memref sig .tc .vmem S2x256x256 .f32) (harg4 : arg4.IsWhole) (arg5 : Memref sig .tc .vmem S2x256x256 .f32) (harg5 : arg5.IsWhole) (arg6 : Memref sig .tc .vmem S2x256x256 .bf16) (harg6 : arg6.IsWhole) (arg7 : Memref sig .tc .vmem S2x256x256 .bf16) (harg7 : arg7.IsWhole) (arg8 : Memref sig .tc .vmem S2x256x256 .f32) (harg8 : arg8.IsWhole) (arg9 : Memref sig .tc .vmem S2x256x256 .bf16) (harg9 : arg9.IsWhole) (arg10 : Memref sig .tc .vmem S2x256x256 .bf16) (harg10 : arg10.IsWhole) (arg11 : Memref sig .tc .vmem S2x256x1024 .bf16) (harg11 : arg11.IsWhole) (arg12 : Memref sig .tc .vmem S2x256x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x256 .f32) (harg19 : arg19.IsWhole) (arg20 : Memref sig .tc .vmem S1024x4096 .bf16) (harg20 : arg20.IsWhole) (arg21 : Memref sig .tc .vmem S4x256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S1x1024 .f32) (harg24 : arg24.IsWhole) (arg25 : Memref sig .tc .vmem S16x1024 .f32) (harg25 : arg25.IsWhole) (arg26 : Memref sig .tc .vmem S16x1 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S256x256 .f32) (harg29 : arg29.IsWhole) (arg30 : Memref sig .tc .vmem S2x256x1024 .f32) (harg30 : arg30.IsWhole) (arg31 : Memref sig .tc .vmem S2x256x1024 .bf16) (harg31 : arg31.IsWhole) (arg32 : Memref sig .tc .vmem S24x256 .f32) (harg32 : arg32.IsWhole) (arg33 : Memref sig .tc .vmem S24x256 .f32) (harg33 : arg33.IsWhole)
    (x0 : Vec F S2x256x256 .f32) (x1 : Vec F S2x256x256 .f32) (x2 : Vec F S2x256x256 .f32) (x3 : Vec F S2x256x256 .f32) (x4 : Vec F S2x256x256 .bf16) (x5 : Vec F S2x256x256 .bf16) (x6 : Vec F S2x256x256 .f32) (x7 : Vec F S2x256x256 .bf16) (x8 : Vec F S2x256x256 .bf16) (x9 : Vec F S2x256x1024 .bf16) (x10 : Vec F S2x256x1024 .f32) (x11 : Vec F S1x1x1024 .f32) (x12 : Vec F S1x1x1024 .f32) (x13 : Vec F S1x1x1024 .f32) (x14 : Vec F S1x1x1024 .f32) (x15 : Vec F S1x1x1024 .f32) (x16 : Vec F S1x1x1024 .f32) (x17 : Vec F S1x256 .f32) (x18 : Vec F S1024x4096 .bf16) (x19 : Vec F S4x256x1024 .bf16) (x20 : Vec F S1024x1024 .bf16) (x21 : Vec F S1x1024 .f32) (x22 : Vec F S1x1024 .f32) (x23 : Vec F S16x1024 .f32) (x24 : Vec F S16x1 .f32) (x25 : Vec F S1x256 .f32) (x26 : Vec F S1x256 .f32) (x27 : Vec F S256x256 .f32) (y : S2x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25 x26 x27).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25 x26 x27).2.1 S1x256x1024.size (by sl_kernel_rfl) y

/-- Output 29 after the body, read off its pieces. -/
def out0_A_29 (c : Dev nD) (i : grid0.Coords) (arg2 : Memref sig .tc .vmem S2x256x256 .f32) (harg2 : arg2.IsWhole) (arg3 : Memref sig .tc .vmem S2x256x256 .f32) (harg3 : arg3.IsWhole) (arg4 : Memref sig .tc .vmem S2x256x256 .f32) (harg4 : arg4.IsWhole) (arg5 : Memref sig .tc .vmem S2x256x256 .f32) (harg5 : arg5.IsWhole) (arg6 : Memref sig .tc .vmem S2x256x256 .bf16) (harg6 : arg6.IsWhole) (arg7 : Memref sig .tc .vmem S2x256x256 .bf16) (harg7 : arg7.IsWhole) (arg8 : Memref sig .tc .vmem S2x256x256 .f32) (harg8 : arg8.IsWhole) (arg9 : Memref sig .tc .vmem S2x256x256 .bf16) (harg9 : arg9.IsWhole) (arg10 : Memref sig .tc .vmem S2x256x256 .bf16) (harg10 : arg10.IsWhole) (arg11 : Memref sig .tc .vmem S2x256x1024 .bf16) (harg11 : arg11.IsWhole) (arg12 : Memref sig .tc .vmem S2x256x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x256 .f32) (harg19 : arg19.IsWhole) (arg20 : Memref sig .tc .vmem S1024x4096 .bf16) (harg20 : arg20.IsWhole) (arg21 : Memref sig .tc .vmem S4x256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S1x1024 .f32) (harg24 : arg24.IsWhole) (arg25 : Memref sig .tc .vmem S16x1024 .f32) (harg25 : arg25.IsWhole) (arg26 : Memref sig .tc .vmem S16x1 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S256x256 .f32) (harg29 : arg29.IsWhole) (arg30 : Memref sig .tc .vmem S2x256x1024 .f32) (harg30 : arg30.IsWhole) (arg31 : Memref sig .tc .vmem S2x256x1024 .bf16) (harg31 : arg31.IsWhole) (arg32 : Memref sig .tc .vmem S24x256 .f32) (harg32 : arg32.IsWhole) (arg33 : Memref sig .tc .vmem S24x256 .f32) (harg33 : arg33.IsWhole)
    (x0 : Vec F S2x256x256 .f32) (x1 : Vec F S2x256x256 .f32) (x2 : Vec F S2x256x256 .f32) (x3 : Vec F S2x256x256 .f32) (x4 : Vec F S2x256x256 .bf16) (x5 : Vec F S2x256x256 .bf16) (x6 : Vec F S2x256x256 .f32) (x7 : Vec F S2x256x256 .bf16) (x8 : Vec F S2x256x256 .bf16) (x9 : Vec F S2x256x1024 .bf16) (x10 : Vec F S2x256x1024 .f32) (x11 : Vec F S1x1x1024 .f32) (x12 : Vec F S1x1x1024 .f32) (x13 : Vec F S1x1x1024 .f32) (x14 : Vec F S1x1x1024 .f32) (x15 : Vec F S1x1x1024 .f32) (x16 : Vec F S1x1x1024 .f32) (x17 : Vec F S1x256 .f32) (x18 : Vec F S1024x4096 .bf16) (x19 : Vec F S4x256x1024 .bf16) (x20 : Vec F S1024x1024 .bf16) (x21 : Vec F S1x1024 .f32) (x22 : Vec F S1x1024 .f32) (x23 : Vec F S16x1024 .f32) (x24 : Vec F S16x1 .f32) (x25 : Vec F S1x256 .f32) (x26 : Vec F S1x256 .f32) (x27 : Vec F S256x256 .f32) : Vec F S2x256x1024 .bf16 :=
  VO0_29.read (Elt F) (VO0_29.writes (Elt F) VO0_29.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25 x26 x27).2.1)

/-- The store to output 30 covers its block. -/
theorem cover0_A_30 (c : Dev nD) (i : grid0.Coords) (arg2 : Memref sig .tc .vmem S2x256x256 .f32) (harg2 : arg2.IsWhole) (arg3 : Memref sig .tc .vmem S2x256x256 .f32) (harg3 : arg3.IsWhole) (arg4 : Memref sig .tc .vmem S2x256x256 .f32) (harg4 : arg4.IsWhole) (arg5 : Memref sig .tc .vmem S2x256x256 .f32) (harg5 : arg5.IsWhole) (arg6 : Memref sig .tc .vmem S2x256x256 .bf16) (harg6 : arg6.IsWhole) (arg7 : Memref sig .tc .vmem S2x256x256 .bf16) (harg7 : arg7.IsWhole) (arg8 : Memref sig .tc .vmem S2x256x256 .f32) (harg8 : arg8.IsWhole) (arg9 : Memref sig .tc .vmem S2x256x256 .bf16) (harg9 : arg9.IsWhole) (arg10 : Memref sig .tc .vmem S2x256x256 .bf16) (harg10 : arg10.IsWhole) (arg11 : Memref sig .tc .vmem S2x256x1024 .bf16) (harg11 : arg11.IsWhole) (arg12 : Memref sig .tc .vmem S2x256x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x256 .f32) (harg19 : arg19.IsWhole) (arg20 : Memref sig .tc .vmem S1024x4096 .bf16) (harg20 : arg20.IsWhole) (arg21 : Memref sig .tc .vmem S4x256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S1x1024 .f32) (harg24 : arg24.IsWhole) (arg25 : Memref sig .tc .vmem S16x1024 .f32) (harg25 : arg25.IsWhole) (arg26 : Memref sig .tc .vmem S16x1 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S256x256 .f32) (harg29 : arg29.IsWhole) (arg30 : Memref sig .tc .vmem S2x256x1024 .f32) (harg30 : arg30.IsWhole) (arg31 : Memref sig .tc .vmem S2x256x1024 .bf16) (harg31 : arg31.IsWhole) (arg32 : Memref sig .tc .vmem S24x256 .f32) (harg32 : arg32.IsWhole) (arg33 : Memref sig .tc .vmem S24x256 .f32) (harg33 : arg33.IsWhole)
    (x0 : Vec F S2x256x256 .f32) (x1 : Vec F S2x256x256 .f32) (x2 : Vec F S2x256x256 .f32) (x3 : Vec F S2x256x256 .f32) (x4 : Vec F S2x256x256 .bf16) (x5 : Vec F S2x256x256 .bf16) (x6 : Vec F S2x256x256 .f32) (x7 : Vec F S2x256x256 .bf16) (x8 : Vec F S2x256x256 .bf16) (x9 : Vec F S2x256x1024 .bf16) (x10 : Vec F S2x256x1024 .f32) (x11 : Vec F S1x1x1024 .f32) (x12 : Vec F S1x1x1024 .f32) (x13 : Vec F S1x1x1024 .f32) (x14 : Vec F S1x1x1024 .f32) (x15 : Vec F S1x1x1024 .f32) (x16 : Vec F S1x1x1024 .f32) (x17 : Vec F S1x256 .f32) (x18 : Vec F S1024x4096 .bf16) (x19 : Vec F S4x256x1024 .bf16) (x20 : Vec F S1024x1024 .bf16) (x21 : Vec F S1x1024 .f32) (x22 : Vec F S1x1024 .f32) (x23 : Vec F S16x1024 .f32) (x24 : Vec F S16x1 .f32) (x25 : Vec F S1x256 .f32) (x26 : Vec F S1x256 .f32) (x27 : Vec F S256x256 .f32) (y : S24x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25 x26 x27).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25 x26 x27).2.2.1 S24x256.size (by sl_kernel_rfl) y

/-- Output 30 after the body, read off its piece. -/
def out0_A_30 (c : Dev nD) (i : grid0.Coords) (arg2 : Memref sig .tc .vmem S2x256x256 .f32) (harg2 : arg2.IsWhole) (arg3 : Memref sig .tc .vmem S2x256x256 .f32) (harg3 : arg3.IsWhole) (arg4 : Memref sig .tc .vmem S2x256x256 .f32) (harg4 : arg4.IsWhole) (arg5 : Memref sig .tc .vmem S2x256x256 .f32) (harg5 : arg5.IsWhole) (arg6 : Memref sig .tc .vmem S2x256x256 .bf16) (harg6 : arg6.IsWhole) (arg7 : Memref sig .tc .vmem S2x256x256 .bf16) (harg7 : arg7.IsWhole) (arg8 : Memref sig .tc .vmem S2x256x256 .f32) (harg8 : arg8.IsWhole) (arg9 : Memref sig .tc .vmem S2x256x256 .bf16) (harg9 : arg9.IsWhole) (arg10 : Memref sig .tc .vmem S2x256x256 .bf16) (harg10 : arg10.IsWhole) (arg11 : Memref sig .tc .vmem S2x256x1024 .bf16) (harg11 : arg11.IsWhole) (arg12 : Memref sig .tc .vmem S2x256x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x256 .f32) (harg19 : arg19.IsWhole) (arg20 : Memref sig .tc .vmem S1024x4096 .bf16) (harg20 : arg20.IsWhole) (arg21 : Memref sig .tc .vmem S4x256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S1x1024 .f32) (harg24 : arg24.IsWhole) (arg25 : Memref sig .tc .vmem S16x1024 .f32) (harg25 : arg25.IsWhole) (arg26 : Memref sig .tc .vmem S16x1 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S256x256 .f32) (harg29 : arg29.IsWhole) (arg30 : Memref sig .tc .vmem S2x256x1024 .f32) (harg30 : arg30.IsWhole) (arg31 : Memref sig .tc .vmem S2x256x1024 .bf16) (harg31 : arg31.IsWhole) (arg32 : Memref sig .tc .vmem S24x256 .f32) (harg32 : arg32.IsWhole) (arg33 : Memref sig .tc .vmem S24x256 .f32) (harg33 : arg33.IsWhole)
    (x0 : Vec F S2x256x256 .f32) (x1 : Vec F S2x256x256 .f32) (x2 : Vec F S2x256x256 .f32) (x3 : Vec F S2x256x256 .f32) (x4 : Vec F S2x256x256 .bf16) (x5 : Vec F S2x256x256 .bf16) (x6 : Vec F S2x256x256 .f32) (x7 : Vec F S2x256x256 .bf16) (x8 : Vec F S2x256x256 .bf16) (x9 : Vec F S2x256x1024 .bf16) (x10 : Vec F S2x256x1024 .f32) (x11 : Vec F S1x1x1024 .f32) (x12 : Vec F S1x1x1024 .f32) (x13 : Vec F S1x1x1024 .f32) (x14 : Vec F S1x1x1024 .f32) (x15 : Vec F S1x1x1024 .f32) (x16 : Vec F S1x1x1024 .f32) (x17 : Vec F S1x256 .f32) (x18 : Vec F S1024x4096 .bf16) (x19 : Vec F S4x256x1024 .bf16) (x20 : Vec F S1024x1024 .bf16) (x21 : Vec F S1x1024 .f32) (x22 : Vec F S1x1024 .f32) (x23 : Vec F S16x1024 .f32) (x24 : Vec F S16x1 .f32) (x25 : Vec F S1x256 .f32) (x26 : Vec F S1x256 .f32) (x27 : Vec F S256x256 .f32) : Vec F S24x256 .f32 :=
  VO0_30.read (Elt F) (VO0_30.writes (Elt F) VO0_30.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25 x26 x27).2.2.1)

/-- The store to output 31 covers its block. -/
theorem cover0_A_31 (c : Dev nD) (i : grid0.Coords) (arg2 : Memref sig .tc .vmem S2x256x256 .f32) (harg2 : arg2.IsWhole) (arg3 : Memref sig .tc .vmem S2x256x256 .f32) (harg3 : arg3.IsWhole) (arg4 : Memref sig .tc .vmem S2x256x256 .f32) (harg4 : arg4.IsWhole) (arg5 : Memref sig .tc .vmem S2x256x256 .f32) (harg5 : arg5.IsWhole) (arg6 : Memref sig .tc .vmem S2x256x256 .bf16) (harg6 : arg6.IsWhole) (arg7 : Memref sig .tc .vmem S2x256x256 .bf16) (harg7 : arg7.IsWhole) (arg8 : Memref sig .tc .vmem S2x256x256 .f32) (harg8 : arg8.IsWhole) (arg9 : Memref sig .tc .vmem S2x256x256 .bf16) (harg9 : arg9.IsWhole) (arg10 : Memref sig .tc .vmem S2x256x256 .bf16) (harg10 : arg10.IsWhole) (arg11 : Memref sig .tc .vmem S2x256x1024 .bf16) (harg11 : arg11.IsWhole) (arg12 : Memref sig .tc .vmem S2x256x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x256 .f32) (harg19 : arg19.IsWhole) (arg20 : Memref sig .tc .vmem S1024x4096 .bf16) (harg20 : arg20.IsWhole) (arg21 : Memref sig .tc .vmem S4x256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S1x1024 .f32) (harg24 : arg24.IsWhole) (arg25 : Memref sig .tc .vmem S16x1024 .f32) (harg25 : arg25.IsWhole) (arg26 : Memref sig .tc .vmem S16x1 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S256x256 .f32) (harg29 : arg29.IsWhole) (arg30 : Memref sig .tc .vmem S2x256x1024 .f32) (harg30 : arg30.IsWhole) (arg31 : Memref sig .tc .vmem S2x256x1024 .bf16) (harg31 : arg31.IsWhole) (arg32 : Memref sig .tc .vmem S24x256 .f32) (harg32 : arg32.IsWhole) (arg33 : Memref sig .tc .vmem S24x256 .f32) (harg33 : arg33.IsWhole)
    (x0 : Vec F S2x256x256 .f32) (x1 : Vec F S2x256x256 .f32) (x2 : Vec F S2x256x256 .f32) (x3 : Vec F S2x256x256 .f32) (x4 : Vec F S2x256x256 .bf16) (x5 : Vec F S2x256x256 .bf16) (x6 : Vec F S2x256x256 .f32) (x7 : Vec F S2x256x256 .bf16) (x8 : Vec F S2x256x256 .bf16) (x9 : Vec F S2x256x1024 .bf16) (x10 : Vec F S2x256x1024 .f32) (x11 : Vec F S1x1x1024 .f32) (x12 : Vec F S1x1x1024 .f32) (x13 : Vec F S1x1x1024 .f32) (x14 : Vec F S1x1x1024 .f32) (x15 : Vec F S1x1x1024 .f32) (x16 : Vec F S1x1x1024 .f32) (x17 : Vec F S1x256 .f32) (x18 : Vec F S1024x4096 .bf16) (x19 : Vec F S4x256x1024 .bf16) (x20 : Vec F S1024x1024 .bf16) (x21 : Vec F S1x1024 .f32) (x22 : Vec F S1x1024 .f32) (x23 : Vec F S16x1024 .f32) (x24 : Vec F S16x1 .f32) (x25 : Vec F S1x256 .f32) (x26 : Vec F S1x256 .f32) (x27 : Vec F S256x256 .f32) (y : S24x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25 x26 x27).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25 x26 x27).2.2.2.1 S24x256.size (by sl_kernel_rfl) y

/-- Output 31 after the body, read off its piece. -/
def out0_A_31 (c : Dev nD) (i : grid0.Coords) (arg2 : Memref sig .tc .vmem S2x256x256 .f32) (harg2 : arg2.IsWhole) (arg3 : Memref sig .tc .vmem S2x256x256 .f32) (harg3 : arg3.IsWhole) (arg4 : Memref sig .tc .vmem S2x256x256 .f32) (harg4 : arg4.IsWhole) (arg5 : Memref sig .tc .vmem S2x256x256 .f32) (harg5 : arg5.IsWhole) (arg6 : Memref sig .tc .vmem S2x256x256 .bf16) (harg6 : arg6.IsWhole) (arg7 : Memref sig .tc .vmem S2x256x256 .bf16) (harg7 : arg7.IsWhole) (arg8 : Memref sig .tc .vmem S2x256x256 .f32) (harg8 : arg8.IsWhole) (arg9 : Memref sig .tc .vmem S2x256x256 .bf16) (harg9 : arg9.IsWhole) (arg10 : Memref sig .tc .vmem S2x256x256 .bf16) (harg10 : arg10.IsWhole) (arg11 : Memref sig .tc .vmem S2x256x1024 .bf16) (harg11 : arg11.IsWhole) (arg12 : Memref sig .tc .vmem S2x256x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x256 .f32) (harg19 : arg19.IsWhole) (arg20 : Memref sig .tc .vmem S1024x4096 .bf16) (harg20 : arg20.IsWhole) (arg21 : Memref sig .tc .vmem S4x256x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S1x1024 .f32) (harg24 : arg24.IsWhole) (arg25 : Memref sig .tc .vmem S16x1024 .f32) (harg25 : arg25.IsWhole) (arg26 : Memref sig .tc .vmem S16x1 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S256x256 .f32) (harg29 : arg29.IsWhole) (arg30 : Memref sig .tc .vmem S2x256x1024 .f32) (harg30 : arg30.IsWhole) (arg31 : Memref sig .tc .vmem S2x256x1024 .bf16) (harg31 : arg31.IsWhole) (arg32 : Memref sig .tc .vmem S24x256 .f32) (harg32 : arg32.IsWhole) (arg33 : Memref sig .tc .vmem S24x256 .f32) (harg33 : arg33.IsWhole)
    (x0 : Vec F S2x256x256 .f32) (x1 : Vec F S2x256x256 .f32) (x2 : Vec F S2x256x256 .f32) (x3 : Vec F S2x256x256 .f32) (x4 : Vec F S2x256x256 .bf16) (x5 : Vec F S2x256x256 .bf16) (x6 : Vec F S2x256x256 .f32) (x7 : Vec F S2x256x256 .bf16) (x8 : Vec F S2x256x256 .bf16) (x9 : Vec F S2x256x1024 .bf16) (x10 : Vec F S2x256x1024 .f32) (x11 : Vec F S1x1x1024 .f32) (x12 : Vec F S1x1x1024 .f32) (x13 : Vec F S1x1x1024 .f32) (x14 : Vec F S1x1x1024 .f32) (x15 : Vec F S1x1x1024 .f32) (x16 : Vec F S1x1x1024 .f32) (x17 : Vec F S1x256 .f32) (x18 : Vec F S1024x4096 .bf16) (x19 : Vec F S4x256x1024 .bf16) (x20 : Vec F S1024x1024 .bf16) (x21 : Vec F S1x1024 .f32) (x22 : Vec F S1x1024 .f32) (x23 : Vec F S16x1024 .f32) (x24 : Vec F S16x1 .f32) (x25 : Vec F S1x256 .f32) (x26 : Vec F S1x256 .f32) (x27 : Vec F S256x256 .f32) : Vec F S24x256 .f32 :=
  VO0_31.read (Elt F) (VO0_31.writes (Elt F) VO0_31.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16 x17 x18 x19 x20 x21 x22 x23 x24 x25 x26 x27).2.2.2.1)

/-- The four outputs after the body at step `t`, from the input blocks of that step. -/
def outsAt0 (c : Dev nD) (t : Fin cfg0.N) : Vec F S2x256x1024 .f32 × Vec F S2x256x1024 .bf16 × Vec F S24x256 .f32 × Vec F S24x256 .f32 :=
  (out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t), out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t), out0_A_30 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t), out0_A_31 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t))

/-- What the pipeline holds on core `c`: inputs keep their blocks, outputs hold `outsAt0`, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => (outsAt0 m c t).1
    | ⟨29, _⟩ => (outsAt0 m c t).2.1
    | ⟨30, _⟩ => (outsAt0 m c t).2.2.1
    | ⟨31, _⟩ => (outsAt0 m c t).2.2.2
    | ⟨_ + 32, h⟩ => absurd h (Nat.not_lt.2 (Nat.le_add_left _ _))
  Φ _ := Pipeline.ΦA spec0 c
  q w := Pipeline.shareOf spec0 w
  owed _ := 0

/-- The arrays are those found when the kernel starts. -/
theorem A_eq (c : Dev nD) (w : Fin cfg0.W) : (dats m 0 c).A w = V m c (Pipeline.arrRef spec0 w) := by
  dsimp only [dats]

/-- After the body each input window still holds its block, and each output its result. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = (outsAt0 m c t).1 := by dsimp only [dats]
theorem after0_29 (c : Dev nD) (t : Fin cfg0.N) : (dats m 0 c).after 29 t = (outsAt0 m c t).2.1 := by dsimp only [dats]
theorem after0_30 (c : Dev nD) (t : Fin cfg0.N) : (dats m 0 c).after 30 t = (outsAt0 m c t).2.2.1 := by dsimp only [dats]
theorem after0_31 (c : Dev nD) (t : Fin cfg0.N) : (dats m 0 c).after 31 t = (outsAt0 m c t).2.2.2 := by dsimp only [dats]

/-- Before the body each input window holds its block of the array. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d

/-- What the body at step `t` is given, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t))

set_option maxHeartbeats 3200000 in
/-- At every step the body turns what it is given into what it gives back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31]
  unfold outsAt0
  unfold out0_A_28 out0_A_29 out0_A_30 out0_A_31; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexists _; iexact H28
  isplitl [H29]; · iexists _; iexact H29
  isplitl [H30]; · iexists _; iexact H30
  isplitl [H31]; · iexists _; iexact H31
  iintro ⟨H0, H1, H2, H3, H4, H5, H6, H7, H8, H9, H10, H11, H12, H13, H14, H15, H16, H17, H18, H19, H20, H21, H22, H23, H24, H25, H26, H27, ⟨%e28, H28⟩, ⟨%e29, H29⟩, ⟨%e30, H30⟩, ⟨%e31, H31⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]
  · unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H29]
  · unfold owns; iexists _; isplitr
    swap; · iexact H29
    ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H30]
  · unfold owns; iexists _; isplitr
    swap; · iexact H30
    ipureintro; exact View.read_writes_of_cover _ _ _ _ _ (cover0_A_30 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H31
  ipureintro; exact View.read_writes_of_cover _ _ _ _ _ (cover0_A_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body called at step `t` is the merge on that step's buffers. -/
theorem defs₀_row (t : Fin cfg0.N) :
    defs₀ (F := F) .tc cfg0.body (cfg0.bodyArgs t (cfg0.slots t)) = bodyAt0 t := by
  unfold defs₀; rw [Defs.onTc_tc]

set_option maxHeartbeats 20000000 in
/-- So the body meets what the pipeline asks of it at every step. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 20000000 in
set_option backward.isDefEq.respectTransparency.types false in
/-- The whole program runs to its end, leaves every array as the pipeline computes it, and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The merge keeps its arguments and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (frame_of m ρ (dats m) (A_eq m) (run_main m ρ)) ((θ_run defs _ _).mono (fun _ h => h.2) (run_main_quiescent m ρ))

end Cert.Kernel6Ideal.Run

end
-- ==== Proof.MergeRow.lean ====
/- One row of the merge: the recurrence's output, the gated sum of the branches, the two layer norms. -/
module

public import Idealize.ShloMosaic.Lib.Pointwise

@[expose] public section

noncomputable section

namespace Cert.Merge

open Idealize.ShloMosaic

/-- The sum over the 64 lanes of the head that lane `l` belongs to. -/
def head (f : Fin 256 → EReal) (l : Fin 256) : EReal := ∑ d : Fin 64, f ⟨l.val / 64 * 64 + d.val, by omega⟩

/-- The mean over the head of lane `l`. -/
def mean64 (f : Fin 256 → EReal) (l : Fin 256) : EReal := Ideal.div (head f l) (Ideal.ofBits .f32 0x42800000#32)

/-- A lane less the mean of its head. -/
def cen (f : Fin 256 → EReal) (l : Fin 256) : EReal := f l - mean64 f l

/-- The first branch: the recurrence's result normalised head by head, with its bonus, gated. -/
def ya (y g b bon rg : Fin 256 → EReal) (l : Fin 256) : EReal :=
  (cen y l * Ideal.rsqrt (mean64 (fun j => cen y j * cen y j) l + Ideal.ofBits .f32 0x3A27C5AC#32) * g l + b l + bon l) * rg l

/-- The second branch: the convolution with its skip, gated. -/
def yb (x0 yc u skip : Fin 256 → EReal) (l : Fin 256) : EReal := x0 l * (yc l + u l * skip l)

/-- One branch's part of the merge: its gate times its row through its matrix. -/
def part (h w : Fin 1024 → EReal) (y v : Fin 256 → EReal) : EReal :=
  Ideal.logistic (∑ k, h k * w k) * ∑ l, y l * v l

/-- The four gated branches, added. -/
def merged (h : Fin 1024 → EReal) (wg : Fin 4 → Fin 1024 → Fin 1024 → EReal) (y : Fin 4 → Fin 256 → EReal)
    (wb : Fin 4 → Fin 256 → Fin 1024 → EReal) (o : Fin 1024) : EReal :=
  part h (fun k => wg 0 k o) (y 0) (fun l => wb 0 l o) + part h (fun k => wg 1 k o) (y 1) (fun l => wb 1 l o)
    + part h (fun k => wg 2 k o) (y 2) (fun l => wb 2 l o) + part h (fun k => wg 3 k o) (y 3) (fun l => wb 3 l o)

/-- The residual: the scaled input row and the merged row through the output matrix, gated. -/
def resid (x ga mg : Fin 1024 → EReal) (wo : Fin 1024 → Fin 1024 → EReal) (o : Fin 1024) : EReal :=
  Ideal.ofBits .f32 0x3FB504F3#32 * x o + ga o * ∑ k, mg k * wo k o

/-- The mean of a row. -/
def mean (f : Fin 1024 → EReal) : EReal := Ideal.div (∑ k, f k) (Ideal.ofBits .f32 0x44800000#32)

/-- A row normalised. -/
def normed (f : Fin 1024 → EReal) (o : Fin 1024) : EReal :=
  (f o - mean f) * Ideal.rsqrt (mean (fun k => (f k - mean f) * (f k - mean f)) + Ideal.ofBits .f32 0x358637BD#32)

/-- A row normalised, with scale and offset. -/
def scaled (f g b : Fin 1024 → EReal) (o : Fin 1024) : EReal := normed f o * g o + b o

/-- A row normalised and modulated. -/
def modulated (f shift scale : Fin 1024 → EReal) (o : Fin 1024) : EReal :=
  normed f o * (Ideal.ofBits .f32 0x3F800000#32 + scale o) + shift o

/-- The head sums as the kernel takes them: a product with a matrix of ones and zeros, and another of what a rounding left. -/
def headK (f : Fin 256 → EReal) (bd : Fin 256 → Fin 256 → EReal) (l : Fin 256) : EReal :=
  (∑ j, f j * bd j l) + ∑ j, (f j - f j) * bd j l

/-- A lane less the mean of its head, as the kernel takes it. -/
def cenK (f : Fin 256 → EReal) (bd : Fin 256 → Fin 256 → EReal) (l : Fin 256) : EReal :=
  f l - headK f bd l * Ideal.ofBits .f32 0x3C800000#32

/-- 64 as a word. -/
theorem word64 : Ideal.ofBits .f32 0x42800000#32 = ((64 : ℝ) : EReal) := by
  simp [Ideal.ofBits, Ideal.ieee]
  rw [← EReal.coe_mul]
  norm_num

/-- The 64th part of one as a word. -/
theorem word64th : Ideal.ofBits .f32 0x3C800000#32 = (((1 : ℝ) / 64 : ℝ) : EReal) := by
  simp [Ideal.ofBits, Ideal.ieee]
  rw [← EReal.coe_mul]
  norm_num

/-- A sum of reals is real. -/
theorem sum_real {ι : Type} (s : Finset ι) (f : ι → EReal) (hf : ∀ i, ∃ r : ℝ, f i = r) : ∃ r : ℝ, ∑ i ∈ s, f i = (r : EReal) := by
  classical
  induction s using Finset.induction_on with
  | empty => exact ⟨0, by simp⟩
  | insert a s ha ih =>
    obtain ⟨r, hr⟩ := hf a
    obtain ⟨t, ht⟩ := ih
    exact ⟨r + t, by rw [Finset.sum_insert ha, hr, ht, ← EReal.coe_add]⟩

/-- The sum over a head of reals is real. -/
theorem head_real {f : Fin 256 → EReal} (hf : ∀ j, ∃ r : ℝ, f j = r) (l : Fin 256) : ∃ r : ℝ, head f l = r := by
  choose r hr using hf
  exact sum_real Finset.univ _ fun d => ⟨r _, hr _⟩

/-- The mean is the sum times the 64th part of one. -/
theorem mean64_eq (f : Fin 256 → EReal) (l : Fin 256) : head f l * Ideal.ofBits .f32 0x3C800000#32 = mean64 f l := by
  have h : ((64 : ℝ) : EReal) ≠ 0 := by
    rw [← EReal.coe_zero]
    exact fun e => absurd (EReal.coe_injective e) (by norm_num)
  unfold mean64 Ideal.div
  rw [word64, word64th, if_neg h, ← EReal.coe_inv, one_div]

/-- The product with the ones and zeros is the sum over the head. -/
theorem headK_eq {f : Fin 256 → EReal} (hf : ∀ j, ∃ r : ℝ, f j = r) (bd : Fin 256 → Fin 256 → EReal)
    (hbd : ∀ j l : Fin 256, bd j l = if j.val / 64 = l.val / 64 then 1 else 0) (l : Fin 256) : headK f bd l = head f l := by
  have hz : ∑ j, (f j - f j) * bd j l = 0 := by
    refine Finset.sum_eq_zero fun j _ => ?_
    obtain ⟨r, hr⟩ := hf j
    rw [hr, ← EReal.coe_sub, sub_self, EReal.coe_zero, zero_mul]
  unfold headK head
  rw [hz, add_zero]
  simp only [hbd, mul_ite, mul_one, mul_zero]
  rw [← Finset.sum_filter]
  symm
  refine Finset.sum_bij' (i := fun d _ => (⟨l.val / 64 * 64 + d.val, by omega⟩ : Fin 256))
    (j := fun j _ => (⟨j.val % 64, by omega⟩ : Fin 64)) ?_ ?_ ?_ ?_ ?_
  · intro d _
    simp only [Finset.mem_filter, Finset.mem_univ, true_and]
    omega
  · intro j _
    exact Finset.mem_univ _
  · intro d _
    apply Fin.ext
    show (l.val / 64 * 64 + d.val) % 64 = d.val
    omega
  · intro j hj
    simp only [Finset.mem_filter, Finset.mem_univ, true_and] at hj
    apply Fin.ext
    show l.val / 64 * 64 + j.val % 64 = j.val
    omega
  · intro d _
    rfl

/-- The mean of a head of reals is real. -/
theorem mean64_real {f : Fin 256 → EReal} (hf : ∀ j, ∃ r : ℝ, f j = r) (l : Fin 256) : ∃ r : ℝ, mean64 f l = r := by
  obtain ⟨r, hr⟩ := head_real hf l
  exact ⟨r * (1 / 64), by rw [← mean64_eq, hr, word64th, ← EReal.coe_mul]⟩

/-- A lane less its head's mean is real. -/
theorem cen_real {f : Fin 256 → EReal} (hf : ∀ j, ∃ r : ℝ, f j = r) (l : Fin 256) : ∃ r : ℝ, cen f l = r := by
  obtain ⟨r, hr⟩ := mean64_real hf l
  obtain ⟨s, hs⟩ := hf l
  exact ⟨s - r, by unfold cen; rw [hr, hs, ← EReal.coe_sub]⟩

/-- The kernel's way to a lane less its head's mean. -/
theorem cenK_eq {f : Fin 256 → EReal} (hf : ∀ j, ∃ r : ℝ, f j = r) (bd : Fin 256 → Fin 256 → EReal)
    (hbd : ∀ j l : Fin 256, bd j l = if j.val / 64 = l.val / 64 then 1 else 0) (l : Fin 256) : cenK f bd l = cen f l := by
  unfold cenK cen
  rw [headK_eq hf bd hbd, mean64_eq]

/-- The kernel's way to the mean square. -/
theorem squareK_eq {f : Fin 256 → EReal} (hf : ∀ j, ∃ r : ℝ, f j = r) (bd : Fin 256 → Fin 256 → EReal)
    (hbd : ∀ j l : Fin 256, bd j l = if j.val / 64 = l.val / 64 then 1 else 0) (l : Fin 256) :
    headK (fun j => cenK f bd j * cenK f bd j) bd l * Ideal.ofBits .f32 0x3C800000#32 = mean64 (fun j => cen f j * cen f j) l := by
  have hc : (fun j => cenK f bd j * cenK f bd j) = fun j => cen f j * cen f j := funext fun j => by rw [cenK_eq hf bd hbd]
  have hr : ∀ j, ∃ r : ℝ, cen f j * cen f j = (r : EReal) := fun j => by
    obtain ⟨r, h⟩ := cen_real hf j
    exact ⟨r * r, by rw [h, ← EReal.coe_mul]⟩
  rw [hc, headK_eq hr bd hbd, mean64_eq]

end Cert.Merge

end
-- ==== Proof.MergeSpec.lean ====
/- The merge at every position: the two results as functions of the arguments. -/
module

public import proofs.«01_k».proof.Proof.MergeRow

@[expose] public section

noncomputable section

namespace Cert.Merge

open Idealize.ShloMosaic

/-- The arguments the two results depend on. -/
structure In where
  yf : FVec Ideal ⟨3, ![8, 4352, 256]⟩ .f32
  yr : FVec Ideal ⟨3, ![8, 4352, 256]⟩ .f32
  rg : FVec Ideal ⟨3, ![8, 4352, 256]⟩ .f32
  bon : FVec Ideal ⟨3, ![8, 4352, 256]⟩ .f32
  x0 : FVec Ideal ⟨3, ![8, 4352, 256]⟩ .bf16
  u : FVec Ideal ⟨3, ![8, 4352, 256]⟩ .bf16
  yconv : FVec Ideal ⟨3, ![8, 4352, 256]⟩ .f32
  ycv : FVec Ideal ⟨3, ![8, 4352, 256]⟩ .bf16
  yd : FVec Ideal ⟨3, ![8, 4352, 256]⟩ .bf16
  h : FVec Ideal ⟨3, ![8, 4352, 1024]⟩ .bf16
  x : FVec Ideal ⟨3, ![8, 4352, 1024]⟩ .f32
  mod3 : FVec Ideal ⟨3, ![16, 1, 6144]⟩ .f32
  skip : FVec Ideal ⟨1, ![256]⟩ .f32
  win : FVec Ideal ⟨2, ![1024, 7168]⟩ .f32
  wb : FVec Ideal ⟨3, ![4, 256, 1024]⟩ .f32
  wo : FVec Ideal ⟨2, ![1024, 1024]⟩ .f32
  lng : FVec Ideal ⟨1, ![1024]⟩ .f32
  lnb : FVec Ideal ⟨1, ![1024]⟩ .f32
  lnxg : FVec Ideal ⟨1, ![256]⟩ .f32
  lnxb : FVec Ideal ⟨1, ![256]⟩ .f32

/-- The row of the modulation a position takes: one for the first 256 positions, one for each sequence's others. -/
def rowOf (b : Fin 8) (p : Fin 4352) : Fin 16 := if p.val < 256 then 8 else ⟨b.val, by omega⟩

/-- 1024 numbers of the modulation, from column `lo` on. -/
def modAt (mod3 : FVec Ideal ⟨3, ![16, 1, 6144]⟩ .f32) (lo : ℕ) (fits : lo + 1024 ≤ 6144) (b : Fin 8) (p : Fin 4352) (o : Fin 1024) : EReal :=
  mod3 (ix3 (rowOf b p) 0 ⟨lo + o.val, by omega⟩)

/-- The four branches of a position. -/
def rows (a : In) (b : Fin 8) (p : Fin 4352) (n : Fin 4) : Fin 256 → EReal :=
  match n with
  | 0 => ya (fun l => a.yf (ix3 b p l) + a.yr (ix3 b p l)) (fun l => a.lnxg (ix1 l)) (fun l => a.lnxb (ix1 l)) (fun l => a.bon (ix3 b p l)) (fun l => a.rg (ix3 b p l))
  | 1 => yb (fun l => a.x0 (ix3 b p l)) (fun l => a.yconv (ix3 b p l)) (fun l => a.u (ix3 b p l)) (fun l => a.skip (ix1 l))
  | 2 => fun l => a.ycv (ix3 b p l)
  | 3 => fun l => a.yd (ix3 b p l)

/-- The four gated branches of a position, added. -/
def mergedAt (a : In) (b : Fin 8) (p : Fin 4352) : Fin 1024 → EReal :=
  merged (fun k => a.h (ix3 b p k)) (fun n k o => a.win (ix2 k ⟨3072 + (n.val * 1024 + o.val), by omega⟩)) (rows a b p) (fun n l o => a.wb (ix3 n l o))

/-- The residual of a position. -/
def residAt (a : In) (b : Fin 8) (p : Fin 4352) : Fin 1024 → EReal :=
  resid (fun k => a.x (ix3 b p k)) (modAt a.mod3 2048 (by norm_num) b p) (mergedAt a b p) (fun k o => a.wo (ix2 k o))

/-- The first result at a position. -/
def x1At (a : In) (b : Fin 8) (p : Fin 4352) : Fin 1024 → EReal :=
  scaled (residAt a b p) (fun o => a.lng (ix1 o)) (fun o => a.lnb (ix1 o))

/-- The second result at a position. -/
def hfAt (a : In) (b : Fin 8) (p : Fin 4352) : Fin 1024 → EReal :=
  modulated (x1At a b p) (modAt a.mod3 3072 (by norm_num) b p) (modAt a.mod3 4096 (by norm_num) b p)

/-- The first result. -/
def x1 (a : In) : FVec Ideal ⟨3, ![8, 4352, 1024]⟩ .f32 := fun y => x1At a (y 0) (y 1) (y 2)

/-- The second result. -/
def hf (a : In) : FVec Ideal ⟨3, ![8, 4352, 1024]⟩ .bf16 := fun y => hfAt a (y 0) (y 1) (y 2)

end Cert.Merge

end
-- ==== Proof.MergeBlocks.lean ====
/- What each window of the merge holds at a grid step, read from the arguments. -/
module

public import proofs.«01_k».proof.Proof.Gen.Kernel6Ideal.Frame
public import proofs.«01_k».proof.Proof.MergeSpec
public import Idealize.ShloMosaic.Lib.Pipeline.ValueKit
public import Idealize.ShloMosaic.Lib.Pointwise

@[expose] public section

set_option maxRecDepth 16384

noncomputable section

namespace Cert.Kernel6Ideal.Blocks

open Idealize.ShloMosaic Idealize.ShloMosaic.TcCoe Cert.Kernel6Ideal Cert.Kernel6Ideal.Gen Cert.Merge

variable (m : (ℓ : Loc nD τ sig) → Buf (Elt Ideal) ℓ)

/-- The index maps of the windows of rows: sequences `2 (t / 17)` and the next, row tile `t % 17`. -/
theorem idx : ∀ t : Fin cfg0.N, win0_0.index t = ![t.val / 17, t.val % 17, 0]
    ∧ win0_1.index t = ![t.val / 17, t.val % 17, 0]
    ∧ win0_2.index t = ![t.val / 17, t.val % 17, 0]
    ∧ win0_3.index t = ![t.val / 17, t.val % 17, 0]
    ∧ win0_4.index t = ![t.val / 17, t.val % 17, 0]
    ∧ win0_5.index t = ![t.val / 17, t.val % 17, 0]
    ∧ win0_6.index t = ![t.val / 17, t.val % 17, 0]
    ∧ win0_7.index t = ![t.val / 17, t.val % 17, 0]
    ∧ win0_8.index t = ![t.val / 17, t.val % 17, 0]
    ∧ win0_9.index t = ![t.val / 17, t.val % 17, 0]
    ∧ win0_10.index t = ![t.val / 17, t.val % 17, 0]
    ∧ win0_28.index t = ![t.val / 17, t.val % 17, 0]
    ∧ win0_29.index t = ![t.val / 17, t.val % 17, 0] :=
  (by decide +kernel : ∀ t : Fin grid0.N, _)

/-- The row of the modulation read for the first of the two sequences. -/
def row0 (t : Fin cfg0.N) : ℕ := if t.val % 17 < 1 then 8 else 2 * (t.val / 17)

/-- The row of the modulation read for the second of the two sequences. -/
def row1 (t : Fin cfg0.N) : ℕ := if t.val % 17 < 1 then 8 else 2 * (t.val / 17) + 1

/-- The index maps of the windows of the modulation. -/
theorem idx_mod : ∀ t : Fin cfg0.N, win0_11.index t = ![row0 t, 0, 2]
    ∧ win0_12.index t = ![row0 t, 0, 3]
    ∧ win0_13.index t = ![row0 t, 0, 4]
    ∧ win0_14.index t = ![row1 t, 0, 2]
    ∧ win0_15.index t = ![row1 t, 0, 3]
    ∧ win0_16.index t = ![row1 t, 0, 4] :=
  (by decide +kernel : ∀ t : Fin grid0.N, _)

/-- The index maps of the windows that never move. -/
theorem idx_still : ∀ t : Fin cfg0.N, win0_17.index t = ![0, 0]
    ∧ win0_18.index t = ![0, 0]
    ∧ win0_19.index t = ![0, 0, 0]
    ∧ win0_20.index t = ![0, 0]
    ∧ win0_21.index t = ![0, 0]
    ∧ win0_22.index t = ![0, 0]
    ∧ win0_25.index t = ![0, 0]
    ∧ win0_26.index t = ![0, 0]
    ∧ win0_27.index t = ![0, 0] :=
  (by decide +kernel : ∀ t : Fin grid0.N, _)

/-- The sequence of image `k` at step `t`. -/
def seqOf (t : Fin cfg0.N) (k : Fin 2) : Fin 8 := ⟨2 * (t.val / 17) + k.val, by have : t.val < 68 := t.isLt; omega⟩

/-- The position of row `q` at step `t`. -/
def posOf (t : Fin cfg0.N) (q : Fin 256) : Fin 4352 := ⟨256 * (t.val % 17) + q.val, by omega⟩

/-- The block of `yf`. -/
theorem blk_yf (c : Dev nD) (t : Fin cfg0.N) (k : Fin 2) (q : Fin 256) (l : Fin 256) :
    iblk m c 0 t (ix3 k q l) = m ((c : Thread nD τ).loc main_arg0) (ix3 (seqOf t k) (posOf t q) l) :=
  (show iblk m c 0 t (ix3 k q l) = V m c main_arg0 (ix3 (seqOf t k) (posOf t q) l) by blk_ext [iblk, idx t, seqOf, posOf]).trans
    (congrFun (V_main_arg0 m c) _)

/-- The block of `yr`. -/
theorem blk_yr (c : Dev nD) (t : Fin cfg0.N) (k : Fin 2) (q : Fin 256) (l : Fin 256) :
    iblk m c 1 t (ix3 k q l) = m ((c : Thread nD τ).loc main_arg1) (ix3 (seqOf t k) (posOf t q) l) :=
  (show iblk m c 1 t (ix3 k q l) = V m c main_arg1 (ix3 (seqOf t k) (posOf t q) l) by blk_ext [iblk, idx t, seqOf, posOf]).trans
    (congrFun (V_main_arg1 m c) _)

/-- The block of `rg`. -/
theorem blk_rg (c : Dev nD) (t : Fin cfg0.N) (k : Fin 2) (q : Fin 256) (l : Fin 256) :
    iblk m c 2 t (ix3 k q l) = m ((c : Thread nD τ).loc main_arg2) (ix3 (seqOf t k) (posOf t q) l) :=
  (show iblk m c 2 t (ix3 k q l) = V m c main_arg2 (ix3 (seqOf t k) (posOf t q) l) by blk_ext [iblk, idx t, seqOf, posOf]).trans
    (congrFun (V_main_arg2 m c) _)

/-- The block of `bon`. -/
theorem blk_bon (c : Dev nD) (t : Fin cfg0.N) (k : Fin 2) (q : Fin 256) (l : Fin 256) :
    iblk m c 3 t (ix3 k q l) = m ((c : Thread nD τ).loc main_arg3) (ix3 (seqOf t k) (posOf t q) l) :=
  (show iblk m c 3 t (ix3 k q l) = V m c main_arg3 (ix3 (seqOf t k) (posOf t q) l) by blk_ext [iblk, idx t, seqOf, posOf]).trans
    (congrFun (V_main_arg3 m c) _)

/-- The block of `x0`. -/
theorem blk_x0 (c : Dev nD) (t : Fin cfg0.N) (k : Fin 2) (q : Fin 256) (l : Fin 256) :
    iblk m c 4 t (ix3 k q l) = m ((c : Thread nD τ).loc main_arg4) (ix3 (seqOf t k) (posOf t q) l) :=
  (show iblk m c 4 t (ix3 k q l) = V m c main_arg4 (ix3 (seqOf t k) (posOf t q) l) by blk_ext [iblk, idx t, seqOf, posOf]).trans
    (congrFun (V_main_arg4 m c) _)

/-- The block of `u`. -/
theorem blk_u (c : Dev nD) (t : Fin cfg0.N) (k : Fin 2) (q : Fin 256) (l : Fin 256) :
    iblk m c 5 t (ix3 k q l) = m ((c : Thread nD τ).loc main_arg5) (ix3 (seqOf t k) (posOf t q) l) :=
  (show iblk m c 5 t (ix3 k q l) = V m c main_arg5 (ix3 (seqOf t k) (posOf t q) l) by blk_ext [iblk, idx t, seqOf, posOf]).trans
    (congrFun (V_main_arg5 m c) _)

/-- The block of `yconv`. -/
theorem blk_yconv (c : Dev nD) (t : Fin cfg0.N) (k : Fin 2) (q : Fin 256) (l : Fin 256) :
    iblk m c 6 t (ix3 k q l) = m ((c : Thread nD τ).loc main_arg6) (ix3 (seqOf t k) (posOf t q) l) :=
  (show iblk m c 6 t (ix3 k q l) = V m c main_arg6 (ix3 (seqOf t k) (posOf t q) l) by blk_ext [iblk, idx t, seqOf, posOf]).trans
    (congrFun (V_main_arg6 m c) _)

/-- The block of `ycv`. -/
theorem blk_ycv (c : Dev nD) (t : Fin cfg0.N) (k : Fin 2) (q : Fin 256) (l : Fin 256) :
    iblk m c 7 t (ix3 k q l) = m ((c : Thread nD τ).loc main_arg7) (ix3 (seqOf t k) (posOf t q) l) :=
  (show iblk m c 7 t (ix3 k q l) = V m c main_arg7 (ix3 (seqOf t k) (posOf t q) l) by blk_ext [iblk, idx t, seqOf, posOf]).trans
    (congrFun (V_main_arg7 m c) _)

/-- The block of `yd`. -/
theorem blk_yd (c : Dev nD) (t : Fin cfg0.N) (k : Fin 2) (q : Fin 256) (l : Fin 256) :
    iblk m c 8 t (ix3 k q l) = m ((c : Thread nD τ).loc main_arg8) (ix3 (seqOf t k) (posOf t q) l) :=
  (show iblk m c 8 t (ix3 k q l) = V m c main_arg8 (ix3 (seqOf t k) (posOf t q) l) by blk_ext [iblk, idx t, seqOf, posOf]).trans
    (congrFun (V_main_arg8 m c) _)

/-- The block of `h`. -/
theorem blk_h (c : Dev nD) (t : Fin cfg0.N) (k : Fin 2) (q : Fin 256) (l : Fin 1024) :
    iblk m c 9 t (ix3 k q l) = m ((c : Thread nD τ).loc main_arg9) (ix3 (seqOf t k) (posOf t q) l) :=
  (show iblk m c 9 t (ix3 k q l) = V m c main_arg9 (ix3 (seqOf t k) (posOf t q) l) by blk_ext [iblk, idx t, seqOf, posOf]).trans
    (congrFun (V_main_arg9 m c) _)

/-- The block of `x`. -/
theorem blk_x (c : Dev nD) (t : Fin cfg0.N) (k : Fin 2) (q : Fin 256) (l : Fin 1024) :
    iblk m c 10 t (ix3 k q l) = m ((c : Thread nD τ).loc main_arg10) (ix3 (seqOf t k) (posOf t q) l) :=
  (show iblk m c 10 t (ix3 k q l) = V m c main_arg10 (ix3 (seqOf t k) (posOf t q) l) by blk_ext [iblk, idx t, seqOf, posOf]).trans
    (congrFun (V_main_arg10 m c) _)

/-- That row is the one the position takes. -/
theorem row0_eq (t : Fin cfg0.N) (q : Fin 256) : rowOf (seqOf t 0) (posOf t q) = ⟨row0 t, by unfold row0; have : t.val < 68 := t.isLt; split <;> omega⟩ := by
  apply Fin.ext
  show (rowOf (seqOf t 0) (posOf t q)).val = row0 t
  by_cases h : t.val % 17 < 1
  · exact (congrArg Fin.val (if_pos (show 256 * (t.val % 17) + q.val < 256 by omega))).trans (if_pos h).symm
  · exact (congrArg Fin.val (if_neg (show ¬ 256 * (t.val % 17) + q.val < 256 by omega))).trans (if_neg h).symm

/-- That row is the one the position takes. -/
theorem row1_eq (t : Fin cfg0.N) (q : Fin 256) : rowOf (seqOf t 1) (posOf t q) = ⟨row1 t, by unfold row1; have : t.val < 68 := t.isLt; split <;> omega⟩ := by
  apply Fin.ext
  show (rowOf (seqOf t 1) (posOf t q)).val = row1 t
  by_cases h : t.val % 17 < 1
  · exact (congrArg Fin.val (if_pos (show 256 * (t.val % 17) + q.val < 256 by omega))).trans (if_pos h).symm
  · exact (congrArg Fin.val (if_neg (show ¬ 256 * (t.val % 17) + q.val < 256 by omega))).trans (if_neg h).symm

/-- The modulation's columns 2048 on, for image 0. -/
theorem blk_mod11 (c : Dev nD) (t : Fin cfg0.N) (q : Fin 256) (o : Fin 1024) :
    iblk m c 11 t (ix3 0 0 o) = modAt (m ((c : Thread nD τ).loc main_arg11)) 2048 (by norm_num) (seqOf t 0) (posOf t q) o := by
  have hr : row0 t < 16 := by unfold row0; have : t.val < 68 := t.isLt; split <;> omega
  refine (show iblk m c 11 t (ix3 0 0 o) = V m c main_arg11 (ix3 ⟨row0 t, hr⟩ 0 ⟨2048 + o.val, by omega⟩) by
    blk_ext [iblk, idx_mod t]).trans ((congrFun (V_main_arg11 m c) _).trans ?_)
  unfold modAt
  rw [row0_eq t q]

/-- The modulation's columns 3072 on, for image 0. -/
theorem blk_mod12 (c : Dev nD) (t : Fin cfg0.N) (q : Fin 256) (o : Fin 1024) :
    iblk m c 12 t (ix3 0 0 o) = modAt (m ((c : Thread nD τ).loc main_arg11)) 3072 (by norm_num) (seqOf t 0) (posOf t q) o := by
  have hr : row0 t < 16 := by unfold row0; have : t.val < 68 := t.isLt; split <;> omega
  refine (show iblk m c 12 t (ix3 0 0 o) = V m c main_arg11 (ix3 ⟨row0 t, hr⟩ 0 ⟨3072 + o.val, by omega⟩) by
    blk_ext [iblk, idx_mod t]).trans ((congrFun (V_main_arg11 m c) _).trans ?_)
  unfold modAt
  rw [row0_eq t q]

/-- The modulation's columns 4096 on, for image 0. -/
theorem blk_mod13 (c : Dev nD) (t : Fin cfg0.N) (q : Fin 256) (o : Fin 1024) :
    iblk m c 13 t (ix3 0 0 o) = modAt (m ((c : Thread nD τ).loc main_arg11)) 4096 (by norm_num) (seqOf t 0) (posOf t q) o := by
  have hr : row0 t < 16 := by unfold row0; have : t.val < 68 := t.isLt; split <;> omega
  refine (show iblk m c 13 t (ix3 0 0 o) = V m c main_arg11 (ix3 ⟨row0 t, hr⟩ 0 ⟨4096 + o.val, by omega⟩) by
    blk_ext [iblk, idx_mod t]).trans ((congrFun (V_main_arg11 m c) _).trans ?_)
  unfold modAt
  rw [row0_eq t q]

/-- The modulation's columns 2048 on, for image 1. -/
theorem blk_mod14 (c : Dev nD) (t : Fin cfg0.N) (q : Fin 256) (o : Fin 1024) :
    iblk m c 14 t (ix3 0 0 o) = modAt (m ((c : Thread nD τ).loc main_arg11)) 2048 (by norm_num) (seqOf t 1) (posOf t q) o := by
  have hr : row1 t < 16 := by unfold row1; have : t.val < 68 := t.isLt; split <;> omega
  refine (show iblk m c 14 t (ix3 0 0 o) = V m c main_arg11 (ix3 ⟨row1 t, hr⟩ 0 ⟨2048 + o.val, by omega⟩) by
    blk_ext [iblk, idx_mod t]).trans ((congrFun (V_main_arg11 m c) _).trans ?_)
  unfold modAt
  rw [row1_eq t q]

/-- The modulation's columns 3072 on, for image 1. -/
theorem blk_mod15 (c : Dev nD) (t : Fin cfg0.N) (q : Fin 256) (o : Fin 1024) :
    iblk m c 15 t (ix3 0 0 o) = modAt (m ((c : Thread nD τ).loc main_arg11)) 3072 (by norm_num) (seqOf t 1) (posOf t q) o := by
  have hr : row1 t < 16 := by unfold row1; have : t.val < 68 := t.isLt; split <;> omega
  refine (show iblk m c 15 t (ix3 0 0 o) = V m c main_arg11 (ix3 ⟨row1 t, hr⟩ 0 ⟨3072 + o.val, by omega⟩) by
    blk_ext [iblk, idx_mod t]).trans ((congrFun (V_main_arg11 m c) _).trans ?_)
  unfold modAt
  rw [row1_eq t q]

/-- The modulation's columns 4096 on, for image 1. -/
theorem blk_mod16 (c : Dev nD) (t : Fin cfg0.N) (q : Fin 256) (o : Fin 1024) :
    iblk m c 16 t (ix3 0 0 o) = modAt (m ((c : Thread nD τ).loc main_arg11)) 4096 (by norm_num) (seqOf t 1) (posOf t q) o := by
  have hr : row1 t < 16 := by unfold row1; have : t.val < 68 := t.isLt; split <;> omega
  refine (show iblk m c 16 t (ix3 0 0 o) = V m c main_arg11 (ix3 ⟨row1 t, hr⟩ 0 ⟨4096 + o.val, by omega⟩) by
    blk_ext [iblk, idx_mod t]).trans ((congrFun (V_main_arg11 m c) _).trans ?_)
  unfold modAt
  rw [row1_eq t q]

/-- `skip` as the call finds it. -/
theorem found_skip (c : Dev nD) : V m c main_v14 = shapeCast S1x256 (m ((c : Thread nD τ).loc main_arg12)) shapeCasts_S256_S1x256 := by
  show StableHlo.after hostOps0 (fun b => m (c, b)) (Proc.devRef .tc main_v14) = _
  simp only [hostOps0, List.flatten_cons, List.flatten_nil, List.append_nil]
  after_results
  rfl

/-- The block of `skip`. -/
theorem blk_skip (c : Dev nD) (t : Fin cfg0.N) (l : Fin 256) :
    iblk m c 17 t (ix2 0 l) = m ((c : Thread nD τ).loc main_arg12) (ix1 l) := by
  refine (show iblk m c 17 t (ix2 0 l) = V m c main_v14 (ix2 0 l) by blk_ext [iblk, idx_still t]).trans
    ((congrFun (found_skip m c) _).trans ?_)
  generalize m ((c : Thread nD τ).loc main_arg12) = v
  pointwise []

/-- `lng` as the call finds it. -/
theorem found_lng (c : Dev nD) : V m c main_v15 = shapeCast S1x1024 (m ((c : Thread nD τ).loc main_arg16)) shapeCasts_S1024_S1x1024 := by
  show StableHlo.after hostOps0 (fun b => m (c, b)) (Proc.devRef .tc main_v15) = _
  simp only [hostOps0, List.flatten_cons, List.flatten_nil, List.append_nil]
  after_results
  rfl

/-- The block of `lng`. -/
theorem blk_lng (c : Dev nD) (t : Fin cfg0.N) (l : Fin 1024) :
    iblk m c 21 t (ix2 0 l) = m ((c : Thread nD τ).loc main_arg16) (ix1 l) := by
  refine (show iblk m c 21 t (ix2 0 l) = V m c main_v15 (ix2 0 l) by blk_ext [iblk, idx_still t]).trans
    ((congrFun (found_lng m c) _).trans ?_)
  generalize m ((c : Thread nD τ).loc main_arg16) = v
  pointwise []

/-- `lnb` as the call finds it. -/
theorem found_lnb (c : Dev nD) : V m c main_v16 = shapeCast S1x1024 (m ((c : Thread nD τ).loc main_arg17)) shapeCasts_S1024_S1x1024 := by
  show StableHlo.after hostOps0 (fun b => m (c, b)) (Proc.devRef .tc main_v16) = _
  simp only [hostOps0, List.flatten_cons, List.flatten_nil, List.append_nil]
  after_results
  rfl

/-- The block of `lnb`. -/
theorem blk_lnb (c : Dev nD) (t : Fin cfg0.N) (l : Fin 1024) :
    iblk m c 22 t (ix2 0 l) = m ((c : Thread nD τ).loc main_arg17) (ix1 l) := by
  refine (show iblk m c 22 t (ix2 0 l) = V m c main_v16 (ix2 0 l) by blk_ext [iblk, idx_still t]).trans
    ((congrFun (found_lnb m c) _).trans ?_)
  generalize m ((c : Thread nD τ).loc main_arg17) = v
  pointwise []

/-- `lnxg` as the call finds it. -/
theorem found_lnxg (c : Dev nD) : V m c main_v18 = shapeCast S1x256 (m ((c : Thread nD τ).loc main_arg20)) shapeCasts_S256_S1x256 := by
  show StableHlo.after hostOps0 (fun b => m (c, b)) (Proc.devRef .tc main_v18) = _
  simp only [hostOps0, List.flatten_cons, List.flatten_nil, List.append_nil]
  after_results
  rfl

/-- The block of `lnxg`. -/
theorem blk_lnxg (c : Dev nD) (t : Fin cfg0.N) (l : Fin 256) :
    iblk m c 25 t (ix2 0 l) = m ((c : Thread nD τ).loc main_arg20) (ix1 l) := by
  refine (show iblk m c 25 t (ix2 0 l) = V m c main_v18 (ix2 0 l) by blk_ext [iblk, idx_still t]).trans
    ((congrFun (found_lnxg m c) _).trans ?_)
  generalize m ((c : Thread nD τ).loc main_arg20) = v
  pointwise []

/-- `lnxb` as the call finds it. -/
theorem found_lnxb (c : Dev nD) : V m c main_v19 = shapeCast S1x256 (m ((c : Thread nD τ).loc main_arg21)) shapeCasts_S256_S1x256 := by
  show StableHlo.after hostOps0 (fun b => m (c, b)) (Proc.devRef .tc main_v19) = _
  simp only [hostOps0, List.flatten_cons, List.flatten_nil, List.append_nil]
  after_results
  rfl

/-- The block of `lnxb`. -/
theorem blk_lnxb (c : Dev nD) (t : Fin cfg0.N) (l : Fin 256) :
    iblk m c 26 t (ix2 0 l) = m ((c : Thread nD τ).loc main_arg21) (ix1 l) := by
  refine (show iblk m c 26 t (ix2 0 l) = V m c main_v19 (ix2 0 l) by blk_ext [iblk, idx_still t]).trans
    ((congrFun (found_lnxb m c) _).trans ?_)
  generalize m ((c : Thread nD τ).loc main_arg21) = v
  pointwise []

/-- The gates' columns as the call finds them. -/
theorem found_wg (c : Dev nD) : V m c main_v1 = (extractStridedSlice S1024x4096 ![0, 3072] (truncf .bf16 ((m ((c : Thread nD τ).loc main_arg13)) : FVec Ideal S1024x7168 .f32) bitsLt_bf16_f32 : FVec Ideal S1024x7168 .bf16) slices_S1024x7168_S1024x4096_0_3072 : FVec Ideal S1024x4096 .bf16) := by
  show StableHlo.after hostOps0 (fun b => m (c, b)) (Proc.devRef .tc main_v1) = _
  simp only [hostOps0, List.flatten_cons, List.flatten_nil, List.append_nil]
  after_results

/-- The block of the gates' columns. -/
theorem blk_wg (c : Dev nD) (t : Fin cfg0.N) (k : Fin 1024) (n : Fin 4096) :
    iblk m c 18 t (ix2 k n) = m ((c : Thread nD τ).loc main_arg13) (ix2 k ⟨3072 + n.val, by omega⟩) := by
  refine (show iblk m c 18 t (ix2 k n) = V m c main_v1 (ix2 k n) by blk_ext [iblk, idx_still t]).trans
    ((congrFun (found_wg m c) _).trans ?_)
  generalize m ((c : Thread nD τ).loc main_arg13) = v
  pointwise []

/-- The branches' matrices as the call finds them. -/
theorem found_wb (c : Dev nD) : V m c main_v2 = (truncf .bf16 ((m ((c : Thread nD τ).loc main_arg14)) : FVec Ideal S4x256x1024 .f32) bitsLt_bf16_f32 : FVec Ideal S4x256x1024 .bf16) := by
  show StableHlo.after hostOps0 (fun b => m (c, b)) (Proc.devRef .tc main_v2) = _
  simp only [hostOps0, List.flatten_cons, List.flatten_nil, List.append_nil]
  after_results

/-- The block of the branches' matrices. -/
theorem blk_wb (c : Dev nD) (t : Fin cfg0.N) (n : Fin 4) (l : Fin 256) (o : Fin 1024) :
    iblk m c 19 t (ix3 n l o) = m ((c : Thread nD τ).loc main_arg14) (ix3 n l o) := by
  refine (show iblk m c 19 t (ix3 n l o) = V m c main_v2 (ix3 n l o) by blk_ext [iblk, idx_still t]).trans
    ((congrFun (found_wb m c) _).trans ?_)
  generalize m ((c : Thread nD τ).loc main_arg14) = v
  pointwise []

/-- The output matrix as the call finds it. -/
theorem found_wo (c : Dev nD) : V m c main_v3 = (truncf .bf16 ((m ((c : Thread nD τ).loc main_arg15)) : FVec Ideal S1024x1024 .f32) bitsLt_bf16_f32 : FVec Ideal S1024x1024 .bf16) := by
  show StableHlo.after hostOps0 (fun b => m (c, b)) (Proc.devRef .tc main_v3) = _
  simp only [hostOps0, List.flatten_cons, List.flatten_nil, List.append_nil]
  after_results

/-- The block of the output matrix. -/
theorem blk_wo (c : Dev nD) (t : Fin cfg0.N) (k o : Fin 1024) :
    iblk m c 20 t (ix2 k o) = m ((c : Thread nD τ).loc main_arg15) (ix2 k o) := by
  refine (show iblk m c 20 t (ix2 k o) = V m c main_v3 (ix2 k o) by blk_ext [iblk, idx_still t]).trans
    ((congrFun (found_wo m c) _).trans ?_)
  generalize m ((c : Thread nD τ).loc main_arg15) = v
  pointwise []

/-- The head of each lane, as words. -/
def heads : IVec S256 32 := Host.divsi (iotaInDim S256 32 0) (broadcastInDim S256 ![] bcast_S_S256 (constantI S_ 32 64#32))

/-- The ones and zeros that pair the lanes of a head. -/
def pairs : FVec Ideal S256x256 .f32 :=
  uitofp .f32 (cmpi .eq (broadcastInDim S256x256 ![0, 1] bcast_S256x1_S256x256_0_1 (broadcastInDim S256x1 ![0] bcast_S256_S256x1_0 heads))
    (broadcastInDim S256x256 ![0, 1] bcast_S1x256_S256x256_0_1 (broadcastInDim S1x256 ![1] bcast_S256_S1x256_1 heads)))

/-- They are what the call finds. -/
theorem found_bd (c : Dev nD) : V m c main_v13 = pairs := by
  show StableHlo.after hostOps0 (fun b => m (c, b)) (Proc.devRef .tc main_v13) = _
  simp only [hostOps0, List.flatten_cons, List.flatten_nil, List.append_nil]
  after_results
  rfl

/-- The head of a lane is its number over 64. -/
theorem heads_apply (l : Fin 256) : heads (ix1 l) = BitVec.ofNat 32 (l.val / 64) := by
  have h : ∀ l : Fin 256, IntOp.divsi ArithUnit.host (BitVec.ofNat 32 l.val) 64#32 = BitVec.ofNat 32 (l.val / 64) := by decide +kernel
  refine Eq.trans ?_ (h l)
  pointwise [heads]

/-- One where the heads agree, zero elsewhere. -/
theorem pairs_apply (j l : Fin 256) : pairs (ix2 j l) = if j.val / 64 = l.val / 64 then 1 else 0 := by
  have hj := heads_apply j
  have hl := heads_apply l
  unfold pairs
  generalize heads = v at hj hl ⊢
  pointwise []
  rw [hj, hl]
  have hw : ∀ a b : Fin 4, IntOp.cmpi CmpIPredicate.eq (BitVec.ofNat 32 a.val) (BitVec.ofNat 32 b.val) = if a.val = b.val then 1#1 else 0#1 := by decide
  have e := hw ⟨j.val / 64, by omega⟩ ⟨l.val / 64, by omega⟩
  refine (congrArg (fun w : BitVec 1 => (FloatOps.uitofp FTy.f32 w : Ideal .f32)) e).trans ?_
  show (FloatOps.uitofp FTy.f32 (if j.val / 64 = l.val / 64 then 1#1 else 0#1) : Ideal .f32) = _
  by_cases hh : j.val / 64 = l.val / 64
  · rw [if_pos hh, if_pos hh]
    show (((1#1 : BitVec 1).toNat : ℝ) : EReal) = 1
    simp
  · rw [if_neg hh, if_neg hh]
    show (((0#1 : BitVec 1).toNat : ℝ) : EReal) = 0
    simp

/-- The block of ones and zeros. -/
theorem blk_bd (c : Dev nD) (t : Fin cfg0.N) (j l : Fin 256) :
    iblk m c 27 t (ix2 j l) = (if j.val / 64 = l.val / 64 then 1 else 0 : EReal) :=
  (show iblk m c 27 t (ix2 j l) = V m c main_v13 (ix2 j l) by blk_ext [iblk, idx_still t]).trans
    ((congrFun (found_bd m c) _).trans (pairs_apply j l))

end Cert.Kernel6Ideal.Blocks

end
-- ==== Proof.MergeHeads.lean ====
/- The kernel's normalised recurrence and second branch, element by element. -/
module

public import proofs.«01_k».proof.Proof.Gen.Kernel6Ideal.Skeleton
public import proofs.«01_k».proof.Proof.MergeRow
public import Idealize.ShloMosaic.Lib.Pointwise

@[expose] public section

set_option maxRecDepth 16384

noncomputable section

namespace Cert.Kernel6Ideal.Heads

open Idealize.ShloMosaic Idealize.ShloMosaic.TcCoe Cert.Kernel6Ideal Cert.Kernel6Ideal.Gen Cert.Merge

/-- Row `r` of two images' rows, one image after the other. -/
def flat {φ : FTy} {n : ℕ} (v : FVec Ideal ⟨3, ![2, 256, n]⟩ φ) (r : Fin 512) (l : Fin n) : EReal :=
  v (ix3 ⟨r.val / 256, by omega⟩ ⟨r.val % 256, by omega⟩ l)

/-- The only row of an array of one row. -/
def only {φ : FTy} {n : ℕ} (v : FVec Ideal ⟨2, ![1, n]⟩ φ) (l : Fin n) : EReal := v (ix2 0 l)

/-- The recurrence's result normalised and scaled. -/
theorem pay2_apply (yf yr : FVec Ideal S2x256x256 .f32) (bd : FVec Ideal S256x256 .f32) (g : FVec Ideal S1x256 .f32) (r : Fin 512) (l : Fin 256) :
    k0_pay2 (F := Ideal) yf yr bd g (ix2 r l)
      = cenK (fun j => flat yf r j + flat yr r j) (fun j k => bd (ix2 j k)) l
        * Ideal.rsqrt (headK (fun j => cenK (fun j => flat yf r j + flat yr r j) (fun j k => bd (ix2 j k)) j * cenK (fun j => flat yf r j + flat yr r j) (fun j k => bd (ix2 j k)) j) (fun j k => bd (ix2 j k)) l
          * Ideal.ofBits .f32 0x3C800000#32 + Ideal.ofBits .f32 0x3A27C5AC#32) * only g l := by
  pointwise [k0_pay2, headK, cenK, flat, only]

/-- The first branch at an element. -/
theorem pay4_apply (v : FVec Ideal S512x256 .f32) (b : FVec Ideal S1x256 .f32) (bon rg : FVec Ideal S2x256x256 .f32) (r : Fin 512) (l : Fin 256) :
    k0_pay4 (F := Ideal) v (k0_pay3 b) bon rg (ix2 r l) = (v (ix2 r l) + only b l + flat bon r l) * flat rg r l := by
  pointwise [k0_pay4, k0_pay3, flat, only]

/-- The second branch at an element. -/
theorem pay5_apply (x0 : FVec Ideal S2x256x256 .bf16) (yc : FVec Ideal S2x256x256 .f32) (u : FVec Ideal S2x256x256 .bf16) (skip : FVec Ideal S1x256 .f32)
    (r : Fin 512) (l : Fin 256) :
    k0_pay5 (F := Ideal) x0 yc u skip (ix2 r l) = yb (flat x0 r) (flat yc r) (flat u r) (only skip) l := by
  pointwise [k0_pay5, yb, flat, only]

/-- The third branch at an element. -/
theorem pay6_apply (y : FVec Ideal S2x256x256 .bf16) (r : Fin 512) (l : Fin 256) : k0_pay6 (F := Ideal) y (ix2 r l) = flat y r l := by
  pointwise [k0_pay6, flat]

/-- The fourth branch at an element. -/
theorem pay7_apply (y : FVec Ideal S2x256x256 .bf16) (r : Fin 512) (l : Fin 256) : k0_pay7 (F := Ideal) y (ix2 r l) = flat y r l := by
  pointwise [k0_pay7, flat]

/-- The gated branches, added, at an element. -/
theorem pay9_apply (a b c d : FVec Ideal S512x256 .bf16) (h : FVec Ideal S512x1024 .bf16) (w0 w1 w2 w3 : FVec Ideal S1024x1024 .bf16)
    (v0 v1 v2 v3 : FVec Ideal S1x256x1024 .bf16) (r : Fin 512) (o : Fin 1024) :
    k0_pay9 (F := Ideal) a b c d h (k0_pay8 w0) (constant S512x1024 .f32 0x00000000#32) v0 w1 v1 w2 v2 w3 v3 (ix2 r o)
      = part (fun k => h (ix2 r k)) (fun k => w0 (ix2 k o)) (fun l => a (ix2 r l)) (fun l => v0 (ix3 0 l o))
        + part (fun k => h (ix2 r k)) (fun k => w1 (ix2 k o)) (fun l => b (ix2 r l)) (fun l => v1 (ix3 0 l o))
        + part (fun k => h (ix2 r k)) (fun k => w2 (ix2 k o)) (fun l => c (ix2 r l)) (fun l => v2 (ix3 0 l o))
        + part (fun k => h (ix2 r k)) (fun k => w3 (ix2 k o)) (fun l => d (ix2 r l)) (fun l => v3 (ix3 0 l o)) := by
  pointwise [k0_pay9, k0_pay8, part]

/-- A row of the first image before the layer norms and after the first of them. -/
theorem pay11_apply (mg : FVec Ideal S512x1024 .bf16) (wo : FVec Ideal S1024x1024 .bf16) (x : FVec Ideal S1x256x1024 .f32) (ga : FVec Ideal S1x1x1024 .f32)
    (g b : FVec Ideal S1x1024 .f32) (q : Fin 256) (o : Fin 1024) :
    k0_pay11 (F := Ideal) mg wo x ga g b (ix2 q o)
      = scaled (resid (fun k => x (ix3 0 q k)) (fun k => ga (ix3 0 0 k)) (fun k => mg (ix2 ⟨q.val, by omega⟩ k)) (fun k n => wo (ix2 k n)))
          (only g) (only b) o := by
  pointwise [k0_pay11, k0_pay10, scaled, normed, mean, resid, only]

/-- The second layer norm of the first image's rows. -/
theorem pay14_apply (mg : FVec Ideal S512x1024 .bf16) (wo : FVec Ideal S1024x1024 .bf16) (x : FVec Ideal S1x256x1024 .f32) (ga : FVec Ideal S1x1x1024 .f32)
    (g b : FVec Ideal S1x1024 .f32) (sc sh : FVec Ideal S1x1x1024 .f32) (q : Fin 256) (o : Fin 1024) :
    k0_pay16 (F := Ideal) (k0_pay11 mg wo x ga g b) (k0_pay12 mg wo x ga g b) k0_pay13 sc sh (ix3 0 q o)
      = modulated (fun k => k0_pay11 (F := Ideal) mg wo x ga g b (ix2 q k)) (fun k => sh (ix3 0 0 k)) (fun k => sc (ix3 0 0 k)) o := by
  unfold k0_pay12
  generalize k0_pay11 (F := Ideal) mg wo x ga g b = y
  pointwise [k0_pay16, k0_pay14, k0_pay13, modulated, normed, mean]

/-- The first image's rows as they are stored. -/
theorem pay15_apply (y : FVec Ideal S256x1024 .f32) (q : Fin 256) (o : Fin 1024) : k0_pay15 (F := Ideal) y (ix3 0 q o) = y (ix2 q o) := by
  pointwise [k0_pay15]

/-- A row of the second image before the layer norms and after the first of them. -/
theorem pay182_apply (mg : FVec Ideal S512x1024 .bf16) (wo : FVec Ideal S1024x1024 .bf16) (x : FVec Ideal S1x256x1024 .f32) (ga : FVec Ideal S1x1x1024 .f32)
    (g b : FVec Ideal S1x1024 .f32) (q : Fin 256) (o : Fin 1024) :
    k0_pay182 (F := Ideal) (k0_pay180 (k0_pay10 mg wo) x ga) (k0_pay181 (k0_pay10 mg wo) x ga) g b (ix2 q o)
      = scaled (resid (fun k => x (ix3 0 q k)) (fun k => ga (ix3 0 0 k)) (fun k => mg (ix2 ⟨256 + q.val, by omega⟩ k)) (fun k n => wo (ix2 k n)))
          (only g) (only b) o := by
  pointwise [k0_pay182, k0_pay181, k0_pay180, k0_pay10, scaled, normed, mean, resid, only]

/-- The second layer norm of the second image's rows. -/
theorem pay186_apply (a c : FVec Ideal S256x1024 .f32) (g b : FVec Ideal S1x1024 .f32) (sc sh : FVec Ideal S1x1x1024 .f32) (q : Fin 256) (o : Fin 1024) :
    k0_pay186 (F := Ideal) (k0_pay183 a c g b sc) sh (ix3 0 q o)
      = modulated (fun k => k0_pay182 (F := Ideal) a c g b (ix2 q k)) (fun k => sh (ix3 0 0 k)) (fun k => sc (ix3 0 0 k)) o := by
  unfold k0_pay183
  generalize k0_pay182 (F := Ideal) a c g b = y
  pointwise [k0_pay186, k0_pay184, modulated, normed, mean]

/-- The second image's rows as they are stored. -/
theorem pay185_apply (y : FVec Ideal S256x1024 .f32) (q : Fin 256) (o : Fin 1024) : k0_pay185 (F := Ideal) y (ix3 0 q o) = y (ix2 q o) := by
  pointwise [k0_pay185]

end Cert.Kernel6Ideal.Heads

end
-- ==== Proof.MergeStore.lean ====
/- What the merge kernel stores: the gated sum of one step's rows and the two results of both sequences. -/
module

public import proofs.«01_k».proof.Proof.MergeHeads
public import proofs.«01_k».proof.Proof.MergeSpec
public import Idealize.ShloMosaic.Lib.Pipeline.ValueKit

@[expose] public section

set_option maxRecDepth 16384

noncomputable section

namespace Cert.Kernel6Ideal.Heads

open Idealize.ShloMosaic Idealize.ShloMosaic.TcCoe Cert.Kernel6Ideal Cert.Kernel6Ideal.Gen Cert.Merge

/-- Row `q` of image `k` among the rows of both. -/
def rowIn (k : Fin 2) (q : Fin 256) : Fin 512 := ⟨256 * k.val + q.val, by omega⟩

/-- That row of two images' rows. -/
theorem flat_rowIn {φ : FTy} {n : ℕ} (v : FVec Ideal ⟨3, ![2, 256, n]⟩ φ) (k : Fin 2) (q : Fin 256) :
    flat v (rowIn k q) = fun l => v (ix3 k q l) := by
  funext l
  have h1 : (⟨(256 * k.val + q.val) / 256, by omega⟩ : Fin 2) = k := Fin.ext (show (256 * k.val + q.val) / 256 = k.val by omega)
  have h2 : (⟨(256 * k.val + q.val) % 256, by omega⟩ : Fin 256) = q := Fin.ext (show (256 * k.val + q.val) % 256 = q.val by omega)
  exact congrArg₂ (fun (a : Fin 2) (b : Fin 256) => v (ix3 a b l)) h1 h2

/-- The gate matrix's columns of branch 0. -/
theorem gate_cols0 (w : FVec Ideal S1024x4096 .bf16) (k o : Fin 1024) :
    View.ld (Val := Elt Ideal) (S := S1024x4096) (e' := .bf16) w (Rect.unit (s := S1024x4096) ![0, 0] ![1024, 1024] inb_S1024x4096_S1024x1024_0_0) (ix2 k o) = w (ix2 k ⟨0 * 1024 + o.val, by omega⟩) := by
  pointwise []

/-- The matrix of branch 0. -/
theorem branch0 (w : FVec Ideal S4x256x1024 .bf16) (l : Fin 256) (o : Fin 1024) :
    View.ld (Val := Elt Ideal) (S := S4x256x1024) (e' := .bf16) w (Rect.unit (s := S4x256x1024) ![0, 0, 0] ![1, 256, 1024] inb_S4x256x1024_S1x256x1024_0_0_0) (ix3 0 l o) = w (ix3 0 l o) := by
  pointwise []

/-- The gate matrix's columns of branch 1. -/
theorem gate_cols1 (w : FVec Ideal S1024x4096 .bf16) (k o : Fin 1024) :
    View.ld (Val := Elt Ideal) (S := S1024x4096) (e' := .bf16) w (Rect.unit (s := S1024x4096) ![0, 1024] ![1024, 1024] inb_S1024x4096_S1024x1024_0_1024) (ix2 k o) = w (ix2 k ⟨1 * 1024 + o.val, by omega⟩) := by
  pointwise []

/-- The matrix of branch 1. -/
theorem branch1 (w : FVec Ideal S4x256x1024 .bf16) (l : Fin 256) (o : Fin 1024) :
    View.ld (Val := Elt Ideal) (S := S4x256x1024) (e' := .bf16) w (Rect.unit (s := S4x256x1024) ![1, 0, 0] ![1, 256, 1024] inb_S4x256x1024_S1x256x1024_1_0_0) (ix3 0 l o) = w (ix3 1 l o) := by
  pointwise []

/-- The gate matrix's columns of branch 2. -/
theorem gate_cols2 (w : FVec Ideal S1024x4096 .bf16) (k o : Fin 1024) :
    View.ld (Val := Elt Ideal) (S := S1024x4096) (e' := .bf16) w (Rect.unit (s := S1024x4096) ![0, 2048] ![1024, 1024] inb_S1024x4096_S1024x1024_0_2048) (ix2 k o) = w (ix2 k ⟨2 * 1024 + o.val, by omega⟩) := by
  pointwise []

/-- The matrix of branch 2. -/
theorem branch2 (w : FVec Ideal S4x256x1024 .bf16) (l : Fin 256) (o : Fin 1024) :
    View.ld (Val := Elt Ideal) (S := S4x256x1024) (e' := .bf16) w (Rect.unit (s := S4x256x1024) ![2, 0, 0] ![1, 256, 1024] inb_S4x256x1024_S1x256x1024_2_0_0) (ix3 0 l o) = w (ix3 2 l o) := by
  pointwise []

/-- The gate matrix's columns of branch 3. -/
theorem gate_cols3 (w : FVec Ideal S1024x4096 .bf16) (k o : Fin 1024) :
    View.ld (Val := Elt Ideal) (S := S1024x4096) (e' := .bf16) w (Rect.unit (s := S1024x4096) ![0, 3072] ![1024, 1024] inb_S1024x4096_S1024x1024_0_3072) (ix2 k o) = w (ix2 k ⟨3 * 1024 + o.val, by omega⟩) := by
  pointwise []

/-- The matrix of branch 3. -/
theorem branch3 (w : FVec Ideal S4x256x1024 .bf16) (l : Fin 256) (o : Fin 1024) :
    View.ld (Val := Elt Ideal) (S := S4x256x1024) (e' := .bf16) w (Rect.unit (s := S4x256x1024) ![3, 0, 0] ![1, 256, 1024] inb_S4x256x1024_S1x256x1024_3_0_0) (ix3 0 l o) = w (ix3 3 l o) := by
  pointwise []

/-- The input rows of image 0. -/
theorem image0 (x : FVec Ideal S2x256x1024 .f32) (q : Fin 256) (o : Fin 1024) :
    View.ld (Val := Elt Ideal) (S := S2x256x1024) (e' := .f32) x (Rect.unit (s := S2x256x1024) ![0, 0, 0] ![1, 256, 1024] inb_S2x256x1024_S1x256x1024_0_0_0) (ix3 0 q o) = x (ix3 0 q o) := by
  pointwise []

/-- The input rows of image 1. -/
theorem image1 (x : FVec Ideal S2x256x1024 .f32) (q : Fin 256) (o : Fin 1024) :
    View.ld (Val := Elt Ideal) (S := S2x256x1024) (e' := .f32) x (Rect.unit (s := S2x256x1024) ![1, 0, 0] ![1, 256, 1024] inb_S2x256x1024_S1x256x1024_1_0_0) (ix3 0 q o) = x (ix3 1 q o) := by
  pointwise []

/-- The gated sum of a step's rows, as the kernel takes it from its input blocks. -/
def gated (x0 x1 x2 x3 : FVec Ideal S2x256x256 .f32) (x4 x5 : FVec Ideal S2x256x256 .bf16) (x6 : FVec Ideal S2x256x256 .f32)
    (x7 x8 : FVec Ideal S2x256x256 .bf16) (hh : FVec Ideal S512x1024 .bf16) (x17 : FVec Ideal S1x256 .f32) (x18 : FVec Ideal S1024x4096 .bf16)
    (x19 : FVec Ideal S4x256x1024 .bf16) (x25 x26 : FVec Ideal S1x256 .f32) (x27 : FVec Ideal S256x256 .f32) : FVec Ideal S512x1024 .bf16 :=
  k0_pay9 (F := Ideal) (k0_pay4 (k0_pay2 x0 x1 x27 x25) (k0_pay3 x26) x3 x2) (k0_pay5 x4 x6 x5 x17) (k0_pay6 x7) (k0_pay7 x8) hh
    (k0_pay8 (View.ld (Val := Elt Ideal) (S := S1024x4096) (e' := .bf16) x18 (Rect.unit (s := S1024x4096) ![0, 0] ![1024, 1024] inb_S1024x4096_S1024x1024_0_0))) (constant S512x1024 .f32 0x00000000#32)
    (View.ld (Val := Elt Ideal) (S := S4x256x1024) (e' := .bf16) x19 (Rect.unit (s := S4x256x1024) ![0, 0, 0] ![1, 256, 1024] inb_S4x256x1024_S1x256x1024_0_0_0))
    (View.ld (Val := Elt Ideal) (S := S1024x4096) (e' := .bf16) x18 (Rect.unit (s := S1024x4096) ![0, 1024] ![1024, 1024] inb_S1024x4096_S1024x1024_0_1024))
    (View.ld (Val := Elt Ideal) (S := S4x256x1024) (e' := .bf16) x19 (Rect.unit (s := S4x256x1024) ![1, 0, 0] ![1, 256, 1024] inb_S4x256x1024_S1x256x1024_1_0_0))
    (View.ld (Val := Elt Ideal) (S := S1024x4096) (e' := .bf16) x18 (Rect.unit (s := S1024x4096) ![0, 2048] ![1024, 1024] inb_S1024x4096_S1024x1024_0_2048))
    (View.ld (Val := Elt Ideal) (S := S4x256x1024) (e' := .bf16) x19 (Rect.unit (s := S4x256x1024) ![2, 0, 0] ![1, 256, 1024] inb_S4x256x1024_S1x256x1024_2_0_0))
    (View.ld (Val := Elt Ideal) (S := S1024x4096) (e' := .bf16) x18 (Rect.unit (s := S1024x4096) ![0, 3072] ![1024, 1024] inb_S1024x4096_S1024x1024_0_3072))
    (View.ld (Val := Elt Ideal) (S := S4x256x1024) (e' := .bf16) x19 (Rect.unit (s := S4x256x1024) ![3, 0, 0] ![1, 256, 1024] inb_S4x256x1024_S1x256x1024_3_0_0))

/-- The four branches of row `q` of image `k`. -/
def branches (x0 x1 x2 x3 : FVec Ideal S2x256x256 .f32) (x4 x5 : FVec Ideal S2x256x256 .bf16) (x6 : FVec Ideal S2x256x256 .f32)
    (x7 x8 : FVec Ideal S2x256x256 .bf16) (x17 x25 x26 : FVec Ideal S1x256 .f32) (k : Fin 2) (q : Fin 256) (n : Fin 4) : Fin 256 → EReal :=
  match n with
  | 0 => ya (fun l => x0 (ix3 k q l) + x1 (ix3 k q l)) (only x25) (only x26) (fun l => x3 (ix3 k q l)) (fun l => x2 (ix3 k q l))
  | 1 => yb (fun l => x4 (ix3 k q l)) (fun l => x6 (ix3 k q l)) (fun l => x5 (ix3 k q l)) (only x17)
  | 2 => fun l => x7 (ix3 k q l)
  | 3 => fun l => x8 (ix3 k q l)

/-- The first branch, for real recurrences, is the normalised one. -/
theorem first_branch (x0 x1 x2 x3 : FVec Ideal S2x256x256 .f32) (x25 x26 : FVec Ideal S1x256 .f32) (x27 : FVec Ideal S256x256 .f32) (k : Fin 2) (q : Fin 256)
    (hy : ∀ l, ∃ r : ℝ, x0 (ix3 k q l) + x1 (ix3 k q l) = (r : EReal))
    (hbd : ∀ j l : Fin 256, x27 (ix2 j l) = (if j.val / 64 = l.val / 64 then 1 else 0 : EReal)) (l : Fin 256) :
    k0_pay4 (F := Ideal) (k0_pay2 x0 x1 x27 x25) (k0_pay3 x26) x3 x2 (ix2 (rowIn k q) l)
      = ya (fun l => x0 (ix3 k q l) + x1 (ix3 k q l)) (only x25) (only x26) (fun l => x3 (ix3 k q l)) (fun l => x2 (ix3 k q l)) l := by
  rw [pay4_apply, pay2_apply, flat_rowIn, flat_rowIn, flat_rowIn, flat_rowIn]
  unfold ya
  rw [cenK_eq hy _ hbd, squareK_eq hy _ hbd]

/-- The gated sum at an element. -/
theorem gated_apply (x0 x1 x2 x3 : FVec Ideal S2x256x256 .f32) (x4 x5 : FVec Ideal S2x256x256 .bf16) (x6 : FVec Ideal S2x256x256 .f32)
    (x7 x8 : FVec Ideal S2x256x256 .bf16) (hh : FVec Ideal S512x1024 .bf16) (x17 : FVec Ideal S1x256 .f32) (x18 : FVec Ideal S1024x4096 .bf16)
    (x19 : FVec Ideal S4x256x1024 .bf16) (x25 x26 : FVec Ideal S1x256 .f32) (x27 : FVec Ideal S256x256 .f32) (k : Fin 2) (q : Fin 256) (h : Fin 1024 → EReal)
    (hrow : ∀ j, hh (ix2 (rowIn k q) j) = h j)
    (hy : ∀ l, ∃ r : ℝ, x0 (ix3 k q l) + x1 (ix3 k q l) = (r : EReal))
    (hbd : ∀ j l : Fin 256, x27 (ix2 j l) = (if j.val / 64 = l.val / 64 then 1 else 0 : EReal)) (o : Fin 1024) :
    gated x0 x1 x2 x3 x4 x5 x6 x7 x8 hh x17 x18 x19 x25 x26 x27 (ix2 (rowIn k q) o)
      = merged h (fun n j o => x18 (ix2 j ⟨n.val * 1024 + o.val, by omega⟩)) (branches x0 x1 x2 x3 x4 x5 x6 x7 x8 x17 x25 x26 k q)
          (fun n l o => x19 (ix3 n l o)) o := by
  have ea : (fun l => k0_pay4 (F := Ideal) (k0_pay2 x0 x1 x27 x25) (k0_pay3 x26) x3 x2 (ix2 (rowIn k q) l))
      = branches x0 x1 x2 x3 x4 x5 x6 x7 x8 x17 x25 x26 k q 0 := funext fun l => first_branch x0 x1 x2 x3 x25 x26 x27 k q hy hbd l
  have eb : (fun l => k0_pay5 (F := Ideal) x4 x6 x5 x17 (ix2 (rowIn k q) l)) = branches x0 x1 x2 x3 x4 x5 x6 x7 x8 x17 x25 x26 k q 1 :=
    funext fun l => by rw [pay5_apply, flat_rowIn, flat_rowIn, flat_rowIn]; rfl
  have ec : (fun l => k0_pay6 (F := Ideal) x7 (ix2 (rowIn k q) l)) = branches x0 x1 x2 x3 x4 x5 x6 x7 x8 x17 x25 x26 k q 2 :=
    funext fun l => by rw [pay6_apply, flat_rowIn]; rfl
  have ed : (fun l => k0_pay7 (F := Ideal) x8 (ix2 (rowIn k q) l)) = branches x0 x1 x2 x3 x4 x5 x6 x7 x8 x17 x25 x26 k q 3 :=
    funext fun l => by rw [pay7_apply, flat_rowIn]; rfl
  have eh : (fun j => hh (ix2 (rowIn k q) j)) = h := funext hrow
  unfold gated
  rw [pay9_apply, ea, eb, ec, ed, eh]
  have p0 := congrArg₂ (fun w v => part h w (branches x0 x1 x2 x3 x4 x5 x6 x7 x8 x17 x25 x26 k q 0) v) (funext fun j => gate_cols0 x18 j o) (funext fun l => branch0 x19 l o)
  have p1 := congrArg₂ (fun w v => part h w (branches x0 x1 x2 x3 x4 x5 x6 x7 x8 x17 x25 x26 k q 1) v) (funext fun j => gate_cols1 x18 j o) (funext fun l => branch1 x19 l o)
  have p2 := congrArg₂ (fun w v => part h w (branches x0 x1 x2 x3 x4 x5 x6 x7 x8 x17 x25 x26 k q 2) v) (funext fun j => gate_cols2 x18 j o) (funext fun l => branch2 x19 l o)
  have p3 := congrArg₂ (fun w v => part h w (branches x0 x1 x2 x3 x4 x5 x6 x7 x8 x17 x25 x26 k q 3) v) (funext fun j => gate_cols3 x18 j o) (funext fun l => branch3 x19 l o)
  exact congrArg₂ (HAdd.hAdd (α := EReal) (β := EReal) (γ := EReal)) (congrArg₂ (HAdd.hAdd (α := EReal) (β := EReal) (γ := EReal))
    (congrArg₂ (HAdd.hAdd (α := EReal) (β := EReal) (γ := EReal)) p0 p1) p2) p3

/-- The residual of row `q` of image `k`. -/
def residIn (mg : FVec Ideal S512x1024 .bf16) (wo : FVec Ideal S1024x1024 .bf16) (x : FVec Ideal S2x256x1024 .f32) (ga : FVec Ideal S1x1x1024 .f32)
    (k : Fin 2) (q : Fin 256) : Fin 1024 → EReal :=
  resid (fun j => x (ix3 k q j)) (fun j => ga (ix3 0 0 j)) (fun j => mg (ix2 (rowIn k q) j)) (fun j n => wo (ix2 j n))

/-- The first image's first result, element by element. -/
theorem first0 (mg : FVec Ideal S512x1024 .bf16) (wo : FVec Ideal S1024x1024 .bf16) (x : FVec Ideal S2x256x1024 .f32) (ga : FVec Ideal S1x1x1024 .f32)
    (g b : FVec Ideal S1x1024 .f32) (q : Fin 256) (o : Fin 1024) :
    k0_pay11 (F := Ideal) mg wo (View.ld (Val := Elt Ideal) (S := S2x256x1024) (e' := .f32) x (Rect.unit (s := S2x256x1024) ![0, 0, 0] ![1, 256, 1024] inb_S2x256x1024_S1x256x1024_0_0_0)) ga g b (ix2 q o)
      = scaled (residIn mg wo x ga 0 q) (only g) (only b) o := by
  have hr : (⟨q.val, by omega⟩ : Fin 512) = rowIn 0 q := Fin.ext (show q.val = 256 * 0 + q.val by omega)
  rw [pay11_apply, hr]
  exact congrArg (fun f => scaled (resid f (fun j => ga (ix3 0 0 j)) (fun j => mg (ix2 (rowIn 0 q) j)) (fun j n => wo (ix2 j n))) (only g) (only b) o)
    (funext fun j => image0 x q j)

/-- The second image's first result, element by element. -/
theorem first1 (mg : FVec Ideal S512x1024 .bf16) (wo : FVec Ideal S1024x1024 .bf16) (x : FVec Ideal S2x256x1024 .f32) (ga : FVec Ideal S1x1x1024 .f32)
    (g b : FVec Ideal S1x1024 .f32) (q : Fin 256) (o : Fin 1024) :
    k0_pay182 (F := Ideal)
        (k0_pay180 (k0_pay10 mg wo) (View.ld (Val := Elt Ideal) (S := S2x256x1024) (e' := .f32) x (Rect.unit (s := S2x256x1024) ![1, 0, 0] ![1, 256, 1024] inb_S2x256x1024_S1x256x1024_1_0_0)) ga)
        (k0_pay181 (k0_pay10 mg wo) (View.ld (Val := Elt Ideal) (S := S2x256x1024) (e' := .f32) x (Rect.unit (s := S2x256x1024) ![1, 0, 0] ![1, 256, 1024] inb_S2x256x1024_S1x256x1024_1_0_0)) ga) g b (ix2 q o)
      = scaled (residIn mg wo x ga 1 q) (only g) (only b) o := by
  have hr : (⟨256 + q.val, by omega⟩ : Fin 512) = rowIn 1 q := Fin.ext (show 256 + q.val = 256 * 1 + q.val by omega)
  rw [pay182_apply, hr]
  exact congrArg (fun f => scaled (resid f (fun j => ga (ix3 0 0 j)) (fun j => mg (ix2 (rowIn 1 q) j)) (fun j n => wo (ix2 j n))) (only g) (only b) o)
    (funext fun j => image1 x q j)

/-- Two stores, one for each image: the second image's rows are the second store's. -/
theorem pieces1 {e : EltTy} (a b : S1x256x1024.Idx → Elt Ideal e) (q : Fin 256) (o : Fin 1024) :
    View.canon (Val := Elt Ideal) (s := S2x256x1024) (e := e) [⟨Rect.unit ![1, 0, 0] ![1, 256, 1024] inb_S2x256x1024_S1x256x1024_1_0_0, a⟩,
      ⟨Rect.unit ![0, 0, 0] ![1, 256, 1024] inb_S2x256x1024_S1x256x1024_0_0_0, b⟩] (ix3 1 q o) = a (ix3 0 q o) := by
  have he : (ix3 1 q o : S2x256x1024.Idx) = (Rect.unit (s := S2x256x1024) ![1, 0, 0] ![1, 256, 1024] inb_S2x256x1024_S1x256x1024_1_0_0).emb (ix3 0 q o) := by
    funext d; fin_cases d <;> apply Fin.ext <;> simp
  rw [he]
  exact View.canon_cons_emb _ _ _ _

/-- The first image's rows are the first store's. -/
theorem pieces0 {e : EltTy} (a b : S1x256x1024.Idx → Elt Ideal e) (q : Fin 256) (o : Fin 1024) :
    View.canon (Val := Elt Ideal) (s := S2x256x1024) (e := e) [⟨Rect.unit ![1, 0, 0] ![1, 256, 1024] inb_S2x256x1024_S1x256x1024_1_0_0, a⟩,
      ⟨Rect.unit ![0, 0, 0] ![1, 256, 1024] inb_S2x256x1024_S1x256x1024_0_0_0, b⟩] (ix3 0 q o) = b (ix3 0 q o) := by
  have he : (ix3 0 q o : S2x256x1024.Idx) = (Rect.unit (s := S2x256x1024) ![0, 0, 0] ![1, 256, 1024] inb_S2x256x1024_S1x256x1024_0_0_0).emb (ix3 0 q o) := by
    funext d; fin_cases d <;> apply Fin.ext <;> simp
  refine (View.canon_cons_of_not_mem _ _ ?_).trans ?_
  · intro hm
    obtain ⟨x, hx⟩ := LoadRect.exists_idx_of_mem _ hm
    have h0 := congrArg Fin.val (congrFun hx 0)
    simp at h0
  · rw [he]
    exact View.canon_cons_emb _ _ _ _

end Cert.Kernel6Ideal.Heads

end
-- ==== Proof.MergeStep.lean ====
/- One grid step of the merge: what it stores, in terms of the arguments. -/
module

public import proofs.«01_k».proof.Proof.MergeBlocks
public import proofs.«01_k».proof.Proof.MergeStore
public import Idealize.ShloMosaic.Lib.Pipeline.Frame

@[expose] public section

set_option maxRecDepth 16384

noncomputable section

namespace Cert.Kernel6Ideal.Step

open Idealize.ShloMosaic Idealize.ShloMosaic.TcCoe Cert.Kernel6Ideal Cert.Kernel6Ideal.Gen Cert.Kernel6Ideal.Blocks Cert.Kernel6Ideal.Heads Cert.Merge

variable (m : (ℓ : Loc nD τ sig) → Buf (Elt Ideal) ℓ)

/-- The kernel's arguments that its two results depend on. -/
def given (c : Dev nD) : In where
  yf := m ((c : Thread nD τ).loc main_arg0)
  yr := m ((c : Thread nD τ).loc main_arg1)
  rg := m ((c : Thread nD τ).loc main_arg2)
  bon := m ((c : Thread nD τ).loc main_arg3)
  x0 := m ((c : Thread nD τ).loc main_arg4)
  u := m ((c : Thread nD τ).loc main_arg5)
  yconv := m ((c : Thread nD τ).loc main_arg6)
  ycv := m ((c : Thread nD τ).loc main_arg7)
  yd := m ((c : Thread nD τ).loc main_arg8)
  h := m ((c : Thread nD τ).loc main_arg9)
  x := m ((c : Thread nD τ).loc main_arg10)
  mod3 := m ((c : Thread nD τ).loc main_arg11)
  skip := m ((c : Thread nD τ).loc main_arg12)
  win := m ((c : Thread nD τ).loc main_arg13)
  wb := m ((c : Thread nD τ).loc main_arg14)
  wo := m ((c : Thread nD τ).loc main_arg15)
  lng := m ((c : Thread nD τ).loc main_arg16)
  lnb := m ((c : Thread nD τ).loc main_arg17)
  lnxg := m ((c : Thread nD τ).loc main_arg20)
  lnxb := m ((c : Thread nD τ).loc main_arg21)

/-- Two images' rows read as rows of one array. -/
theorem joined (a : Memref sig .tc .vmem S2x256x1024 .bf16) (ha : a.IsWhole) (hs) (x : FVec Ideal S2x256x1024 .bf16) (k : Fin 2) (q : Fin 256) (j : Fin 1024) :
    View.read (Elt Ideal) (a.view.reshape S512x1024 hs) (ha.unread x) (ix2 (rowIn k q) j) = x (ix3 k q j) := by
  have e : View.read (Elt Ideal) (a.view.reshape S512x1024 hs) (ha.unread x) = shapeCast S512x1024 (View.read (Elt Ideal) a.view (ha.unread x)) (by decide) := rfl
  rw [e, ha.read_unread]
  have hf := congrFun (flat_rowIn (φ := .bf16) x k q) j
  rw [← hf]
  pointwise [flat]

/-- The first branch depends on its five rows only. -/
theorem ya_congr {y y' g g' b b' bon bon' rg rg' : Fin 256 → EReal} (h1 : y = y') (h2 : g = g') (h3 : b = b') (h4 : bon = bon') (h5 : rg = rg') :
    ya y g b bon rg = ya y' g' b' bon' rg' := by
  rw [h1, h2, h3, h4, h5]

/-- The second branch depends on its four rows only. -/
theorem yb_congr {x x' y y' u u' s s' : Fin 256 → EReal} (h1 : x = x') (h2 : y = y') (h3 : u = u') (h4 : s = s') : yb x y u s = yb x' y' u' s' := by
  rw [h1, h2, h3, h4]

/-- The branches of a step's row are the branches of its position. -/
theorem branches_step (c : Dev nD) (t : Fin cfg0.N) (k : Fin 2) (q : Fin 256) :
    branches (iblk m c 0 t) (iblk m c 1 t) (iblk m c 2 t) (iblk m c 3 t) (iblk m c 4 t) (iblk m c 5 t) (iblk m c 6 t) (iblk m c 7 t) (iblk m c 8 t)
        (iblk m c 17 t) (iblk m c 25 t) (iblk m c 26 t) k q
      = rows (given m c) (seqOf t k) (posOf t q) := by
  funext n
  match n with
  | 0 =>
    exact ya_congr (funext fun l => congrArg₂ (HAdd.hAdd (α := EReal) (β := EReal) (γ := EReal)) (blk_yf m c t k q l) (blk_yr m c t k q l))
      (funext fun l => blk_lnxg m c t l) (funext fun l => blk_lnxb m c t l) (funext fun l => blk_bon m c t k q l) (funext fun l => blk_rg m c t k q l)
  | 1 =>
    exact yb_congr (funext fun l => blk_x0 m c t k q l) (funext fun l => blk_yconv m c t k q l) (funext fun l => blk_u m c t k q l)
      (funext fun l => blk_skip m c t l)
  | 2 => exact funext fun l => blk_ycv m c t k q l
  | 3 => exact funext fun l => blk_yd m c t k q l

/-- The gated sum depends on its rows and matrices only. -/
theorem merged_congr {h : Fin 1024 → EReal} {wg wg' : Fin 4 → Fin 1024 → Fin 1024 → EReal} {y y' : Fin 4 → Fin 256 → EReal}
    {wb wb' : Fin 4 → Fin 256 → Fin 1024 → EReal} (h1 : wg = wg') (h2 : y = y') (h3 : wb = wb') (o : Fin 1024) :
    merged h wg y wb o = merged h wg' y' wb' o := by
  rw [h1, h2, h3]

/-- The gated sum of a step's row is that of its position. -/
theorem gated_step (c : Dev nD) (hf : ∀ i, ∃ r : ℝ, (given m c).yf i = (r : EReal)) (hr : ∀ i, ∃ r : ℝ, (given m c).yr i = (r : EReal))
    (t : Fin cfg0.N) (hh : FVec Ideal S512x1024 .bf16) (k : Fin 2) (q : Fin 256)
    (hrow : ∀ j, hh (ix2 (rowIn k q) j) = iblk m c 9 t (ix3 k q j)) (o : Fin 1024) :
    gated (iblk m c 0 t) (iblk m c 1 t) (iblk m c 2 t) (iblk m c 3 t) (iblk m c 4 t) (iblk m c 5 t) (iblk m c 6 t) (iblk m c 7 t) (iblk m c 8 t) hh
        (iblk m c 17 t) (iblk m c 18 t) (iblk m c 19 t) (iblk m c 25 t) (iblk m c 26 t) (iblk m c 27 t) (ix2 (rowIn k q) o)
      = mergedAt (given m c) (seqOf t k) (posOf t q) o := by
  refine (gated_apply (iblk m c 0 t) (iblk m c 1 t) (iblk m c 2 t) (iblk m c 3 t) (iblk m c 4 t) (iblk m c 5 t) (iblk m c 6 t) (iblk m c 7 t)
    (iblk m c 8 t) hh (iblk m c 17 t) (iblk m c 18 t) (iblk m c 19 t) (iblk m c 25 t) (iblk m c 26 t) (iblk m c 27 t) k q
    (fun j => (given m c).h (ix3 (seqOf t k) (posOf t q) j)) (fun j => (hrow j).trans (blk_h m c t k q j)) ?_ (fun j l => blk_bd m c t j l) o).trans ?_
  · intro l
    obtain ⟨a, ha⟩ := hf (ix3 (seqOf t k) (posOf t q) l)
    obtain ⟨b, hb⟩ := hr (ix3 (seqOf t k) (posOf t q) l)
    exact ⟨a + b, (congrArg₂ (HAdd.hAdd (α := EReal) (β := EReal) (γ := EReal)) ((blk_yf m c t k q l).trans ha) ((blk_yr m c t k q l).trans hb)).trans
      (EReal.coe_add a b).symm⟩
  · exact merged_congr (funext fun n => funext fun j => funext fun o => blk_wg m c t j _) (branches_step m c t k q)
      (funext fun n => funext fun l => funext fun o => blk_wb m c t n l o) o

/-- The residual depends on its rows and matrix only. -/
theorem resid_congr {x x' ga ga' mg mg' : Fin 1024 → EReal} {wo wo' : Fin 1024 → Fin 1024 → EReal} (h1 : x = x') (h2 : ga = ga') (h3 : mg = mg')
    (h4 : wo = wo') : resid x ga mg wo = resid x' ga' mg' wo' := by
  rw [h1, h2, h3, h4]

/-- The residual of a step's row is that of its position. -/
theorem resid_step (c : Dev nD) (t : Fin cfg0.N) (mg : FVec Ideal S512x1024 .bf16) (ga : FVec Ideal S1x1x1024 .f32) (k : Fin 2) (q : Fin 256)
    (hmg : ∀ o, mg (ix2 (rowIn k q) o) = mergedAt (given m c) (seqOf t k) (posOf t q) o)
    (hga : ∀ o, ga (ix3 0 0 o) = modAt (given m c).mod3 2048 (by norm_num) (seqOf t k) (posOf t q) o) :
    residIn mg (iblk m c 20 t) (iblk m c 10 t) ga k q = residAt (given m c) (seqOf t k) (posOf t q) :=
  resid_congr (funext fun j => blk_x m c t k q j) (funext hga) (funext hmg) (funext fun j => funext fun n => blk_wo m c t j n)

/-- A normalised row with scale and offset depends on these only. -/
theorem scaled_congr {f f' g g' b b' : Fin 1024 → EReal} (h1 : f = f') (h2 : g = g') (h3 : b = b') (o : Fin 1024) : scaled f g b o = scaled f' g' b' o := by
  rw [h1, h2, h3]

/-- The first result of a step's row is that of its position. -/
theorem x1_step (c : Dev nD) (t : Fin cfg0.N) (mg : FVec Ideal S512x1024 .bf16) (ga : FVec Ideal S1x1x1024 .f32) (k : Fin 2) (q : Fin 256)
    (hmg : ∀ o, mg (ix2 (rowIn k q) o) = mergedAt (given m c) (seqOf t k) (posOf t q) o)
    (hga : ∀ o, ga (ix3 0 0 o) = modAt (given m c).mod3 2048 (by norm_num) (seqOf t k) (posOf t q) o) (o : Fin 1024) :
    scaled (residIn mg (iblk m c 20 t) (iblk m c 10 t) ga k q) (only (φ := .f32) (iblk m c 21 t)) (only (φ := .f32) (iblk m c 22 t)) o
      = x1At (given m c) (seqOf t k) (posOf t q) o :=
  scaled_congr (resid_step m c t mg ga k q hmg hga) (funext fun l => blk_lng m c t l) (funext fun l => blk_lnb m c t l) o

/-- A modulated row depends on these only. -/
theorem modulated_congr {f f' s s' g g' : Fin 1024 → EReal} (h1 : f = f') (h2 : s = s') (h3 : g = g') (o : Fin 1024) :
    modulated f s g o = modulated f' s' g' o := by
  rw [h1, h2, h3]

/-- The first result, read at a place. -/
theorem x1_at (a : In) (y : (⟨3, ![8, 4352, 1024]⟩ : Shape).Idx) (b : Fin 8) (p : Fin 4352) (o : Fin 1024) (h0 : (y 0).val = b.val) (h1 : (y 1).val = p.val)
    (h2 : (y 2).val = o.val) : x1At a b p o = x1 a y := by
  have e0 : (y 0 : Fin 8) = b := Fin.ext h0
  have e1 : (y 1 : Fin 4352) = p := Fin.ext h1
  have e2 : (y 2 : Fin 1024) = o := Fin.ext h2
  show x1At a b p o = x1At a (y 0) (y 1) (y 2)
  rw [e0, e1, e2]

/-- The second result, read at a place. -/
theorem hf_at (a : In) (y : (⟨3, ![8, 4352, 1024]⟩ : Shape).Idx) (b : Fin 8) (p : Fin 4352) (o : Fin 1024) (h0 : (y 0).val = b.val) (h1 : (y 1).val = p.val)
    (h2 : (y 2).val = o.val) : hfAt a b p o = hf a y := by
  have e0 : (y 0 : Fin 8) = b := Fin.ext h0
  have e1 : (y 1 : Fin 4352) = p := Fin.ext h1
  have e2 : (y 2 : Fin 1024) = o := Fin.ext h2
  show hfAt a b p o = hfAt a (y 0) (y 1) (y 2)
  rw [e0, e1, e2]

/-- Where element `y` of step `t`'s block sits in the first result. -/
theorem place28 (t : Fin cfg0.N) (y : S2x256x1024.Idx) :
    (((win0_28.blk t).view.emb y : S8x4352x1024.Idx) 0).val = 2 * (t.val / 17) + (y 0).val
    ∧ (((win0_28.blk t).view.emb y : S8x4352x1024.Idx) 1).val = 256 * (t.val % 17) + (y 1).val
    ∧ (((win0_28.blk t).view.emb y : S8x4352x1024.Idx) 2).val = (y 2).val := by
  refine ⟨?_, ?_, ?_⟩ <;> blk_simp [idx t] <;> simp <;> omega

/-- Where element `y` of step `t`'s block sits in the second result. -/
theorem place29 (t : Fin cfg0.N) (y : S2x256x1024.Idx) :
    (((win0_29.blk t).view.emb y : S8x4352x1024.Idx) 0).val = 2 * (t.val / 17) + (y 0).val
    ∧ (((win0_29.blk t).view.emb y : S8x4352x1024.Idx) 1).val = 256 * (t.val % 17) + (y 1).val
    ∧ (((win0_29.blk t).view.emb y : S8x4352x1024.Idx) 2).val = (y 2).val := by
  refine ⟨?_, ?_, ?_⟩ <;> blk_simp [idx t] <;> simp <;> omega

end Cert.Kernel6Ideal.Step

end
-- ==== Proof.MergeFinal.lean ====
/- The two result arrays of the merge after the run. -/
module

public import proofs.«01_k».proof.Proof.MergeFrame
public import proofs.«01_k».proof.Proof.MergeStep

@[expose] public section

set_option maxRecDepth 16384

noncomputable section

namespace Cert.Kernel6Ideal.Step

open Idealize.ShloMosaic Idealize.ShloMosaic.TcCoe Cert.Kernel6Ideal Cert.Kernel6Ideal.Gen Cert.Kernel6Ideal.Blocks Cert.Kernel6Ideal.Heads Cert.Merge

variable (m : (ℓ : Loc nD τ sig) → Buf (Elt Ideal) ℓ)

/-- The gated sum taken at step `t`. -/
def gatedAt (c : Dev nD) (t : Fin cfg0.N) : FVec Ideal S512x1024 .bf16 :=
  gated (iblk m c 0 t) (iblk m c 1 t) (iblk m c 2 t) (iblk m c 3 t) (iblk m c 4 t) (iblk m c 5 t) (iblk m c 6 t) (iblk m c 7 t) (iblk m c 8 t)
    (View.read (Elt Ideal) ((Run.ms0_9 t).view.reshape S512x1024 k0_part2_skel._proof_2) ((Run.hs0_9 t).unread (iblk m c 9 t)))
    (iblk m c 17 t) (iblk m c 18 t) (iblk m c 19 t) (iblk m c 25 t) (iblk m c 26 t) (iblk m c 27 t)

/-- It is the positions' gated sum. -/
theorem gatedAt_apply (c : Dev nD) (hf : ∀ i, ∃ r : ℝ, (given m c).yf i = (r : EReal)) (hr : ∀ i, ∃ r : ℝ, (given m c).yr i = (r : EReal))
    (t : Fin cfg0.N) (k : Fin 2) (q : Fin 256) (o : Fin 1024) :
    gatedAt m c t (ix2 (rowIn k q) o) = mergedAt (given m c) (seqOf t k) (posOf t q) o :=
  gated_step m c hf hr t _ k q (fun j => joined (Run.ms0_9 t) (Run.hs0_9 t) _ (iblk m c 9 t) k q j) o

/-- What is stored to the first result for the first image. -/
theorem stored0 (c : Dev nD) (hf : ∀ i, ∃ r : ℝ, (given m c).yf i = (r : EReal)) (hr : ∀ i, ∃ r : ℝ, (given m c).yr i = (r : EReal))
    (t : Fin cfg0.N) (q : Fin 256) (o : Fin 1024) :
    k0_pay11 (F := Ideal) (gatedAt m c t) (iblk m c 20 t)
        (View.ld (Val := Elt Ideal) (S := S2x256x1024) (e' := .f32) (iblk m c 10 t) (Rect.unit (s := S2x256x1024) ![0, 0, 0] ![1, 256, 1024] inb_S2x256x1024_S1x256x1024_0_0_0))
        (iblk m c 11 t) (iblk m c 21 t) (iblk m c 22 t) (ix2 q o)
      = x1At (given m c) (seqOf t 0) (posOf t q) o :=
  (first0 (gatedAt m c t) (iblk m c 20 t) (iblk m c 10 t) (iblk m c 11 t) (iblk m c 21 t) (iblk m c 22 t) q o).trans
    (x1_step m c t (gatedAt m c t) (iblk m c 11 t) 0 q (fun o => gatedAt_apply m c hf hr t 0 q o) (fun o => blk_mod11 m c t q o) o)

/-- What is stored to the first result for the second image. -/
theorem stored1 (c : Dev nD) (hf : ∀ i, ∃ r : ℝ, (given m c).yf i = (r : EReal)) (hr : ∀ i, ∃ r : ℝ, (given m c).yr i = (r : EReal))
    (t : Fin cfg0.N) (q : Fin 256) (o : Fin 1024) :
    k0_pay182 (F := Ideal)
        (k0_pay180 (k0_pay10 (gatedAt m c t) (iblk m c 20 t))
          (View.ld (Val := Elt Ideal) (S := S2x256x1024) (e' := .f32) (iblk m c 10 t) (Rect.unit (s := S2x256x1024) ![1, 0, 0] ![1, 256, 1024] inb_S2x256x1024_S1x256x1024_1_0_0))
          (iblk m c 14 t))
        (k0_pay181 (k0_pay10 (gatedAt m c t) (iblk m c 20 t))
          (View.ld (Val := Elt Ideal) (S := S2x256x1024) (e' := .f32) (iblk m c 10 t) (Rect.unit (s := S2x256x1024) ![1, 0, 0] ![1, 256, 1024] inb_S2x256x1024_S1x256x1024_1_0_0))
          (iblk m c 14 t))
        (iblk m c 21 t) (iblk m c 22 t) (ix2 q o)
      = x1At (given m c) (seqOf t 1) (posOf t q) o :=
  (first1 (gatedAt m c t) (iblk m c 20 t) (iblk m c 10 t) (iblk m c 14 t) (iblk m c 21 t) (iblk m c 22 t) q o).trans
    (x1_step m c t (gatedAt m c t) (iblk m c 14 t) 1 q (fun o => gatedAt_apply m c hf hr t 1 q o) (fun o => blk_mod14 m c t q o) o)

/-- The first result array after the run. -/
theorem final28 (c : Dev nD) (hf : ∀ i, ∃ r : ℝ, (given m c).yf i = (r : EReal)) (hr : ∀ i, ∃ r : ℝ, (given m c).yr i = (r : EReal)) :
    (Run.dats m 0 c).arrAt 28 (cfgs 0).N = x1 (given m c) := by
  refine (Run.dats m 0 c).arrAt_eq_of_covers 28 _ (by decide +kernel) fun t hft y => ?_
  blk_simp
  rw [Run.after0_28]
  obtain ⟨k, q, o, rfl⟩ : ∃ (k : Fin 2) (q : Fin 256) (o : Fin 1024), y = ix3 k q o := ⟨y 0, y 1, y 2, eq_ix3 y⟩
  obtain ⟨e0, e1, e2⟩ := place28 t (ix3 k q o)
  refine Eq.trans ?_ (x1_at (given m c) _ (seqOf t k) (posOf t q) o e0 e1 e2)
  unfold Run.outsAt0 Run.out0_A_28
  frame_out
  match k with
  | 0 => exact (pieces0 (e := .f32) _ _ q o).trans ((pay15_apply _ q o).trans (stored0 m c hf hr t q o))
  | 1 => exact (pieces1 (e := .f32) _ _ q o).trans ((pay185_apply _ q o).trans (stored1 m c hf hr t q o))

/-- The second result array after the run. -/
theorem final29 (c : Dev nD) (hf : ∀ i, ∃ r : ℝ, (given m c).yf i = (r : EReal)) (hr : ∀ i, ∃ r : ℝ, (given m c).yr i = (r : EReal)) :
    (Run.dats m 0 c).arrAt 29 (cfgs 0).N = Cert.Merge.hf (given m c) := by
  refine (Run.dats m 0 c).arrAt_eq_of_covers 29 _ (by decide +kernel) fun t hft y => ?_
  blk_simp
  rw [Run.after0_29]
  obtain ⟨k, q, o, rfl⟩ : ∃ (k : Fin 2) (q : Fin 256) (o : Fin 1024), y = ix3 k q o := ⟨y 0, y 1, y 2, eq_ix3 y⟩
  obtain ⟨e0, e1, e2⟩ := place29 t (ix3 k q o)
  refine Eq.trans ?_ (hf_at (given m c) _ (seqOf t k) (posOf t q) o e0 e1 e2)
  unfold Run.outsAt0 Run.out0_A_29
  frame_out
  match k with
  | 0 =>
    exact (pieces0 (e := .bf16) _ _ q o).trans ((pay14_apply (gatedAt m c t) (iblk m c 20 t)
        (View.ld (Val := Elt Ideal) (S := S2x256x1024) (e' := .f32) (iblk m c 10 t) (Rect.unit (s := S2x256x1024) ![0, 0, 0] ![1, 256, 1024] inb_S2x256x1024_S1x256x1024_0_0_0))
        (iblk m c 11 t) (iblk m c 21 t) (iblk m c 22 t) (iblk m c 13 t) (iblk m c 12 t) q o).trans
      (modulated_congr (funext fun j => stored0 m c hf hr t q j) (funext fun j => blk_mod12 m c t q j) (funext fun j => blk_mod13 m c t q j) o))
  | 1 =>
    exact (pieces1 (e := .bf16) _ _ q o).trans ((pay186_apply _ _ (iblk m c 21 t) (iblk m c 22 t) (iblk m c 16 t) (iblk m c 15 t) q o).trans
      (modulated_congr (funext fun j => stored1 m c hf hr t q j) (funext fun j => blk_mod15 m c t q j) (funext fun j => blk_mod16 m c t q j) o))

end Cert.Kernel6Ideal.Step

end
-- ==== Proof.MergeRef.lean ====
/- The merge's reference, element by element. -/
module

public import proofs.«01_k».proof.Proof.Gen.Reference6Ideal.Run
public import proofs.«01_k».proof.Proof.MergeSpec
public import Idealize.ShloMosaic.Lib.Pointwise

@[expose] public section

set_option maxRecDepth 16384

noncomputable section

namespace Cert.Reference6Ideal.Rows

open Idealize.ShloMosaic Idealize.ShloMosaic.TcCoe Idealize.SL.Sem Idealize.ShloMosaic.StableHlo Cert.Reference6Ideal Cert.Reference6Ideal.Gen Cert.Merge

/-- The recurrence's two results added, by heads. -/
def heads (a : In) : FVec Ideal S8x4352x4x64 .f32 := shapeCast _ (addf a.yf a.yr) shapeCasts_S8x4352x256_S8x4352x4x64

/-- The mean over a head. -/
def headMean (y : FVec Ideal S8x4352x4x64 .f32) : FVec Ideal S8x4352x4x1 .f32 :=
  Host.divf (broadcastInDim S8x4352x4x1 ![0, 1, 2] bcast_S8x4352x4_S8x4352x4x1_0_1_2 (Host.reduceAdd y (constant S_ .f32 0x00000000#32) reducesTo_S8x4352x4x64_S8x4352x4_d3 h_S_)) (broadcastInDim S8x4352x4x1 ![] bcast_S_S8x4352x4x1 (constant S_ .f32 0x42800000#32))

/-- The lanes less the mean of their head. -/
def centred (y : FVec Ideal S8x4352x4x64 .f32) : FVec Ideal S8x4352x4x64 .f32 :=
  subf y (broadcastInDim S8x4352x4x64 ![0, 1, 2, 3] bcast_S8x4352x4x1_S8x4352x4x64_0_1_2_3 (headMean y))

/-- A row of 256 numbers at every position. -/
def wide (g : FVec Ideal S256 .f32) : FVec Ideal S8x4352x256 .f32 :=
  broadcastInDim S8x4352x256 ![0, 1, 2] bcast_S1x1x256_S8x4352x256_0_1_2 (broadcastInDim S1x1x256 ![2] bcast_S256_S1x1x256_2 g)

/-- The normalised recurrence, flat. -/
def normed4 (y : FVec Ideal S8x4352x4x64 .f32) : FVec Ideal S8x4352x256 .f32 :=
  shapeCast _ (mulf (centred y) (broadcastInDim S8x4352x4x64 ![0, 1, 2, 3] bcast_S8x4352x4x1_S8x4352x4x64_0_1_2_3 (Host.rsqrt (addf (headMean (mulf (centred y) (centred y))) (broadcastInDim S8x4352x4x1 ![] bcast_S_S8x4352x4x1 (constant S_ .f32 0x3A27C5AC#32)))))) shapeCasts_S8x4352x4x64_S8x4352x256

/-- The first branch. -/
def first (a : In) : FVec Ideal S8x4352x256 .f32 :=
  mulf (addf (addf (mulf (normed4 (heads a)) (wide a.lnxg)) (wide a.lnxb)) a.bon) a.rg

/-- The second branch. -/
def second (a : In) : FVec Ideal S8x4352x256 .f32 :=
  mulf (extf .f32 a.x0 bitsLt_bf16_f32) (addf a.yconv (mulf (extf .f32 a.u bitsLt_bf16_f32) (wide a.skip)))

/-- The input rows through the gate columns, squashed. -/
def gates (a : In) : FVec Ideal S8x4352x4x1024 .f32 :=
  shapeCast _ (Host.divf (broadcastInDim S8x4352x4096 ![] bcast_S_S8x4352x4096 (constant S_ .f32 0x3F800000#32)) (addf (broadcastInDim S8x4352x4096 ![] bcast_S_S8x4352x4096 (constant S_ .f32 0x3F800000#32)) (Host.exp (Host.negf (extractStridedSlice S8x4352x4096 ![0, 0, 3072] (Host.dotGeneral dot_S8x4352x1024_S1024x7168_S8x4352x7168_2_0_01_1_n_n none (extf .f32 a.h bitsLt_bf16_f32) a.win) slices_S8x4352x7168_S8x4352x4096_0_0_3072))))) shapeCasts_S8x4352x4096_S8x4352x4x1024

/-- The first branch's part. -/
def part0 (g : FVec Ideal S8x4352x4x1024 .f32) (y : FVec Ideal S8x4352x256 .f32) (w : FVec Ideal S4x256x1024 .f32) : FVec Ideal S8x4352x1024 .f32 :=
  mulf (shapeCast _ (extractStridedSlice S8x4352x1x1024 ![0, 0, 0, 0] g slices_S8x4352x4x1024_S8x4352x1x1024_0_0_0_0) shapeCasts_S8x4352x1x1024_S8x4352x1024) (Host.dotGeneral dot_S8x4352x256_S256x1024_S8x4352x1024_2_0_01_1_n_n none y (shapeCast _ (extractStridedSlice S1x256x1024 ![0, 0, 0] w slices_S4x256x1024_S1x256x1024_0_0_0) shapeCasts_S1x256x1024_S256x1024))

/-- The second branch's part. -/
def part1 (g : FVec Ideal S8x4352x4x1024 .f32) (y : FVec Ideal S8x4352x256 .f32) (w : FVec Ideal S4x256x1024 .f32) : FVec Ideal S8x4352x1024 .f32 :=
  mulf (shapeCast _ (extractStridedSlice S8x4352x1x1024 ![0, 0, 1, 0] g slices_S8x4352x4x1024_S8x4352x1x1024_0_0_1_0) shapeCasts_S8x4352x1x1024_S8x4352x1024) (Host.dotGeneral dot_S8x4352x256_S256x1024_S8x4352x1024_2_0_01_1_n_n none y (shapeCast _ (extractStridedSlice S1x256x1024 ![1, 0, 0] w slices_S4x256x1024_S1x256x1024_1_0_0) shapeCasts_S1x256x1024_S256x1024))

/-- The third branch's part. -/
def part2 (g : FVec Ideal S8x4352x4x1024 .f32) (y : FVec Ideal S8x4352x256 .f32) (w : FVec Ideal S4x256x1024 .f32) : FVec Ideal S8x4352x1024 .f32 :=
  mulf (shapeCast _ (extractStridedSlice S8x4352x1x1024 ![0, 0, 2, 0] g slices_S8x4352x4x1024_S8x4352x1x1024_0_0_2_0) shapeCasts_S8x4352x1x1024_S8x4352x1024) (Host.dotGeneral dot_S8x4352x256_S256x1024_S8x4352x1024_2_0_01_1_n_n none y (shapeCast _ (extractStridedSlice S1x256x1024 ![2, 0, 0] w slices_S4x256x1024_S1x256x1024_2_0_0) shapeCasts_S1x256x1024_S256x1024))

/-- The fourth branch's part. -/
def part3 (g : FVec Ideal S8x4352x4x1024 .f32) (y : FVec Ideal S8x4352x256 .f32) (w : FVec Ideal S4x256x1024 .f32) : FVec Ideal S8x4352x1024 .f32 :=
  mulf (shapeCast _ (extractStridedSlice S8x4352x1x1024 ![0, 0, 3, 0] g slices_S8x4352x4x1024_S8x4352x1x1024_0_0_3_0) shapeCasts_S8x4352x1x1024_S8x4352x1024) (Host.dotGeneral dot_S8x4352x256_S256x1024_S8x4352x1024_2_0_01_1_n_n none y (shapeCast _ (extractStridedSlice S1x256x1024 ![3, 0, 0] w slices_S4x256x1024_S1x256x1024_3_0_0) shapeCasts_S1x256x1024_S256x1024))

/-- The merged branches. -/
def sum4 (a : In) : FVec Ideal S8x4352x1024 .f32 :=
  addf (addf (addf (part0 (gates a) (first a) a.wb) (part1 (gates a) (second a) a.wb)) (part2 (gates a) (extf .f32 a.ycv bitsLt_bf16_f32) a.wb)) (part3 (gates a) (extf .f32 a.yd bitsLt_bf16_f32) a.wb)

/-- 1024 columns of the modulation at every position, the first 256 of them from row 8. -/
def spread (v : FVec Ideal S16x1x1024 .f32) : FVec Ideal S8x4352x1024 .f32 :=
  concatenate S8x4352x1024 1 [⟨S8x256x1024, (broadcastInDim S8x256x1024 ![0, 1, 2] bcast_S1x1x1024_S8x256x1024_0_1_2 (extractStridedSlice S1x1x1024 ![8, 0, 0] v slices_S16x1x1024_S1x1x1024_8_0_0))⟩, ⟨S8x4096x1024, (broadcastInDim S8x4096x1024 ![0, 1, 2] bcast_S8x1x1024_S8x4096x1024_0_1_2 (extractStridedSlice S8x1x1024 ![0, 0, 0] v slices_S16x1x1024_S8x1x1024_0_0_0))⟩] concatenates_S8x256x1024_S8x4096x1024_S8x4352x1024_d1

/-- The gate columns of the modulation. -/
def modG (a : In) : FVec Ideal S16x1x1024 .f32 := extractStridedSlice S16x1x1024 ![0, 0, 2048] a.mod3 slices_S16x1x6144_S16x1x1024_0_0_2048

/-- The shift columns of the modulation. -/
def modS (a : In) : FVec Ideal S16x1x1024 .f32 := extractStridedSlice S16x1x1024 ![0, 0, 3072] a.mod3 slices_S16x1x6144_S16x1x1024_0_0_3072

/-- The scale columns of the modulation. -/
def modC (a : In) : FVec Ideal S16x1x1024 .f32 := extractStridedSlice S16x1x1024 ![0, 0, 4096] a.mod3 slices_S16x1x6144_S16x1x1024_0_0_4096

/-- The residual. -/
def left (a : In) (s : FVec Ideal S8x4352x1024 .f32) : FVec Ideal S8x4352x1024 .f32 :=
  addf (mulf (broadcastInDim S8x4352x1024 ![] bcast_S_S8x4352x1024 (constant S_ .f32 0x3FB504F3#32)) a.x) (mulf (spread (modG a)) (Host.dotGeneral dot_S8x4352x1024_S1024x1024_S8x4352x1024_2_0_01_1_n_n none s a.wo))

/-- The mean of every row. -/
def rowMean (y : FVec Ideal S8x4352x1024 .f32) : FVec Ideal S8x4352x1 .f32 :=
  Host.divf (broadcastInDim S8x4352x1 ![0, 1] bcast_S8x4352_S8x4352x1_0_1 (Host.reduceAdd y (constant S_ .f32 0x00000000#32) reducesTo_S8x4352x1024_S8x4352_d2 h_S_)) (broadcastInDim S8x4352x1 ![] bcast_S_S8x4352x1 (constant S_ .f32 0x44800000#32))

/-- The rows less their mean. -/
def rowCentred (y : FVec Ideal S8x4352x1024 .f32) : FVec Ideal S8x4352x1024 .f32 :=
  subf y (broadcastInDim S8x4352x1024 ![0, 1, 2] bcast_S8x4352x1_S8x4352x1024_0_1_2 (rowMean y))

/-- The rows normalised. -/
def rowNormed (y : FVec Ideal S8x4352x1024 .f32) : FVec Ideal S8x4352x1024 .f32 :=
  mulf (rowCentred y) (broadcastInDim S8x4352x1024 ![0, 1, 2] bcast_S8x4352x1_S8x4352x1024_0_1_2 (Host.rsqrt (addf (rowMean (mulf (rowCentred y) (rowCentred y))) (broadcastInDim S8x4352x1 ![] bcast_S_S8x4352x1 (constant S_ .f32 0x358637BD#32)))))

/-- A row of 1024 numbers at every position. -/
def wide1024 (g : FVec Ideal S1024 .f32) : FVec Ideal S8x4352x1024 .f32 :=
  broadcastInDim S8x4352x1024 ![0, 1, 2] bcast_S1x1x1024_S8x4352x1024_0_1_2 (broadcastInDim S1x1x1024 ![2] bcast_S1024_S1x1x1024_2 g)

/-- The first result from the residual. -/
def res1 (a : In) (y : FVec Ideal S8x4352x1024 .f32) : FVec Ideal S8x4352x1024 .f32 :=
  addf (mulf (rowNormed y) (wide1024 a.lng)) (wide1024 a.lnb)

/-- The second result from the first. -/
def res2 (a : In) (y : FVec Ideal S8x4352x1024 .f32) : FVec Ideal S8x4352x1024 .bf16 :=
  truncf .bf16 (addf (mulf (rowNormed y) (addf (broadcastInDim S8x4352x1024 ![] bcast_S_S8x4352x1024 (constant S_ .f32 0x3F800000#32)) (spread (modC a)))) (spread (modS a))) bitsLt_bf16_f32

/-- The lanes by heads at an element. -/
theorem heads_apply (a : In) (b : Fin 8) (p : Fin 4352) (g : Fin 4) (d : Fin 64) :
    heads a (ix4 b p g d) = a.yf (ix3 b p ⟨g.val * 64 + d.val, by omega⟩) + a.yr (ix3 b p ⟨g.val * 64 + d.val, by omega⟩) := by
  pointwise [heads]

/-- The mean over a head at an element. -/
theorem headMean_apply (y : FVec Ideal S8x4352x4x64 .f32) (b : Fin 8) (p : Fin 4352) (g : Fin 4) (i : Fin 1) :
    headMean y (ix4 b p g i) = Ideal.div (∑ d : Fin 64, y (ix4 b p g d)) (Ideal.ofBits .f32 0x42800000#32) := by
  pointwise [headMean]

/-- A lane less the mean of its head. -/
theorem centred_apply (y : FVec Ideal S8x4352x4x64 .f32) (b : Fin 8) (p : Fin 4352) (g : Fin 4) (d : Fin 64) :
    centred y (ix4 b p g d) = y (ix4 b p g d) - headMean y (ix4 b p g 0) := by
  unfold centred
  generalize headMean y = z
  pointwise []

/-- The normalised recurrence at an element. -/
theorem normed4_apply (y : FVec Ideal S8x4352x4x64 .f32) (b : Fin 8) (p : Fin 4352) (l : Fin 256) :
    normed4 y (ix3 b p l)
      = centred y (ix4 b p ⟨l.val / 64, by omega⟩ ⟨l.val % 64, by omega⟩)
        * Ideal.rsqrt (headMean (mulf (centred y) (centred y)) (ix4 b p ⟨l.val / 64, by omega⟩ 0) + Ideal.ofBits .f32 0x3A27C5AC#32) := by
  unfold normed4
  generalize centred y = z
  generalize headMean (mulf z z) = w
  pointwise []

/-- The first branch at an element. -/
theorem first_apply (a : In) (b : Fin 8) (p : Fin 4352) (l : Fin 256) :
    first a (ix3 b p l) = (normed4 (heads a) (ix3 b p l) * a.lnxg (ix1 l) + a.lnxb (ix1 l) + a.bon (ix3 b p l)) * a.rg (ix3 b p l) := by
  unfold first
  generalize normed4 (heads a) = z
  pointwise [wide]

/-- The second branch at an element. -/
theorem second_apply (a : In) (b : Fin 8) (p : Fin 4352) (l : Fin 256) : second a (ix3 b p l) = rows a b p 1 l := by
  pointwise [second, wide, rows, yb]

/-- A gate at an element. -/
theorem gates_apply (a : In) (b : Fin 8) (p : Fin 4352) (n : Fin 4) (o : Fin 1024) :
    gates a (ix4 b p n o) = Ideal.logistic (∑ k : Fin 1024, a.h (ix3 b p k) * a.win (ix2 k ⟨3072 + (n.val * 1024 + o.val), by omega⟩)) := by
  pointwise [gates]
  rfl

/-- The first branch's part at an element. -/
theorem part0_apply (g : FVec Ideal S8x4352x4x1024 .f32) (y : FVec Ideal S8x4352x256 .f32) (w : FVec Ideal S4x256x1024 .f32) (b : Fin 8) (p : Fin 4352) (o : Fin 1024) :
    part0 g y w (ix3 b p o) = g (ix4 b p 0 o) * ∑ l : Fin 256, y (ix3 b p l) * w (ix3 0 l o) := by
  pointwise [part0]

/-- The second branch's part at an element. -/
theorem part1_apply (g : FVec Ideal S8x4352x4x1024 .f32) (y : FVec Ideal S8x4352x256 .f32) (w : FVec Ideal S4x256x1024 .f32) (b : Fin 8) (p : Fin 4352) (o : Fin 1024) :
    part1 g y w (ix3 b p o) = g (ix4 b p 1 o) * ∑ l : Fin 256, y (ix3 b p l) * w (ix3 1 l o) := by
  pointwise [part1]

/-- The third branch's part at an element. -/
theorem part2_apply (g : FVec Ideal S8x4352x4x1024 .f32) (y : FVec Ideal S8x4352x256 .f32) (w : FVec Ideal S4x256x1024 .f32) (b : Fin 8) (p : Fin 4352) (o : Fin 1024) :
    part2 g y w (ix3 b p o) = g (ix4 b p 2 o) * ∑ l : Fin 256, y (ix3 b p l) * w (ix3 2 l o) := by
  pointwise [part2]

/-- The fourth branch's part at an element. -/
theorem part3_apply (g : FVec Ideal S8x4352x4x1024 .f32) (y : FVec Ideal S8x4352x256 .f32) (w : FVec Ideal S4x256x1024 .f32) (b : Fin 8) (p : Fin 4352) (o : Fin 1024) :
    part3 g y w (ix3 b p o) = g (ix4 b p 3 o) * ∑ l : Fin 256, y (ix3 b p l) * w (ix3 3 l o) := by
  pointwise [part3]

/-- The gate columns at an element. -/
theorem modG_apply (a : In) (i : Fin 16) (o : Fin 1024) : modG a (ix3 i 0 o) = a.mod3 (ix3 i 0 ⟨2048 + o.val, by omega⟩) := by
  pointwise [modG]

/-- The shift columns at an element. -/
theorem modS_apply (a : In) (i : Fin 16) (o : Fin 1024) : modS a (ix3 i 0 o) = a.mod3 (ix3 i 0 ⟨3072 + o.val, by omega⟩) := by
  pointwise [modS]

/-- The scale columns at an element. -/
theorem modC_apply (a : In) (i : Fin 16) (o : Fin 1024) : modC a (ix3 i 0 o) = a.mod3 (ix3 i 0 ⟨4096 + o.val, by omega⟩) := by
  pointwise [modC]

/-- A modulation number at an element. -/
theorem spread_apply (v : FVec Ideal S16x1x1024 .f32) (b : Fin 8) (p : Fin 4352) (o : Fin 1024) : spread v (ix3 b p o) = v (ix3 (rowOf b p) 0 o) := by
  unfold rowOf
  pointwise [spread]
  by_cases h : p.val < 256
  · rw [dif_pos h, if_pos h]
  · rw [dif_neg h, if_neg h]

/-- The residual at an element. -/
theorem left_apply (a : In) (s : FVec Ideal S8x4352x1024 .f32) (b : Fin 8) (p : Fin 4352) (o : Fin 1024) :
    left a s (ix3 b p o) = Ideal.ofBits .f32 0x3FB504F3#32 * a.x (ix3 b p o) + spread (modG a) (ix3 b p o) * ∑ k : Fin 1024, s (ix3 b p k) * a.wo (ix2 k o) := by
  unfold left
  generalize spread (modG a) = z
  pointwise []

/-- A row normalised at an element. -/
theorem rowNormed_apply (y : FVec Ideal S8x4352x1024 .f32) (b : Fin 8) (p : Fin 4352) (o : Fin 1024) :
    rowNormed y (ix3 b p o) = normed (fun k => y (ix3 b p k)) o := by
  pointwise [rowNormed, rowCentred, rowMean, normed, mean]

/-- The first result at an element. -/
theorem res1_apply (a : In) (y : FVec Ideal S8x4352x1024 .f32) (b : Fin 8) (p : Fin 4352) (o : Fin 1024) :
    res1 a y (ix3 b p o) = rowNormed y (ix3 b p o) * a.lng (ix1 o) + a.lnb (ix1 o) := by
  unfold res1
  generalize rowNormed y = z
  pointwise [wide1024]

/-- The second result at an element. -/
theorem res2_apply (a : In) (y : FVec Ideal S8x4352x1024 .f32) (b : Fin 8) (p : Fin 4352) (o : Fin 1024) :
    res2 a y (ix3 b p o) = rowNormed y (ix3 b p o) * (Ideal.ofBits .f32 0x3F800000#32 + spread (modC a) (ix3 b p o)) + spread (modS a) (ix3 b p o) := by
  unfold res2
  generalize rowNormed y = z
  generalize spread (modC a) = u
  generalize spread (modS a) = v
  pointwise []

/-- The recurrence's two results added, at a position. -/
def both (a : In) (b : Fin 8) (p : Fin 4352) (l : Fin 256) : EReal := a.yf (ix3 b p l) + a.yr (ix3 b p l)

/-- A head's sum, by the head's number. -/
theorem head_at (f : Fin 256 → EReal) (g : Fin 4) (l : Fin 256) (h : l.val / 64 = g.val) :
    head f l = ∑ d : Fin 64, f ⟨g.val * 64 + d.val, by omega⟩ :=
  Finset.sum_congr rfl fun d _ => congrArg f (Fin.ext (by show l.val / 64 * 64 + d.val = g.val * 64 + d.val; rw [h]))

/-- A lane less its head's mean, by the head's number. -/
theorem centred_heads (a : In) (b : Fin 8) (p : Fin 4352) (g : Fin 4) (d : Fin 64) :
    centred (heads a) (ix4 b p g d) = cen (both a b p) ⟨g.val * 64 + d.val, by omega⟩ := by
  rw [centred_apply, headMean_apply, heads_apply]
  unfold cen mean64
  rw [head_at (both a b p) g ⟨g.val * 64 + d.val, by omega⟩ (by show (g.val * 64 + d.val) / 64 = g.val; omega)]
  rw [Finset.sum_congr rfl fun d' _ => heads_apply a b p g d']
  rfl

/-- The mean square of a head. -/
theorem square_heads (a : In) (b : Fin 8) (p : Fin 4352) (l : Fin 256) :
    headMean (mulf (centred (heads a)) (centred (heads a))) (ix4 b p ⟨l.val / 64, by omega⟩ 0)
      = mean64 (fun j => cen (both a b p) j * cen (both a b p) j) l := by
  rw [headMean_apply]
  unfold mean64
  rw [head_at _ ⟨l.val / 64, by omega⟩ l rfl]
  exact congrArg (fun s => Ideal.div s _) (Finset.sum_congr rfl fun d _ => congrArg (fun z : EReal => z * z) (centred_heads a b p _ d))

/-- The first branch is the recurrence's row normalised and gated. -/
theorem first_eq (a : In) (b : Fin 8) (p : Fin 4352) (l : Fin 256) : first a (ix3 b p l) = rows a b p 0 l := by
  rw [first_apply, normed4_apply, square_heads, centred_heads]
  have e : (⟨l.val / 64 * 64 + l.val % 64, by omega⟩ : Fin 256) = l := Fin.ext (by show l.val / 64 * 64 + l.val % 64 = l.val; omega)
  exact congrArg (fun k => (cen (both a b p) k * Ideal.rsqrt (mean64 (fun j => cen (both a b p) j * cen (both a b p) j) l + Ideal.ofBits .f32 0x3A27C5AC#32)
    * a.lnxg (ix1 l) + a.lnxb (ix1 l) + a.bon (ix3 b p l)) * a.rg (ix3 b p l)) e

/-- The merged branches at a position. -/
theorem sum4_apply (a : In) (b : Fin 8) (p : Fin 4352) (o : Fin 1024) : sum4 a (ix3 b p o) = mergedAt a b p o := by
  refine (show sum4 a (ix3 b p o) = part0 (gates a) (first a) a.wb (ix3 b p o) + part1 (gates a) (second a) a.wb (ix3 b p o)
    + part2 (gates a) (extf .f32 a.ycv bitsLt_bf16_f32) a.wb (ix3 b p o) + part3 (gates a) (extf .f32 a.yd bitsLt_bf16_f32) a.wb (ix3 b p o) from rfl).trans ?_
  rw [part0_apply, part1_apply, part2_apply, part3_apply]
  simp only [gates_apply, first_eq, second_apply]
  rfl

/-- The residual at a position. -/
theorem left_eq (a : In) (b : Fin 8) (p : Fin 4352) (o : Fin 1024) : left a (sum4 a) (ix3 b p o) = residAt a b p o := by
  rw [left_apply, spread_apply, modG_apply]
  simp only [sum4_apply]
  rfl

/-- The reference's first result. -/
theorem res1_eq (a : In) (b : Fin 8) (p : Fin 4352) (o : Fin 1024) : res1 a (left a (sum4 a)) (ix3 b p o) = x1At a b p o := by
  rw [res1_apply, rowNormed_apply, show (fun k => left a (sum4 a) (ix3 b p k)) = residAt a b p from funext fun k => left_eq a b p k]
  rfl

/-- The reference's second result. -/
theorem res2_eq (a : In) (b : Fin 8) (p : Fin 4352) (o : Fin 1024) : res2 a (res1 a (left a (sum4 a))) (ix3 b p o) = hfAt a b p o := by
  rw [res2_apply, rowNormed_apply, spread_apply, spread_apply, modC_apply, modS_apply,
    show (fun k => res1 a (left a (sum4 a)) (ix3 b p k)) = x1At a b p from funext fun k => res1_eq a b p k]
  rfl

/-- The reference's first term is the first result. -/
theorem ref_x1 (a : In) : res1 a (left a (sum4 a)) = x1 a :=
  funext fun y => (congrArg _ (eq_ix3 y)).trans (res1_eq a (y 0) (y 1) (y 2))

/-- The reference's second term is the second result. -/
theorem ref_hf (a : In) : res2 a (res1 a (left a (sum4 a))) = hf a :=
  funext fun y => (congrArg _ (eq_ix3 y)).trans (res2_eq a (y 0) (y 1) (y 2))

/-- The arguments as the reference finds them. -/
def given (m : (ℓ : Loc nD τ sig) → Buf (Elt Ideal) ℓ) (c : Dev nD) : In where
  yf := m ((c.tc : Thread nD τ).loc main_arg0)
  yr := m ((c.tc : Thread nD τ).loc main_arg1)
  rg := m ((c.tc : Thread nD τ).loc main_arg2)
  bon := m ((c.tc : Thread nD τ).loc main_arg3)
  x0 := m ((c.tc : Thread nD τ).loc main_arg4)
  u := m ((c.tc : Thread nD τ).loc main_arg5)
  yconv := m ((c.tc : Thread nD τ).loc main_arg6)
  ycv := m ((c.tc : Thread nD τ).loc main_arg7)
  yd := m ((c.tc : Thread nD τ).loc main_arg8)
  h := m ((c.tc : Thread nD τ).loc main_arg9)
  x := m ((c.tc : Thread nD τ).loc main_arg10)
  mod3 := m ((c.tc : Thread nD τ).loc main_arg11)
  skip := m ((c.tc : Thread nD τ).loc main_arg12)
  win := m ((c.tc : Thread nD τ).loc main_arg13)
  wb := m ((c.tc : Thread nD τ).loc main_arg14)
  wo := m ((c.tc : Thread nD τ).loc main_arg15)
  lng := m ((c.tc : Thread nD τ).loc main_arg16)
  lnb := m ((c.tc : Thread nD τ).loc main_arg17)
  lnxg := m ((c.tc : Thread nD τ).loc main_arg20)
  lnxb := m ((c.tc : Thread nD τ).loc main_arg21)

/-- The reference's first result, as printed, is the new residual stream. -/
theorem printed_x1 (m : (ℓ : Loc nD τ sig) → Buf (Elt Ideal) ℓ) (c : Dev nD) :
    Value.res_main_v140 (launchContents m c) = x1 (given m c) :=
  Eq.trans rfl (ref_x1 (given m c))

/-- The reference runs to its end and leaves the specified stream and the specified input of the
    feed-forward part, its arguments unchanged. -/
theorem run_merge (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v140) = x1 (given m c)
      ∧ r.2.mem ((c.tc : Thread nD τ).loc main_v163) = hf (given m c) :=
  (θ_run defs _ _).mono (fun _ h c => ⟨(h c).1.trans (printed_x1 m c),
    (h c).2.1.trans (Eq.trans rfl (ref_hf (given m c)))⟩) (Value.run m ρ)

end Cert.Reference6Ideal.Rows

end
-- ==== Proof.Finite.lean ====
/- What the precondition says: every query and every key is a real number. -/
module

public import proofs.«01_k».proof.Pre_finite_queries_keys
public import Idealize.ShloMosaic.Lib.Pointwise
public import Idealize.ShloMosaic.Lib.Decide
public import Idealize.ShloMosaic.Lib.ReduceAll

@[expose] public section

set_option maxRecDepth 16384

noncomputable section

namespace Cert.Pre_finite_queries_keys

open Idealize.ShloMosaic

/-- The side conditions of the precondition's operations. -/
instance facts : Facts where
  bitsLt_bf16_f32 := by decide
  bcast_S_S8x4352x256 := by decide
  reducesTo_S8x4352x256_S_d0_1_2 := by decide
  h_S_ := by decide
  bcast_S_S8x2x4352x64 := by decide
  reducesTo_S8x2x4352x64_S_d0_1_2_3 := by decide

/-- `+∞` as a word. -/
theorem inf_eq : Ideal.ofBits .f32 0x7F800000#32 = ⊤ := by
  simp [Ideal.ofBits, Ideal.ieee]

/-- A number whose absolute value is below `+∞` is real. -/
theorem real_of_abs {x : EReal} (h : max x (-x) < ⊤) : ∃ r : ℝ, x = r := by
  induction x using EReal.rec with
  | bot => simp at h
  | top => simp at h
  | coe r => exact ⟨r, rfl⟩

/-- One bit of the test. -/
theorem real_of_bit {x : EReal} (h : FloatOps.cmpf (F := Ideal) (φ := .f32) .olt (FloatOps.hostAbsf (F := Ideal) (φ := .f32) x) (Ideal.ofBits .f32 0x7F800000#32) = 1#1) :
    ∃ r : ℝ, x = r := by
  rw [inf_eq] at h
  refine real_of_abs ?_
  by_contra hn
  have h' : BitVec.ofBool (decide (max x (-x) < ⊤)) = 1#1 := h
  simp [hn] at h'

/-- Under the precondition every query and every key is a real number. -/
theorem real_of (q : FVec Ideal S8x4352x256 .bf16) (k v : FVec Ideal S8x2x4352x64 .bf16)
    (h : fn (F := Ideal) q k v = fun _ => 1#1) :
    (∀ i, ∃ r : ℝ, q i = (r : EReal)) ∧ ∀ i, ∃ r : ℝ, k i = (r : EReal) := by
  have h0 := congrFun h ix0
  dsimp only [fn] at h0
  obtain ⟨h1, h2⟩ := IntOp.andi_eq_one.mp h0
  exact ⟨fun i => real_of_bit (Host.reduce_andi_all _ _ _ _ _ h1 i),
    fun i => real_of_bit (Host.reduce_andi_all _ _ _ _ _ h2 i)⟩

end Cert.Pre_finite_queries_keys

end
-- ==== Proof.FiniteRec.lean ====
/- What the merge's precondition says: the two directions of the recurrence are real numbers. -/
module

public import proofs.«01_k».proof.Pre_finite_recurrence
public import proofs.«01_k».proof.Proof.Finite

@[expose] public section

set_option maxRecDepth 16384

noncomputable section

namespace Cert.Pre_finite_recurrence

open Idealize.ShloMosaic

/-- The side conditions of the precondition's operations. -/
instance facts : Facts where
  bcast_S_S8x4352x256 := by decide
  reducesTo_S8x4352x256_S_d0_1_2 := by decide
  h_S_ := by decide

/-- Under the precondition both directions of the recurrence are real numbers at every position. -/
theorem real_of (a0 a1 a2 a3 : FVec Ideal S8x4352x256 .f32) (a4 a5 : FVec Ideal S8x4352x256 .bf16) (a6 : FVec Ideal S8x4352x256 .f32)
    (a7 a8 : FVec Ideal S8x4352x256 .bf16) (a9 : FVec Ideal S8x4352x1024 .bf16) (a10 : FVec Ideal S8x4352x1024 .f32)
    (a11 : FVec Ideal S16x1x6144 .f32) (a12 : FVec Ideal S256 .f32) (a13 : FVec Ideal S1024x7168 .f32) (a14 : FVec Ideal S4x256x1024 .f32)
    (a15 : FVec Ideal S1024x1024 .f32) (a16 a17 : FVec Ideal S1024 .f32) (a18 : FVec Ideal S1024x16 .f32) (a19 : FVec Ideal S16 .f32)
    (a20 a21 : FVec Ideal S256 .f32)
    (h : fn (F := Ideal) a0 a1 a2 a3 a4 a5 a6 a7 a8 a9 a10 a11 a12 a13 a14 a15 a16 a17 a18 a19 a20 a21 = fun _ => 1#1) :
    (∀ i, ∃ r : ℝ, a0 i = (r : EReal)) ∧ ∀ i, ∃ r : ℝ, a1 i = (r : EReal) := by
  have h0 := congrFun h ix0
  dsimp only [fn] at h0
  obtain ⟨h1, h2⟩ := IntOp.andi_eq_one.mp h0
  exact ⟨fun i => Cert.Pre_finite_queries_keys.real_of_bit (Host.reduce_andi_all _ _ _ _ _ h1 i),
    fun i => Cert.Pre_finite_queries_keys.real_of_bit (Host.reduce_andi_all _ _ _ _ _ h2 i)⟩

end Cert.Pre_finite_recurrence

end
-- ==== Proof.Softmax.lean ====
/- The mathematics of one row of softmax attention over the extended reals: dividing after the sum over the keys is
   dividing every weight before it. -/
module

public import Idealize.ShloMosaic.Lib.Pointwise

@[expose] public section

noncomputable section

namespace Cert.Attend

open Idealize.ShloMosaic

/-- The largest score of a row (from the accumulator the programs begin with). -/
def top {n : ℕ} (s : Fin n → EReal) : EReal :=
  Finset.fold max (Ideal.ofBits .f32 0xFF800000#32) s Finset.univ

/-- One element of the attention of a row: the values weighted by the exponentials of the scores below the largest,
    the sum divided by the sum of the weights. -/
def soft {n : ℕ} (s v : Fin n → EReal) : EReal :=
  Ideal.div (∑ k, Ideal.exp (s k - top s) * v k) (∑ k, Ideal.exp (s k - top s))

/-- Equal scores and equal values give equal attention. -/
theorem soft_congr {n : ℕ} {s s' v v' : Fin n → EReal} (hs : ∀ k, s k = s' k) (hv : ∀ k, v k = v' k) :
    soft s v = soft s' v' := by
  rw [funext hs, funext hv]

/-- No score is above the largest. -/
theorem le_top' {n : ℕ} (s : Fin n → EReal) (k : Fin n) : s k ≤ top s := by
  unfold top
  rw [Finset.le_fold_max]
  exact Or.inr ⟨k, Finset.mem_univ k, le_rfl⟩

/-- The accumulator is not above the largest score. -/
theorem init_le_top {n : ℕ} (s : Fin n → EReal) : Ideal.ofBits .f32 0xFF800000#32 ≤ top s := by
  unfold top
  rw [Finset.le_fold_max]
  exact Or.inl le_rfl

/-- A weight is not negative. -/
theorem exp_nonneg (x : EReal) : 0 ≤ Ideal.exp x := by
  induction x using EReal.rec with
  | bot => exact le_rfl
  | top => exact le_top
  | coe r => exact EReal.coe_nonneg.mpr (Real.exp_nonneg r)

/-- The weight of a real difference is positive. -/
theorem exp_coe_pos (r : ℝ) : 0 < Ideal.exp (r : EReal) := EReal.coe_pos.mpr (Real.exp_pos r)

/-- The accumulator is `−∞`. -/
theorem init_eq : Ideal.ofBits .f32 0xFF800000#32 = ⊥ := by
  simp [Ideal.ofBits, Ideal.ieee]

/-- Real scores have a real largest one. -/
theorem top_coe {n : ℕ} (hn : 0 < n) (s : Fin n → EReal) (hs : ∀ k, ∃ r : ℝ, s k = r) : ∃ M : ℝ, top s = M := by
  have h1 : top s ≠ ⊤ := by
    unfold top
    have : Finset.fold max (Ideal.ofBits .f32 0xFF800000#32) s Finset.univ < ⊤ := by
      rw [Finset.fold_max_lt, init_eq]
      exact ⟨bot_lt_top, fun k _ => by obtain ⟨r, hr⟩ := hs k; rw [hr]; exact EReal.coe_lt_top r⟩
    exact this.ne
  have h2 : top s ≠ ⊥ := by
    obtain ⟨r, hr⟩ := hs ⟨0, hn⟩
    have := le_top' s ⟨0, hn⟩
    rw [hr] at this
    exact ((EReal.bot_lt_coe r).trans_le this).ne'
  exact ⟨(top s).toReal, (EReal.coe_toReal h1 h2).symm⟩

/-- The sum of the weights is not negative. -/
theorem mass_nonneg {n : ℕ} (s : Fin n → EReal) : 0 ≤ ∑ k, Ideal.exp (s k - top s) :=
  Finset.sum_nonneg fun k _ => exp_nonneg _

/-- The reciprocal of a sum that is neither negative nor `+∞` is not negative. -/
theorem inv_nonneg_of {x : EReal} (h : 0 ≤ x) : 0 ≤ x⁻¹ := EReal.inv_nonneg_of_nonneg h

/-- A reciprocal is never `+∞`. -/
theorem inv_ne_top (x : EReal) : x⁻¹ ≠ ⊤ := by
  induction x using EReal.rec with
  | bot => simp
  | top => simp
  | coe r => rw [← EReal.coe_inv]; exact EReal.coe_ne_top _

/-- A factor that is neither negative nor `+∞` may be taken into a finite sum. -/
theorem sum_mul_of {n : ℕ} (f : Fin n → EReal) {c : EReal} (h0 : 0 ≤ c) (h1 : c ≠ ⊤) :
    (∑ k, f k) * c = ∑ k, f k * c := by
  induction n with
  | zero => simp
  | succ n ih =>
    rw [Fin.sum_univ_succ, Fin.sum_univ_succ, EReal.right_distrib_of_nonneg_of_ne_top h0 h1, ih]

/-- Real scores of at least one key have a sum of weights other than zero. -/
theorem mass_ne_zero {n : ℕ} (hn : 0 < n) (s : Fin n → EReal) (hs : ∀ k, ∃ r : ℝ, s k = r) :
    ∑ k, Ideal.exp (s k - top s) ≠ 0 := by
  obtain ⟨M, hM⟩ := top_coe hn s hs
  obtain ⟨r, hr⟩ := hs ⟨0, hn⟩
  intro h
  rw [Finset.sum_eq_zero_iff_of_nonneg fun k _ => exp_nonneg _] at h
  have h0 := h ⟨0, hn⟩ (Finset.mem_univ _)
  rw [hr, hM, ← EReal.coe_sub] at h0
  exact (exp_coe_pos _).ne' h0

/-- THE ROW: for real scores, values times normalised weights, the largest score taken once more against the
    accumulator, is `soft`. -/
theorem soft_eq {n : ℕ} (hn : 0 < n) (s v : Fin n → EReal) (hs : ∀ k, ∃ r : ℝ, s k = r) :
    ∑ k, v k * Ideal.div (Ideal.exp (s k - max (Ideal.ofBits .f32 0xFF800000#32) (top s)))
      (∑ j, Ideal.exp (s j - max (Ideal.ofBits .f32 0xFF800000#32) (top s))) = soft s v := by
  rw [max_eq_right (init_le_top s)]
  unfold soft Ideal.div
  simp only [if_neg (mass_ne_zero hn s hs)]
  rw [sum_mul_of _ (inv_nonneg_of (mass_nonneg s)) (inv_ne_top _)]
  refine Finset.sum_congr rfl fun k _ => ?_
  rw [mul_comm (v k), mul_right_comm]

/-- A finite sum of products of reals is a real. -/
theorem dot_coe {n : ℕ} (a b : Fin n → EReal) (ha : ∀ k, ∃ r : ℝ, a k = r) (hb : ∀ k, ∃ r : ℝ, b k = r) :
    ∃ r : ℝ, ∑ k, a k * b k = r := by
  refine Finset.sum_induction _ (fun x : EReal => ∃ r : ℝ, x = r) ?_ ⟨0, rfl⟩ fun k _ => ?_
  · rintro _ _ ⟨x, rfl⟩ ⟨y, rfl⟩
    exact ⟨x + y, (EReal.coe_add x y).symm⟩
  · obtain ⟨x, hx⟩ := ha k
    obtain ⟨y, hy⟩ := hb k
    exact ⟨x * y, by rw [hx, hy, EReal.coe_mul]⟩

end Cert.Attend

end
-- ==== Proof.Rows.lean ====
/- What one grid point of the attention call stores, element by element: the attention of the block's rows over the
   first 256 keys (the context tile) or over all 4352 (every other tile). -/
module

public import proofs.«01_k».proof.Proof.Gen.KernelIdeal.Value
public import proofs.«01_k».proof.Proof.Softmax
public import Idealize.ShloMosaic.Lib.Pointwise
public import Idealize.ShloMosaic.Lib.Pipeline.ValueKit

@[expose] public section

set_option maxRecDepth 16384

noncomputable section

namespace Cert.KernelIdeal.Rows

open Idealize.ShloMosaic Idealize.ShloMosaic.TcCoe Cert.KernelIdeal Cert.KernelIdeal.Gen Cert.Attend

/-- Lane `64 * h + e` of a block's row: lane `e` of head `h`. -/
abbrev lane (h : Fin 4) (e : Fin 64) : Fin 256 := ⟨64 * h.val + e.val, by omega⟩

/-- The key-value head of query head `h`. -/
abbrev kvh (h : Fin 4) : Fin 2 := ⟨h.val / 2, by omega⟩

/-- The load of the first 256 keys (or values) of head 0 from a block. -/
abbrev ldC0 (x : FVec Ideal S1x2x4352x64 .bf16) : FVec Ideal S1x1x256x64 .bf16 :=
  View.ld (Val := Elt Ideal) (S := S1x2x4352x64) (e' := .bf16) x (Rect.unit ![0, 0, 0, 0] ![1, 1, 256, 64] inb_S1x2x4352x64_S1x1x256x64_0_0_0_0)

theorem ldC0_apply (x : FVec Ideal S1x2x4352x64 .bf16) (j : Fin 256) (d : Fin 64) :
    ldC0 x (ix4 0 0 j d) = x (ix4 0 0 ⟨j.val, by omega⟩ d) := by
  pointwise [ldC0]

/-- The load of the first 256 keys (or values) of head 1 from a block. -/
abbrev ldC1 (x : FVec Ideal S1x2x4352x64 .bf16) : FVec Ideal S1x1x256x64 .bf16 :=
  View.ld (Val := Elt Ideal) (S := S1x2x4352x64) (e' := .bf16) x (Rect.unit ![0, 1, 0, 0] ![1, 1, 256, 64] inb_S1x2x4352x64_S1x1x256x64_0_1_0_0)

theorem ldC1_apply (x : FVec Ideal S1x2x4352x64 .bf16) (j : Fin 256) (d : Fin 64) :
    ldC1 x (ix4 0 0 j d) = x (ix4 0 1 ⟨j.val, by omega⟩ d) := by
  pointwise [ldC1]

/-- The first head over the first 256 keys. -/
theorem pay3_apply (v6 v8 : FVec Ideal S1x1x256x64 .bf16) (v10 : FVec Ideal S1x256x256 .bf16) (r : Fin 256) (e : Fin 64) :
    k0_pay3 (F := Ideal) v6 v8 v10 (ix2 r e) = soft (n := 256)
      (fun j => ∑ d : Fin 64, v10 (ix3 0 r ⟨d.val, by omega⟩) * v6 (ix4 0 0 j d)) (fun j => v8 (ix4 0 0 j e)) := by
  pointwise [k0_pay3, k0_pay1, k0_pay2]
  rfl

/-- The second head over the first 256 keys. -/
theorem pay4_apply (v6 v8 : FVec Ideal S1x1x256x64 .bf16) (v10 : FVec Ideal S1x256x256 .bf16) (r : Fin 256) (e : Fin 64) :
    k0_pay4 (F := Ideal) v6 v8 v10 (ix2 r e) = soft (n := 256)
      (fun j => ∑ d : Fin 64, v10 (ix3 0 r ⟨64 + d.val, by omega⟩) * v6 (ix4 0 0 j d)) (fun j => v8 (ix4 0 0 j e)) := by
  pointwise [k0_pay4, k0_pay1, k0_pay2]
  rfl

/-- The whole row over the first 256 keys: two heads already computed, then the other two. -/
theorem pay5_apply (v24 v39 : FVec Ideal S256x64 .f32) (v6 v8 : FVec Ideal S1x1x256x64 .bf16) (v10 : FVec Ideal S1x256x256 .bf16)
    (r : Fin 256) (l : Fin 256) :
    k0_pay5 (F := Ideal) v24 v39 v6 v8 v10 v10 (ix3 0 r l)
      = if h0 : l.val < 64 then v24 (ix2 r ⟨l.val, h0⟩)
        else if h1 : l.val - 64 < 64 then v39 (ix2 r ⟨l.val - 64, h1⟩)
        else if h2 : l.val - 64 - 64 < 64 then soft (n := 256)
          (fun j => ∑ d : Fin 64, v10 (ix3 0 r ⟨128 + d.val, by omega⟩) * v6 (ix4 0 0 j d)) (fun j => v8 (ix4 0 0 j ⟨l.val - 64 - 64, by omega⟩))
        else soft (n := 256)
          (fun j => ∑ d : Fin 64, v10 (ix3 0 r ⟨192 + d.val, by omega⟩) * v6 (ix4 0 0 j d)) (fun j => v8 (ix4 0 0 j ⟨l.val - 64 - 64 - 64, by omega⟩)) := by
  pointwise [k0_pay5]
  rfl

/-- What the context tile's body stores at lane `e` of head `h` of row `r`: attention over the first 256 keys. -/
theorem store_context (x0 : FVec Ideal S1x256x256 .bf16) (x1 x2 : FVec Ideal S1x2x4352x64 .bf16) (r : Fin 256) (h : Fin 4) (e : Fin 64) :
    k0_pay5 (F := Ideal) (k0_pay3 (ldC0 x1) (ldC0 x2) x0) (k0_pay4 (ldC0 x1) (ldC0 x2) x0)
      (ldC1 x1) (ldC1 x2) x0 x0 (ix3 0 r (lane h e))
      = soft (n := 256) (fun j => ∑ d : Fin 64, x0 (ix3 0 r (lane h d)) * x1 (ix4 0 (kvh h) ⟨j.val, by omega⟩ d))
          (fun j => x2 (ix4 0 (kvh h) ⟨j.val, by omega⟩ e)) := by
  rw [pay5_apply]
  obtain ⟨h, hh⟩ := h
  obtain rfl | rfl | rfl | rfl : h = 0 ∨ h = 1 ∨ h = 2 ∨ h = 3 := by omega
  · rw [dif_pos (by simp only [lane]; omega), pay3_apply]
    refine soft_congr (fun j => Finset.sum_congr rfl fun d _ => ?_) (fun j => ?_)
    · rw [ldC0_apply]; exact congrArg₂ (· * ·) (congrArg x0 (congrArg (ix3 0 r) (Fin.ext (by first | rfl | (simp only [lane]; omega))))) (congrArg x1 (congrArg (fun g => ix4 0 g _ d) (Fin.ext (by simp [kvh]))))
    · rw [ldC0_apply]; exact congrArg x2 (congrArg₂ (fun g e => ix4 0 g _ e) (Fin.ext (by simp [kvh])) (Fin.ext (by first | rfl | (simp only [lane]; omega))))
  · rw [dif_neg (by simp only [lane]; omega), dif_pos (by simp only [lane]; omega), pay4_apply]
    refine soft_congr (fun j => Finset.sum_congr rfl fun d _ => ?_) (fun j => ?_)
    · rw [ldC0_apply]; exact congrArg₂ (· * ·) (congrArg x0 (congrArg (ix3 0 r) (Fin.ext (by first | rfl | (simp only [lane]; omega))))) (congrArg x1 (congrArg (fun g => ix4 0 g _ d) (Fin.ext (by simp [kvh]))))
    · rw [ldC0_apply]; exact congrArg x2 (congrArg₂ (fun g e => ix4 0 g _ e) (Fin.ext (by simp [kvh])) (Fin.ext (by first | rfl | (simp only [lane]; omega))))
  · rw [dif_neg (by simp only [lane]; omega), dif_neg (by simp only [lane]; omega), dif_pos (by simp only [lane]; omega)]
    refine soft_congr (fun j => Finset.sum_congr rfl fun d _ => ?_) (fun j => ?_)
    · rw [ldC1_apply]; exact congrArg₂ (· * ·) (congrArg x0 (congrArg (ix3 0 r) (Fin.ext (by first | rfl | (simp only [lane]; omega))))) (congrArg x1 (congrArg (fun g => ix4 0 g _ d) (Fin.ext (by simp [kvh]))))
    · rw [ldC1_apply]; exact congrArg x2 (congrArg₂ (fun g e => ix4 0 g _ e) (Fin.ext (by simp [kvh])) (Fin.ext (by first | rfl | (simp only [lane]; omega))))
  · rw [dif_neg (by simp only [lane]; omega), dif_neg (by simp only [lane]; omega), dif_neg (by simp only [lane]; omega)]
    refine soft_congr (fun j => Finset.sum_congr rfl fun d _ => ?_) (fun j => ?_)
    · rw [ldC1_apply]; exact congrArg₂ (· * ·) (congrArg x0 (congrArg (ix3 0 r) (Fin.ext (by first | rfl | (simp only [lane]; omega))))) (congrArg x1 (congrArg (fun g => ix4 0 g _ d) (Fin.ext (by simp [kvh]))))
    · rw [ldC1_apply]; exact congrArg x2 (congrArg₂ (fun g e => ix4 0 g _ e) (Fin.ext (by simp [kvh])) (Fin.ext (by first | rfl | (simp only [lane]; omega))))

/-- The load of all keys (or values) of head 0 from a block. -/
abbrev ldL0 (x : FVec Ideal S1x2x4352x64 .bf16) : FVec Ideal S1x1x4352x64 .bf16 :=
  View.ld (Val := Elt Ideal) (S := S1x2x4352x64) (e' := .bf16) x (Rect.unit ![0, 0, 0, 0] ![1, 1, 4352, 64] inb_S1x2x4352x64_S1x1x4352x64_0_0_0_0)

theorem ldL0_apply (x : FVec Ideal S1x2x4352x64 .bf16) (j : Fin 4352) (d : Fin 64) :
    ldL0 x (ix4 0 0 j d) = x (ix4 0 0 j d) := by
  pointwise [ldL0]

/-- The load of all keys (or values) of head 1 from a block. -/
abbrev ldL1 (x : FVec Ideal S1x2x4352x64 .bf16) : FVec Ideal S1x1x4352x64 .bf16 :=
  View.ld (Val := Elt Ideal) (S := S1x2x4352x64) (e' := .bf16) x (Rect.unit ![0, 1, 0, 0] ![1, 1, 4352, 64] inb_S1x2x4352x64_S1x1x4352x64_0_1_0_0)

theorem ldL1_apply (x : FVec Ideal S1x2x4352x64 .bf16) (j : Fin 4352) (d : Fin 64) :
    ldL1 x (ix4 0 0 j d) = x (ix4 0 1 j d) := by
  pointwise [ldL1]

/-- The first head over all keys. -/
theorem pay8_apply (v6 v8 : FVec Ideal S1x1x4352x64 .bf16) (v10 : FVec Ideal S1x256x256 .bf16) (r : Fin 256) (e : Fin 64) :
    k0_pay8 (F := Ideal) v6 v8 v10 (ix2 r e) = soft (n := 4352)
      (fun j => ∑ d : Fin 64, v10 (ix3 0 r ⟨d.val, by omega⟩) * v6 (ix4 0 0 j d)) (fun j => v8 (ix4 0 0 j e)) := by
  pointwise [k0_pay8, k0_pay6, k0_pay7]
  rfl

/-- The second head over all keys. -/
theorem pay9_apply (v6 v8 : FVec Ideal S1x1x4352x64 .bf16) (v10 : FVec Ideal S1x256x256 .bf16) (r : Fin 256) (e : Fin 64) :
    k0_pay9 (F := Ideal) v6 v8 v10 (ix2 r e) = soft (n := 4352)
      (fun j => ∑ d : Fin 64, v10 (ix3 0 r ⟨64 + d.val, by omega⟩) * v6 (ix4 0 0 j d)) (fun j => v8 (ix4 0 0 j e)) := by
  pointwise [k0_pay9, k0_pay6, k0_pay7]
  rfl

/-- The whole row over all keys: two heads already computed, then the other two. -/
theorem pay10_apply (v24 v39 : FVec Ideal S256x64 .f32) (v6 v8 : FVec Ideal S1x1x4352x64 .bf16) (v10 : FVec Ideal S1x256x256 .bf16)
    (r : Fin 256) (l : Fin 256) :
    k0_pay10 (F := Ideal) v24 v39 v6 v8 v10 v10 (ix3 0 r l)
      = if h0 : l.val < 64 then v24 (ix2 r ⟨l.val, h0⟩)
        else if h1 : l.val - 64 < 64 then v39 (ix2 r ⟨l.val - 64, h1⟩)
        else if h2 : l.val - 64 - 64 < 64 then soft (n := 4352)
          (fun j => ∑ d : Fin 64, v10 (ix3 0 r ⟨128 + d.val, by omega⟩) * v6 (ix4 0 0 j d)) (fun j => v8 (ix4 0 0 j ⟨l.val - 64 - 64, by omega⟩))
        else soft (n := 4352)
          (fun j => ∑ d : Fin 64, v10 (ix3 0 r ⟨192 + d.val, by omega⟩) * v6 (ix4 0 0 j d)) (fun j => v8 (ix4 0 0 j ⟨l.val - 64 - 64 - 64, by omega⟩)) := by
  pointwise [k0_pay10]
  rfl

/-- What every other tile's body stores at lane `e` of head `h` of row `r`: attention over all keys. -/
theorem store_latent (x0 : FVec Ideal S1x256x256 .bf16) (x1 x2 : FVec Ideal S1x2x4352x64 .bf16) (r : Fin 256) (h : Fin 4) (e : Fin 64) :
    k0_pay10 (F := Ideal) (k0_pay8 (ldL0 x1) (ldL0 x2) x0) (k0_pay9 (ldL0 x1) (ldL0 x2) x0)
      (ldL1 x1) (ldL1 x2) x0 x0 (ix3 0 r (lane h e))
      = soft (n := 4352) (fun j => ∑ d : Fin 64, x0 (ix3 0 r (lane h d)) * x1 (ix4 0 (kvh h) j d))
          (fun j => x2 (ix4 0 (kvh h) j e)) := by
  rw [pay10_apply]
  obtain ⟨h, hh⟩ := h
  obtain rfl | rfl | rfl | rfl : h = 0 ∨ h = 1 ∨ h = 2 ∨ h = 3 := by omega
  · rw [dif_pos (by simp only [lane]; omega), pay8_apply]
    refine soft_congr (fun j => Finset.sum_congr rfl fun d _ => ?_) (fun j => ?_)
    · rw [ldL0_apply]; exact congrArg₂ (· * ·) (congrArg x0 (congrArg (ix3 0 r) (Fin.ext (by first | rfl | (simp only [lane]; omega))))) (congrArg x1 (congrArg (fun g => ix4 0 g _ d) (Fin.ext (by simp [kvh]))))
    · rw [ldL0_apply]; exact congrArg x2 (congrArg₂ (fun g e => ix4 0 g _ e) (Fin.ext (by simp [kvh])) (Fin.ext (by first | rfl | (simp only [lane]; omega))))
  · rw [dif_neg (by simp only [lane]; omega), dif_pos (by simp only [lane]; omega), pay9_apply]
    refine soft_congr (fun j => Finset.sum_congr rfl fun d _ => ?_) (fun j => ?_)
    · rw [ldL0_apply]; exact congrArg₂ (· * ·) (congrArg x0 (congrArg (ix3 0 r) (Fin.ext (by first | rfl | (simp only [lane]; omega))))) (congrArg x1 (congrArg (fun g => ix4 0 g _ d) (Fin.ext (by simp [kvh]))))
    · rw [ldL0_apply]; exact congrArg x2 (congrArg₂ (fun g e => ix4 0 g _ e) (Fin.ext (by simp [kvh])) (Fin.ext (by first | rfl | (simp only [lane]; omega))))
  · rw [dif_neg (by simp only [lane]; omega), dif_neg (by simp only [lane]; omega), dif_pos (by simp only [lane]; omega)]
    refine soft_congr (fun j => Finset.sum_congr rfl fun d _ => ?_) (fun j => ?_)
    · rw [ldL1_apply]; exact congrArg₂ (· * ·) (congrArg x0 (congrArg (ix3 0 r) (Fin.ext (by first | rfl | (simp only [lane]; omega))))) (congrArg x1 (congrArg (fun g => ix4 0 g _ d) (Fin.ext (by simp [kvh]))))
    · rw [ldL1_apply]; exact congrArg x2 (congrArg₂ (fun g e => ix4 0 g _ e) (Fin.ext (by simp [kvh])) (Fin.ext (by first | rfl | (simp only [lane]; omega))))
  · rw [dif_neg (by simp only [lane]; omega), dif_neg (by simp only [lane]; omega), dif_neg (by simp only [lane]; omega)]
    refine soft_congr (fun j => Finset.sum_congr rfl fun d _ => ?_) (fun j => ?_)
    · rw [ldL1_apply]; exact congrArg₂ (· * ·) (congrArg x0 (congrArg (ix3 0 r) (Fin.ext (by first | rfl | (simp only [lane]; omega))))) (congrArg x1 (congrArg (fun g => ix4 0 g _ d) (Fin.ext (by simp [kvh]))))
    · rw [ldL1_apply]; exact congrArg x2 (congrArg₂ (fun g e => ix4 0 g _ e) (Fin.ext (by simp [kvh])) (Fin.ext (by first | rfl | (simp only [lane]; omega))))

end Cert.KernelIdeal.Rows

end
-- ==== Proof.Attention.lean ====
/- The attention of the layer, element by element, which both programs compute. -/
module

public import proofs.«01_k».proof.Proof.Softmax

@[expose] public section

noncomputable section

namespace Cert.Attend

open Idealize.ShloMosaic

/-- Element `l` of row `t` of sequence `b`: query head `l / 64`, key-value head `l / 128`. The first 256 rows attend to
    the first 256 keys, every other row to all of them. -/
def attAt (q : FVec Ideal ⟨3, ![8, 4352, 256]⟩ .bf16) (k v : FVec Ideal ⟨4, ![8, 2, 4352, 64]⟩ .bf16)
    (b : Fin 8) (t : Fin 4352) (l : Fin 256) : EReal :=
  if t.val < 256 then
    soft (n := 256)
      (fun j => ∑ d : Fin 64, q (ix3 b t ⟨64 * (l.val / 64) + d.val, by omega⟩) * k (ix4 b ⟨l.val / 128, by omega⟩ ⟨j.val, by omega⟩ d))
      (fun j => v (ix4 b ⟨l.val / 128, by omega⟩ ⟨j.val, by omega⟩ ⟨l.val % 64, by omega⟩))
  else
    soft (n := 4352)
      (fun j => ∑ d : Fin 64, q (ix3 b t ⟨64 * (l.val / 64) + d.val, by omega⟩) * k (ix4 b ⟨l.val / 128, by omega⟩ j d))
      (fun j => v (ix4 b ⟨l.val / 128, by omega⟩ j ⟨l.val % 64, by omega⟩))

/-- The whole result. -/
def att (q : FVec Ideal ⟨3, ![8, 4352, 256]⟩ .bf16) (k v : FVec Ideal ⟨4, ![8, 2, 4352, 64]⟩ .bf16) :
    FVec Ideal ⟨3, ![8, 4352, 256]⟩ .bf16 := fun i => attAt q k v (i 0) (i 1) (i 2)

end Cert.Attend

end
-- ==== Proof.Final.lean ====
/- The result array of the attention call after its run: every grid point's block is the attention of its rows. -/
module

public import proofs.«01_k».proof.Proof.Rows
public import proofs.«01_k».proof.Proof.Attention

@[expose] public section

set_option maxRecDepth 16384

noncomputable section

namespace Cert.KernelIdeal.Final

open Idealize.ShloMosaic Idealize.ShloMosaic.TcCoe Cert.KernelIdeal Cert.KernelIdeal.Gen Cert.KernelIdeal.Rows Cert.Attend

variable (m : (ℓ : Loc nD τ sig) → Buf (Elt Ideal) ℓ)

/-- The index maps: sequence `t / 17`, tile `t % 17`; the keys and values of a whole sequence at every tile. -/
theorem idx : ∀ t : Fin cfg0.N, win0_0.index t = ![t.val / 17, t.val % 17, 0] ∧ win0_1.index t = ![t.val / 17, 0, 0, 0]
    ∧ win0_2.index t = ![t.val / 17, 0, 0, 0] ∧ win0_3.index t = ![t.val / 17, t.val % 17, 0] :=
  (by decide +kernel : ∀ t : Fin grid0.N, _)

/-- The queries' block, read at an index. -/
theorem q_block (c : Dev nD) (t : Fin cfg0.N) (r : Fin 256) (l : Fin 256) (b : Fin 8) (p : Fin 4352)
    (hb : b.val = t.val / 17) (hp : p.val = 256 * (t.val % 17) + r.val) :
    iblk m c 0 t (ix3 0 r l) = m ((c : Thread nD τ).loc main_arg0) (ix3 b p l) := by
  blk_ext [iblk, V, idx t]

/-- The keys' block, read at an index. -/
theorem k_block (c : Dev nD) (t : Fin cfg0.N) (g : Fin 2) (j : Fin 4352) (d : Fin 64) (b : Fin 8) (hb : b.val = t.val / 17) :
    iblk m c 1 t (ix4 0 g j d) = m ((c : Thread nD τ).loc main_arg1) (ix4 b g j d) := by
  blk_ext [iblk, V, idx t]

/-- The values' block, read at an index. -/
theorem v_block (c : Dev nD) (t : Fin cfg0.N) (g : Fin 2) (j : Fin 4352) (d : Fin 64) (b : Fin 8) (hb : b.val = t.val / 17) :
    iblk m c 2 t (ix4 0 g j d) = m ((c : Thread nD τ).loc main_arg2) (ix4 b g j d) := by
  blk_ext [iblk, V, idx t]

/-- Where element `y` of point `t`'s block sits in the result. -/
theorem place (t : Fin cfg0.N) (y : S1x256x256.Idx) :
    (((win0_3.blk t).view.emb y : S8x4352x256.Idx) 0).val = t.val / 17 + (y 0).val
    ∧ (((win0_3.blk t).view.emb y : S8x4352x256.Idx) 1).val = 256 * (t.val % 17) + (y 1).val
    ∧ (((win0_3.blk t).view.emb y : S8x4352x256.Idx) 2).val = (y 2).val := by
  refine ⟨?_, ?_, ?_⟩ <;> blk_simp [idx t] <;> simp <;> omega

/-- A lane is the lane of its head and its place in the head. -/
theorem lane_of (l : Fin 256) : l = lane ⟨l.val / 64, by omega⟩ ⟨l.val % 64, by omega⟩ :=
  Fin.ext (by simp only [lane]; omega)

/-- The key-value head of a lane. -/
theorem kvh_of (l : Fin 256) : kvh ⟨l.val / 64, by omega⟩ = ⟨l.val / 128, by omega⟩ :=
  Fin.ext (by show l.val / 64 / 2 = l.val / 128; omega)

/-- The block of the first tile of a sequence, at an index: 256 keys. -/
theorem context_block (c : Dev nD) (t : Fin cfg0.N) (h0 : t.val % 17 = 0) (r : Fin 256) (l : Fin 256) (b : Fin 8) (p : Fin 4352)
    (hb : b.val = t.val / 17) (hp : p.val = 256 * (t.val % 17) + r.val) :
    k0_pay5 (F := Ideal) (k0_pay3 (ldC0 (iblk m c 1 t)) (ldC0 (iblk m c 2 t)) (iblk m c 0 t))
      (k0_pay4 (ldC0 (iblk m c 1 t)) (ldC0 (iblk m c 2 t)) (iblk m c 0 t)) (ldC1 (iblk m c 1 t)) (ldC1 (iblk m c 2 t))
      (iblk m c 0 t) (iblk m c 0 t) (ix3 0 r l)
    = attAt (m ((c : Thread nD τ).loc main_arg0)) (m ((c : Thread nD τ).loc main_arg1)) (m ((c : Thread nD τ).loc main_arg2)) b p l := by
  have hs := store_context (iblk m c 0 t) (iblk m c 1 t) (iblk m c 2 t) r ⟨l.val / 64, by omega⟩ ⟨l.val % 64, by omega⟩
  rw [← lane_of l] at hs
  rw [hs, attAt, if_pos (by omega)]
  refine soft_congr (fun j => Finset.sum_congr rfl fun d _ => ?_) (fun j => ?_)
  · rw [q_block m c t r _ b p hb hp, k_block m c t _ _ d b hb, kvh_of l]
  · rw [v_block m c t _ _ _ b hb, kvh_of l]

/-- The block of every other tile, at an index: all the keys. -/
theorem latent_block (c : Dev nD) (t : Fin cfg0.N) (h1 : 1 ≤ t.val % 17) (r : Fin 256) (l : Fin 256) (b : Fin 8) (p : Fin 4352)
    (hb : b.val = t.val / 17) (hp : p.val = 256 * (t.val % 17) + r.val) :
    k0_pay10 (F := Ideal) (k0_pay8 (ldL0 (iblk m c 1 t)) (ldL0 (iblk m c 2 t)) (iblk m c 0 t))
      (k0_pay9 (ldL0 (iblk m c 1 t)) (ldL0 (iblk m c 2 t)) (iblk m c 0 t)) (ldL1 (iblk m c 1 t)) (ldL1 (iblk m c 2 t))
      (iblk m c 0 t) (iblk m c 0 t) (ix3 0 r l)
    = attAt (m ((c : Thread nD τ).loc main_arg0)) (m ((c : Thread nD τ).loc main_arg1)) (m ((c : Thread nD τ).loc main_arg2)) b p l := by
  have hs := store_latent (iblk m c 0 t) (iblk m c 1 t) (iblk m c 2 t) r ⟨l.val / 64, by omega⟩ ⟨l.val % 64, by omega⟩
  rw [← lane_of l] at hs
  rw [hs, attAt, if_neg (by omega)]
  refine soft_congr (fun j => Finset.sum_congr rfl fun d _ => ?_) (fun j => ?_)
  · rw [q_block m c t r _ b p hb hp, k_block m c t _ _ d b hb, kvh_of l]
  · rw [v_block m c t _ _ _ b hb, kvh_of l]

/-- A block index is its row and its lane. -/
theorem block_idx (y : S1x256x256.Idx) : ∃ (r : Fin 256) (l : Fin 256), y = ix3 0 r l :=
  ⟨y 1, y 2, (eq_ix3 y).trans (congrArg (fun g : Fin 1 => ix3 g (y 1) (y 2)) (Subsingleton.elim (α := Fin 1) (y 0) (0 : Fin 1)))⟩

/-- The attention at the place where an element of a block sits. -/
theorem att_place (q : FVec Ideal ⟨3, ![8, 4352, 256]⟩ .bf16) (k v : FVec Ideal ⟨4, ![8, 2, 4352, 64]⟩ .bf16)
    (i : S8x4352x256.Idx) (l : Fin 256) (h : (i 2).val = l.val) : attAt q k v (i 0) (i 1) l = att q k v i :=
  congrArg (attAt q k v (i 0) (i 1)) (Fin.ext h.symm)

/-- The result array after the run. -/
theorem final (c : Dev nD) : (dats m 0 c).arrAt 3 (cfgs 0).N
    = att (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, l, rfl⟩ := block_idx y
  obtain ⟨e0, e1, e2⟩ := place t (ix3 0 r l)
  by_cases h0 : t.val % 17 = 0
  · have h1 : ¬ 1 ≤ t.val % 17 := by omega
    rw [outsAt0_A m c t h0 h1]; frame_out
    exact (context_block m c t h0 r l _ _ e0 e1).trans (att_place _ _ _ _ l e2)
  · have h1 : 1 ≤ t.val % 17 := by omega
    rw [outsAt0_B m c t h0 h1]; frame_out
    exact (latent_block m c t h1 r l _ _ e0 e1).trans (att_place _ _ _ _ l e2)

end Cert.KernelIdeal.Final

end
-- ==== Proof.RefRows.lean ====
/- The reference's result, element by element: the attention of every row over its keys. -/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Rows

open Idealize.ShloMosaic Idealize.ShloMosaic.TcCoe Cert.ReferenceIdeal Cert.ReferenceIdeal.Gen Cert.Attend

/-- The maximum along the last of five axes, taken by the host's reduction. -/
theorem hostMax_apply {a b c d n : ℕ} (s : FVec Ideal ⟨5, ![a, b, c, d, n]⟩ .f32) (w : BitVec 32)
    (h : Shape.ReducesTo ⟨5, ![a, b, c, d, n]⟩ [4] ⟨4, ![a, b, c, d]⟩) (hu : 0 < (⟨0, ![]⟩ : Shape).numel)
    (i : Fin a) (j : Fin b) (k : Fin c) (l : Fin d) :
    Host.reduce (FloatOps.maximumf (F := Ideal) (φ := .f32)) s (constant (F := Ideal) ⟨0, ![]⟩ .f32 w) h hu (ix4 i j k l)
      = Finset.fold max (Ideal.ofBits .f32 w) (fun x => s (ix5 i j k l x)) Finset.univ := by
  rw [Host.reduce_eq_fold, Shape.ReducesTo.fold_fiber_r5_a4]
  rfl

/-- The keys (or the values) with the token axis first. -/
def keys (k : FVec Ideal S8x2x4352x64 .bf16) : FVec Ideal S8x4352x2x64 .f32 :=
  transpose S8x4352x2x64 [0, 2, 1, 3] (extf .f32 k bitsLt_bf16_f32) transposes_S8x2x4352x64_S8x4352x2x64_0_2_1_3

/-- The scores of the context rows. -/
def scoresC (q : FVec Ideal S8x4352x256 .bf16) (k : FVec Ideal S8x2x4352x64 .bf16) : FVec Ideal S8x2x2x256x256 .f32 :=
  transpose S8x2x2x256x256 [0, 1, 4, 3, 2] (Host.dotGeneral dot_S8x256x2x64_S8x256x2x2x64_S8x2x256x256x2_3_4_1_13_02_02 none (extractStridedSlice S8x256x2x64 ![0, 0, 0, 0] (keys k) slices_S8x4352x2x64_S8x256x2x64_0_0_0_0) (shapeCast S8x256x2x2x64 (extractStridedSlice S8x256x4x64 ![0, 0, 0, 0] (shapeCast S8x4352x4x64 (extf .f32 q bitsLt_bf16_f32) shapeCasts_S8x4352x256_S8x4352x4x64) slices_S8x4352x4x64_S8x256x4x64_0_0_0_0) shapeCasts_S8x256x4x64_S8x256x2x2x64)) transposes_S8x2x256x256x2_S8x2x2x256x256_0_1_4_3_2

/-- The largest score of each row, context rows. -/
def largestC (s : FVec Ideal S8x2x2x256x256 .f32) : FVec Ideal S8x2x2x256 .f32 :=
  Host.reduce FloatOps.maximumf s (constant S_ .f32 0xFF800000#32) reducesTo_S8x2x2x256x256_S8x2x2x256_d4 h_S_

/-- The exponentials of the scores below given numbers, context rows. -/
def belowC (s : FVec Ideal S8x2x2x256x256 .f32) (M : FVec Ideal S8x2x2x256 .f32) : FVec Ideal S8x2x2x256x256 .f32 :=
  Host.exp (subf s (broadcastInDim S8x2x2x256x256 ![0, 1, 2, 3, 4] bcast_S8x2x2x256x1_S8x2x2x256x256_0_1_2_3_4 (broadcastInDim S8x2x2x256x1 ![0, 1, 2, 3] bcast_S8x2x2x256_S8x2x2x256x1_0_1_2_3 (maximumf (broadcastInDim S8x2x2x256 ![] bcast_S_S8x2x2x256 (constant S_ .f32 0xFF800000#32)) M))))

/-- The exponentials of the scores below the largest, context rows. -/
def weightsC (s : FVec Ideal S8x2x2x256x256 .f32) : FVec Ideal S8x2x2x256x256 .f32 := belowC s (largestC s)

/-- The normalised weights, context rows. -/
def probsC (s : FVec Ideal S8x2x2x256x256 .f32) : FVec Ideal S8x2x2x256x256 .f32 :=
  Host.divf (weightsC s) (broadcastInDim S8x2x2x256x256 ![0, 1, 2, 3, 4] bcast_S8x2x2x256x1_S8x2x2x256x256_0_1_2_3_4 (broadcastInDim S8x2x2x256x1 ![0, 1, 2, 3] bcast_S8x2x2x256_S8x2x2x256x1_0_1_2_3 (Host.reduceAdd (weightsC s) (constant S_ .f32 0x00000000#32) reducesTo_S8x2x2x256x256_S8x2x2x256_d4 h_S_)))

/-- The attention of the context rows. -/
def partC (v : FVec Ideal S8x2x4352x64 .bf16) (s : FVec Ideal S8x2x2x256x256 .f32) : FVec Ideal S8x256x256 .f32 :=
  shapeCast S8x256x256 (transpose S8x256x2x2x64 [0, 4, 1, 3, 2] (Host.dotGeneral dot_S8x256x2x64_S8x2x2x256x256_S8x2x64x2x256_1_4_3_23_02_01 none (extractStridedSlice S8x256x2x64 ![0, 0, 0, 0] (keys v) slices_S8x4352x2x64_S8x256x2x64_0_0_0_0) (probsC s)) transposes_S8x2x64x2x256_S8x256x2x2x64_0_4_1_3_2) shapeCasts_S8x256x2x2x64_S8x256x256

/-- The scores of the latent rows. -/
def scoresL (q : FVec Ideal S8x4352x256 .bf16) (k : FVec Ideal S8x2x4352x64 .bf16) : FVec Ideal S8x2x2x4096x4352 .f32 :=
  transpose S8x2x2x4096x4352 [0, 1, 4, 3, 2] (Host.dotGeneral dot_S8x4352x2x64_S8x4096x2x2x64_S8x2x4352x4096x2_3_4_1_13_02_02 none (keys k) (shapeCast S8x4096x2x2x64 (extractStridedSlice S8x4096x4x64 ![0, 256, 0, 0] (shapeCast S8x4352x4x64 (extf .f32 q bitsLt_bf16_f32) shapeCasts_S8x4352x256_S8x4352x4x64) slices_S8x4352x4x64_S8x4096x4x64_0_256_0_0) shapeCasts_S8x4096x4x64_S8x4096x2x2x64)) transposes_S8x2x4352x4096x2_S8x2x2x4096x4352_0_1_4_3_2

/-- The largest score of each row, latent rows. -/
def largestL (s : FVec Ideal S8x2x2x4096x4352 .f32) : FVec Ideal S8x2x2x4096 .f32 :=
  Host.reduce FloatOps.maximumf s (constant S_ .f32 0xFF800000#32) reducesTo_S8x2x2x4096x4352_S8x2x2x4096_d4 h_S_

/-- The exponentials of the scores below given numbers, latent rows. -/
def belowL (s : FVec Ideal S8x2x2x4096x4352 .f32) (M : FVec Ideal S8x2x2x4096 .f32) : FVec Ideal S8x2x2x4096x4352 .f32 :=
  Host.exp (subf s (broadcastInDim S8x2x2x4096x4352 ![0, 1, 2, 3, 4] bcast_S8x2x2x4096x1_S8x2x2x4096x4352_0_1_2_3_4 (broadcastInDim S8x2x2x4096x1 ![0, 1, 2, 3] bcast_S8x2x2x4096_S8x2x2x4096x1_0_1_2_3 (maximumf (broadcastInDim S8x2x2x4096 ![] bcast_S_S8x2x2x4096 (constant S_ .f32 0xFF800000#32)) M))))

/-- The exponentials of the scores below the largest, latent rows. -/
def weightsL (s : FVec Ideal S8x2x2x4096x4352 .f32) : FVec Ideal S8x2x2x4096x4352 .f32 := belowL s (largestL s)

/-- The normalised weights, latent rows. -/
def probsL (s : FVec Ideal S8x2x2x4096x4352 .f32) : FVec Ideal S8x2x2x4096x4352 .f32 :=
  Host.divf (weightsL s) (broadcastInDim S8x2x2x4096x4352 ![0, 1, 2, 3, 4] bcast_S8x2x2x4096x1_S8x2x2x4096x4352_0_1_2_3_4 (broadcastInDim S8x2x2x4096x1 ![0, 1, 2, 3] bcast_S8x2x2x4096_S8x2x2x4096x1_0_1_2_3 (Host.reduceAdd (weightsL s) (constant S_ .f32 0x00000000#32) reducesTo_S8x2x2x4096x4352_S8x2x2x4096_d4 h_S_)))

/-- The attention of the latent rows. -/
def partL (v : FVec Ideal S8x2x4352x64 .bf16) (s : FVec Ideal S8x2x2x4096x4352 .f32) : FVec Ideal S8x4096x256 .f32 :=
  shapeCast S8x4096x256 (transpose S8x4096x2x2x64 [0, 4, 1, 3, 2] (Host.dotGeneral dot_S8x4352x2x64_S8x2x2x4096x4352_S8x2x64x2x4096_1_4_3_23_02_01 none (keys v) (probsL s)) transposes_S8x2x64x2x4096_S8x4096x2x2x64_0_4_1_3_2) shapeCasts_S8x4096x2x2x64_S8x4096x256

/-- The reference's result is the two parts, one below the other. -/
theorem res_eq (m : (ℓ : Loc nD τ sig) → Buf (Elt Ideal) ℓ) (c : Dev nD) (q : FVec Ideal S8x4352x256 .bf16) (k v : FVec Ideal S8x2x4352x64 .bf16)
    (hq : m ((c.tc : Thread nD τ).loc main_arg0) = q) (hk : m ((c.tc : Thread nD τ).loc main_arg1) = k) (hv : m ((c.tc : Thread nD τ).loc main_arg2) = v) :
    Value.res_main_v45 m c = truncf .bf16 (concatenate S8x4352x256 1 [⟨S8x256x256, (partC v (scoresC q k))⟩, ⟨S8x4096x256, (partL v (scoresL q k))⟩] concatenates_S8x256x256_S8x4096x256_S8x4352x256_d1) bitsLt_bf16_f32 := by
  subst hq hk hv
  rfl

/-- One score of a context row. -/
theorem scoresC_apply (q : FVec Ideal S8x4352x256 .bf16) (k : FVec Ideal S8x2x4352x64 .bf16) (b : Fin 8) (g r : Fin 2) (t : Fin 256) (j : Fin 256) :
    scoresC q k (ix5 b g r t j)
      = ∑ d : Fin 64, k (ix4 b g ⟨j.val, by omega⟩ d) * q (ix3 b ⟨t.val, by omega⟩ ⟨(g.val * 2 + r.val) * 64 + d.val, by omega⟩) := by
  pointwise [scoresC, keys]

/-- The largest score of a context row. -/
theorem largestC_apply (s : FVec Ideal S8x2x2x256x256 .f32) (b : Fin 8) (g r : Fin 2) (t : Fin 256) :
    largestC s (ix4 b g r t) = top (fun j => s (ix5 b g r t j)) :=
  hostMax_apply s _ _ _ b g r t

/-- One exponential below a given number, context rows. -/
theorem belowC_apply (s : FVec Ideal S8x2x2x256x256 .f32) (M : FVec Ideal S8x2x2x256 .f32) (b : Fin 8) (g r : Fin 2) (t : Fin 256) (j : Fin 256) :
    belowC s M (ix5 b g r t j)
      = Ideal.exp (s (ix5 b g r t j) - max (Ideal.ofBits .f32 0xFF800000#32) (M (ix4 b g r t))) := by
  pointwise [belowC]

/-- One weight of a context row. -/
theorem weightsC_apply (s : FVec Ideal S8x2x2x256x256 .f32) (b : Fin 8) (g r : Fin 2) (t : Fin 256) (j : Fin 256) :
    weightsC s (ix5 b g r t j)
      = Ideal.exp (s (ix5 b g r t j) - max (Ideal.ofBits .f32 0xFF800000#32) (top (fun j => s (ix5 b g r t j)))) := by
  unfold weightsC
  rw [belowC_apply, largestC_apply]

/-- One element of the attention of a context row, from the weights. -/
theorem partC_apply (v : FVec Ideal S8x2x4352x64 .bf16) (s : FVec Ideal S8x2x2x256x256 .f32) (b : Fin 8) (t : Fin 256) (l : Fin 256) :
    partC v s (ix3 b t l)
      = ∑ j : Fin 256, v (ix4 b ⟨l.val / 128, by omega⟩ ⟨j.val, by omega⟩ ⟨l.val % 64, by omega⟩)
          * Ideal.div (weightsC s (ix5 b ⟨l.val / 128, by omega⟩ ⟨l.val / 64 % 2, by omega⟩ t j))
              (∑ i : Fin 256, weightsC s (ix5 b ⟨l.val / 128, by omega⟩ ⟨l.val / 64 % 2, by omega⟩ t i)) := by
  pointwise [partC, keys, probsC]

/-- One element of the attention of a context row, from the queries, keys and values: queries and keys are real. -/
theorem partC_eq (q : FVec Ideal S8x4352x256 .bf16) (k v : FVec Ideal S8x2x4352x64 .bf16)
    (hq : ∀ i, ∃ r : ℝ, q i = (r : EReal)) (hk : ∀ i, ∃ r : ℝ, k i = (r : EReal)) (b : Fin 8) (t : Fin 256) (l : Fin 256) :
    partC v (scoresC q k) (ix3 b t l)
      = soft (n := 256) (fun j => ∑ d : Fin 64, q (ix3 b ⟨t.val, by omega⟩ ⟨64 * (l.val / 64) + d.val, by omega⟩) * k (ix4 b ⟨l.val / 128, by omega⟩ ⟨j.val, by omega⟩ d))
          (fun j => v (ix4 b ⟨l.val / 128, by omega⟩ ⟨j.val, by omega⟩ ⟨l.val % 64, by omega⟩)) := by
  rw [partC_apply]
  simp only [weightsC_apply]
  refine (soft_eq (by omega) (fun j => scoresC q k (ix5 b ⟨l.val / 128, by omega⟩ ⟨l.val / 64 % 2, by omega⟩ t j)) _ fun j => ?_).trans
    (soft_congr (fun j => ?_) fun j => rfl)
  · rw [scoresC_apply]
    exact dot_coe _ _ (fun d => hk _) fun d => hq _
  · rw [scoresC_apply]
    refine Finset.sum_congr rfl fun d _ => ?_
    rw [mul_comm]
    exact congrArg₂ (· * ·) (congrArg q (congrArg (ix3 b _) (Fin.ext (by dsimp only; omega)))) rfl

/-- One score of a latent row. -/
theorem scoresL_apply (q : FVec Ideal S8x4352x256 .bf16) (k : FVec Ideal S8x2x4352x64 .bf16) (b : Fin 8) (g r : Fin 2) (t : Fin 4096) (j : Fin 4352) :
    scoresL q k (ix5 b g r t j)
      = ∑ d : Fin 64, k (ix4 b g j d) * q (ix3 b ⟨256 + t.val, by omega⟩ ⟨(g.val * 2 + r.val) * 64 + d.val, by omega⟩) := by
  pointwise [scoresL, keys]

/-- The largest score of a latent row. -/
theorem largestL_apply (s : FVec Ideal S8x2x2x4096x4352 .f32) (b : Fin 8) (g r : Fin 2) (t : Fin 4096) :
    largestL s (ix4 b g r t) = top (fun j => s (ix5 b g r t j)) :=
  hostMax_apply s _ _ _ b g r t

/-- One exponential below a given number, latent rows. -/
theorem belowL_apply (s : FVec Ideal S8x2x2x4096x4352 .f32) (M : FVec Ideal S8x2x2x4096 .f32) (b : Fin 8) (g r : Fin 2) (t : Fin 4096) (j : Fin 4352) :
    belowL s M (ix5 b g r t j)
      = Ideal.exp (s (ix5 b g r t j) - max (Ideal.ofBits .f32 0xFF800000#32) (M (ix4 b g r t))) := by
  pointwise [belowL]

/-- One weight of a latent row. -/
theorem weightsL_apply (s : FVec Ideal S8x2x2x4096x4352 .f32) (b : Fin 8) (g r : Fin 2) (t : Fin 4096) (j : Fin 4352) :
    weightsL s (ix5 b g r t j)
      = Ideal.exp (s (ix5 b g r t j) - max (Ideal.ofBits .f32 0xFF800000#32) (top (fun j => s (ix5 b g r t j)))) := by
  unfold weightsL
  rw [belowL_apply, largestL_apply]

/-- One element of the attention of a latent row, from the weights. -/
theorem partL_apply (v : FVec Ideal S8x2x4352x64 .bf16) (s : FVec Ideal S8x2x2x4096x4352 .f32) (b : Fin 8) (t : Fin 4096) (l : Fin 256) :
    partL v s (ix3 b t l)
      = ∑ j : Fin 4352, v (ix4 b ⟨l.val / 128, by omega⟩ j ⟨l.val % 64, by omega⟩)
          * Ideal.div (weightsL s (ix5 b ⟨l.val / 128, by omega⟩ ⟨l.val / 64 % 2, by omega⟩ t j))
              (∑ i : Fin 4352, weightsL s (ix5 b ⟨l.val / 128, by omega⟩ ⟨l.val / 64 % 2, by omega⟩ t i)) := by
  pointwise [partL, keys, probsL]

/-- One element of the attention of a latent row, from the queries, keys and values: queries and keys are real. -/
theorem partL_eq (q : FVec Ideal S8x4352x256 .bf16) (k v : FVec Ideal S8x2x4352x64 .bf16)
    (hq : ∀ i, ∃ r : ℝ, q i = (r : EReal)) (hk : ∀ i, ∃ r : ℝ, k i = (r : EReal)) (b : Fin 8) (t : Fin 4096) (l : Fin 256) :
    partL v (scoresL q k) (ix3 b t l)
      = soft (n := 4352) (fun j => ∑ d : Fin 64, q (ix3 b ⟨256 + t.val, by omega⟩ ⟨64 * (l.val / 64) + d.val, by omega⟩) * k (ix4 b ⟨l.val / 128, by omega⟩ j d))
          (fun j => v (ix4 b ⟨l.val / 128, by omega⟩ j ⟨l.val % 64, by omega⟩)) := by
  rw [partL_apply]
  simp only [weightsL_apply]
  refine (soft_eq (by omega) (fun j => scoresL q k (ix5 b ⟨l.val / 128, by omega⟩ ⟨l.val / 64 % 2, by omega⟩ t j)) _ fun j => ?_).trans
    (soft_congr (fun j => ?_) fun j => rfl)
  · rw [scoresL_apply]
    exact dot_coe _ _ (fun d => hk _) fun d => hq _
  · rw [scoresL_apply]
    refine Finset.sum_congr rfl fun d _ => ?_
    rw [mul_comm]
    exact congrArg₂ (· * ·) (congrArg q (congrArg (ix3 b _) (Fin.ext (by dsimp only; omega)))) rfl

end Cert.ReferenceIdeal.Rows

end
-- ==== Proof.RefFinal.lean ====
/- The reference's result is the attention, element by element. -/
module

public import proofs.«01_k».proof.Proof.RefRows
public import proofs.«01_k».proof.Proof.Attention

@[expose] public section

set_option maxRecDepth 16384

noncomputable section

namespace Cert.ReferenceIdeal.RefFinal

open Idealize.ShloMosaic Idealize.ShloMosaic.TcCoe Cert.ReferenceIdeal Cert.ReferenceIdeal.Gen Cert.ReferenceIdeal.Rows Cert.Attend

variable (m : (ℓ : Loc nD τ sig) → Buf (Elt Ideal) ℓ)

/-- The reference's result, for queries and keys that are real numbers. -/
theorem ref_final (c : Dev nD) (q : FVec Ideal S8x4352x256 .bf16) (k v : FVec Ideal S8x2x4352x64 .bf16)
    (hq : m ((c : Thread nD τ).loc main_arg0) = q) (hk : m ((c : Thread nD τ).loc main_arg1) = k)
    (hv : m ((c : Thread nD τ).loc main_arg2) = v) (rq : ∀ i, ∃ r : ℝ, q i = r) (rk : ∀ i, ∃ r : ℝ, k i = r) :
    Value.res_main_v45 m c = att q k v := by
  rw [res_eq m c q k v hq hk hv]
  have hC := fun b t l => partC_eq q k v rq rk b t l
  have hL := fun b t l => partL_eq q k v rq rk b t l
  generalize partC v (scoresC q k) = C at *
  generalize partL v (scoresL q k) = L at *
  funext i
  obtain ⟨b, t, l, rfl⟩ : ∃ (b : Fin 8) (t : Fin 4352) (l : Fin 256), i = ix3 b t l := ⟨i 0, i 1, i 2, eq_ix3 i⟩
  pointwise []
  show _ = attAt q k v b t l
  unfold attAt
  by_cases h : t.val < 256
  · rw [dif_pos h, if_pos h]
    exact hC b ⟨t.val, h⟩ l
  · rw [dif_neg h, if_neg h]
    have ht : (⟨256 + (t.val - 256), by omega⟩ : Fin 4352) = t := Fin.ext (by show 256 + (t.val - 256) = t.val; omega)
    exact (hL b ⟨t.val - 256, by omega⟩ l).trans (by simp only [ht])

end Cert.ReferenceIdeal.RefFinal

end
-- ==== Proof.MoeWords.lean ====
/- The integers of the experts' kernel: from a segment's offset and count, the number of row chunks and where each starts. -/
module

public import proofs.«01_k».proof.Proof.Gen.Kernel2Ideal
public import Mathlib.Tactic.FinCases

@[expose] public section

set_option maxRecDepth 16384

noncomputable section

namespace Cert.Moe

open Idealize.ShloMosaic Cert.Kernel2Ideal

/-- A segment of one group's rows in a tile: it starts at a multiple of sixteen and stays within the first 1152 rows. -/
structure Segment (off cnt : BitVec 32) : Prop where
  /-- The start is a multiple of sixteen. -/
  aligned : 16 ∣ off.toNat
  /-- The start is within the tile. -/
  off_le : off.toNat ≤ 1152
  /-- At most 1024 rows. -/
  cnt_le : cnt.toNat ≤ 1024
  /-- The end is within the tile. -/
  end_le : off.toNat + cnt.toNat ≤ 1152

/-- What the loops make of every count up to 1024: the chunks that cover it, no remainder, and both loops well formed. -/
theorem loops_small : ∀ n : Fin 1025, (k0_t1_loop (BitVec.ofNat 32 n.val)).trips = (n.val + 287) / 288
    ∧ (k0_t2_loop (BitVec.ofNat 32 n.val)).trips = 0 ∧ (k0_t1_loop (BitVec.ofNat 32 n.val)).OK ∧ (k0_t2_loop (BitVec.ofNat 32 n.val)).OK := by
  decide +kernel

theorem loops {cnt : BitVec 32} (h : cnt.toNat ≤ 1024) : (k0_t1_loop cnt).trips = (cnt.toNat + 287) / 288
    ∧ (k0_t2_loop cnt).trips = 0 ∧ (k0_t1_loop cnt).OK ∧ (k0_t2_loop cnt).OK := by
  have e := loops_small ⟨cnt.toNat, by omega⟩
  simpa only [BitVec.ofNat_toNat, BitVec.setWidth_eq] using e

/-- The number of chunks of a segment. -/
theorem trips_eq {cnt : BitVec 32} (h : cnt.toNat ≤ 1024) : (k0_t1_loop cnt).trips = (cnt.toNat + 287) / 288 := (loops h).1

/-- No trip is left over. -/
theorem trips2_eq {cnt : BitVec 32} (h : cnt.toNat ≤ 1024) : (k0_t2_loop cnt).trips = 0 := (loops h).2.1

/-- Where chunk `k` starts. -/
theorem start_eq {off cnt : BitVec 32} (h : Segment off cnt) (k : Fin (k0_t1_loop cnt).trips) :
    (k0_mult1 off cnt k).toNat = off.toNat + 288 * k.val := by
  have hk : k.val < (cnt.toNat + 287) / 288 := (trips_eq h.cnt_le) ▸ k.isLt
  have h1 := h.off_le
  have h2 := h.cnt_le
  show (off + (0#32 + BitVec.ofNat 32 k.val * 1#32) * 288#32).toNat = _
  simp only [BitVec.toNat_add, BitVec.toNat_mul, BitVec.toNat_ofNat]
  omega

/-- A chunk stays within the tile. -/
theorem start_le {off cnt : BitVec 32} (h : Segment off cnt) (k : Fin (k0_t1_loop cnt).trips) :
    off.toNat + 288 * k.val + 288 ≤ 1440 := by
  have hk : k.val < (cnt.toNat + 287) / 288 := (trips_eq h.cnt_le) ▸ k.isLt
  have h1 := h.end_le
  omega

theorem off3_eq {off cnt : BitVec 32} (h : Segment off cnt) (k : Fin (k0_t1_loop cnt).trips) :
    k0_off3 off cnt k = ![0, off.toNat + 288 * k.val, 0] :=
  congrArg (fun n : ℕ => (![0, n, 0] : Fin 3 → ℕ)) (start_eq h k)

theorem off4_eq {off cnt : BitVec 32} (h : Segment off cnt) (k : Fin (k0_t1_loop cnt).trips) :
    k0_off4 off cnt k = ![0, off.toNat + 288 * k.val, 0] :=
  congrArg (fun n : ℕ => (![0, n, 0] : Fin 3 → ℕ)) (start_eq h k)

theorem off5_eq {off cnt : BitVec 32} (h : Segment off cnt) (k : Fin (k0_t1_loop cnt).trips) :
    k0_off5 off cnt k = ![0, 0, off.toNat + 288 * k.val, 0] :=
  congrArg (fun n : ℕ => (![0, 0, n, 0] : Fin 4 → ℕ)) (start_eq h k)

/-- A segment meets everything the kernel's body assumes of its two words. -/
theorem check {off cnt : BitVec 32} (h : Segment off cnt) : k0_chk1 off cnt := by
  have no (k : Fin (k0_t2_loop cnt).trips) : False := absurd (lt_of_lt_of_eq k.isLt (trips2_eq h.cnt_le)) (Nat.not_lt_zero _)
  obtain ⟨-, -, h1, h2⟩ := loops h.cnt_le
  refine ⟨h1, fun k => ?_, fun k a => ?_, fun k a => ?_, fun k a => ?_, fun k hi => ?_, h2, fun k => (no k).elim, fun k => (no k).elim,
    fun k => (no k).elim, fun k => (no k).elim, fun k => (no k).elim⟩
  · rw [start_eq h k]
    exact dvd_add h.aligned ⟨18 * k.val, by omega⟩
  · rw [off3_eq h k]
    have := start_le h k
    fin_cases a <;> simp <;> omega
  · rw [off4_eq h k]
    have := start_le h k
    fin_cases a <;> simp <;> omega
  · rw [off5_eq h k]
    have := start_le h k
    fin_cases a <;> simp <;> omega
  · have hal := h.aligned
    refine .inr ⟨by decide, rfl, .inl ⟨?_, ?_⟩⟩
    · show 2 ∣ k0_off5 off cnt k 2
      rw [off5_eq h k]
      show 2 ∣ off.toNat + 288 * k.val
      omega
    · show 2 ∣ 288
      decide

end Cert.Moe

end
-- ==== Proof.MoePre.lean ====
/- What the precondition says: every segment lies in its tile, and a row outside a group's segment has that group's gates zero. -/
module

public import proofs.«01_k».proof.Pre_sorted_by_group
public import proofs.«01_k».proof.Proof.MoeWords
public import Idealize.ShloMosaic.Lib.Pointwise
public import Idealize.ShloMosaic.Lib.Decide
public import Idealize.ShloMosaic.Lib.ReduceAll
public import Idealize.ShloMosaic.Lib.WordCmp

@[expose] public section

set_option maxRecDepth 16384

noncomputable section

namespace Cert.Pre_sorted_by_group

open Idealize.ShloMosaic

/-- The side conditions of the precondition's operations. -/
instance facts : Facts where
  shapeCasts_S272_S34x8 := by decide
  slices_S34x8_S34x4_0_0 := by decide
  slices_S34x8_S34x4_0_4 := by decide
  bcast_S_S34x4 := by decide
  reducesTo_S34x4_S_d0_1 := by decide
  h_S_ := by decide
  bcast_S34x4_S34x1440x4x4_0_2 := by decide
  slices_S34x1440x128_S34x1440x16_0_0_0 := by decide
  shapeCasts_S34x1440x16_S34x1440x4x4 := by decide
  bcast_S_S34x1440x4x4 := by decide
  reducesTo_S34x1440x4x4_S_d0_1_2_3 := by decide

variable {F : FTy → Type} [FloatOps F]

/-- The offset of group `g`'s segment in tile `i`. -/
abbrev offAt (s : IVec S272 32) (i : Fin 34) (g : Fin 4) : BitVec 32 := s (ix1 ⟨i.val * 8 + g.val, by omega⟩)

/-- The count of group `g`'s segment in tile `i`. -/
abbrev cntAt (s : IVec S272 32) (i : Fin 34) (g : Fin 4) : BitVec 32 := s (ix1 ⟨i.val * 8 + (4 + g.val), by omega⟩)

/-- The test of one segment, as the precondition computes it. -/
def segBit (o n : BitVec 32) : BitVec 1 :=
  IntOp.andi (IntOp.andi (IntOp.andi (IntOp.andi (IntOp.andi (IntOp.cmpi .sge o 0#32) (IntOp.cmpi .sge n 0#32)) (IntOp.cmpi .sle o 1152#32))
    (IntOp.cmpi .sle n 1024#32)) (IntOp.cmpi .sle (IntOp.addi o n) 1152#32)) (IntOp.cmpi .eq (IntOp.remsi .host o 16#32) 0#32)

/-- The test of one gate, as the precondition computes it. -/
def gateBit (o n : BitVec 32) (r : ℕ) (x : F .f32) : BitVec 1 :=
  IntOp.ori (IntOp.andi (IntOp.cmpi .sge (BitVec.ofNat 32 r) o) (IntOp.cmpi .slt (BitVec.ofNat 32 r) (IntOp.addi o n)))
    (FloatOps.cmpf .oeq x (Scalar.ofBits .f32 0x00000000#32))

/-- The precondition holds at every segment and at every gate. -/
theorem bits_of (h : FVec F S34x1440x1024 .bf16) (gs : FVec F S34x1440x128 .f32) (s : IVec S272 32) (w1 w3 : FVec F S16x1024x512 .f32)
    (w2 : FVec F S16x512x1024 .f32) (hp : fn (F := F) h gs s w1 w3 w2 = fun _ => 1#1) :
    (∀ i g, segBit (offAt s i g) (cntAt s i g) = 1#1)
    ∧ ∀ i (r : Fin 1440) g (e : Fin 4), gateBit (offAt s i g) (cntAt s i g) r.val (gs (ix3 i r ⟨g.val * 4 + e.val, by omega⟩)) = 1#1 := by
  have h0 := congrFun hp ix0
  dsimp only [fn, fn_part1] at h0
  obtain ⟨h1, h2⟩ := IntOp.andi_eq_one.mp h0
  refine ⟨fun i g => ?_, fun i r g e => ?_⟩
  · refine Eq.trans ?_ (Host.reduce_andi_all _ _ _ _ _ h1 (ix2 i g))
    pointwise [segBit]
  · refine Eq.trans ?_ (Host.reduce_andi_all _ _ _ _ _ h2 (ix4 i r g e))
    pointwise [gateBit]

/-- A host remainder by sixteen that is zero. -/
theorem rem_small : ∀ n : Fin 1153, IntOp.remsi .host (BitVec.ofNat 32 n.val) 16#32 = 0#32 → 16 ∣ n.val := by
  decide +kernel

/-- The bit of a decided statement. -/
theorem of_bit {p : Prop} [Decidable p] (h : BitVec.ofBool (decide p) = 1#1) : p := by
  by_contra hn
  simp [hn] at h

/-- A segment that passes the test is one. -/
theorem segment_of {o n : BitVec 32} (h : segBit o n = 1#1) : Cert.Moe.Segment o n := by
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  rw [WordCmp.cmpi_sge_eq] at h0 h1
  rw [WordCmp.cmpi_sle_eq] at h2 h3 h4
  rw [WordCmp.cmpi_eq_eq] at h5
  have h0 := of_bit h0
  have h1 := of_bit h1
  have h2 := of_bit h2
  have h3 := of_bit h3
  have h4 := of_bit h4
  have h5 := of_bit h5
  have e0 : (0#32).toInt = 0 := rfl
  have e1 : (1152#32).toInt = 1152 := rfl
  have e2 : (1024#32).toInt = 1024 := rfl
  rw [e0, BitVec.toInt_eq_toNat_cond] at h0 h1
  rw [e1, BitVec.toInt_eq_toNat_cond] at h2
  rw [e2, BitVec.toInt_eq_toNat_cond] at h3
  have h4 : (o + n).toInt ≤ _ := h4
  rw [e1, BitVec.toInt_eq_toNat_cond, BitVec.toNat_add] at h4
  have ho : o.toNat ≤ 1152 := by split at h2 <;> split at h0 <;> omega
  have hn : n.toNat ≤ 1024 := by split at h3 <;> split at h1 <;> omega
  refine ⟨?_, ho, hn, ?_⟩
  · have := rem_small ⟨o.toNat, by omega⟩
    simp only [BitVec.ofNat_toNat, BitVec.setWidth_eq] at this
    exact this h5
  · have e : (o.toNat + n.toNat) % 2 ^ 32 = o.toNat + n.toNat := Nat.mod_eq_of_lt (by omega)
    rw [e] at h4
    split at h4 <;> omega

/-- Outside its segment a gate that passes the test is zero. -/
theorem gate_of {o n : BitVec 32} (hs : Cert.Moe.Segment o n) {r : ℕ} (hr : r < 1440) {x : EReal}
    (h : gateBit (F := Ideal) o n r x = 1#1) (hout : r < o.toNat ∨ o.toNat + n.toNat ≤ r) : x = 0 := by
  have ho := hs.off_le
  have hn := hs.cnt_le
  have er : (BitVec.ofNat 32 r).toInt = r := by
    rw [BitVec.toInt_eq_toNat_cond, BitVec.toNat_ofNat, Nat.mod_eq_of_lt (by omega)]; split <;> omega
  have eo : o.toInt = o.toNat := by
    rw [BitVec.toInt_eq_toNat_cond]; split <;> omega
  have en : (IntOp.addi o n).toInt = o.toNat + n.toNat := by
    show (o + n).toInt = _
    rw [BitVec.toInt_eq_toNat_cond, BitVec.toNat_add, Nat.mod_eq_of_lt (by omega)]; split <;> omega
  have hz : Ideal.ofBits .f32 0x00000000#32 = 0 := by simp [Ideal.ofBits, Ideal.ieee]
  have hb : IntOp.andi (IntOp.cmpi .sge (BitVec.ofNat 32 r) o) (IntOp.cmpi .slt (BitVec.ofNat 32 r) (IntOp.addi o n)) = 0#1 := by
    rw [WordCmp.cmpi_sge_eq, WordCmp.cmpi_slt_eq, er, eo, en]
    rcases hout with h1 | h1
    · rw [decide_eq_false (by omega)]
      exact (by decide : ∀ b : BitVec 1, IntOp.andi (BitVec.ofBool false) b = 0#1) _
    · rw [decide_eq_false (p := (r : ℤ) < _) (by omega)]
      exact (by decide : ∀ b : BitVec 1, IntOp.andi b (BitVec.ofBool false) = 0#1) _
  unfold gateBit at h
  rw [hb] at h
  by_contra hx
  have h' : IntOp.ori 0#1 (BitVec.ofBool (decide (x = Ideal.ofBits .f32 0x00000000#32))) = 1#1 := h
  rw [hz, decide_eq_false hx] at h'
  exact absurd h' (by decide)

end Cert.Pre_sorted_by_group

end
-- ==== Proof.MoeHyps.lean ====
/- The two words a grid point reads: its segment's offset and count; and that a precondition on all segments is what the body assumes. -/
module

public import proofs.«01_k».proof.Proof.MoePre
public import proofs.«01_k».proof.Proof.Gen.Kernel2Ideal.Frame

@[expose] public section

set_option maxRecDepth 16384

noncomputable section

namespace Cert.Moe

open Idealize.ShloMosaic Idealize.ShloMosaic.TcCoe Cert.Kernel2Ideal Cert.Kernel2Ideal.Gen
open Cert.Pre_sorted_by_group (offAt cntAt)

variable {F : FTy → Type} [FloatOps F]

/-- Where the first word lies in the table. -/
theorem at_off (i : grid0.Coords) : k0_off1 i 0 = (i 1).val * 8 + (i 0).val := by
  have h1 : (i 1).val < 34 := (i 1).isLt
  have h0 : (i 0).val < 4 := (i 0).isLt
  show (BitVec.ofNat 32 (i 1).val * 8#32 + BitVec.ofNat 32 (i 0).val).toNat = _
  simp only [BitVec.toNat_add, BitVec.toNat_mul, BitVec.toNat_ofNat]
  omega

/-- Where the second word lies in the table. -/
theorem at_cnt (i : grid0.Coords) : k0_off2 i 0 = (i 1).val * 8 + (4 + (i 0).val) := by
  have h1 : (i 1).val < 34 := (i 1).isLt
  have h0 : (i 0).val < 4 := (i 0).isLt
  show (BitVec.ofNat 32 (i 1).val * 8#32 + 4#32 + BitVec.ofNat 32 (i 0).val).toNat = _
  simp only [BitVec.toNat_add, BitVec.toNat_mul, BitVec.toNat_ofNat]
  omega

/-- The first word is the offset of the point's segment. -/
theorem word_off (c : Dev nD) (i : grid0.Coords) (T : TbBuf0 (F := F) c tbM0_0) :
    tbM0_0.view.readAt (Elt F) (Rect.unit (s := S272) (k0_off1 i) S1.size (k0_off1_inb i)).toLoadRect T (Shape.Idx.first (numel1_S1.symm ▸ Nat.one_pos))
      = offAt T (i 1) (i 0) := by
  refine congrArg (α := S272.Idx) T (funext fun a => Fin.ext ?_)
  obtain rfl : a = (0 : Fin 1) := Subsingleton.elim (α := Fin 1) _ _
  exact at_off i

/-- The second word is the count of the point's segment. -/
theorem word_cnt (c : Dev nD) (i : grid0.Coords) (T : TbBuf0 (F := F) c tbM0_0) :
    tbM0_0.view.readAt (Elt F) (Rect.unit (s := S272) (k0_off2 i) S1.size (k0_off2_inb i)).toLoadRect T (Shape.Idx.first (numel1_S1.symm ▸ Nat.one_pos))
      = cntAt T (i 1) (i 0) := by
  refine congrArg (α := S272.Idx) T (funext fun a => Fin.ext ?_)
  obtain rfl : a = (0 : Fin 1) := Subsingleton.elim (α := Fin 1) _ _
  exact at_cnt i

/-- Where every segment is well formed the body's assumption holds at every point. -/
theorem hyps (m : (ℓ : Loc nD τ sig) → Buf (Elt F) ℓ) (hO : Ok m)
    (h : ∀ i g, Segment (offAt (m ((0 : Dev nD).tc.loc main_arg2)) i g) (cntAt (m ((0 : Dev nD).tc.loc main_arg2)) i g)) : Hyps m hO := by
  refine Hyps.of fun c t => ?_
  exact (congrArg₂ k0_chk1 (word_off c (grid0.coords t) (tbl m 0)) (word_cnt c (grid0.coords t) (tbl m 0))).mpr (check (h _ _))

end Cert.Moe

end
-- ==== Proof.MoeChunk.lean ====
/- One chunk of one group's rows, element by element: the gated sum of four experts added to what the chunk held. -/
module

public import proofs.«01_k».proof.Proof.Gen.Kernel2Ideal.Skeleton
public import Idealize.ShloMosaic.Lib.Pointwise
public import Idealize.ShloMosaic.Lib.WordCmp
public import Idealize.ShloMosaic.Lib.Pipeline.ValueKit

@[expose] public section

set_option maxRecDepth 16384

noncomputable section

namespace Cert.Moe

open Idealize.ShloMosaic Idealize.ShloMosaic.TcCoe Cert.Kernel2Ideal Cert.Kernel2Ideal.Gen

/-- One lane of one expert's answer to a row `h`: the gated linear unit of the row, then the second projection. -/
def expert (h : Fin 1024 → EReal) (w1 w3 : Fin 1024 → Fin 512 → EReal) (w2 : Fin 512 → EReal) : EReal :=
  ∑ f : Fin 512, (∑ k : Fin 1024, h k * w1 k f) * Ideal.logistic (∑ k : Fin 1024, h k * w1 k f) * (∑ k : Fin 1024, h k * w3 k f) * w2 f

/-- The lane numbers of a chunk of gates. -/
abbrev lanes : IVec S288x128 32 := iota .tc S288x128 32 [1] iota_S288x128_d1_w32

/-- The zeros. -/
theorem pay1_apply (r : Fin 1440) (d : Fin 1024) : k0_pay1 (F := Ideal) (ix4 0 0 r d) = 0 := by
  pointwise [k0_pay1]

/-- What the chunk held. -/
theorem pay6_apply (v31 : Vec Ideal S1x1x288x1024 .bf16) (j : Fin 288) (d : Fin 1024) :
    k0_pay6 v31 (ix2 j d) = v31 (ix4 0 0 j d) := by
  pointwise [k0_pay6]

/-- The first expert. -/
theorem pay7_apply (v25 : Vec Ideal S1x288x1024 .bf16) (v34 v37 : Vec Ideal S1x1024x512 .bf16) (v52 : Vec Ideal S1x512x1024 .bf16) (j : Fin 288) (d : Fin 1024) :
    k0_pay7 (F := Ideal) v25 v34 v37 v52 (ix2 j d)
      = expert (fun k => v25 (ix3 0 j k)) (fun k f => v34 (ix3 0 k f)) (fun k f => v37 (ix3 0 k f)) (fun f => v52 (ix3 0 f d)) := by
  pointwise [k0_pay7, k0_pay4]
  rfl

/-- The fourth expert. -/
theorem pay12_apply (v25 : Vec Ideal S1x288x1024 .bf16) (v34 v37 : Vec Ideal S1x1024x512 .bf16) (v52 : Vec Ideal S1x512x1024 .bf16) (j : Fin 288) (d : Fin 1024) :
    k0_pay12 (F := Ideal) (k0_pay4 v25) v34 v37 v52 (ix2 j d)
      = expert (fun k => v25 (ix3 0 j k)) (fun k f => v34 (ix3 0 k f)) (fun k f => v37 (ix3 0 k f)) (fun f => v52 (ix3 0 f d)) := by
  pointwise [k0_pay12, k0_pay4]
  rfl

/-- A sum of lanes of which all but one are zeroed is that one lane. -/
theorem lane_sum (x : Fin 128 → EReal) (a : BitVec 32) (e : Fin 128) (ha : a = BitVec.ofNat 32 e.val) :
    ∑ l : Fin 128, Scalar.select (IntOp.cmpi .eq (BitVec.ofNat 32 l.val) a) (x l) 0 = x e := by
  subst ha
  rw [Finset.sum_eq_single e]
  · rw [show IntOp.cmpi .eq (BitVec.ofNat 32 e.val) (BitVec.ofNat 32 e.val) = 1#1 by rw [WordCmp.cmpi_eq_eq]; simp]
    rfl
  · intro l _ hl
    rw [show IntOp.cmpi .eq (BitVec.ofNat 32 l.val) (BitVec.ofNat 32 e.val) = 0#1 by
      rw [WordCmp.cmpi_eq_eq, decide_eq_false]
      · rfl
      · intro h
        have h' := congrArg BitVec.toNat h
        simp only [BitVec.toNat_ofNat] at h'
        exact hl (Fin.ext (by omega))]
    rfl
  · intro h
    exact absurd (Finset.mem_univ _) h

/-- The lane of expert `e` of group `g`. -/
abbrev laneOf (g e : Fin 4) : Fin 128 := ⟨g.val * 4 + e.val, by omega⟩

/-- The lane numbers the body computes. -/
theorem lane_word : ∀ g e : Fin 4, Scalar.addi (Scalar.muli (BitVec.ofNat 32 g.val) 4#32) (BitVec.ofNat 32 e.val) = BitVec.ofNat 32 (laneOf g e).val := by
  decide

/-- The first gate. -/
theorem pay8_apply (g : Fin 4) (v28 : Vec Ideal S1x288x128 .f32) (j : Fin 288) (d : Fin 1024) :
    k0_pay8 (F := Ideal) (BitVec.ofNat 32 g.val) lanes v28 (ix2 j d) = v28 (ix3 0 j (laneOf g 0)) := by
  pointwise [k0_pay8, k0_pay5]
  exact lane_sum _ _ _ (lane_word g 0)

/-- The fourth gate. -/
theorem pay13_apply (g : Fin 4) (v28 : Vec Ideal S1x288x128 .f32) (j : Fin 288) (d : Fin 1024) :
    k0_pay13 (F := Ideal) (BitVec.ofNat 32 g.val) lanes (k0_pay5 v28) (ix2 j d) = v28 (ix3 0 j (laneOf g 3)) := by
  pointwise [k0_pay13, k0_pay5]
  exact lane_sum _ _ _ (lane_word g 3)

/-- The first two experts, gated, added to what the chunk held. -/
theorem pay9_apply (g : Fin 4) (v25 : Vec Ideal S1x288x1024 .bf16) (v28 : Vec Ideal S1x288x128 .f32) (v33 v54 v55 : FVec Ideal S288x1024 .f32)
    (v34 v37 : Vec Ideal S1x1024x512 .bf16) (v52 : Vec Ideal S1x512x1024 .bf16) (j : Fin 288) (d : Fin 1024) :
    k0_pay9 (F := Ideal) (BitVec.ofNat 32 g.val) lanes (k0_pay4 v25) (k0_pay5 v28) v33 v54 v55 v34 v37 v52 (ix2 j d)
      = v33 (ix2 j d) + v55 (ix2 j d) * v54 (ix2 j d) + v28 (ix3 0 j (laneOf g 1))
          * expert (fun k => v25 (ix3 0 j k)) (fun k f => v34 (ix3 0 k f)) (fun k f => v37 (ix3 0 k f)) (fun f => v52 (ix3 0 f d)) := by
  pointwise [k0_pay9, k0_pay4, k0_pay5]
  exact congrArg₂ (· + ·) rfl (congrArg₂ (· * ·) (lane_sum _ _ _ (lane_word g 1)) rfl)

/-- The third expert, gated, added. -/
theorem pay11_apply (g : Fin 4) (v25 : Vec Ideal S1x288x1024 .bf16) (v28 : Vec Ideal S1x288x128 .f32) (v81 : FVec Ideal S288x1024 .f32)
    (v34 v37 : Vec Ideal S1x1024x512 .bf16) (v52 : Vec Ideal S1x512x1024 .bf16) (j : Fin 288) (d : Fin 1024) :
    k0_pay11 (F := Ideal) (BitVec.ofNat 32 g.val) lanes (k0_pay5 v28) v81 (k0_pay10 (k0_pay4 v25) v34 v37) 4#32 v52 (ix2 j d)
      = v81 (ix2 j d) + v28 (ix3 0 j (laneOf g 2))
          * expert (fun k => v25 (ix3 0 j k)) (fun k f => v34 (ix3 0 k f)) (fun k f => v37 (ix3 0 k f)) (fun f => v52 (ix3 0 f d)) := by
  pointwise [k0_pay11, k0_pay10, k0_pay4, k0_pay5]
  exact congrArg₂ (· + ·) rfl (congrArg₂ (· * ·) (lane_sum _ _ _ (lane_word g 2)) rfl)

/-- What is stored: the last expert, gated, added. -/
theorem pay2_apply (v105 v126 v127 : FVec Ideal S288x1024 .f32) (j : Fin 288) (d : Fin 1024) :
    k0_pay2 v105 v126 v127 (ix4 0 0 j d) = v105 (ix2 j d) + v127 (ix2 j d) * v126 (ix2 j d) := by
  pointwise [k0_pay2]

end Cert.Moe

end
-- ==== Proof.MoeTrip.lean ====
/- The loop over the chunks of a segment: after `k` trips the block holds the gated sums on the first `k` chunks and what it held before elsewhere. -/
module

public import proofs.«01_k».proof.Proof.MoeHyps
public import proofs.«01_k».proof.Proof.MoeChunk
public import Idealize.ShloMosaic.Lib.WritesUnit
public import Idealize.ShloMosaic.Lib.WholeRead

@[expose] public section

set_option maxRecDepth 16384

noncomputable section

namespace Cert.Moe

open Idealize.ShloMosaic Idealize.ShloMosaic.TcCoe Cert.Kernel2Ideal Cert.Kernel2Ideal.Gen

/-- The answer of expert `e` of a group to row `r` of a block, lane `d`. -/
def answer (x0 : Vec Ideal S1x1440x1024 .bf16) (x2 x3 : Vec Ideal S4x1024x512 .bf16) (x4 : Vec Ideal S4x512x1024 .bf16) (r : Fin 1440) (d : Fin 1024) (e : Fin 4) : EReal :=
  expert (fun k => x0 (ix3 0 r k)) (fun k f => x2 (ix3 e k f)) (fun k f => x3 (ix3 e k f)) (fun f => x4 (ix3 e f d))

/-- Where row `j` of a chunk that starts at row `n` lies. -/
theorem row_of {n : ℕ} {r : Fin 1440} {j : Fin 288} {d : Fin 1024} (h : r.val = n + j.val) :
    ∀ a : Fin 4, ((ix4 0 0 r d : S1x1x1440x1024.Idx) a).val = (![0, 0, n, 0] : Fin 4 → ℕ) a + ((ix4 0 0 j d : S1x1x288x1024.Idx) a).val := by
  intro a
  fin_cases a
  · rfl
  · rfl
  · exact h
  · exact (Nat.zero_add _).symm

section

variable (c : Dev nD) (i : grid0.Coords) (arg2 : Memref sig .tc .smem S272 .i32) (harg2 : arg2.IsWhole)
  (arg3 : Memref sig .tc .vmem S1x1440x1024 .bf16) (harg3 : arg3.IsWhole) (arg4 : Memref sig .tc .vmem S1x1440x128 .f32) (harg4 : arg4.IsWhole)
  (arg5 : Memref sig .tc .vmem S4x1024x512 .bf16) (harg5 : arg5.IsWhole) (arg6 : Memref sig .tc .vmem S4x1024x512 .bf16) (harg6 : arg6.IsWhole)
  (arg7 : Memref sig .tc .vmem S4x512x1024 .bf16) (harg7 : arg7.IsWhole) (arg8 : Memref sig .tc .vmem S1x1x1440x1024 .bf16) (harg8 : arg8.IsWhole)
  (g : Fin 4) (off cnt : BitVec 32) (hw : k0_chk1 off cnt)
  (x0 : Vec Ideal S1x1440x1024 .bf16) (x1 : Vec Ideal S1x1440x128 .f32) (x2 x3 : Vec Ideal S4x1024x512 .bf16) (x4 : Vec Ideal S4x512x1024 .bf16)

/-- The pieces one trip stores. -/
abbrev pieces (k : Fin (k0_t1_loop cnt).trips) (f : BufTy.Contents (Elt Ideal) arg8.view.ty) : List (View.Piece (Elt Ideal) S1x1x1440x1024 .bf16) :=
  tripL_k0_t1 (F := Ideal) Variants.none c none i arg2 harg2 arg3 harg3 arg4 harg4 arg5 harg5 arg6 harg6 arg7 harg7 arg8 harg8 (BitVec.ofNat 32 g.val) off cnt hw lanes
    (harg3.unread x0) (harg4.unread x1) (harg5.unread x2) (harg6.unread x3) (harg7.unread x4) k f

/-- One trip at a row outside its chunk. -/
theorem trip_out (hs : Segment off cnt) (k : Fin (k0_t1_loop cnt).trips) (f : BufTy.Contents (Elt Ideal) arg8.view.ty) (r : Fin 1440) (d : Fin 1024)
    (h : r.val < off.toNat + 288 * k.val ∨ off.toNat + 288 * k.val + 288 ≤ r.val) :
    arg8.view.read (Elt Ideal) (arg8.view.writes (Elt Ideal) f (pieces c i arg2 harg2 arg3 harg3 arg4 harg4 arg5 harg5 arg6 harg6 arg7 harg7 arg8 harg8 g off cnt hw x0 x1 x2 x3 x4 k f)) (ix4 0 0 r d)
      = arg8.view.read (Elt Ideal) f (ix4 0 0 r d) := by
  unfold pieces tripL_k0_t1 trip_k0_t1
  dsimp only
  refine (View.read_writes_cons_unit_of_not_mem arg8.view f _ _ [] (ix4 0 0 r d) (off5_eq hs k) 2 ?_).trans rfl
  exact h

/-- A load of a chunk of rows reads the block's rows. -/
theorem load_rows (hs : Segment off cnt) (k : Fin (k0_t1_loop cnt).trips) {r : Fin 1440} {j : Fin 288} (h : r.val = off.toNat + 288 * k.val + j.val)
    (hi : ∀ a, (k0_off3 off cnt k) a + S1x288x1024.size a ≤ S1x1440x1024.size a) (l : Fin 1024) :
    View.readAt (Elt Ideal) arg3.view (Rect.unit (s := S1x1440x1024) (k0_off3 off cnt k) S1x288x1024.size hi).toLoadRect (harg3.unread x0) (ix3 0 j l) = x0 (ix3 0 r l) := by
  refine (harg3.readAt_unread x0 _ _).trans (congrArg x0 (funext fun a => Fin.ext ?_))
  show k0_off3 off cnt k a + 1 * ((ix3 0 j l : S1x288x1024.Idx) a).val = _
  rw [off3_eq hs k, Nat.one_mul]
  fin_cases a
  · rfl
  · exact h.symm
  · exact Nat.zero_add _

/-- A load of a chunk of gates reads the block's gates. -/
theorem load_gates (hs : Segment off cnt) (k : Fin (k0_t1_loop cnt).trips) {r : Fin 1440} {j : Fin 288} (h : r.val = off.toNat + 288 * k.val + j.val)
    (hi : ∀ a, (k0_off4 off cnt k) a + S1x288x128.size a ≤ S1x1440x128.size a) (l : Fin 128) :
    View.readAt (Elt Ideal) arg4.view (Rect.unit (s := S1x1440x128) (k0_off4 off cnt k) S1x288x128.size hi).toLoadRect (harg4.unread x1) (ix3 0 j l) = x1 (ix3 0 r l) := by
  refine (harg4.readAt_unread x1 _ _).trans (congrArg x1 (funext fun a => Fin.ext ?_))
  show k0_off4 off cnt k a + 1 * ((ix3 0 j l : S1x288x128.Idx) a).val = _
  rw [off4_eq hs k, Nat.one_mul]
  fin_cases a
  · rfl
  · exact h.symm
  · exact Nat.zero_add _

/-- A load of a chunk of the output reads what the block holds. -/
theorem load_held (hs : Segment off cnt) (k : Fin (k0_t1_loop cnt).trips) (f : BufTy.Contents (Elt Ideal) arg8.view.ty) {r : Fin 1440} {j : Fin 288}
    (h : r.val = off.toNat + 288 * k.val + j.val)
    (hi : ∀ a, (k0_off5 off cnt k) a + S1x1x288x1024.size a ≤ S1x1x1440x1024.size a) (l : Fin 1024) :
    View.readAt (Elt Ideal) arg8.view (Rect.unit (s := S1x1x1440x1024) (k0_off5 off cnt k) S1x1x288x1024.size hi).toLoadRect f (ix4 0 0 j l)
      = arg8.view.read (Elt Ideal) f (ix4 0 0 r l) := by
  refine congrArg (arg8.view.read (Elt Ideal) f) (funext fun a => Fin.ext ?_)
  show k0_off5 off cnt k a + 1 * ((ix4 0 0 j l : S1x1x288x1024.Idx) a).val = _
  rw [off5_eq hs k, Nat.one_mul]
  exact (row_of h a).symm

/-- A load of expert `e`'s first (or third) projection. -/
theorem load_in (e : Fin 4) (hi : ∀ a, (![e.val, 0, 0] : Fin 3 → ℕ) a + S1x1024x512.size a ≤ S4x1024x512.size a) (p : Fin 1024) (q : Fin 512) :
    View.readAt (Elt Ideal) arg5.view (Rect.unit (s := S4x1024x512) ![e.val, 0, 0] S1x1024x512.size hi).toLoadRect (harg5.unread x2) (ix3 0 p q) = x2 (ix3 e p q) := by
  refine (harg5.readAt_unread x2 _ _).trans (congrArg x2 (funext fun a => Fin.ext ?_))
  show (![e.val, 0, 0] : Fin 3 → ℕ) a + 1 * ((ix3 0 p q : S1x1024x512.Idx) a).val = _
  rw [Nat.one_mul]
  fin_cases a
  · rfl
  · exact Nat.zero_add _
  · exact Nat.zero_add _

/-- A load of expert `e`'s second projection. -/
theorem load_back (e : Fin 4) (hi : ∀ a, (![e.val, 0, 0] : Fin 3 → ℕ) a + S1x512x1024.size a ≤ S4x512x1024.size a) (p : Fin 512) (q : Fin 1024) :
    View.readAt (Elt Ideal) arg7.view (Rect.unit (s := S4x512x1024) ![e.val, 0, 0] S1x512x1024.size hi).toLoadRect (harg7.unread x4) (ix3 0 p q) = x4 (ix3 e p q) := by
  refine (harg7.readAt_unread x4 _ _).trans (congrArg x4 (funext fun a => Fin.ext ?_))
  show (![e.val, 0, 0] : Fin 3 → ℕ) a + 1 * ((ix3 0 p q : S1x512x1024.Idx) a).val = _
  rw [Nat.one_mul]
  fin_cases a
  · rfl
  · exact Nat.zero_add _
  · exact Nat.zero_add _

/-- The answer of expert `e` to a row of a chunk, from the loads. -/
theorem answer_of_loads (hs : Segment off cnt) (k : Fin (k0_t1_loop cnt).trips) {r : Fin 1440} {j : Fin 288} (h : r.val = off.toNat + 288 * k.val + j.val) (d : Fin 1024) (e : Fin 4)
    (hi3 : ∀ a, (k0_off3 off cnt k) a + S1x288x1024.size a ≤ S1x1440x1024.size a)
    (hi5 hi6 : ∀ a, (![e.val, 0, 0] : Fin 3 → ℕ) a + S1x1024x512.size a ≤ S4x1024x512.size a)
    (hi7 : ∀ a, (![e.val, 0, 0] : Fin 3 → ℕ) a + S1x512x1024.size a ≤ S4x512x1024.size a) :
    expert (fun l => View.readAt (Elt Ideal) arg3.view (Rect.unit (s := S1x1440x1024) (k0_off3 off cnt k) S1x288x1024.size hi3).toLoadRect (harg3.unread x0) (ix3 0 j l))
      (fun p q => View.readAt (Elt Ideal) arg5.view (Rect.unit (s := S4x1024x512) ![e.val, 0, 0] S1x1024x512.size hi5).toLoadRect (harg5.unread x2) (ix3 0 p q))
      (fun p q => View.readAt (Elt Ideal) arg6.view (Rect.unit (s := S4x1024x512) ![e.val, 0, 0] S1x1024x512.size hi6).toLoadRect (harg6.unread x3) (ix3 0 p q))
      (fun p => View.readAt (Elt Ideal) arg7.view (Rect.unit (s := S4x512x1024) ![e.val, 0, 0] S1x512x1024.size hi7).toLoadRect (harg7.unread x4) (ix3 0 p d))
      = answer x0 x2 x3 x4 r d e := by
  exact congr (congr (congr (congrArg expert (funext fun l => load_rows arg3 harg3 off cnt x0 hs k h hi3 l))
    (funext fun p => funext fun q => load_in arg5 harg5 x2 e hi5 p q)) (funext fun p => funext fun q => load_in arg6 harg6 x3 e hi6 p q))
    (funext fun p => load_back arg7 harg7 x4 e hi7 p d)

/-- One trip at row `j` of its chunk: the four gated answers are added to what the block held. -/
theorem trip_in (hs : Segment off cnt) (k : Fin (k0_t1_loop cnt).trips) (f : BufTy.Contents (Elt Ideal) arg8.view.ty) (r : Fin 1440) (d : Fin 1024)
    (j : Fin 288) (h : r.val = off.toNat + 288 * k.val + j.val) :
    arg8.view.read (Elt Ideal) (arg8.view.writes (Elt Ideal) f (pieces c i arg2 harg2 arg3 harg3 arg4 harg4 arg5 harg5 arg6 harg6 arg7 harg7 arg8 harg8 g off cnt hw x0 x1 x2 x3 x4 k f)) (ix4 0 0 r d)
      = arg8.view.read (Elt Ideal) f (ix4 0 0 r d)
        + x1 (ix3 0 r (laneOf g 0)) * answer x0 x2 x3 x4 r d 0 + x1 (ix3 0 r (laneOf g 1)) * answer x0 x2 x3 x4 r d 1
        + x1 (ix3 0 r (laneOf g 2)) * answer x0 x2 x3 x4 r d 2 + x1 (ix3 0 r (laneOf g 3)) * answer x0 x2 x3 x4 r d 3 := by
  unfold pieces tripL_k0_t1 trip_k0_t1
  dsimp only
  refine (View.read_writes_cons_unit_of_mem arg8.view f _ _ [] (ix4 0 0 r d) (ix4 0 0 j d) (off5_eq hs k) (row_of h)).trans ?_
  rw [pay2_apply]
  unfold trip_k0_t1.sl.r_7 trip_k0_t1.sl.r_8 trip_k0_t1.sl.r_9 trip_k0_t1.sl.r_6 trip_k0_t1.sl.r_5 trip_k0_t1.sl.r_4 trip_k0_t1.sl.r_3 trip_k0_t1.sl.r_2 trip_k0_t1.sl.r_1 trip_k0_t1.sl.r
  rw [pay11_apply, pay9_apply, pay6_apply, pay8_apply, pay7_apply, pay13_apply, pay12_apply]
  refine congrArg₂ (· + ·) (congrArg₂ (· + ·) (congrArg₂ (· + ·) (congrArg₂ (· + ·) (load_held arg8 off cnt hs k f h _ d) ?_) ?_) ?_) ?_
  · exact congrArg₂ (· * ·) (load_gates arg4 harg4 off cnt x1 hs k h _ _)
      (answer_of_loads arg3 harg3 arg5 harg5 arg6 harg6 arg7 harg7 off cnt x0 x2 x3 x4 hs k h d 0 _ _ _ _)
  · exact congrArg₂ (· * ·) (load_gates arg4 harg4 off cnt x1 hs k h _ _)
      (answer_of_loads arg3 harg3 arg5 harg5 arg6 harg6 arg7 harg7 off cnt x0 x2 x3 x4 hs k h d 1 _ _ _ _)
  · exact congrArg₂ (· * ·) (load_gates arg4 harg4 off cnt x1 hs k h _ _)
      (answer_of_loads arg3 harg3 arg5 harg5 arg6 harg6 arg7 harg7 off cnt x0 x2 x3 x4 hs k h d 2 _ _ _ _)
  · exact congrArg₂ (· * ·) (load_gates arg4 harg4 off cnt x1 hs k h _ _)
      (answer_of_loads arg3 harg3 arg5 harg5 arg6 harg6 arg7 harg7 off cnt x0 x2 x3 x4 hs k h d 3 _ _ _ _)

/-- The block's row after `k` trips: the gated answers where the first `k` chunks lie, what was there before elsewhere. -/
theorem trips_read (hs : Segment off cnt) (G : BufTy.Contents (Elt Ideal) arg8.view.ty) (k : ℕ) (hk : k ≤ (k0_t1_loop cnt).trips) (r : Fin 1440) (d : Fin 1024) :
    arg8.view.read (Elt Ideal) (arg8.view.writes (Elt Ideal) G
      (pb_k0_t1 (F := Ideal) Variants.none c none i arg2 harg2 arg3 harg3 arg4 harg4 arg5 harg5 arg6 harg6 arg7 harg7 arg8 harg8 (BitVec.ofNat 32 g.val) off cnt hw lanes
        (harg3.unread x0) (harg4.unread x1) (harg5.unread x2) (harg6.unread x3) (harg7.unread x4) G k)) (ix4 0 0 r d)
      = if off.toNat ≤ r.val ∧ r.val < off.toNat + 288 * k then
          arg8.view.read (Elt Ideal) G (ix4 0 0 r d)
            + x1 (ix3 0 r (laneOf g 0)) * answer x0 x2 x3 x4 r d 0 + x1 (ix3 0 r (laneOf g 1)) * answer x0 x2 x3 x4 r d 1
            + x1 (ix3 0 r (laneOf g 2)) * answer x0 x2 x3 x4 r d 2 + x1 (ix3 0 r (laneOf g 3)) * answer x0 x2 x3 x4 r d 3
        else arg8.view.read (Elt Ideal) G (ix4 0 0 r d) := by
  induction k with
  | zero => rw [if_neg (by omega)]; rfl
  | succ k ih =>
    have ih := ih (by omega)
    rw [pb_k0_t1_succ (F := Ideal) Variants.none c none i arg2 harg2 arg3 harg3 arg4 harg4 arg5 harg5 arg6 harg6 arg7 harg7 arg8 harg8 (BitVec.ofNat 32 g.val) off cnt hw lanes
        (harg3.unread x0) (harg4.unread x1) (harg5.unread x2) (harg6.unread x3) (harg7.unread x4) G ⟨k, by omega⟩, View.writes_append]
    by_cases hin : off.toNat + 288 * k ≤ r.val ∧ r.val < off.toNat + 288 * k + 288
    · refine (trip_in c i arg2 harg2 arg3 harg3 arg4 harg4 arg5 harg5 arg6 harg6 arg7 harg7 arg8 harg8 g off cnt hw x0 x1 x2 x3 x4 hs ⟨k, by omega⟩ _ r d
        ⟨r.val - (off.toNat + 288 * k), by omega⟩ (by dsimp only; omega)).trans ?_
      dsimp only
      rw [ih, if_neg (by omega), if_pos (by omega)]
    · refine (trip_out c i arg2 harg2 arg3 harg3 arg4 harg4 arg5 harg5 arg6 harg6 arg7 harg7 arg8 harg8 g off cnt hw x0 x1 x2 x3 x4 hs ⟨k, by omega⟩ _ r d
        (by dsimp only; omega)).trans ?_
      dsimp only
      rw [ih]
      by_cases hb : off.toNat ≤ r.val ∧ r.val < off.toNat + 288 * k
      · rw [if_pos hb, if_pos (by omega)]
      · rw [if_neg hb, if_neg (by omega)]

end

end Cert.Moe

end
-- ==== Proof.MoeBlock.lean ====
/- What one grid point leaves in its block: the gated answers of its group's four experts on every row. -/
module

public import proofs.«01_k».proof.Proof.MoeTrip
public import Idealize.ShloMosaic.Lib.Writes

@[expose] public section

set_option maxRecDepth 16384

noncomputable section

namespace Cert.Moe

open Idealize.ShloMosaic Idealize.ShloMosaic.TcCoe Cert.Kernel2Ideal Cert.Kernel2Ideal.Gen
open Cert.Pre_sorted_by_group (offAt cntAt)

/-- A loop of no trips leaves the block as it was. -/
theorem no_trips (arg8 : Memref sig .tc .vmem S1x1x1440x1024 .bf16) (f : BufTy.Contents (Elt Ideal) arg8.view.ty)
    (L : ℕ → List (View.Piece (Elt Ideal) S1x1x1440x1024 .bf16)) (n : ℕ) (hn : n = 0) (hL : L 0 = []) (y : S1x1x1440x1024.Idx) :
    arg8.view.read (Elt Ideal) (arg8.view.writes (Elt Ideal) f (L n)) y = arg8.view.read (Elt Ideal) f y := by
  subst hn
  rw [hL]
  rfl

/-- The block of zeros the body starts from. -/
theorem zeros_read (arg8 : Memref sig .tc .vmem S1x1x1440x1024 .bf16) (f : BufTy.Contents (Elt Ideal) arg8.view.ty) (r : Fin 1440) (d : Fin 1024) :
    arg8.view.read (Elt Ideal) (arg8.view.writes (Elt Ideal) f kernelRun0_A.sl.H5_1) (ix4 0 0 r d) = 0 := by
  refine (View.read_writes_cons_unit_of_mem arg8.view f _ _ [] (ix4 0 0 r d) (ix4 0 0 r d) rfl ?_).trans (pay1_apply r d)
  intro a
  fin_cases a <;> exact (Nat.zero_add _).symm

/-- The block a grid point leaves, at row `r` and lane `d`: the gated answers where the chunks of its segment lie, zero elsewhere. -/
theorem out_apply (c : Dev nD) (i : grid0.Coords)
    (arg3 : Memref sig .tc .vmem S1x1440x1024 .bf16) (harg3 : arg3.IsWhole) (arg4 : Memref sig .tc .vmem S1x1440x128 .f32) (harg4 : arg4.IsWhole)
    (arg5 : Memref sig .tc .vmem S4x1024x512 .bf16) (harg5 : arg5.IsWhole) (arg6 : Memref sig .tc .vmem S4x1024x512 .bf16) (harg6 : arg6.IsWhole)
    (arg7 : Memref sig .tc .vmem S4x512x1024 .bf16) (harg7 : arg7.IsWhole) (arg8 : Memref sig .tc .vmem S1x1x1440x1024 .bf16) (harg8 : arg8.IsWhole)
    (x0 : Vec Ideal S1x1440x1024 .bf16) (x1 : Vec Ideal S1x1440x128 .f32) (x2 x3 : Vec Ideal S4x1024x512 .bf16) (x4 : Vec Ideal S4x512x1024 .bf16)
    (xt0 : TbBuf0 (F := Ideal) c tbM0_0) (hw : _) (hs : Segment (offAt xt0 (i 1) (i 0)) (cntAt xt0 (i 1) (i 0))) (r : Fin 1440) (d : Fin 1024) :
    out0_A_5 (F := Ideal) c i arg3 harg3 arg4 harg4 arg5 harg5 arg6 harg6 arg7 harg7 arg8 harg8 x0 x1 x2 x3 x4 xt0 hw (ix4 0 0 r d)
      = if (offAt xt0 (i 1) (i 0)).toNat ≤ r.val ∧ r.val < (offAt xt0 (i 1) (i 0)).toNat + 288 * (((cntAt xt0 (i 1) (i 0)).toNat + 287) / 288) then
          0 + x1 (ix3 0 r (laneOf (i 0) 0)) * answer x0 x2 x3 x4 r d 0 + x1 (ix3 0 r (laneOf (i 0) 1)) * answer x0 x2 x3 x4 r d 1
            + x1 (ix3 0 r (laneOf (i 0) 2)) * answer x0 x2 x3 x4 r d 2 + x1 (ix3 0 r (laneOf (i 0) 3)) * answer x0 x2 x3 x4 r d 3
        else 0 := by
  have e1 := word_off (F := Ideal) c i xt0
  have e2 := word_cnt (F := Ideal) c i xt0
  have hc := cover0_A_5 (F := Ideal) c i arg3 harg3 arg4 harg4 arg5 harg5 arg6 harg6 arg7 harg7 arg8 harg8 x0 x1 x2 x3 x4 xt0 hw
  unfold out0_A_5
  rw [View.read_writes_apply_eq _ _ arg8.view arg8.view.junk _ _ (hc _)]
  unfold kernelRun0_A
  dsimp only
  rw [View.writes_append, View.writes_append]
  have e1 : kernelRun0_A.sl.r (F := Ideal) c i xt0 = offAt xt0 (i 1) (i 0) := e1
  have e2 : kernelRun0_A.sl.r_1 (F := Ideal) c i xt0 = cntAt xt0 (i 1) (i 0) := e2
  rw [← e1, ← e2] at hs ⊢
  refine (no_trips arg8 _ _ _ (trips2_eq hs.cnt_le) rfl _).trans ?_
  refine (trips_read c i tbM0_0 htbM0_0 arg3 harg3 arg4 harg4 arg5 harg5 arg6 harg6 arg7 harg7 arg8 harg8 (i 0) (kernelRun0_A.sl.r c i xt0) (kernelRun0_A.sl.r_1 c i xt0) hw
    x0 x1 x2 x3 x4 hs _ (k0_t1_loop (kernelRun0_A.sl.r_1 c i xt0)).trips le_rfl r d).trans ?_
  rw [trips_eq hs.cnt_le, zeros_read]

end Cert.Moe

end
-- ==== Proof.MoeSum.lean ====
/- The expert layer's result as one formula, and sixteen experts counted as four groups of four. -/
module

public import proofs.«01_k».proof.Proof.MoeChunk

@[expose] public section

noncomputable section

namespace Cert.Moe

open Idealize.ShloMosaic

/-- Expert `e` of group `g`. -/
abbrev member (g e : Fin 4) : Fin 16 := ⟨g.val * 4 + e.val, by omega⟩

/-- The gated answer of expert `e` on row `r` of tile `i`, at lane `d`. -/
def term (hs : FVec Ideal ⟨3, ![34, 1440, 1024]⟩ .bf16) (gs : FVec Ideal ⟨3, ![34, 1440, 128]⟩ .f32)
    (w1 w3 : FVec Ideal ⟨3, ![16, 1024, 512]⟩ .f32) (w2 : FVec Ideal ⟨3, ![16, 512, 1024]⟩ .f32)
    (i : Fin 34) (r : Fin 1440) (d : Fin 1024) (e : Fin 16) : EReal :=
  gs (ix3 i r ⟨e.val, by omega⟩)
    * expert (fun k => hs (ix3 i r k)) (fun k f => w1 (ix3 e k f)) (fun k f => w3 (ix3 e k f)) (fun f => w2 (ix3 e f d))

/-- Every row's gated answers, summed over all experts. -/
def gated (hs : FVec Ideal ⟨3, ![34, 1440, 1024]⟩ .bf16) (gs : FVec Ideal ⟨3, ![34, 1440, 128]⟩ .f32)
    (w1 w3 : FVec Ideal ⟨3, ![16, 1024, 512]⟩ .f32) (w2 : FVec Ideal ⟨3, ![16, 512, 1024]⟩ .f32) : FVec Ideal ⟨3, ![34, 1440, 1024]⟩ .bf16 :=
  fun y => ∑ e : Fin 16, term hs gs w1 w3 w2 (y 0) (y 1) (y 2) e

/-- One group's gated answers, summed over its four experts. -/
def part (hs : FVec Ideal ⟨3, ![34, 1440, 1024]⟩ .bf16) (gs : FVec Ideal ⟨3, ![34, 1440, 128]⟩ .f32)
    (w1 w3 : FVec Ideal ⟨3, ![16, 1024, 512]⟩ .f32) (w2 : FVec Ideal ⟨3, ![16, 512, 1024]⟩ .f32) : FVec Ideal ⟨4, ![4, 34, 1440, 1024]⟩ .bf16 :=
  fun y => ∑ e : Fin 4, term hs gs w1 w3 w2 (y 1) (y 2) (y 3) (member (y 0) e)

/-- A sum over sixteen experts, group by group. -/
theorem sum_groups (f : Fin 16 → EReal) : ∑ g : Fin 4, ∑ e : Fin 4, f (member g e) = ∑ e : Fin 16, f e := by
  simp only [Fin.sum_univ_succ, Fin.sum_univ_zero]
  simp only [add_zero, add_assoc]
  rfl

end Cert.Moe

end
-- ==== Proof.MoeArray.lean ====
/- The result array of the expert call after its run: every grid point's block is its group's share of its tile's answers. -/
module

public import proofs.«01_k».proof.Proof.MoeBlock
public import proofs.«01_k».proof.Proof.MoeSum

@[expose] public section

set_option maxRecDepth 16384

noncomputable section

namespace Cert.Moe

open Idealize.ShloMosaic Idealize.ShloMosaic.TcCoe Cert.Kernel2Ideal Cert.Kernel2Ideal.Gen
open Cert.Pre_sorted_by_group (offAt cntAt)

/-- The grid's points: group `t / 34`, tile `t % 34`. -/
theorem coords_eq : ∀ t : Fin grid0.N, (grid0.coords t 0).val = t.val / 34 ∧ (grid0.coords t 1).val = t.val % 34 := by
  decide +kernel

/-- The index maps at a point. -/
theorem maps_eq : ∀ t : Fin grid0.N, cc0_transform_0 (grid0.coords t) = ![t.val % 34, 0, 0] ∧ cc0_transform_1 (grid0.coords t) = ![t.val % 34, 0, 0]
    ∧ cc0_transform_2 (grid0.coords t) = ![t.val / 34, 0, 0] ∧ cc0_transform_3 (grid0.coords t) = ![t.val / 34, 0, 0]
    ∧ cc0_transform_4 (grid0.coords t) = ![t.val / 34, 0, 0] ∧ cc0_transform_5 (grid0.coords t) = ![t.val / 34, t.val % 34, 0, 0] := by
  decide +kernel

/-- A table of zeros. -/
def noTable : pre0.Contents (Elt Ideal) := fun | 0 => fun _ => (0#32 : BitVec 32)

/-- The output's blocks cover the result, whatever the table holds. -/
theorem covers (T : pre0.Contents (Elt Ideal)) : ((cfg0 (F := Ideal) ⟨T, trivial⟩).win 5).Covers :=
  (by decide +kernel : ((cfg0 (F := Ideal) ⟨noTable, trivial⟩).win 5).Covers)

variable (m : (ℓ : Loc nD τ sig) → Buf (Elt Ideal) ℓ) (hO : Ok m)

/-- The windows' block indices at a point. -/
theorem idx (t : Fin (cfgM m hO).N) : ((cfgM m hO).win 0).index t = ![t.val % 34, 0, 0] ∧ ((cfgM m hO).win 1).index t = ![t.val % 34, 0, 0]
    ∧ ((cfgM m hO).win 2).index t = ![t.val / 34, 0, 0] ∧ ((cfgM m hO).win 3).index t = ![t.val / 34, 0, 0]
    ∧ ((cfgM m hO).win 4).index t = ![t.val / 34, 0, 0] ∧ ((cfgM m hO).win 5).index t = ![t.val / 34, t.val % 34, 0, 0] :=
  maps_eq t

/-- The rows' block, read at an index. -/
theorem row_block (c : Dev nD) (t : Fin (cfgM m hO).N) (r : Fin 1440) (k : Fin 1024) (i : Fin 34) (hi : i.val = t.val % 34) :
    iblk m hO c 0 t (ix3 0 r k) = m ((c : Thread nD τ).loc main_arg0) (ix3 i r k) := by
  refine Eq.trans ?_ (congrFun (V_main_arg0 m c) (ix3 i r k))
  blk_ext [iblk, idx m hO t]

/-- The gates' block, read at an index. -/
theorem gate_block (c : Dev nD) (t : Fin (cfgM m hO).N) (r : Fin 1440) (k : Fin 128) (i : Fin 34) (hi : i.val = t.val % 34) :
    iblk m hO c 1 t (ix3 0 r k) = m ((c : Thread nD τ).loc main_arg1) (ix3 i r k) := by
  refine Eq.trans ?_ (congrFun (V_main_arg1 m c) (ix3 i r k))
  blk_ext [iblk, idx m hO t]

/-- The first weights as the call finds them: the argument, its format changed. -/
theorem V_w1 (c : Dev nD) : V m c main_v0 = m ((c : Thread nD τ).loc main_arg3) := by
  show StableHlo.after (List.flatten [hostOps0]) (fun b => m (c, b)) (Proc.devRef .tc main_v0) = _
  simp only [hostOps0, List.flatten_cons, List.flatten_nil, List.append_nil]
  after_results
  rfl

/-- The first weights' block, read at an index. -/
theorem w1_block (c : Dev nD) (t : Fin (cfgM m hO).N) (e : Fin 4) (k : Fin 1024) (f : Fin 512) (g : Fin 4) (hg : g.val = t.val / 34) :
    iblk m hO c 2 t (ix3 e k f) = m ((c : Thread nD τ).loc main_arg3) (ix3 (member g e) k f) := by
  refine Eq.trans ?_ (congrFun (V_w1 m c) (ix3 (member g e) k f))
  blk_ext [iblk, idx m hO t]

/-- The second weights as the call finds them: the argument, its format changed. -/
theorem V_w3 (c : Dev nD) : V m c main_v1 = m ((c : Thread nD τ).loc main_arg4) := by
  show StableHlo.after (List.flatten [hostOps0]) (fun b => m (c, b)) (Proc.devRef .tc main_v1) = _
  simp only [hostOps0, List.flatten_cons, List.flatten_nil, List.append_nil]
  after_results
  rfl

/-- The last weights as the call finds them: the argument, its format changed. -/
theorem V_w2 (c : Dev nD) : V m c main_v2 = m ((c : Thread nD τ).loc main_arg5) := by
  show StableHlo.after (List.flatten [hostOps0]) (fun b => m (c, b)) (Proc.devRef .tc main_v2) = _
  simp only [hostOps0, List.flatten_cons, List.flatten_nil, List.append_nil]
  after_results
  rfl

/-- The second weights' block, read at an index. -/
theorem w3_block (c : Dev nD) (t : Fin (cfgM m hO).N) (e : Fin 4) (k : Fin 1024) (f : Fin 512) (g : Fin 4) (hg : g.val = t.val / 34) :
    iblk m hO c 3 t (ix3 e k f) = m ((c : Thread nD τ).loc main_arg4) (ix3 (member g e) k f) := by
  refine Eq.trans ?_ (congrFun (V_w3 m c) (ix3 (member g e) k f))
  blk_ext [iblk, idx m hO t]

/-- The last weights' block, read at an index. -/
theorem w2_block (c : Dev nD) (t : Fin (cfgM m hO).N) (e : Fin 4) (f : Fin 512) (d : Fin 1024) (g : Fin 4) (hg : g.val = t.val / 34) :
    iblk m hO c 4 t (ix3 e f d) = m ((c : Thread nD τ).loc main_arg5) (ix3 (member g e) f d) := by
  refine Eq.trans ?_ (congrFun (V_w2 m c) (ix3 (member g e) f d))
  blk_ext [iblk, idx m hO t]

/-- Where element `y` of point `t`'s block sits in the result. -/
def spot (t : Fin (cfgM m hO).N) (y : S1x1x1440x1024.Idx) : S4x34x1440x1024.Idx := (((cfgM m hO).win 5).blk t).view.emb y

/-- Its coordinates. -/
theorem spot_eq (t : Fin (cfgM m hO).N) (y : S1x1x1440x1024.Idx) :
    (spot m hO t y 0).val = t.val / 34 + (y 0).val ∧ (spot m hO t y 1).val = t.val % 34 + (y 1).val
    ∧ (spot m hO t y 2).val = (y 2).val ∧ (spot m hO t y 3).val = (y 3).val := by
  unfold spot
  refine ⟨?_, ?_, ?_, ?_⟩ <;> blk_simp [idx m hO t] <;> simp

/-- The gates are zero on rows outside their group's segment. -/
def Closed (c : Dev nD) : Prop := ∀ (i : Fin 34) (r : Fin 1440) (g e : Fin 4),
  (r.val < (offAt (tbl m 0) i g).toNat ∨ (offAt (tbl m 0) i g).toNat + (cntAt (tbl m 0) i g).toNat ≤ r.val) →
    m ((c : Thread nD τ).loc main_arg1) (ix3 i r ⟨(member g e).val, by omega⟩) = (0 : EReal)

/-- The gated answer of one expert of a point's group, from the point's blocks. -/
theorem answer_block (c : Dev nD) (t : Fin (cfgM m hO).N) (r : Fin 1440) (d : Fin 1024) (g e : Fin 4) (i : Fin 34) (hg : g.val = t.val / 34) (hi : i.val = t.val % 34) :
    HMul.hMul (α := EReal) (β := EReal) (γ := EReal) (iblk m hO c 1 t (ix3 0 r (laneOf g e))) (answer (iblk m hO c 0 t) (iblk m hO c 2 t) (iblk m hO c 3 t) (iblk m hO c 4 t) r d e)
      = term (m ((c : Thread nD τ).loc main_arg0)) (m ((c : Thread nD τ).loc main_arg1)) (m ((c : Thread nD τ).loc main_arg3))
          (m ((c : Thread nD τ).loc main_arg4)) (m ((c : Thread nD τ).loc main_arg5)) i r d (member g e) := by
  unfold answer term
  have h0 : (fun k => iblk m hO c 0 t (ix3 0 r k)) = fun k => m ((c : Thread nD τ).loc main_arg0) (ix3 i r k) := funext fun k => row_block m hO c t r k i hi
  have h2 : (fun k f => iblk m hO c 2 t (ix3 e k f)) = fun k f => m ((c : Thread nD τ).loc main_arg3) (ix3 (member g e) k f) :=
    funext fun k => funext fun f => w1_block m hO c t e k f g hg
  have h3 : (fun k f => iblk m hO c 3 t (ix3 e k f)) = fun k f => m ((c : Thread nD τ).loc main_arg4) (ix3 (member g e) k f) :=
    funext fun k => funext fun f => w3_block m hO c t e k f g hg
  have h4 : (fun f => iblk m hO c 4 t (ix3 e f d)) = fun f => m ((c : Thread nD τ).loc main_arg5) (ix3 (member g e) f d) :=
    funext fun f => w2_block m hO c t e f d g hg
  exact congrArg₂ (fun a b : EReal => a * b) (gate_block m hO c t r (laneOf g e) i hi)
    ((congrArg (fun a => expert a _ _ _) h0).trans ((congrArg (fun a => expert _ a _ _) h2).trans
      ((congrArg (fun a => expert _ _ a _) h3).trans (congrArg (fun a => expert _ _ _ a) h4))))

/-- What a grid point leaves, at row `r` and lane `d`: its group's gated answers. -/
theorem point (hH : Hyps m hO) (c : Dev nD) (hs : ∀ i g, Segment (offAt (tbl m 0) i g) (cntAt (tbl m 0) i g)) (hz : Closed m c)
    (t : Fin (cfgM m hO).N) (r : Fin 1440) (d : Fin 1024) :
    outsAt0 m hO hH c t (ix4 0 0 r d)
      = ∑ e : Fin 4, term (m ((c : Thread nD τ).loc main_arg0)) (m ((c : Thread nD τ).loc main_arg1)) (m ((c : Thread nD τ).loc main_arg3))
          (m ((c : Thread nD τ).loc main_arg4)) (m ((c : Thread nD τ).loc main_arg5)) (grid0.coords t 1) r d (member (grid0.coords t 0) e) := by
  unfold outsAt0
  refine (out_apply c (grid0.coords t) _ _ _ _ _ _ _ _ _ _ _ _ _ _ _ _ _ _ _ (hs _ _) r d).trans ?_
  obtain ⟨hg, hi⟩ := coords_eq t
  have h := fun e => answer_block m hO c t r d (grid0.coords t 0) e (grid0.coords t 1) hg hi
  rw [Fin.sum_univ_four]
  split_ifs with hin
  · exact congrArg₂ (· + ·) (congrArg₂ (· + ·) (congrArg₂ (· + ·) ((zero_add _).trans (h 0)) (h 1)) (h 2)) (h 3)
  · have hr : r.val < (offAt (tbl m 0) (grid0.coords t 1) (grid0.coords t 0)).toNat
        ∨ (offAt (tbl m 0) (grid0.coords t 1) (grid0.coords t 0)).toNat + (cntAt (tbl m 0) (grid0.coords t 1) (grid0.coords t 0)).toNat ≤ r.val := by omega
    have z : ∀ e : Fin 4, term (m ((c : Thread nD τ).loc main_arg0)) (m ((c : Thread nD τ).loc main_arg1)) (m ((c : Thread nD τ).loc main_arg3))
        (m ((c : Thread nD τ).loc main_arg4)) (m ((c : Thread nD τ).loc main_arg5)) (grid0.coords t 1) r d (member (grid0.coords t 0) e) = 0 := fun e => by
      unfold term
      exact (congrArg (fun a : EReal => a * _) (hz (grid0.coords t 1) r (grid0.coords t 0) e hr)).trans (zero_mul _)
    rw [z 0, z 1, z 2, z 3]
    simp only [add_zero]

/-- A block index is its row and its lane. -/
theorem block_idx (y : S1x1x1440x1024.Idx) : ∃ (r : Fin 1440) (d : Fin 1024), y = ix4 0 0 r d := by
  refine ⟨y 2, y 3, (eq_ix4 y).trans ?_⟩
  exact congrArg₂ (fun a b : Fin 1 => ix4 a b (y 2) (y 3)) (Subsingleton.elim (α := Fin 1) (y 0) (0 : Fin 1)) (Subsingleton.elim (α := Fin 1) (y 1) (0 : Fin 1))

/-- The result array after the run: every group's share of every row's answers. -/
theorem final (hH : Hyps m hO) (c : Dev nD) (hs : ∀ i g, Segment (offAt (tbl m 0) i g) (cntAt (tbl m 0) i g)) (hz : Closed m c) :
    (dats m hO hH 0 c).arrAt 5 (cfgM m hO).N
      = part (m ((c : Thread nD τ).loc main_arg0)) (m ((c : Thread nD τ).loc main_arg1)) (m ((c : Thread nD τ).loc main_arg3))
          (m ((c : Thread nD τ).loc main_arg4)) (m ((c : Thread nD τ).loc main_arg5)) := by
  refine (dats m hO hH 0 c).arrAt_eq_of_covers 5 _ (covers _) fun t hf y => ?_
  blk_simp
  rw [after0_5]
  obtain ⟨r, d, rfl⟩ := block_idx y
  obtain ⟨e0, e1, e2, e3⟩ := spot_eq m hO t (ix4 0 0 r d)
  obtain ⟨hg, hi⟩ := coords_eq t
  refine (point m hO hH c hs hz t r d).trans ?_
  have f0 : spot m hO t (ix4 0 0 r d) 0 = grid0.coords t 0 := Fin.ext (e0.trans hg.symm)
  have f1 : spot m hO t (ix4 0 0 r d) 1 = grid0.coords t 1 := Fin.ext (e1.trans hi.symm)
  have f2 : spot m hO t (ix4 0 0 r d) 2 = r := Fin.ext e2
  have f3 : spot m hO t (ix4 0 0 r d) 3 = d := Fin.ext e3
  refine Eq.trans ?_ (rfl : _ = part _ _ _ _ _ (spot m hO t (ix4 0 0 r d)))
  unfold part
  rw [f0, f1, f2, f3]

end Cert.Moe

end
-- ==== Proof.MoeValue.lean ====
/- The expert call's result after the host's sum over groups, and its run from a memory whose segments are well formed. -/
module

public import proofs.«01_k».proof.Proof.MoeArray

@[expose] public section

set_option maxRecDepth 16384

noncomputable section

namespace Cert.Moe

open Idealize.ShloMosaic Idealize.ShloMosaic.TcCoe Cert.Kernel2Ideal Cert.Kernel2Ideal.Gen Idealize.SL.Sem
open Cert.Pre_sorted_by_group (offAt cntAt segBit gateBit)

/-- The sum over the groups. -/
def overGroups (x : FVec Ideal S4x34x1440x1024 .bf16) : FVec Ideal S34x1440x1024 .bf16 :=
  truncf .bf16 (Host.reduceAdd (extf .f32 x bitsLt_bf16_f32) (constant S_ .f32 0x00000000#32) reducesTo_S4x34x1440x1024_S34x1440x1024_d0 h_S_) bitsLt_bf16_f32

/-- The host's lines after the call sum its result over the groups. -/
theorem tail_eq (V : Valuation τ sig (Elt Ideal)) :
    StableHlo.after (List.flatten [hostOps1]) V (Proc.devRef .tc main_v6) = overGroups (V (Proc.devRef .tc main_v3)) := by
  simp only [hostOps1, List.flatten_cons, List.flatten_nil, List.append_nil]
  after_results
  rfl

/-- The sum over the groups, at an element. -/
theorem overGroups_apply (x : FVec Ideal S4x34x1440x1024 .bf16) (i : Fin 34) (r : Fin 1440) (d : Fin 1024) :
    overGroups x (ix3 i r d) = ∑ g : Fin 4, x (ix4 g i r d) := by
  pointwise [overGroups]

/-- The groups' shares add up to all experts' answers. -/
theorem overGroups_part (hs : FVec Ideal ⟨3, ![34, 1440, 1024]⟩ .bf16) (gs : FVec Ideal ⟨3, ![34, 1440, 128]⟩ .f32)
    (w1 w3 : FVec Ideal ⟨3, ![16, 1024, 512]⟩ .f32) (w2 : FVec Ideal ⟨3, ![16, 512, 1024]⟩ .f32) :
    overGroups (part hs gs w1 w3 w2) = gated hs gs w1 w3 w2 :=
  funext fun y => (congrArg _ (eq_ix3 y)).trans ((overGroups_apply _ (y 0) (y 1) (y 2)).trans (sum_groups (term hs gs w1 w3 w2 (y 0) (y 1) (y 2))))

variable (m : (ℓ : Loc nD τ sig) → Buf (Elt Ideal) ℓ) (hO : Ok m)

/-- The result buffer after the host's last line. -/
theorem result_eq (hH : Hyps m hO) (c : Dev nD) (hs : ∀ i g, Segment (offAt (tbl m 0) i g) (cntAt (tbl m 0) i g)) (hz : Closed m c) :
    Pipeline.afterTail pcfgs (fun _ => adm m hO) (dats m hO hH) 0 (V0 m) [hostOps1] c main_v6
      = gated (m ((c : Thread nD τ).loc main_arg0)) (m ((c : Thread nD τ).loc main_arg1)) (m ((c : Thread nD τ).loc main_arg3))
          (m ((c : Thread nD τ).loc main_arg4)) (m ((c : Thread nD τ).loc main_arg5)) := by
  unfold Pipeline.afterTail
  refine (tail_eq _).trans ((congrArg overGroups ?_).trans (overGroups_part _ _ _ _ _))
  exact (Pipeline.withArrays_arr spec0 (by decide) c (V0 m c) (fun w => (dats m hO hH 0 c).arrAt w (cfgM m hO).N) 5).trans (final m hO hH c hs hz)

/-- The precondition on the arguments, on every device. -/
def Sorted {F : FTy → Type} [FloatOps F] (m : (ℓ : Loc nD τ sig) → Buf (Elt F) ℓ) : Prop :=
  ∀ c : Dev nD, Cert.Pre_sorted_by_group.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) = fun _ => 1#1

/-- Under the precondition every segment is well formed. -/
theorem Sorted.segments {F : FTy → Type} [FloatOps F] {m : (ℓ : Loc nD τ sig) → Buf (Elt F) ℓ} (hp : Sorted m) (i : Fin 34) (g : Fin 4) :
    Segment (offAt (m ((0 : Dev nD).tc.loc main_arg2)) i g) (cntAt (m ((0 : Dev nD).tc.loc main_arg2)) i g) :=
  Cert.Pre_sorted_by_group.segment_of ((Cert.Pre_sorted_by_group.bits_of _ _ _ _ _ _ (hp 0)).1 i g)

/-- Under the precondition the body's assumption holds at every point. -/
theorem Sorted.hyps {F : FTy → Type} [FloatOps F] {m : (ℓ : Loc nD τ sig) → Buf (Elt F) ℓ} (hp : Sorted m) : Hyps m trivial :=
  Cert.Moe.hyps m trivial hp.segments

/-- Under the precondition gates are zero on rows outside their group's segment. -/
theorem Sorted.closed {m : (ℓ : Loc nD τ sig) → Buf (Elt Ideal) ℓ} (hp : Sorted m) (c : Dev nD) : Closed m c := by
  obtain rfl : c = 0 := Subsingleton.elim _ _
  intro i r g e hout
  have ht : tbl m 0 = m ((0 : Dev nD).tc.loc main_arg2) := V_main_arg2 m 0
  have hb := (Cert.Pre_sorted_by_group.bits_of _ _ _ _ _ _ (hp 0)).2 i r g e
  have hout' : r.val < (offAt (m ((0 : Dev nD).tc.loc main_arg2)) i g).toNat
      ∨ (offAt (m ((0 : Dev nD).tc.loc main_arg2)) i g).toNat + (cntAt (m ((0 : Dev nD).tc.loc main_arg2)) i g).toNat ≤ r.val :=
    Eq.mp (congrArg (fun T : IVec ⟨1, ![272]⟩ 32 => r.val < (offAt T i g).toNat ∨ (offAt T i g).toNat + (cntAt T i g).toNat ≤ r.val) ht) hout
  exact Cert.Pre_sorted_by_group.gate_of (hp.segments i g) r.isLt hb hout'

/-- From a memory with the precondition the call's program ends with every row's gated answers, its arguments unchanged. -/
theorem run_gated (ρ : Dev nD → PrngReg) (hp : Sorted m) :
    θ_run defs (onTc (τ := τ) (main (F := Ideal))) ⟨m, fun _ => 0, ρ⟩ fun r => ∀ c : Dev nD,
      r.2.mem ((c.tc : Thread nD τ).loc main_v6) = gated (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hs : ∀ i g, Segment (offAt (tbl m 0) i g) (cntAt (tbl m 0) i g) := fun i g =>
    Eq.mpr (congrArg (fun T : IVec ⟨1, ![272]⟩ 32 => Segment (offAt T i g) (cntAt T i g)) (V_main_arg2 m 0)) (hp.segments i g)
  refine (θ_run defs _ _).mono (fun r h c => ⟨?_, h.2 c⟩) (θ_run_and (run_main m ρ trivial hp.hyps) (unchanged m ρ trivial hp.hyps))
  exact ((h.1 c).2 main_v6 (by decide : main_v6 ∈ Pipeline.restRefs sig spec0)).trans (result_eq m trivial hp.hyps c hs (hp.closed c))

end Cert.Moe

end
-- ==== Proof.MoeRef.lean ====
/- The reference's result of the expert layer, element by element: the gated answers of all sixteen experts. -/
module

public import proofs.«01_k».proof.Proof.Gen.Reference2Ideal.Run
public import proofs.«01_k».proof.Proof.MoeSum
public import Idealize.ShloMosaic.Lib.Pointwise

@[expose] public section

set_option maxRecDepth 16384

noncomputable section

namespace Cert.Reference2Ideal.Experts

open Idealize.ShloMosaic Idealize.ShloMosaic.TcCoe Cert.Reference2Ideal Cert.Reference2Ideal.Gen Cert.Moe

/-- Every row times a matrix of every expert. -/
def into (h : FVec Ideal S34x1440x1024 .bf16) (w : FVec Ideal S16x1024x512 .f32) : FVec Ideal S34x1440x16x512 .f32 :=
  Host.dotGeneral dot_S34x1440x1024_S16x1024x512_S34x1440x16x512_2_1_01_02_n_n none (extf .f32 h bitsLt_bf16_f32) w

/-- The hidden activations of every row at every expert. -/
def hidden (a b : FVec Ideal S34x1440x16x512 .f32) : FVec Ideal S34x1440x16x512 .f32 :=
  mulf (mulf a (Host.divf (broadcastInDim S34x1440x16x512 ![] bcast_S_S34x1440x16x512 (constant S_ .f32 0x3F800000#32)) (addf (broadcastInDim S34x1440x16x512 ![] bcast_S_S34x1440x16x512 (constant S_ .f32 0x3F800000#32)) (Host.exp (Host.negf a))))) b

/-- Hidden activations times the last matrix of every expert. -/
def out (w : FVec Ideal S16x512x1024 .f32) (a : FVec Ideal S34x1440x16x512 .f32) : FVec Ideal S34x1440x16x1024 .f32 :=
  transpose S34x1440x16x1024 [2, 3, 0, 1] (Host.dotGeneral dot_S16x512x1024_S34x1440x16x512_S16x1024x34x1440_1_3_2_01_0_2 none w a) transposes_S16x1024x34x1440_S34x1440x16x1024_2_3_0_1

/-- The answers weighted by the gates. -/
def mix (g : FVec Ideal S34x1440x128 .f32) (x : FVec Ideal S34x1440x16x1024 .f32) : FVec Ideal S34x1440x1024 .bf16 :=
  truncf .bf16 (Host.dotGeneral dot_S34x1440x16_S34x1440x16x1024_S34x1440x1024_2_2_n_3_01_01 none (extractStridedSlice S34x1440x16 ![0, 0, 0] g slices_S34x1440x128_S34x1440x16_0_0_0) x) bitsLt_bf16_f32

/-- A row times a matrix, at an element. -/
theorem into_apply (h : FVec Ideal S34x1440x1024 .bf16) (w : FVec Ideal S16x1024x512 .f32) (i : Fin 34) (r : Fin 1440) (e : Fin 16) (f : Fin 512) :
    into h w (ix4 i r e f) = ∑ k : Fin 1024, h (ix3 i r k) * w (ix3 e k f) := by
  pointwise [into]

/-- The hidden activation at an element. -/
theorem hidden_apply (a b : FVec Ideal S34x1440x16x512 .f32) (y : S34x1440x16x512.Idx) :
    hidden a b y = a y * Ideal.logistic (a y) * b y := by
  pointwise [hidden]
  rfl

/-- An expert's answer at an element. -/
theorem out_apply (w : FVec Ideal S16x512x1024 .f32) (a : FVec Ideal S34x1440x16x512 .f32) (i : Fin 34) (r : Fin 1440) (e : Fin 16) (d : Fin 1024) :
    out w a (ix4 i r e d) = ∑ f : Fin 512, w (ix3 e f d) * a (ix4 i r e f) := by
  pointwise [out]

/-- The weighted answers at an element. -/
theorem mix_apply (g : FVec Ideal S34x1440x128 .f32) (x : FVec Ideal S34x1440x16x1024 .f32) (i : Fin 34) (r : Fin 1440) (d : Fin 1024) :
    mix g x (ix3 i r d) = ∑ e : Fin 16, g (ix3 i r ⟨e.val, by omega⟩) * x (ix4 i r e d) := by
  pointwise [mix]

/-- The reference's term is the gated answers of all experts. -/
theorem ref_eq (h : FVec Ideal S34x1440x1024 .bf16) (g : FVec Ideal S34x1440x128 .f32) (w1 w3 : FVec Ideal S16x1024x512 .f32) (w2 : FVec Ideal S16x512x1024 .f32) :
    mix g (out w2 (hidden (into h w1) (into h w3))) = gated h g w1 w3 w2 := by
  funext y
  refine (congrArg _ (eq_ix3 y)).trans ((mix_apply _ _ (y 0) (y 1) (y 2)).trans ?_)
  refine Finset.sum_congr rfl fun e _ => ?_
  refine congrArg₂ (· * ·) rfl ((out_apply ..).trans ?_)
  refine Finset.sum_congr rfl fun f _ => (mul_comm _ _).trans ?_
  refine congrArg₂ (· * ·) ?_ rfl
  exact (hidden_apply _ _ _).trans (congrArg₂ (· * ·) (congrArg (fun a => a * Ideal.logistic a) (into_apply h w1 (y 0) (y 1) e f)) (into_apply h w3 (y 0) (y 1) e f))

end Cert.Reference2Ideal.Experts

end
-- ==== Proof.Project.lean ====
/- Columns of the input projection: every row of one array against a stretch of another's columns. -/
module

public import Idealize.ShloMosaic.Lib.Pointwise

@[expose] public section

noncomputable section

namespace Cert.Project

open Idealize.ShloMosaic

/-- The product of a row with a column. -/
def cell (h : FVec Ideal ⟨2, ![34816, 1024]⟩ .bf16) (w : FVec Ideal ⟨2, ![1024, 7168]⟩ .f32) (i : Fin 34816) (n : Fin 7168) : EReal :=
  ∑ k : Fin 1024, (h (ix2 i k) : EReal) * w (ix2 k n)

/-- The products with `width` columns from column `lo` on. -/
def proj (lo width : ℕ) (fits : lo + width ≤ 7168) (h : FVec Ideal ⟨2, ![34816, 1024]⟩ .bf16) (w : FVec Ideal ⟨2, ![1024, 7168]⟩ .f32) :
    FVec Ideal ⟨2, ![34816, width]⟩ .bf16 :=
  fun y => cell h w (y 0) ⟨lo + (y 1).val, by have h1 : (y 1).val < width := (y 1).isLt; omega⟩

/-- An element of the products, by its row and the number of its column. -/
theorem proj_at (lo width : ℕ) (fits : lo + width ≤ 7168) (h : FVec Ideal ⟨2, ![34816, 1024]⟩ .bf16)
    (w : FVec Ideal ⟨2, ![1024, 7168]⟩ .f32) (y : Shape.Idx ⟨2, ![34816, width]⟩) (i : Fin 34816) (n : Fin 7168)
    (hi : (y 0).val = i.val) (hn : lo + (y 1).val = n.val) : cell h w i n = proj lo width fits h w y :=
  (congrArg (fun a : Fin 34816 => cell h w a n) (Fin.ext hi.symm)).trans (congrArg (cell h w (y 0)) (Fin.ext hn.symm))

end Cert.Project

end
-- ==== Proof.ProjectRwkv.lean ====
/- One call of the input projection, the recurrence's columns: its result and its reference's are the same products. -/
module

public import proofs.«01_k».proof.Proof.Gen.Kernel3Ideal.Value
public import proofs.«01_k».proof.Proof.Gen.Reference3Ideal.Run
public import proofs.«01_k».proof.Proof.Project
public import Idealize.ShloMosaic.Lib.Pipeline.ValueKit

@[expose] public section

set_option maxRecDepth 16384

noncomputable section

namespace Cert.Kernel3Ideal.Columns

open Idealize.ShloMosaic Idealize.ShloMosaic.TcCoe Cert.Kernel3Ideal Cert.Kernel3Ideal.Gen Cert.Project

variable (m : (ℓ : Loc nD τ sig) → Buf (Elt Ideal) ℓ)

/-- The index maps: row tile `t / 1`, column tile `t % 1`. -/
theorem idx : ∀ t : Fin cfg0.N, win0_0.index t = ![t.val / 1, 0] ∧ win0_1.index t = ![0, t.val % 1]
    ∧ win0_2.index t = ![t.val / 1, t.val % 1] :=
  (by decide +kernel : ∀ t : Fin grid0.N, _)

/-- The rows' block, read at an index. -/
theorem row_block (c : Dev nD) (t : Fin cfg0.N) (r k : Fin 1024) (i : Fin 34816) (hi : i.val = 1024 * (t.val / 1) + r.val) :
    iblk m c 0 t (ix2 r k) = m ((c : Thread nD τ).loc main_arg0) (ix2 i k) :=
  (show iblk m c 0 t (ix2 r k) = V m c main_arg0 (ix2 i k) by blk_ext [iblk, idx t]).trans (congrFun (V_main_arg0 m c) _)

/-- A stretch of the weights' columns. -/
def cols (w : FVec Ideal ⟨2, ![1024, 7168]⟩ .f32) : FVec Ideal ⟨2, ![1024, 1024]⟩ .bf16 :=
  extractStridedSlice S1024x1024 ![0, 0] (truncf .bf16 w bitsLt_bf16_f32) slices_S1024x7168_S1024x1024_0_0

/-- The stretch at an element. -/
theorem cols_apply (w : FVec Ideal ⟨2, ![1024, 7168]⟩ .f32) (k : Fin 1024) (l : Fin 1024) :
    cols w (ix2 k l) = w (ix2 k ⟨0 + l.val, by omega⟩) := by
  pointwise [cols]

/-- The weights as the call finds them. -/
theorem weights (c : Dev nD) : V m c main_v1 = cols (m ((c : Thread nD τ).loc main_arg1)) := by
  show StableHlo.after hostOps0 (fun b => m (c, b)) (Proc.devRef .tc main_v1) = _
  simp only [hostOps0, List.flatten_cons, List.flatten_nil, List.append_nil]
  after_results
  rfl

/-- The weights as the call finds them, at an element. -/
theorem weight_at (c : Dev nD) (k : Fin 1024) (l : Fin 1024) (n : Fin 7168) (hn : n.val = 0 + l.val) :
    V m c main_v1 (ix2 k l) = m ((c : Thread nD τ).loc main_arg1) (ix2 k n) := by
  refine (congrFun (weights m c) _).trans ((cols_apply _ k l).trans ?_)
  exact congrArg (fun a : Fin 7168 => m ((c : Thread nD τ).loc main_arg1) (ix2 k a)) (Fin.ext hn.symm)

/-- The weights' block, read at an index. -/
theorem col_block (c : Dev nD) (t : Fin cfg0.N) (k : Fin 1024) (l : Fin 1024) (n : Fin 7168) (hn : n.val = 0 + (1024 * (t.val % 1) + l.val)) :
    iblk m c 1 t (ix2 k l) = m ((c : Thread nD τ).loc main_arg1) (ix2 k n) :=
  (show iblk m c 1 t (ix2 k l) = V m c main_v1 (ix2 k ⟨1024 * (t.val % 1) + l.val, by omega⟩) by blk_ext [iblk, idx t]).trans
    (weight_at m c k _ n hn)

/-- The stored block at an element: the product of its row and its column. -/
theorem store_apply (x : FVec Ideal ⟨2, ![1024, 1024]⟩ .bf16) (w : FVec Ideal ⟨2, ![1024, 1024]⟩ .bf16) (r : Fin 1024) (l : Fin 1024) :
    k0_pay1 (F := Ideal) x w (ix2 r l) = ∑ k : Fin 1024, x (ix2 r k) * w (ix2 k l) := by
  pointwise [k0_pay1]

/-- Where element `y` of point `t`'s block sits in the result. -/
theorem place (t : Fin cfg0.N) (y : S1024x1024.Idx) :
    (((win0_2.blk t).view.emb y : S34816x1024.Idx) 0).val = 1024 * (t.val / 1) + (y 0).val
    ∧ (((win0_2.blk t).view.emb y : S34816x1024.Idx) 1).val = 1024 * (t.val % 1) + (y 1).val := by
  refine ⟨?_, ?_⟩ <;> blk_simp [idx t] <;> simp <;> omega

/-- A block's product, over the arrays. -/
theorem block_cell (c : Dev nD) (t : Fin cfg0.N) (r : Fin 1024) (l : Fin 1024) (i : Fin 34816) (n : Fin 7168)
    (hi : i.val = 1024 * (t.val / 1) + r.val) (hn : n.val = 0 + (1024 * (t.val % 1) + l.val)) :
    k0_pay1 (F := Ideal) (iblk m c 0 t) (iblk m c 1 t) (ix2 r l)
      = cell (m ((c : Thread nD τ).loc main_arg0)) (m ((c : Thread nD τ).loc main_arg1)) i n := by
  refine (store_apply _ _ r l).trans (Finset.sum_congr rfl fun k _ => ?_)
  exact congrArg₂ (HMul.hMul (α := EReal) (β := EReal) (γ := EReal)) (row_block m c t r k i hi) (col_block m c t k l n hn)

/-- The result array after the run. -/
theorem final (c : Dev nD) : (dats m 0 c).arrAt 2 (cfgs 0).N
    = proj 0 1024 (by decide) (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, l, rfl⟩ : ∃ (r : Fin 1024) (l : Fin 1024), y = ix2 r l := ⟨y 0, y 1, eq_ix2 y⟩
  obtain ⟨e0, e1⟩ := place t (ix2 r l)
  have hb : 1024 * (t.val / 1) + r.val < 34816 := e0 ▸ (((win0_2.blk t).view.emb (ix2 r l) : S34816x1024.Idx) 0).isLt
  unfold out0_2; frame_out
  exact (block_cell m c t r l ⟨_, hb⟩ ⟨0 + (1024 * (t.val % 1) + l.val), by omega⟩ rfl rfl).trans
    (proj_at 0 1024 (by decide) _ _ _ _ _ e0 (congrArg (0 + ·) e1))

end Cert.Kernel3Ideal.Columns

namespace Cert.Reference3Ideal.Columns

open Idealize.ShloMosaic Cert.Reference3Ideal Cert.Reference3Ideal.Gen Cert.Project

/-- The whole product at an element. -/
theorem product_apply (h : FVec Ideal ⟨2, ![34816, 1024]⟩ .bf16) (w : FVec Ideal ⟨2, ![1024, 7168]⟩ .f32) (i : Fin 34816) (n : Fin 7168) :
    (Host.dotGeneral dot_S34816x1024_S1024x7168_S34816x7168_1_0_0_1_n_n none (extf .f32 h bitsLt_bf16_f32) w : FVec Ideal S34816x7168 .f32) (ix2 i n)
      = cell h w i n := by
  unfold cell
  pointwise []

/-- The reference's result: the products with its columns. -/
theorem ref_eq (h : FVec Ideal ⟨2, ![34816, 1024]⟩ .bf16) (w : FVec Ideal ⟨2, ![1024, 7168]⟩ .f32) :
    truncf .bf16 (extractStridedSlice S34816x1024 ![0, 0] (Host.dotGeneral dot_S34816x1024_S1024x7168_S34816x7168_1_0_0_1_n_n none (extf .f32 h bitsLt_bf16_f32) w) slices_S34816x7168_S34816x1024_0_0) bitsLt_bf16_f32
      = proj 0 1024 (by decide) h w := by
  have hp := product_apply h w
  generalize (Host.dotGeneral dot_S34816x1024_S1024x7168_S34816x7168_1_0_0_1_n_n none (extf .f32 h bitsLt_bf16_f32) w) = p at *
  funext y
  obtain ⟨i, l, rfl⟩ : ∃ (i : Fin 34816) (l : Fin 1024), y = ix2 i l := ⟨y 0, y 1, eq_ix2 y⟩
  pointwise []
  exact (hp i _).trans (proj_at 0 1024 (by decide) h w (ix2 i l) i _ rfl (Nat.zero_add _))

end Cert.Reference3Ideal.Columns

end
-- ==== Proof.ProjectConv.lean ====
/- One call of the input projection, the two convolutions' columns: its result and its reference's are the same products. -/
module

public import proofs.«01_k».proof.Proof.Gen.Kernel4Ideal.Value
public import proofs.«01_k».proof.Proof.Gen.Reference4Ideal.Run
public import proofs.«01_k».proof.Proof.Project
public import Idealize.ShloMosaic.Lib.Pipeline.ValueKit

@[expose] public section

set_option maxRecDepth 16384

noncomputable section

namespace Cert.Kernel4Ideal.Columns

open Idealize.ShloMosaic Idealize.ShloMosaic.TcCoe Cert.Kernel4Ideal Cert.Kernel4Ideal.Gen Cert.Project

variable (m : (ℓ : Loc nD τ sig) → Buf (Elt Ideal) ℓ)

/-- The index maps: row tile `t / 3`, column tile `t % 3`. -/
theorem idx : ∀ t : Fin cfg0.N, win0_0.index t = ![t.val / 3, 0] ∧ win0_1.index t = ![0, t.val % 3]
    ∧ win0_2.index t = ![t.val / 3, t.val % 3] :=
  (by decide +kernel : ∀ t : Fin grid0.N, _)

/-- The rows' block, read at an index. -/
theorem row_block (c : Dev nD) (t : Fin cfg0.N) (r k : Fin 1024) (i : Fin 34816) (hi : i.val = 1024 * (t.val / 3) + r.val) :
    iblk m c 0 t (ix2 r k) = m ((c : Thread nD τ).loc main_arg0) (ix2 i k) :=
  (show iblk m c 0 t (ix2 r k) = V m c main_arg0 (ix2 i k) by blk_ext [iblk, idx t]).trans (congrFun (V_main_arg0 m c) _)

/-- A stretch of the weights' columns. -/
def cols (w : FVec Ideal ⟨2, ![1024, 7168]⟩ .f32) : FVec Ideal ⟨2, ![1024, 1536]⟩ .bf16 :=
  extractStridedSlice S1024x1536 ![0, 1024] (truncf .bf16 w bitsLt_bf16_f32) slices_S1024x7168_S1024x1536_0_1024

/-- The stretch at an element. -/
theorem cols_apply (w : FVec Ideal ⟨2, ![1024, 7168]⟩ .f32) (k : Fin 1024) (l : Fin 1536) :
    cols w (ix2 k l) = w (ix2 k ⟨1024 + l.val, by omega⟩) := by
  pointwise [cols]

/-- The weights as the call finds them. -/
theorem weights (c : Dev nD) : V m c main_v1 = cols (m ((c : Thread nD τ).loc main_arg1)) := by
  show StableHlo.after hostOps0 (fun b => m (c, b)) (Proc.devRef .tc main_v1) = _
  simp only [hostOps0, List.flatten_cons, List.flatten_nil, List.append_nil]
  after_results
  rfl

/-- The weights as the call finds them, at an element. -/
theorem weight_at (c : Dev nD) (k : Fin 1024) (l : Fin 1536) (n : Fin 7168) (hn : n.val = 1024 + l.val) :
    V m c main_v1 (ix2 k l) = m ((c : Thread nD τ).loc main_arg1) (ix2 k n) := by
  refine (congrFun (weights m c) _).trans ((cols_apply _ k l).trans ?_)
  exact congrArg (fun a : Fin 7168 => m ((c : Thread nD τ).loc main_arg1) (ix2 k a)) (Fin.ext hn.symm)

/-- The weights' block, read at an index. -/
theorem col_block (c : Dev nD) (t : Fin cfg0.N) (k : Fin 1024) (l : Fin 512) (n : Fin 7168) (hn : n.val = 1024 + (512 * (t.val % 3) + l.val)) :
    iblk m c 1 t (ix2 k l) = m ((c : Thread nD τ).loc main_arg1) (ix2 k n) :=
  (show iblk m c 1 t (ix2 k l) = V m c main_v1 (ix2 k ⟨512 * (t.val % 3) + l.val, by omega⟩) by blk_ext [iblk, idx t]).trans
    (weight_at m c k _ n hn)

/-- The stored block at an element: the product of its row and its column. -/
theorem store_apply (x : FVec Ideal ⟨2, ![1024, 1024]⟩ .bf16) (w : FVec Ideal ⟨2, ![1024, 512]⟩ .bf16) (r : Fin 1024) (l : Fin 512) :
    k0_pay1 (F := Ideal) x w (ix2 r l) = ∑ k : Fin 1024, x (ix2 r k) * w (ix2 k l) := by
  pointwise [k0_pay1]

/-- Where element `y` of point `t`'s block sits in the result. -/
theorem place (t : Fin cfg0.N) (y : S1024x512.Idx) :
    (((win0_2.blk t).view.emb y : S34816x1536.Idx) 0).val = 1024 * (t.val / 3) + (y 0).val
    ∧ (((win0_2.blk t).view.emb y : S34816x1536.Idx) 1).val = 512 * (t.val % 3) + (y 1).val := by
  refine ⟨?_, ?_⟩ <;> blk_simp [idx t] <;> simp <;> omega

/-- A block's product, over the arrays. -/
theorem block_cell (c : Dev nD) (t : Fin cfg0.N) (r : Fin 1024) (l : Fin 512) (i : Fin 34816) (n : Fin 7168)
    (hi : i.val = 1024 * (t.val / 3) + r.val) (hn : n.val = 1024 + (512 * (t.val % 3) + l.val)) :
    k0_pay1 (F := Ideal) (iblk m c 0 t) (iblk m c 1 t) (ix2 r l)
      = cell (m ((c : Thread nD τ).loc main_arg0)) (m ((c : Thread nD τ).loc main_arg1)) i n := by
  refine (store_apply _ _ r l).trans (Finset.sum_congr rfl fun k _ => ?_)
  exact congrArg₂ (HMul.hMul (α := EReal) (β := EReal) (γ := EReal)) (row_block m c t r k i hi) (col_block m c t k l n hn)

/-- The result array after the run. -/
theorem final (c : Dev nD) : (dats m 0 c).arrAt 2 (cfgs 0).N
    = proj 1024 1536 (by decide) (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, l, rfl⟩ : ∃ (r : Fin 1024) (l : Fin 512), y = ix2 r l := ⟨y 0, y 1, eq_ix2 y⟩
  obtain ⟨e0, e1⟩ := place t (ix2 r l)
  have hb : 1024 * (t.val / 3) + r.val < 34816 := e0 ▸ (((win0_2.blk t).view.emb (ix2 r l) : S34816x1536.Idx) 0).isLt
  unfold out0_2; frame_out
  exact (block_cell m c t r l ⟨_, hb⟩ ⟨1024 + (512 * (t.val % 3) + l.val), by omega⟩ rfl rfl).trans
    (proj_at 1024 1536 (by decide) _ _ _ _ _ e0 (congrArg (1024 + ·) e1))

end Cert.Kernel4Ideal.Columns

namespace Cert.Reference4Ideal.Columns

open Idealize.ShloMosaic Cert.Reference4Ideal Cert.Reference4Ideal.Gen Cert.Project

/-- The whole product at an element. -/
theorem product_apply (h : FVec Ideal ⟨2, ![34816, 1024]⟩ .bf16) (w : FVec Ideal ⟨2, ![1024, 7168]⟩ .f32) (i : Fin 34816) (n : Fin 7168) :
    (Host.dotGeneral dot_S34816x1024_S1024x7168_S34816x7168_1_0_0_1_n_n none (extf .f32 h bitsLt_bf16_f32) w : FVec Ideal S34816x7168 .f32) (ix2 i n)
      = cell h w i n := by
  unfold cell
  pointwise []

/-- The reference's result: the products with its columns, in two stretches side by side. -/
theorem ref_eq (h : FVec Ideal ⟨2, ![34816, 1024]⟩ .bf16) (w : FVec Ideal ⟨2, ![1024, 7168]⟩ .f32) :
    truncf .bf16 (concatenate S34816x1536 1 [⟨S34816x768, extractStridedSlice S34816x768 ![0, 1024] (Host.dotGeneral dot_S34816x1024_S1024x7168_S34816x7168_1_0_0_1_n_n none (extf .f32 h bitsLt_bf16_f32) w) slices_S34816x7168_S34816x768_0_1024⟩,
        ⟨S34816x768, extractStridedSlice S34816x768 ![0, 1792] (Host.dotGeneral dot_S34816x1024_S1024x7168_S34816x7168_1_0_0_1_n_n none (extf .f32 h bitsLt_bf16_f32) w) slices_S34816x7168_S34816x768_0_1792⟩]
        concatenates_S34816x768_S34816x768_S34816x1536_d1) bitsLt_bf16_f32
      = proj 1024 1536 (by decide) h w := by
  have hp := product_apply h w
  generalize (Host.dotGeneral dot_S34816x1024_S1024x7168_S34816x7168_1_0_0_1_n_n none (extf .f32 h bitsLt_bf16_f32) w) = p at *
  funext y
  obtain ⟨i, l, rfl⟩ : ∃ (i : Fin 34816) (l : Fin 1536), y = ix2 i l := ⟨y 0, y 1, eq_ix2 y⟩
  pointwise []
  split
  · exact (hp i _).trans (proj_at 1024 1536 (by decide) h w (ix2 i l) i _ rfl rfl)
  · refine (hp i _).trans (proj_at 1024 1536 (by decide) h w (ix2 i l) i _ rfl ?_)
    show 1024 + l.val = 1792 + (l.val - 768)
    omega

end Cert.Reference4Ideal.Columns

end
-- ==== Proof.ProjectAttn.lean ====
/- One call of the input projection, the attention's columns: its result and its reference's are the same products. -/
module

public import proofs.«01_k».proof.Proof.Gen.Kernel5Ideal.Value
public import proofs.«01_k».proof.Proof.Gen.Reference5Ideal.Run
public import proofs.«01_k».proof.Proof.Project
public import Idealize.ShloMosaic.Lib.Pipeline.ValueKit

@[expose] public section

set_option maxRecDepth 16384

noncomputable section

namespace Cert.Kernel5Ideal.Columns

open Idealize.ShloMosaic Idealize.ShloMosaic.TcCoe Cert.Kernel5Ideal Cert.Kernel5Ideal.Gen Cert.Project

variable (m : (ℓ : Loc nD τ sig) → Buf (Elt Ideal) ℓ)

/-- The index maps: row tile `t / 1`, column tile `t % 1`. -/
theorem idx : ∀ t : Fin cfg0.N, win0_0.index t = ![t.val / 1, 0] ∧ win0_1.index t = ![0, t.val % 1]
    ∧ win0_2.index t = ![t.val / 1, t.val % 1] :=
  (by decide +kernel : ∀ t : Fin grid0.N, _)

/-- The rows' block, read at an index. -/
theorem row_block (c : Dev nD) (t : Fin cfg0.N) (r k : Fin 1024) (i : Fin 34816) (hi : i.val = 1024 * (t.val / 1) + r.val) :
    iblk m c 0 t (ix2 r k) = m ((c : Thread nD τ).loc main_arg0) (ix2 i k) :=
  (show iblk m c 0 t (ix2 r k) = V m c main_arg0 (ix2 i k) by blk_ext [iblk, idx t]).trans (congrFun (V_main_arg0 m c) _)

/-- A stretch of the weights' columns. -/
def cols (w : FVec Ideal ⟨2, ![1024, 7168]⟩ .f32) : FVec Ideal ⟨2, ![1024, 512]⟩ .bf16 :=
  extractStridedSlice S1024x512 ![0, 2560] (truncf .bf16 w bitsLt_bf16_f32) slices_S1024x7168_S1024x512_0_2560

/-- The stretch at an element. -/
theorem cols_apply (w : FVec Ideal ⟨2, ![1024, 7168]⟩ .f32) (k : Fin 1024) (l : Fin 512) :
    cols w (ix2 k l) = w (ix2 k ⟨2560 + l.val, by omega⟩) := by
  pointwise [cols]

/-- The weights as the call finds them. -/
theorem weights (c : Dev nD) : V m c main_v1 = cols (m ((c : Thread nD τ).loc main_arg1)) := by
  show StableHlo.after hostOps0 (fun b => m (c, b)) (Proc.devRef .tc main_v1) = _
  simp only [hostOps0, List.flatten_cons, List.flatten_nil, List.append_nil]
  after_results
  rfl

/-- The weights as the call finds them, at an element. -/
theorem weight_at (c : Dev nD) (k : Fin 1024) (l : Fin 512) (n : Fin 7168) (hn : n.val = 2560 + l.val) :
    V m c main_v1 (ix2 k l) = m ((c : Thread nD τ).loc main_arg1) (ix2 k n) := by
  refine (congrFun (weights m c) _).trans ((cols_apply _ k l).trans ?_)
  exact congrArg (fun a : Fin 7168 => m ((c : Thread nD τ).loc main_arg1) (ix2 k a)) (Fin.ext hn.symm)

/-- The weights' block, read at an index. -/
theorem col_block (c : Dev nD) (t : Fin cfg0.N) (k : Fin 1024) (l : Fin 512) (n : Fin 7168) (hn : n.val = 2560 + (512 * (t.val % 1) + l.val)) :
    iblk m c 1 t (ix2 k l) = m ((c : Thread nD τ).loc main_arg1) (ix2 k n) :=
  (show iblk m c 1 t (ix2 k l) = V m c main_v1 (ix2 k ⟨512 * (t.val % 1) + l.val, by omega⟩) by blk_ext [iblk, idx t]).trans
    (weight_at m c k _ n hn)

/-- The stored block at an element: the product of its row and its column. -/
theorem store_apply (x : FVec Ideal ⟨2, ![1024, 1024]⟩ .bf16) (w : FVec Ideal ⟨2, ![1024, 512]⟩ .bf16) (r : Fin 1024) (l : Fin 512) :
    k0_pay1 (F := Ideal) x w (ix2 r l) = ∑ k : Fin 1024, x (ix2 r k) * w (ix2 k l) := by
  pointwise [k0_pay1]

/-- Where element `y` of point `t`'s block sits in the result. -/
theorem place (t : Fin cfg0.N) (y : S1024x512.Idx) :
    (((win0_2.blk t).view.emb y : S34816x512.Idx) 0).val = 1024 * (t.val / 1) + (y 0).val
    ∧ (((win0_2.blk t).view.emb y : S34816x512.Idx) 1).val = 512 * (t.val % 1) + (y 1).val := by
  refine ⟨?_, ?_⟩ <;> blk_simp [idx t] <;> simp <;> omega

/-- A block's product, over the arrays. -/
theorem block_cell (c : Dev nD) (t : Fin cfg0.N) (r : Fin 1024) (l : Fin 512) (i : Fin 34816) (n : Fin 7168)
    (hi : i.val = 1024 * (t.val / 1) + r.val) (hn : n.val = 2560 + (512 * (t.val % 1) + l.val)) :
    k0_pay1 (F := Ideal) (iblk m c 0 t) (iblk m c 1 t) (ix2 r l)
      = cell (m ((c : Thread nD τ).loc main_arg0)) (m ((c : Thread nD τ).loc main_arg1)) i n := by
  refine (store_apply _ _ r l).trans (Finset.sum_congr rfl fun k _ => ?_)
  exact congrArg₂ (HMul.hMul (α := EReal) (β := EReal) (γ := EReal)) (row_block m c t r k i hi) (col_block m c t k l n hn)

/-- The result array after the run. -/
theorem final (c : Dev nD) : (dats m 0 c).arrAt 2 (cfgs 0).N
    = proj 2560 512 (by decide) (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, l, rfl⟩ : ∃ (r : Fin 1024) (l : Fin 512), y = ix2 r l := ⟨y 0, y 1, eq_ix2 y⟩
  obtain ⟨e0, e1⟩ := place t (ix2 r l)
  have hb : 1024 * (t.val / 1) + r.val < 34816 := e0 ▸ (((win0_2.blk t).view.emb (ix2 r l) : S34816x512.Idx) 0).isLt
  unfold out0_2; frame_out
  exact (block_cell m c t r l ⟨_, hb⟩ ⟨2560 + (512 * (t.val % 1) + l.val), by omega⟩ rfl rfl).trans
    (proj_at 2560 512 (by decide) _ _ _ _ _ e0 (congrArg (2560 + ·) e1))

end Cert.Kernel5Ideal.Columns

namespace Cert.Reference5Ideal.Columns

open Idealize.ShloMosaic Cert.Reference5Ideal Cert.Reference5Ideal.Gen Cert.Project

/-- The whole product at an element. -/
theorem product_apply (h : FVec Ideal ⟨2, ![34816, 1024]⟩ .bf16) (w : FVec Ideal ⟨2, ![1024, 7168]⟩ .f32) (i : Fin 34816) (n : Fin 7168) :
    (Host.dotGeneral dot_S34816x1024_S1024x7168_S34816x7168_1_0_0_1_n_n none (extf .f32 h bitsLt_bf16_f32) w : FVec Ideal S34816x7168 .f32) (ix2 i n)
      = cell h w i n := by
  unfold cell
  pointwise []

/-- The reference's result: the products with its columns. -/
theorem ref_eq (h : FVec Ideal ⟨2, ![34816, 1024]⟩ .bf16) (w : FVec Ideal ⟨2, ![1024, 7168]⟩ .f32) :
    truncf .bf16 (extractStridedSlice S34816x512 ![0, 2560] (Host.dotGeneral dot_S34816x1024_S1024x7168_S34816x7168_1_0_0_1_n_n none (extf .f32 h bitsLt_bf16_f32) w) slices_S34816x7168_S34816x512_0_2560) bitsLt_bf16_f32
      = proj 2560 512 (by decide) h w := by
  have hp := product_apply h w
  generalize (Host.dotGeneral dot_S34816x1024_S1024x7168_S34816x7168_1_0_0_1_n_n none (extf .f32 h bitsLt_bf16_f32) w) = p at *
  funext y
  obtain ⟨i, l, rfl⟩ : ∃ (i : Fin 34816) (l : Fin 512), y = ix2 i l := ⟨y 0, y 1, eq_ix2 y⟩
  pointwise []
  exact (hp i _).trans (proj_at 2560 512 (by decide) h w (ix2 i l) i _ rfl rfl)

end Cert.Reference5Ideal.Columns

end
-- ==== Proof.Ada.lean ====
/- The modulation of both layers: the kernel's result and its reference's are the same numbers. -/
module

public import proofs.«01_k».proof.Proof.Gen.Kernel7Ideal.Value
public import proofs.«01_k».proof.Proof.Gen.Reference7Ideal.Run
public import Idealize.ShloMosaic.Lib.Pointwise
public import Idealize.ShloMosaic.Lib.Pipeline.ValueKit

@[expose] public section

set_option maxRecDepth 65536

noncomputable section

namespace Cert.Ada

open Idealize.ShloMosaic

/-- One number of the modulation: the squashed row through a layer's column, and the column's offset. -/
def cell (cc : FVec Ideal ⟨2, ![16, 1024]⟩ .f32) (w : FVec Ideal ⟨3, ![2, 1024, 6144]⟩ .f32) (b : FVec Ideal ⟨2, ![2, 6144]⟩ .f32)
    (l : Fin 2) (r : Fin 16) (n : Fin 6144) : EReal :=
  (∑ k : Fin 1024, cc (ix2 r k) * Ideal.logistic (cc (ix2 r k)) * w (ix3 l k n)) + b (ix2 l n)

/-- The modulation. -/
def table (cc : FVec Ideal ⟨2, ![16, 1024]⟩ .f32) (w : FVec Ideal ⟨3, ![2, 1024, 6144]⟩ .f32) (b : FVec Ideal ⟨2, ![2, 6144]⟩ .f32) :
    FVec Ideal ⟨3, ![2, 16, 6144]⟩ .f32 := fun y => cell cc w b (y 0) (y 1) (y 2)

/-- An element of the modulation, by the numbers of its layer, row and column. -/
theorem table_at (cc : FVec Ideal ⟨2, ![16, 1024]⟩ .f32) (w : FVec Ideal ⟨3, ![2, 1024, 6144]⟩ .f32) (b : FVec Ideal ⟨2, ![2, 6144]⟩ .f32)
    (y : Shape.Idx ⟨3, ![2, 16, 6144]⟩) (l : Fin 2) (r : Fin 16) (n : Fin 6144)
    (h0 : (y 0).val = l.val) (h1 : (y 1).val = r.val) (h2 : (y 2).val = n.val) : cell cc w b l r n = table cc w b y := by
  obtain rfl : y 0 = l := Fin.ext h0
  obtain rfl : y 1 = r := Fin.ext h1
  obtain rfl : y 2 = n := Fin.ext h2
  rfl

end Cert.Ada

namespace Cert.Kernel7Ideal.Ada

open Idealize.ShloMosaic Idealize.ShloMosaic.TcCoe Cert.Kernel7Ideal Cert.Kernel7Ideal.Gen Cert.Ada

variable (m : (ℓ : Loc nD τ sig) → Buf (Elt Ideal) ℓ)

/-- The index maps: layer `t / 6`, column tile `t % 6`. -/
theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] :=
  (by decide +kernel : ∀ t : Fin grid0.N, _)

/-- The layer of step `t`. -/
def layer (t : Fin cfg0.N) : Fin 2 := ⟨t.val / 6, by have : t.val < 12 := t.isLt; omega⟩

/-- A column of step `t`'s tile, among all. -/
def column (t : Fin cfg0.N) (o : Fin 1024) : Fin 6144 := ⟨1024 * (t.val % 6) + o.val, by omega⟩

/-- The rows' block. -/
theorem blk_rows (c : Dev nD) (t : Fin cfg0.N) (r : Fin 16) (k : Fin 1024) :
    iblk m c 0 t (ix2 r k) = m ((c : Thread nD τ).loc main_arg0) (ix2 r k) :=
  (show iblk m c 0 t (ix2 r k) = V m c main_arg0 (ix2 r k) by blk_ext [iblk, idx t]).trans (congrFun (V_main_arg0 m c) _)

/-- The weights' block. -/
theorem blk_weights (c : Dev nD) (t : Fin cfg0.N) (k o : Fin 1024) :
    iblk m c 1 t (ix3 0 k o) = m ((c : Thread nD τ).loc main_arg1) (ix3 (layer t) k (column t o)) :=
  (show iblk m c 1 t (ix3 0 k o) = V m c main_arg1 (ix3 (layer t) k (column t o)) by blk_ext [iblk, idx t, layer, column]).trans
    (congrFun (V_main_arg1 m c) _)

/-- The offsets as the call finds them. -/
theorem found_offsets (c : Dev nD) : V m c main_v0 = shapeCast S2x1x6144 (m ((c : Thread nD τ).loc main_arg2)) shapeCasts_S2x6144_S2x1x6144 := by
  show StableHlo.after hostOps0 (fun b => m (c, b)) (Proc.devRef .tc main_v0) = _
  simp only [hostOps0, List.flatten_cons, List.flatten_nil, List.append_nil]
  after_results
  rfl

/-- The offsets' block. -/
theorem blk_offsets (c : Dev nD) (t : Fin cfg0.N) (o : Fin 1024) :
    iblk m c 2 t (ix3 0 0 o) = m ((c : Thread nD τ).loc main_arg2) (ix2 (layer t) (column t o)) := by
  refine (show iblk m c 2 t (ix3 0 0 o) = V m c main_v0 (ix3 (layer t) 0 (column t o)) by blk_ext [iblk, idx t, layer, column]).trans
    ((congrFun (found_offsets m c) _).trans ?_)
  generalize m ((c : Thread nD τ).loc main_arg2) = v
  pointwise []

/-- What a step stores, at an element. -/
theorem store_apply (x : FVec Ideal S16x1024 .f32) (w : FVec Ideal S1x1024x1024 .f32) (b : FVec Ideal S1x1x1024 .f32) (r : Fin 16) (o : Fin 1024) :
    k0_pay1 (F := Ideal) x w b (ix3 0 r o)
      = (∑ k : Fin 1024, x (ix2 r k) * Ideal.logistic (x (ix2 r k)) * w (ix3 0 k o)) + b (ix3 0 0 o) := by
  pointwise [k0_pay1]

/-- A step's element, over the arrays. -/
theorem step_cell (c : Dev nD) (t : Fin cfg0.N) (r : Fin 16) (o : Fin 1024) :
    k0_pay1 (F := Ideal) (iblk m c 0 t) (iblk m c 1 t) (iblk m c 2 t) (ix3 0 r o)
      = cell (m ((c : Thread nD τ).loc main_arg0)) (m ((c : Thread nD τ).loc main_arg1)) (m ((c : Thread nD τ).loc main_arg2)) (layer t) r (column t o) := by
  refine (store_apply _ _ _ r o).trans ?_
  refine congrArg₂ (HAdd.hAdd (α := EReal) (β := EReal) (γ := EReal)) (Finset.sum_congr rfl fun k _ => ?_) (blk_offsets m c t o)
  exact congrArg₂ (HMul.hMul (α := EReal) (β := EReal) (γ := EReal)) (congrArg (fun z : EReal => z * Ideal.logistic z) (blk_rows m c t r k)) (blk_weights m c t k o)

/-- Where an element of step `t`'s block sits in the result. -/
theorem place (t : Fin cfg0.N) (y : S1x16x1024.Idx) :
    (((win0_3.blk t).view.emb y : S2x16x6144.Idx) 0).val = t.val / 6 + (y 0).val
    ∧ (((win0_3.blk t).view.emb y : S2x16x6144.Idx) 1).val = (y 1).val
    ∧ (((win0_3.blk t).view.emb y : S2x16x6144.Idx) 2).val = 1024 * (t.val % 6) + (y 2).val := by
  refine ⟨?_, ?_, ?_⟩ <;> blk_simp [idx t] <;> simp <;> omega

/-- The result array after the run. -/
theorem final (c : Dev nD) : (dats m 0 c).arrAt 3 (cfgs 0).N
    = table (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨i, r, o, rfl⟩ : ∃ (i : Fin 1) (r : Fin 16) (o : Fin 1024), y = ix3 i r o := ⟨y 0, y 1, y 2, eq_ix3 y⟩
  obtain rfl : i = 0 := Subsingleton.elim _ _
  obtain ⟨e0, e1, e2⟩ := place t (ix3 0 r o)
  unfold out0_3; frame_out
  exact (step_cell m c t r o).trans (table_at _ _ _ _ (layer t) r (column t o) e0 e1 e2)

end Cert.Kernel7Ideal.Ada

namespace Cert.Reference7Ideal.Ada

open Idealize.ShloMosaic Cert.Reference7Ideal Cert.Reference7Ideal.Gen Cert.Ada

/-- The rows squashed. -/
def squashed (cc : FVec Ideal S16x1024 .f32) : FVec Ideal S16x1024 .f32 :=
  mulf cc (Host.divf (broadcastInDim S16x1024 ![] bcast_S_S16x1024 (constant S_ .f32 0x3F800000#32)) (addf (broadcastInDim S16x1024 ![] bcast_S_S16x1024 (constant S_ .f32 0x3F800000#32)) (Host.exp (Host.negf cc))))

/-- A squashed row at an element. -/
theorem squashed_apply (cc : FVec Ideal S16x1024 .f32) (r : Fin 16) (k : Fin 1024) :
    squashed cc (ix2 r k) = cc (ix2 r k) * Ideal.logistic (cc (ix2 r k)) := by
  pointwise [squashed]
  rfl

/-- The first layer's part. -/
def part0 (cc : FVec Ideal S16x1024 .f32) (w : FVec Ideal S2x1024x6144 .f32) (b : FVec Ideal S2x6144 .f32) : FVec Ideal S16x6144 .f32 :=
  (addf (Host.dotGeneral dot_S16x1024_S1024x6144_S16x6144_1_0_0_1_n_n none (squashed cc) (shapeCast _ (extractStridedSlice S1x1024x6144 ![0, 0, 0] w slices_S2x1024x6144_S1x1024x6144_0_0_0) shapeCasts_S1x1024x6144_S1024x6144)) (broadcastInDim S16x6144 ![0, 1] bcast_S1x6144_S16x6144_0_1 (broadcastInDim S1x6144 ![1] bcast_S6144_S1x6144_1 (shapeCast _ (extractStridedSlice S1x6144 ![0, 0] b slices_S2x6144_S1x6144_0_0) shapeCasts_S1x6144_S6144))))

/-- The second layer's part. -/
def part1 (cc : FVec Ideal S16x1024 .f32) (w : FVec Ideal S2x1024x6144 .f32) (b : FVec Ideal S2x6144 .f32) : FVec Ideal S16x6144 .f32 :=
  (addf (Host.dotGeneral dot_S16x1024_S1024x6144_S16x6144_1_0_0_1_n_n none (squashed cc) (shapeCast _ (extractStridedSlice S1x1024x6144 ![1, 0, 0] w slices_S2x1024x6144_S1x1024x6144_1_0_0) shapeCasts_S1x1024x6144_S1024x6144)) (broadcastInDim S16x6144 ![0, 1] bcast_S1x6144_S16x6144_0_1 (broadcastInDim S1x6144 ![1] bcast_S6144_S1x6144_1 (shapeCast _ (extractStridedSlice S1x6144 ![1, 0] b slices_S2x6144_S1x6144_1_0) shapeCasts_S1x6144_S6144))))

/-- The first layer's part at an element. -/
theorem part0_apply (cc : FVec Ideal S16x1024 .f32) (w : FVec Ideal S2x1024x6144 .f32) (b : FVec Ideal S2x6144 .f32) (r : Fin 16) (n : Fin 6144) : part0 cc w b (ix2 r n) = cell cc w b 0 r n := by
  have h : ∀ k : Fin 1024, cc (ix2 r k) * Ideal.logistic (cc (ix2 r k)) = squashed cc (ix2 r k) := fun k => (squashed_apply cc r k).symm
  unfold part0 cell
  simp only [h]
  generalize squashed cc = s
  pointwise []

/-- The second layer's part at an element. -/
theorem part1_apply (cc : FVec Ideal S16x1024 .f32) (w : FVec Ideal S2x1024x6144 .f32) (b : FVec Ideal S2x6144 .f32) (r : Fin 16) (n : Fin 6144) : part1 cc w b (ix2 r n) = cell cc w b 1 r n := by
  have h : ∀ k : Fin 1024, cc (ix2 r k) * Ideal.logistic (cc (ix2 r k)) = squashed cc (ix2 r k) := fun k => (squashed_apply cc r k).symm
  unfold part1 cell
  simp only [h]
  generalize squashed cc = s
  pointwise []

/-- The two layers' parts one after the other. -/
def both (p q : FVec Ideal S16x6144 .f32) : FVec Ideal S2x16x6144 .f32 :=
  concatenate S2x16x6144 0 [⟨S1x16x6144, (broadcastInDim S1x16x6144 ![1, 2] bcast_S16x6144_S1x16x6144_1_2 p)⟩, ⟨S1x16x6144, (broadcastInDim S1x16x6144 ![1, 2] bcast_S16x6144_S1x16x6144_1_2 q)⟩] concatenates_S1x16x6144_S1x16x6144_S2x16x6144_d0

/-- An element of the first layer. -/
theorem both_first (p q : FVec Ideal S16x6144 .f32) (r : Fin 16) (n : Fin 6144) : both p q (ix3 0 r n) = p (ix2 r n) := by
  pointwise [both]

/-- An element of the second layer. -/
theorem both_second (p q : FVec Ideal S16x6144 .f32) (r : Fin 16) (n : Fin 6144) : both p q (ix3 1 r n) = q (ix2 r n) := by
  pointwise [both]

/-- The reference's result is the modulation. -/
theorem ref_eq (cc : FVec Ideal S16x1024 .f32) (w : FVec Ideal S2x1024x6144 .f32) (b : FVec Ideal S2x6144 .f32) : both (part0 cc w b) (part1 cc w b) = table cc w b := by
  funext y
  obtain ⟨l, r, n, rfl⟩ : ∃ (l : Fin 2) (r : Fin 16) (n : Fin 6144), y = ix3 l r n := ⟨y 0, y 1, y 2, eq_ix3 y⟩
  match l with
  | 0 => exact (both_first _ _ r n).trans (part0_apply cc w b r n)
  | 1 => exact (both_second _ _ r n).trans (part1_apply cc w b r n)

end Cert.Reference7Ideal.Ada

end
-- ==== Proof.First.lean ====
/- The first layer's rows: context and latent one after the other, and their modulated norms. -/
module

public import proofs.«01_k».proof.Proof.Gen.Kernel8Ideal.Value
public import proofs.«01_k».proof.Proof.Gen.Reference8Ideal.Run
public import proofs.«01_k».proof.Proof.MergeSpec
public import Idealize.ShloMosaic.Lib.Pointwise
public import Idealize.ShloMosaic.Lib.Pipeline.ValueKit

@[expose] public section

set_option maxRecDepth 65536

noncomputable section

namespace Cert.First

open Idealize.ShloMosaic Cert.Merge

/-- A row of the context, or of the latent. -/
def rowAt (ctx : FVec Ideal ⟨3, ![8, 256, 1024]⟩ .f32) (x : FVec Ideal ⟨3, ![8, 4096, 1024]⟩ .f32) (b : Fin 8) (p : Fin 4352) (o : Fin 1024) : EReal :=
  if h : p.val < 256 then ctx (ix3 b ⟨p.val, h⟩ o) else x (ix3 b ⟨p.val - 256, by omega⟩ o)

/-- A row normalised and modulated. -/
def modAtRow (ctx : FVec Ideal ⟨3, ![8, 256, 1024]⟩ .f32) (x : FVec Ideal ⟨3, ![8, 4096, 1024]⟩ .f32) (mod3 : FVec Ideal ⟨3, ![16, 1, 6144]⟩ .f32)
    (b : Fin 8) (p : Fin 4352) : Fin 1024 → EReal :=
  modulated (rowAt ctx x b p) (modAt mod3 0 (by norm_num) b p) (modAt mod3 1024 (by norm_num) b p)

/-- All rows. -/
def rowsAll (ctx : FVec Ideal ⟨3, ![8, 256, 1024]⟩ .f32) (x : FVec Ideal ⟨3, ![8, 4096, 1024]⟩ .f32) : FVec Ideal ⟨3, ![8, 4352, 1024]⟩ .f32 :=
  fun y => rowAt ctx x (y 0) (y 1) (y 2)

/-- All rows normalised and modulated. -/
def modAll (ctx : FVec Ideal ⟨3, ![8, 256, 1024]⟩ .f32) (x : FVec Ideal ⟨3, ![8, 4096, 1024]⟩ .f32) (mod3 : FVec Ideal ⟨3, ![16, 1, 6144]⟩ .f32) :
    FVec Ideal ⟨3, ![8, 4352, 1024]⟩ .bf16 :=
  fun y => modAtRow ctx x mod3 (y 0) (y 1) (y 2)

/-- An element of a function of three numbers, by the numbers. -/
theorem at_three (f : Fin 8 → Fin 4352 → Fin 1024 → EReal) (y : Shape.Idx ⟨3, ![8, 4352, 1024]⟩) (b : Fin 8) (p : Fin 4352) (o : Fin 1024)
    (h0 : (y 0).val = b.val) (h1 : (y 1).val = p.val) (h2 : (y 2).val = o.val) : f b p o = f (y 0) (y 1) (y 2) := by
  obtain rfl : y 0 = b := Fin.ext h0
  obtain rfl : y 1 = p := Fin.ext h1
  obtain rfl : y 2 = o := Fin.ext h2
  rfl

/-- A modulated row depends on the three rows only. -/
theorem modulated_eq {f f' s s' c c' : Fin 1024 → EReal} (h1 : f = f') (h2 : s = s') (h3 : c = c') (o : Fin 1024) :
    modulated f s c o = modulated f' s' c' o := by
  rw [h1, h2, h3]

end Cert.First

namespace Cert.Kernel8Ideal.First

open Idealize.ShloMosaic Idealize.ShloMosaic.TcCoe Cert.Kernel8Ideal Cert.Kernel8Ideal.Gen Cert.Merge Cert.First

variable (m : (ℓ : Loc nD τ sig) → Buf (Elt Ideal) ℓ)

/-- The row of the modulation read at step `t`. -/
def row (t : Fin cfg0.N) : ℕ := if t.val % 17 < 1 then 8 else t.val / 17

/-- The index maps: sequence `t / 17`, row tile `t % 17`, of which the first is the context's. -/
theorem idx : ∀ t : Fin cfg0.N, win0_0.index t = ![t.val / 17, 0, 0] ∧ win0_1.index t = ![t.val / 17, t.val % 17 - 1, 0]
    ∧ win0_2.index t = ![row t, 0, 0] ∧ win0_3.index t = ![row t, 0, 1]
    ∧ win0_4.index t = ![t.val / 17, t.val % 17, 0] ∧ win0_5.index t = ![t.val / 17, t.val % 17, 0] :=
  (by decide +kernel : ∀ t : Fin grid0.N, _)

/-- The second grid coordinate. -/
theorem coord : ∀ t : Fin cfg0.N, (grid0.coords t 1).val = t.val % 17 :=
  (by decide +kernel : ∀ t : Fin grid0.N, _)

/-- The sequence of step `t`. -/
def seqOf (t : Fin cfg0.N) : Fin 8 := ⟨t.val / 17, by have : t.val < 136 := t.isLt; omega⟩

/-- The position of row `q` at step `t`. -/
def posOf (t : Fin cfg0.N) (q : Fin 256) : Fin 4352 := ⟨256 * (t.val % 17) + q.val, by omega⟩

/-- The row of the modulation is the one the position takes. -/
theorem row_eq (t : Fin cfg0.N) (q : Fin 256) : rowOf (seqOf t) (posOf t q) = ⟨row t, by unfold row; have : t.val < 136 := t.isLt; split <;> omega⟩ := by
  apply Fin.ext
  show (rowOf (seqOf t) (posOf t q)).val = row t
  by_cases h : t.val % 17 < 1
  · exact (congrArg Fin.val (if_pos (show 256 * (t.val % 17) + q.val < 256 by omega))).trans (if_pos h).symm
  · exact (congrArg Fin.val (if_neg (show ¬ 256 * (t.val % 17) + q.val < 256 by omega))).trans (if_neg h).symm

/-- The context's block. -/
theorem blk_ctx (c : Dev nD) (t : Fin cfg0.N) (q : Fin 256) (o : Fin 1024) :
    iblk m c 0 t (ix3 0 q o) = m ((c : Thread nD τ).loc main_arg0) (ix3 (seqOf t) q o) :=
  (show iblk m c 0 t (ix3 0 q o) = V m c main_arg0 (ix3 (seqOf t) q o) by blk_ext [iblk, idx t, seqOf]).trans
    (congrFun (V_main_arg0 m c) _)

/-- The latent's block. -/
theorem blk_x (c : Dev nD) (t : Fin cfg0.N) (q : Fin 256) (o : Fin 1024) :
    iblk m c 1 t (ix3 0 q o) = m ((c : Thread nD τ).loc main_arg1) (ix3 (seqOf t) ⟨256 * (t.val % 17 - 1) + q.val, by omega⟩ o) :=
  (show iblk m c 1 t (ix3 0 q o) = V m c main_arg1 (ix3 (seqOf t) ⟨256 * (t.val % 17 - 1) + q.val, by omega⟩ o) by
    blk_ext [iblk, idx t, seqOf]).trans (congrFun (V_main_arg1 m c) _)

/-- The shift's block. -/
theorem blk_shift (c : Dev nD) (t : Fin cfg0.N) (q : Fin 256) (o : Fin 1024) :
    iblk m c 2 t (ix3 0 0 o) = modAt (m ((c : Thread nD τ).loc main_arg2)) 0 (by norm_num) (seqOf t) (posOf t q) o := by
  have hr : row t < 16 := by unfold row; have : t.val < 136 := t.isLt; split <;> omega
  refine (show iblk m c 2 t (ix3 0 0 o) = V m c main_arg2 (ix3 ⟨row t, hr⟩ 0 ⟨0 + o.val, by omega⟩) by
    blk_ext [iblk, idx t]).trans ((congrFun (V_main_arg2 m c) _).trans ?_)
  unfold modAt
  rw [row_eq t q]

/-- The scale's block. -/
theorem blk_scale (c : Dev nD) (t : Fin cfg0.N) (q : Fin 256) (o : Fin 1024) :
    iblk m c 3 t (ix3 0 0 o) = modAt (m ((c : Thread nD τ).loc main_arg2)) 1024 (by norm_num) (seqOf t) (posOf t q) o := by
  have hr : row t < 16 := by unfold row; have : t.val < 136 := t.isLt; split <;> omega
  refine (show iblk m c 3 t (ix3 0 0 o) = V m c main_arg2 (ix3 ⟨row t, hr⟩ 0 ⟨1024 + o.val, by omega⟩) by
    blk_ext [iblk, idx t]).trans ((congrFun (V_main_arg2 m c) _).trans ?_)
  unfold modAt
  rw [row_eq t q]

/-- The test whether a tile is the context's. -/
theorem is_context : ∀ t : Fin cfg0.N, Scalar.cmpi .slt (BitVec.ofNat 32 (grid0.coords t 1).val) 1#32 = if t.val % 17 < 1 then 1#1 else 0#1 :=
  (by decide +kernel : ∀ t : Fin grid0.N, _)

/-- The picked rows at an element. -/
theorem picked_apply (i : grid0.Coords) (u v : FVec Ideal S1x256x1024 .f32) (q : Fin 256) (o : Fin 1024) :
    k0_pay2 (F := Ideal) i u v (ix2 q o)
      = Scalar.select (Scalar.cmpi .slt (BitVec.ofNat 32 (i 1).val) 1#32) (u (ix3 0 q o)) (v (ix3 0 q o)) := by
  unfold k0_pay2
  generalize Scalar.cmpi .slt (BitVec.ofNat 32 (i 1).val) 1#32 = b
  by_cases h : b = 1#1
  · subst h
    show shapeCast S256x1024 u shapeCasts_S1x256x1024_S256x1024 (ix2 q o) = u (ix3 0 q o)
    pointwise []
  · obtain rfl : b = 0#1 := (by decide : ∀ d : BitVec 1, ¬ d = 1#1 → d = 0#1) b h
    show shapeCast S256x1024 v shapeCasts_S1x256x1024_S256x1024 (ix2 q o) = v (ix3 0 q o)
    pointwise []

/-- The first stored block at an element. -/
theorem rows_apply (i : grid0.Coords) (u v : FVec Ideal S1x256x1024 .f32) (q : Fin 256) (o : Fin 1024) :
    k0_pay3 (F := Ideal) i u v (ix3 0 q o) = k0_pay2 (F := Ideal) i u v (ix2 q o) := by
  unfold k0_pay3
  generalize k0_pay2 (F := Ideal) i u v = z
  pointwise []

/-- The second stored block at an element. -/
theorem mod_apply (i : grid0.Coords) (u v : FVec Ideal S1x256x1024 .f32) (sc sh : FVec Ideal S1x1x1024 .f32) (q : Fin 256) (o : Fin 1024) :
    k0_pay1 (F := Ideal) (k0_pay4 i u v sc sh) (ix3 0 q o)
      = modulated (fun k => k0_pay2 (F := Ideal) i u v (ix2 q k)) (fun k => sh (ix3 0 0 k)) (fun k => sc (ix3 0 0 k)) o := by
  unfold k0_pay4
  generalize k0_pay2 (F := Ideal) i u v = z
  pointwise [k0_pay1, modulated, normed, mean]

/-- The picked row is the position's. -/
theorem picked_row (c : Dev nD) (t : Fin cfg0.N) (q : Fin 256) (o : Fin 1024) :
    k0_pay2 (F := Ideal) (grid0.coords t) (iblk m c 0 t) (iblk m c 1 t) (ix2 q o)
      = rowAt (m ((c : Thread nD τ).loc main_arg0)) (m ((c : Thread nD τ).loc main_arg1)) (seqOf t) (posOf t q) o := by
  refine (picked_apply _ _ _ q o).trans ?_
  rw [is_context t]
  unfold rowAt
  by_cases h : t.val % 17 < 1
  · rw [if_pos h, dif_pos (show (posOf t q).val < 256 by show 256 * (t.val % 17) + q.val < 256; omega)]
    refine (blk_ctx m c t q o).trans ?_
    exact congrArg (fun a : Fin 256 => m ((c : Thread nD τ).loc main_arg0) (ix3 (seqOf t) a o)) (Fin.ext (by show q.val = 256 * (t.val % 17) + q.val; omega))
  · rw [if_neg h, dif_neg (show ¬ (posOf t q).val < 256 by show ¬ 256 * (t.val % 17) + q.val < 256; omega)]
    refine (blk_x m c t q o).trans ?_
    exact congrArg (fun a : Fin 4096 => m ((c : Thread nD τ).loc main_arg1) (ix3 (seqOf t) a o))
      (Fin.ext (by show 256 * (t.val % 17 - 1) + q.val = 256 * (t.val % 17) + q.val - 256; omega))

/-- Where an element of step `t`'s block sits in the first result. -/
theorem place4 (t : Fin cfg0.N) (y : S1x256x1024.Idx) :
    (((win0_4.blk t).view.emb y : S8x4352x1024.Idx) 0).val = t.val / 17 + (y 0).val
    ∧ (((win0_4.blk t).view.emb y : S8x4352x1024.Idx) 1).val = 256 * (t.val % 17) + (y 1).val
    ∧ (((win0_4.blk t).view.emb y : S8x4352x1024.Idx) 2).val = (y 2).val := by
  refine ⟨?_, ?_, ?_⟩ <;> blk_simp [idx t] <;> simp <;> omega

/-- Where an element of step `t`'s block sits in the second result. -/
theorem place5 (t : Fin cfg0.N) (y : S1x256x1024.Idx) :
    (((win0_5.blk t).view.emb y : S8x4352x1024.Idx) 0).val = t.val / 17 + (y 0).val
    ∧ (((win0_5.blk t).view.emb y : S8x4352x1024.Idx) 1).val = 256 * (t.val % 17) + (y 1).val
    ∧ (((win0_5.blk t).view.emb y : S8x4352x1024.Idx) 2).val = (y 2).val := by
  refine ⟨?_, ?_, ?_⟩ <;> blk_simp [idx t] <;> simp <;> omega

/-- The first result array after the run. -/
theorem final4 (c : Dev nD) : (dats m 0 c).arrAt 4 (cfgs 0).N
    = rowsAll (m ((c : Thread nD τ).loc main_arg0)) (m ((c : Thread nD τ).loc main_arg1)) := by
  refine (dats m 0 c).arrAt_eq_of_covers 4 _ (by decide +kernel) fun t hf y => ?_
  blk_simp
  rw [after0_4]
  obtain ⟨i, q, o, rfl⟩ : ∃ (i : Fin 1) (q : Fin 256) (o : Fin 1024), y = ix3 i q o := ⟨y 0, y 1, y 2, eq_ix3 y⟩
  obtain rfl : i = 0 := Subsingleton.elim _ _
  obtain ⟨e0, e1, e2⟩ := place4 t (ix3 0 q o)
  refine Eq.trans ?_ (at_three (rowAt (m ((c : Thread nD τ).loc main_arg0)) (m ((c : Thread nD τ).loc main_arg1))) _ (seqOf t) (posOf t q) o e0 e1 e2)
  unfold out0_4; frame_out
  exact (rows_apply _ _ _ q o).trans (picked_row m c t q o)

/-- The second result array after the run. -/
theorem final5 (c : Dev nD) : (dats m 0 c).arrAt 5 (cfgs 0).N
    = modAll (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  obtain ⟨i, q, o, rfl⟩ : ∃ (i : Fin 1) (q : Fin 256) (o : Fin 1024), y = ix3 i q o := ⟨y 0, y 1, y 2, eq_ix3 y⟩
  obtain rfl : i = 0 := Subsingleton.elim _ _
  obtain ⟨e0, e1, e2⟩ := place5 t (ix3 0 q o)
  refine Eq.trans ?_ (at_three (modAtRow (m ((c : Thread nD τ).loc main_arg0)) (m ((c : Thread nD τ).loc main_arg1)) (m ((c : Thread nD τ).loc main_arg2))) _
    (seqOf t) (posOf t q) o e0 e1 e2)
  unfold out0_5; frame_out
  exact (mod_apply _ _ _ _ _ q o).trans (modulated_eq (funext fun k => picked_row m c t q k) (funext fun k => blk_shift m c t q k)
    (funext fun k => blk_scale m c t q k) o)

end Cert.Kernel8Ideal.First

namespace Cert.Reference8Ideal.First

open Idealize.ShloMosaic Idealize.ShloMosaic.TcCoe Cert.Reference8Ideal Cert.Reference8Ideal.Gen Cert.Merge Cert.First

/-- The mean of every row of the context. -/
def mean_c (y : FVec Ideal S8x256x1024 .f32) : FVec Ideal S8x256x1 .f32 :=
  Host.divf (broadcastInDim S8x256x1 ![0, 1] bcast_S8x256_S8x256x1_0_1 (Host.reduceAdd y (constant S_ .f32 0x00000000#32) reducesTo_S8x256x1024_S8x256_d2 h_S_)) (broadcastInDim S8x256x1 ![] bcast_S_S8x256x1 (constant S_ .f32 0x44800000#32))

/-- The rows of the context less their mean. -/
def cen_c (y : FVec Ideal S8x256x1024 .f32) : FVec Ideal S8x256x1024 .f32 :=
  subf y (broadcastInDim S8x256x1024 ![0, 1, 2] bcast_S8x256x1_S8x256x1024_0_1_2 (mean_c y))

/-- The rows of the context normalised. -/
def nrm_c (y : FVec Ideal S8x256x1024 .f32) : FVec Ideal S8x256x1024 .f32 :=
  mulf (cen_c y) (broadcastInDim S8x256x1024 ![0, 1, 2] bcast_S8x256x1_S8x256x1024_0_1_2 (Host.rsqrt (addf (mean_c (mulf (cen_c y) (cen_c y))) (broadcastInDim S8x256x1 ![] bcast_S_S8x256x1 (constant S_ .f32 0x358637BD#32)))))

/-- The rows of the context normalised and modulated. -/
def mod_c (y : FVec Ideal S8x256x1024 .f32) (mod3 : FVec Ideal S16x1x6144 .f32) : FVec Ideal S8x256x1024 .f32 :=
  addf (mulf (nrm_c y) (broadcastInDim S8x256x1024 ![0, 1, 2] bcast_S1x1x1024_S8x256x1024_0_1_2 (addf (broadcastInDim S1x1x1024 ![] bcast_S_S1x1x1024 (constant S_ .f32 0x3F800000#32)) (extractStridedSlice S1x1x1024 ![0, 0, 1024] (extractStridedSlice S1x1x6144 ![8, 0, 0] mod3 slices_S16x1x6144_S1x1x6144_8_0_0) slices_S1x1x6144_S1x1x1024_0_0_1024)))) (broadcastInDim S8x256x1024 ![0, 1, 2] bcast_S1x1x1024_S8x256x1024_0_1_2 (extractStridedSlice S1x1x1024 ![0, 0, 0] (extractStridedSlice S1x1x6144 ![8, 0, 0] mod3 slices_S16x1x6144_S1x1x6144_8_0_0) slices_S1x1x6144_S1x1x1024_0_0_0))

/-- A normalised row of the context at an element. -/
theorem nrm_c_apply (y : FVec Ideal S8x256x1024 .f32) (b : Fin 8) (p : Fin 256) (o : Fin 1024) :
    nrm_c y (ix3 b p o) = normed (fun k => y (ix3 b p k)) o := by
  pointwise [nrm_c, cen_c, mean_c, normed, mean]

/-- A modulated row of the context at an element. -/
theorem mod_c_apply (y : FVec Ideal S8x256x1024 .f32) (mod3 : FVec Ideal S16x1x6144 .f32) (b : Fin 8) (p : Fin 256) (o : Fin 1024) :
    mod_c y mod3 (ix3 b p o) = modulated (fun k => y (ix3 b p k)) (fun k => mod3 (ix3 8 0 ⟨0 + k.val, by omega⟩))
      (fun k => mod3 (ix3 8 0 ⟨1024 + k.val, by omega⟩)) o := by
  unfold modulated
  rw [← nrm_c_apply]
  unfold mod_c
  generalize nrm_c y = z
  pointwise []

/-- The mean of every row of the latent. -/
def mean_x (y : FVec Ideal S8x4096x1024 .f32) : FVec Ideal S8x4096x1 .f32 :=
  Host.divf (broadcastInDim S8x4096x1 ![0, 1] bcast_S8x4096_S8x4096x1_0_1 (Host.reduceAdd y (constant S_ .f32 0x00000000#32) reducesTo_S8x4096x1024_S8x4096_d2 h_S_)) (broadcastInDim S8x4096x1 ![] bcast_S_S8x4096x1 (constant S_ .f32 0x44800000#32))

/-- The rows of the latent less their mean. -/
def cen_x (y : FVec Ideal S8x4096x1024 .f32) : FVec Ideal S8x4096x1024 .f32 :=
  subf y (broadcastInDim S8x4096x1024 ![0, 1, 2] bcast_S8x4096x1_S8x4096x1024_0_1_2 (mean_x y))

/-- The rows of the latent normalised. -/
def nrm_x (y : FVec Ideal S8x4096x1024 .f32) : FVec Ideal S8x4096x1024 .f32 :=
  mulf (cen_x y) (broadcastInDim S8x4096x1024 ![0, 1, 2] bcast_S8x4096x1_S8x4096x1024_0_1_2 (Host.rsqrt (addf (mean_x (mulf (cen_x y) (cen_x y))) (broadcastInDim S8x4096x1 ![] bcast_S_S8x4096x1 (constant S_ .f32 0x358637BD#32)))))

/-- The rows of the latent normalised and modulated. -/
def mod_x (y : FVec Ideal S8x4096x1024 .f32) (mod3 : FVec Ideal S16x1x6144 .f32) : FVec Ideal S8x4096x1024 .f32 :=
  addf (mulf (nrm_x y) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 1024] (extractStridedSlice S8x1x6144 ![0, 0, 0] mod3 slices_S16x1x6144_S8x1x6144_0_0_0) slices_S8x1x6144_S8x1x1024_0_0_1024)))) (broadcastInDim S8x4096x1024 ![0, 1, 2] bcast_S8x1x1024_S8x4096x1024_0_1_2 (extractStridedSlice S8x1x1024 ![0, 0, 0] (extractStridedSlice S8x1x6144 ![0, 0, 0] mod3 slices_S16x1x6144_S8x1x6144_0_0_0) slices_S8x1x6144_S8x1x1024_0_0_0))

/-- A normalised row of the latent at an element. -/
theorem nrm_x_apply (y : FVec Ideal S8x4096x1024 .f32) (b : Fin 8) (p : Fin 4096) (o : Fin 1024) :
    nrm_x y (ix3 b p o) = normed (fun k => y (ix3 b p k)) o := by
  pointwise [nrm_x, cen_x, mean_x, normed, mean]

/-- A modulated row of the latent at an element. -/
theorem mod_x_apply (y : FVec Ideal S8x4096x1024 .f32) (mod3 : FVec Ideal S16x1x6144 .f32) (b : Fin 8) (p : Fin 4096) (o : Fin 1024) :
    mod_x y mod3 (ix3 b p o) = modulated (fun k => y (ix3 b p k)) (fun k => mod3 (ix3 ⟨b.val, by omega⟩ 0 ⟨0 + k.val, by omega⟩))
      (fun k => mod3 (ix3 ⟨b.val, by omega⟩ 0 ⟨1024 + k.val, by omega⟩)) o := by
  unfold modulated
  rw [← nrm_x_apply]
  unfold mod_x
  generalize nrm_x y = z
  pointwise []

/-- The context and then the latent. -/
def joined (u : FVec Ideal S8x256x1024 .f32) (v : FVec Ideal S8x4096x1024 .f32) : FVec Ideal S8x4352x1024 .f32 :=
  concatenate S8x4352x1024 1 [⟨S8x256x1024, u⟩, ⟨S8x4096x1024, v⟩] concatenates_S8x256x1024_S8x4096x1024_S8x4352x1024_d1

/-- The two at an element. -/
theorem joined_apply (u : FVec Ideal S8x256x1024 .f32) (v : FVec Ideal S8x4096x1024 .f32) (b : Fin 8) (p : Fin 4352) (o : Fin 1024) :
    joined u v (ix3 b p o) = rowAt u v b p o := by
  unfold rowAt
  pointwise [joined]

/-- The reference's first result. -/
theorem ref_rows (ctx : FVec Ideal S8x256x1024 .f32) (x : FVec Ideal S8x4096x1024 .f32) : joined ctx x = rowsAll ctx x :=
  funext fun y => (congrArg _ (eq_ix3 y)).trans (joined_apply ctx x (y 0) (y 1) (y 2))

/-- The modulated context and then the modulated latent, at an element. -/
theorem mods_apply (ctx : FVec Ideal S8x256x1024 .f32) (x : FVec Ideal S8x4096x1024 .f32) (mod3 : FVec Ideal S16x1x6144 .f32) (b : Fin 8) (p : Fin 4352)
    (o : Fin 1024) : joined (mod_c ctx mod3) (mod_x x mod3) (ix3 b p o) = modAtRow ctx x mod3 b p o := by
  rw [joined_apply]
  unfold modAtRow
  by_cases h : p.val < 256
  · have hr : rowAt ctx x b p = fun k => ctx (ix3 b ⟨p.val, h⟩ k) := funext fun k => dif_pos h
    have hm : rowOf b p = 8 := if_pos h
    unfold modAt
    rw [hr, hm]
    exact (dif_pos h).trans (mod_c_apply ctx mod3 b ⟨p.val, h⟩ o)
  · have hr : rowAt ctx x b p = fun k => x (ix3 b ⟨p.val - 256, by omega⟩ k) := funext fun k => dif_neg h
    have hm : rowOf b p = ⟨b.val, by omega⟩ := if_neg h
    unfold modAt
    rw [hr, hm]
    exact (dif_neg h).trans (mod_x_apply x mod3 b ⟨p.val - 256, by omega⟩ o)

/-- The reference's second result. -/
theorem ref_mods (ctx : FVec Ideal S8x256x1024 .f32) (x : FVec Ideal S8x4096x1024 .f32) (mod3 : FVec Ideal S16x1x6144 .f32) :
    truncf .bf16 (joined (mod_c ctx mod3) (mod_x x mod3)) bitsLt_bf16_f32 = modAll ctx x mod3 :=
  funext fun y => (congrArg (joined (mod_c ctx mod3) (mod_x x mod3)) (eq_ix3 y)).trans (mods_apply ctx x mod3 (y 0) (y 1) (y 2))

/-- The reference's second result, as printed. -/
theorem printed_mods (m : (ℓ : Loc nD τ sig) → Buf (Elt Ideal) ℓ) (c : Dev nD) :
    Value.res_main_v64 m c = modAll (m ((c.tc : Thread nD τ).loc main_arg0)) (m ((c.tc : Thread nD τ).loc main_arg1)) (m ((c.tc : Thread nD τ).loc main_arg2)) :=
  Eq.trans rfl (ref_mods _ _ _)

end Cert.Reference8Ideal.First

end
-- ==== Proof.LastSpec.lean ====
/- The last norm of a layer: the residual with the sorted answers back in place, normalised, and the next layer's modulation of it. -/
module

public import proofs.«01_k».proof.Proof.MergeSpec

@[expose] public section

noncomputable section

namespace Cert.Last

open Idealize.ShloMosaic Cert.Merge

/-- The arguments the results depend on. -/
structure Given where
  x : FVec Ideal ⟨3, ![8, 4352, 1024]⟩ .f32
  pt : FVec Ideal ⟨2, ![34816, 1152]⟩ .bf16
  ys : FVec Ideal ⟨3, ![34, 1440, 1024]⟩ .bf16
  mod3 : FVec Ideal ⟨3, ![16, 1, 6144]⟩ .f32
  g : FVec Ideal ⟨1, ![1024]⟩ .f32
  b : FVec Ideal ⟨1, ![1024]⟩ .f32

/-- The answer of a position: its row of the table of places, times the sorted answers of its group of 1024 positions. -/
def answer (a : Given) (b : Fin 8) (p : Fin 4352) (o : Fin 1024) : EReal :=
  ∑ r : Fin 1152, a.pt (ix2 ⟨4352 * b.val + p.val, by omega⟩ r) * a.ys (ix3 ⟨(4352 * b.val + p.val) / 1024, by omega⟩ ⟨r.val, by omega⟩ o)

/-- The residual of a position. -/
def leftAt (a : Given) (b : Fin 8) (p : Fin 4352) (o : Fin 1024) : EReal :=
  Ideal.ofBits .f32 0x3FB504F3#32 * a.x (ix3 b p o) + modAt a.mod3 5120 (by norm_num) b p o * answer a b p o

/-- The stream of a position after the layer. -/
def streamAt (a : Given) (b : Fin 8) (p : Fin 4352) : Fin 1024 → EReal :=
  scaled (leftAt a b p) (fun o => a.g (ix1 o)) (fun o => a.b (ix1 o))

/-- The next layer's input at a position. -/
def nextAt (a : Given) (next : FVec Ideal ⟨3, ![16, 1, 6144]⟩ .f32) (b : Fin 8) (p : Fin 4352) : Fin 1024 → EReal :=
  modulated (streamAt a b p) (modAt next 0 (by norm_num) b p) (modAt next 1024 (by norm_num) b p)

/-- The stream after the layer. -/
def stream (a : Given) : FVec Ideal ⟨3, ![8, 4352, 1024]⟩ .f32 := fun y => streamAt a (y 0) (y 1) (y 2)

/-- The next layer's input. -/
def next (a : Given) (n : FVec Ideal ⟨3, ![16, 1, 6144]⟩ .f32) : FVec Ideal ⟨3, ![8, 4352, 1024]⟩ .bf16 := fun y => nextAt a n (y 0) (y 1) (y 2)

/-- The position of a latent row. -/
def after (p : Fin 4096) : Fin 4352 := ⟨256 + p.val, by omega⟩

/-- The latent's stream after the layer. -/
def latent (a : Given) : FVec Ideal ⟨3, ![8, 4096, 1024]⟩ .f32 := fun y => streamAt a (y 0) (after (y 1)) (y 2)

/-- An element of a function of three numbers, by the numbers. -/
theorem at_three (f : Fin 8 → Fin 4352 → Fin 1024 → EReal) (y : Shape.Idx ⟨3, ![8, 4352, 1024]⟩) (b : Fin 8) (p : Fin 4352) (o : Fin 1024)
    (h0 : (y 0).val = b.val) (h1 : (y 1).val = p.val) (h2 : (y 2).val = o.val) : f b p o = f (y 0) (y 1) (y 2) := by
  obtain rfl : y 0 = b := Fin.ext h0
  obtain rfl : y 1 = p := Fin.ext h1
  obtain rfl : y 2 = o := Fin.ext h2
  rfl

/-- An element of the latent's part of a function of three numbers, by the numbers. -/
theorem at_latent (f : Fin 8 → Fin 4352 → Fin 1024 → EReal) (y : Shape.Idx ⟨3, ![8, 4096, 1024]⟩) (b : Fin 8) (p : Fin 4352) (o : Fin 1024)
    (h0 : (y 0).val = b.val) (h1 : 256 + (y 1).val = p.val) (h2 : (y 2).val = o.val) : f b p o = f (y 0) (after (y 1)) (y 2) := by
  obtain rfl : y 0 = b := Fin.ext h0
  obtain rfl : after (y 1) = p := Fin.ext h1
  obtain rfl : y 2 = o := Fin.ext h2
  rfl

/-- A scaled row at an element depends on the row and the two numbers only. -/
theorem scaled_eq {f f' : Fin 1024 → EReal} {g g' b b' : EReal} (h1 : f = f') (h2 : g = g') (h3 : b = b') (o : Fin 1024) :
    normed f o * g + b = normed f' o * g' + b' := by
  rw [h1, h2, h3]

/-- A modulated row depends on the three rows only. -/
theorem modulated_eq {f f' s s' c c' : Fin 1024 → EReal} (h1 : f = f') (h2 : s = s') (h3 : c = c') (o : Fin 1024) :
    modulated f s c o = modulated f' s' c' o := by
  rw [h1, h2, h3]

/-- A residual depends on its four parts only. -/
theorem resid_eq {k x x' g g' s s' : EReal} (h1 : x = x') (h2 : g = g') (h3 : s = s') : k * x + g * s = k * x' + g' * s' := by
  rw [h1, h2, h3]

/-- A product depends on its two factors only. -/
theorem product_eq {u u' v v' : EReal} (h1 : u = u') (h2 : v = v') : u * v = u' * v' := by
  rw [h1, h2]

end Cert.Last

end
-- ==== Proof.Last.lean ====
/- The last norm between the layers: the kernel's two results and the reference's. -/
module

public import proofs.«01_k».proof.Proof.Gen.Kernel9Ideal.Value
public import proofs.«01_k».proof.Proof.Gen.Reference9Ideal.Run
public import proofs.«01_k».proof.Proof.LastSpec
public import Idealize.ShloMosaic.Lib.Pointwise
public import Idealize.ShloMosaic.Lib.Pipeline.ValueKit

@[expose] public section

set_option maxRecDepth 65536

noncomputable section

namespace Cert.Kernel9Ideal.Last

open Idealize.ShloMosaic Idealize.ShloMosaic.TcCoe Cert.Kernel9Ideal Cert.Kernel9Ideal.Gen Cert.Merge Cert.Last

variable (m : (ℓ : Loc nD τ sig) → Buf (Elt Ideal) ℓ)

/-- The arguments as the kernel finds them. -/
def given (c : Dev nD) : Given where
  x := m ((c : Thread nD τ).loc main_arg0)
  pt := m ((c : Thread nD τ).loc main_arg1)
  ys := m ((c : Thread nD τ).loc main_arg2)
  mod3 := m ((c : Thread nD τ).loc main_arg3)
  g := m ((c : Thread nD τ).loc main_arg4)
  b := m ((c : Thread nD τ).loc main_arg5)

/-- The row of the modulation read at step `t`. -/
def row (t : Fin cfg0.N) : ℕ := if t.val % 17 < 1 then 8 else t.val / 17

/-- The index maps: sequence `t / 17`, row tile `t % 17`, of which the first is the context's. -/
theorem idx : ∀ t : Fin cfg0.N, win0_0.index t = ![t.val / 17, t.val % 17, 0] ∧ win0_1.index t = ![t.val, 0]
    ∧ win0_2.index t = ![t.val / 4, 0, 0] ∧ win0_3.index t = ![row t, 0, 5] ∧ win0_4.index t = ![0, 0] ∧ win0_5.index t = ![0, 0]
    ∧ win0_6.index t = ![row t, 0, 0] ∧ win0_7.index t = ![row t, 0, 1]
    ∧ win0_8.index t = ![t.val / 17, t.val % 17, 0] ∧ win0_9.index t = ![t.val / 17, t.val % 17, 0] :=
  (by decide +kernel : ∀ t : Fin grid0.N, _)

/-- The sequence of step `t`. -/
def seqOf (t : Fin cfg0.N) : Fin 8 := ⟨t.val / 17, by have : t.val < 136 := t.isLt; omega⟩

/-- The position of row `q` at step `t`. -/
def posOf (t : Fin cfg0.N) (q : Fin 256) : Fin 4352 := ⟨256 * (t.val % 17) + q.val, by omega⟩

/-- The row of the modulation is the one the position takes. -/
theorem row_eq (t : Fin cfg0.N) (q : Fin 256) : rowOf (seqOf t) (posOf t q) = ⟨row t, by unfold row; have : t.val < 136 := t.isLt; split <;> omega⟩ := by
  apply Fin.ext
  show (rowOf (seqOf t) (posOf t q)).val = row t
  by_cases h : t.val % 17 < 1
  · exact (congrArg Fin.val (if_pos (show 256 * (t.val % 17) + q.val < 256 by omega))).trans (if_pos h).symm
  · exact (congrArg Fin.val (if_neg (show ¬ 256 * (t.val % 17) + q.val < 256 by omega))).trans (if_neg h).symm

/-- The stream's block. -/
theorem blk_0 (c : Dev nD) (t : Fin cfg0.N) (q : Fin 256) (o : Fin 1024) :
    iblk m c 0 t (ix3 0 q o) = (given m c).x (ix3 (seqOf t) (posOf t q) o) :=
  (show iblk m c 0 t (ix3 0 q o) = V m c main_arg0 (ix3 (seqOf t) (posOf t q) o) by blk_ext [iblk, idx t, seqOf, posOf]).trans
    (congrFun (V_main_arg0 m c) _)

/-- The block of the table of places. -/
theorem blk_1 (c : Dev nD) (t : Fin cfg0.N) (q : Fin 256) (r : Fin 1152) :
    iblk m c 1 t (ix2 q r) = (given m c).pt (ix2 ⟨4352 * (seqOf t).val + (posOf t q).val, by omega⟩ r) := by
  have ht : t.val < 136 := t.isLt
  refine (show iblk m c 1 t (ix2 q r) = V m c main_arg1 (ix2 ⟨256 * t.val + q.val, by omega⟩ r) by blk_ext [iblk, idx t]).trans
    ((congrFun (V_main_arg1 m c) _).trans ?_)
  exact congrArg (fun n : Fin 34816 => m ((c : Thread nD τ).loc main_arg1) (ix2 n r))
    (Fin.ext (by show 256 * t.val + q.val = 4352 * (t.val / 17) + (256 * (t.val % 17) + q.val); omega))

/-- The block of the sorted answers. -/
theorem blk_2 (c : Dev nD) (t : Fin cfg0.N) (q : Fin 256) (r : Fin 1152) (o : Fin 1024) :
    X0_2 m c t (ix3 0 r o) = (given m c).ys (ix3 ⟨(4352 * (seqOf t).val + (posOf t q).val) / 1024, by omega⟩ ⟨r.val, by omega⟩ o) := by
  have ht : t.val < 136 := t.isLt
  refine (show X0_2 m c t (ix3 0 r o) = V m c main_arg2 (ix3 ⟨t.val / 4, by omega⟩ ⟨r.val, by omega⟩ o) by
    unfold X0_2 Pipeline.Window.fill
    rw [dif_pos (moved0_2 t (ix3 0 r o))]
    blk_ext [iblk, idx t]).trans ((congrFun (V_main_arg2 m c) _).trans ?_)
  exact congrArg (fun n : Fin 34 => m ((c : Thread nD τ).loc main_arg2) (ix3 n ⟨r.val, by omega⟩ o))
    (Fin.ext (by show t.val / 4 = (4352 * (t.val / 17) + (256 * (t.val % 17) + q.val)) / 1024; omega))

/-- The block of the gate. -/
theorem blk_3 (c : Dev nD) (t : Fin cfg0.N) (q : Fin 256) (o : Fin 1024) :
    iblk m c 3 t (ix3 0 0 o) = modAt (m ((c : Thread nD τ).loc main_arg3)) 5120 (by norm_num) (seqOf t) (posOf t q) o := by
  have hr : row t < 16 := by unfold row; have : t.val < 136 := t.isLt; split <;> omega
  refine (show iblk m c 3 t (ix3 0 0 o) = V m c main_arg3 (ix3 ⟨row t, hr⟩ 0 ⟨5120 + o.val, by omega⟩) by
    blk_ext [iblk, idx t]).trans ((congrFun (V_main_arg3 m c) _).trans ?_)
  unfold modAt
  rw [row_eq t q]

/-- The norm's scale as the call finds it. -/
theorem found_4 (c : Dev nD) : V m c main_v0 = shapeCast S1x1024 (m ((c : Thread nD τ).loc main_arg4)) shapeCasts_S1024_S1x1024 := by
  show StableHlo.after hostOps0 (fun b => m (c, b)) (Proc.devRef .tc main_v0) = _
  simp only [hostOps0, List.flatten_cons, List.flatten_nil, List.append_nil]
  after_results
  rfl

/-- The block of the norm's scale. -/
theorem blk_4 (c : Dev nD) (t : Fin cfg0.N) (l : Fin 1024) :
    iblk m c 4 t (ix2 0 l) = m ((c : Thread nD τ).loc main_arg4) (ix1 l) := by
  refine (show iblk m c 4 t (ix2 0 l) = V m c main_v0 (ix2 0 l) by blk_ext [iblk, idx t]).trans
    ((congrFun (found_4 m c) _).trans ?_)
  generalize m ((c : Thread nD τ).loc main_arg4) = v
  pointwise []

/-- The norm's offset as the call finds it. -/
theorem found_5 (c : Dev nD) : V m c main_v1 = shapeCast S1x1024 (m ((c : Thread nD τ).loc main_arg5)) shapeCasts_S1024_S1x1024 := by
  show StableHlo.after hostOps0 (fun b => m (c, b)) (Proc.devRef .tc main_v1) = _
  simp only [hostOps0, List.flatten_cons, List.flatten_nil, List.append_nil]
  after_results
  rfl

/-- The block of the norm's offset. -/
theorem blk_5 (c : Dev nD) (t : Fin cfg0.N) (l : Fin 1024) :
    iblk m c 5 t (ix2 0 l) = m ((c : Thread nD τ).loc main_arg5) (ix1 l) := by
  refine (show iblk m c 5 t (ix2 0 l) = V m c main_v1 (ix2 0 l) by blk_ext [iblk, idx t]).trans
    ((congrFun (found_5 m c) _).trans ?_)
  generalize m ((c : Thread nD τ).loc main_arg5) = v
  pointwise []

/-- The block of the next layer's shift. -/
theorem blk_6 (c : Dev nD) (t : Fin cfg0.N) (q : Fin 256) (o : Fin 1024) :
    iblk m c 6 t (ix3 0 0 o) = modAt (m ((c : Thread nD τ).loc main_arg6)) 0 (by norm_num) (seqOf t) (posOf t q) o := by
  have hr : row t < 16 := by unfold row; have : t.val < 136 := t.isLt; split <;> omega
  refine (show iblk m c 6 t (ix3 0 0 o) = V m c main_arg6 (ix3 ⟨row t, hr⟩ 0 ⟨0 + o.val, by omega⟩) by
    blk_ext [iblk, idx t]).trans ((congrFun (V_main_arg6 m c) _).trans ?_)
  unfold modAt
  rw [row_eq t q]

/-- The block of the next layer's scale. -/
theorem blk_7 (c : Dev nD) (t : Fin cfg0.N) (q : Fin 256) (o : Fin 1024) :
    iblk m c 7 t (ix3 0 0 o) = modAt (m ((c : Thread nD τ).loc main_arg6)) 1024 (by norm_num) (seqOf t) (posOf t q) o := by
  have hr : row t < 16 := by unfold row; have : t.val < 136 := t.isLt; split <;> omega
  refine (show iblk m c 7 t (ix3 0 0 o) = V m c main_arg6 (ix3 ⟨row t, hr⟩ 0 ⟨1024 + o.val, by omega⟩) by
    blk_ext [iblk, idx t]).trans ((congrFun (V_main_arg6 m c) _).trans ?_)
  unfold modAt
  rw [row_eq t q]

/-- The residual of the kernel's blocks. -/
def left (v0 : FVec Ideal S256x1152 .bf16) (v1 : FVec Ideal S1x1152x1024 .bf16) (v4 : FVec Ideal S1x256x1024 .f32) (v8 : FVec Ideal S1x1x1024 .f32)
    (q : Fin 256) (o : Fin 1024) : EReal :=
  Ideal.ofBits .f32 0x3FB504F3#32 * v4 (ix3 0 q o) + v8 (ix3 0 0 o) * ∑ r : Fin 1152, v0 (ix2 q r) * v1 (ix3 0 r o)

/-- The scaled norm of the residual at an element. -/
theorem norm_apply (v0 : FVec Ideal S256x1152 .bf16) (v1 : FVec Ideal S1x1152x1024 .bf16) (v4 : FVec Ideal S1x256x1024 .f32) (v8 : FVec Ideal S1x1x1024 .f32)
    (v29 : FVec Ideal S1x1024 .f32) (q : Fin 256) (o : Fin 1024) :
    k0_pay4 (F := Ideal) v0 v1 v4 v8 v29 (ix2 q o) = normed (left v0 v1 v4 v8 q) o * v29 (ix2 0 o) := by
  pointwise [k0_pay4, left, normed, mean]

/-- The offset at an element. -/
theorem offset_apply (v33 : FVec Ideal S1x1024 .f32) (q : Fin 256) (o : Fin 1024) : k0_pay5 (F := Ideal) v33 (ix2 q o) = v33 (ix2 0 o) := by
  pointwise [k0_pay5]

/-- The residual of step `t`'s blocks is the positions'. -/
theorem left_eq (c : Dev nD) (t : Fin cfg0.N) (q : Fin 256) :
    left (iblk m c 1 t) (X0_2 m c t) (iblk m c 0 t) (iblk m c 3 t) q = leftAt (given m c) (seqOf t) (posOf t q) :=
  funext fun o => resid_eq (blk_0 m c t q o) (blk_3 m c t q o)
    (Finset.sum_congr rfl fun r _ => product_eq (blk_1 m c t q r) (blk_2 m c t q r o))

/-- The sum at an element. -/
theorem sum_apply (u v : FVec Ideal S256x1024 .f32) (q : Fin 256) (o : Fin 1024) : k0_pay1 (F := Ideal) u v (ix2 q o) = u (ix2 q o) + v (ix2 q o) := by
  pointwise [k0_pay1]

/-- The first stored block at an element. -/
theorem stream_apply (u v : FVec Ideal S256x1024 .f32) (q : Fin 256) (o : Fin 1024) : k0_pay3 (F := Ideal) u v (ix3 0 q o) = k0_pay1 u v (ix2 q o) := by
  unfold k0_pay3
  generalize k0_pay1 (F := Ideal) u v = z
  pointwise []

/-- The second stored block at an element. -/
theorem next_apply (u v : FVec Ideal S256x1024 .f32) (sc sh : FVec Ideal S1x1x1024 .f32) (q : Fin 256) (o : Fin 1024) :
    k0_pay2 (F := Ideal) u v sc sh (ix3 0 q o)
      = modulated (fun k => k0_pay1 u v (ix2 q k)) (fun k => sh (ix3 0 0 k)) (fun k => sc (ix3 0 0 k)) o := by
  unfold k0_pay2
  generalize k0_pay1 (F := Ideal) u v = z
  pointwise [modulated, normed, mean]

/-- The sum is the position's stream. -/
theorem stream_row (c : Dev nD) (t : Fin cfg0.N) (q : Fin 256) (o : Fin 1024) :
    k0_pay1 (F := Ideal) (k0_pay4 (iblk m c 1 t) (X0_2 m c t) (iblk m c 0 t) (iblk m c 3 t) (iblk m c 4 t)) (k0_pay5 (iblk m c 5 t)) (ix2 q o)
      = streamAt (given m c) (seqOf t) (posOf t q) o := by
  rw [sum_apply, norm_apply, offset_apply]
  exact scaled_eq (left_eq m c t q) (blk_4 m c t o) (blk_5 m c t o) o

/-- Where an element of step `t`'s block sits in the first result. -/
theorem place8 (t : Fin cfg0.N) (y : S1x256x1024.Idx) :
    (((win0_8.blk t).view.emb y : S8x4352x1024.Idx) 0).val = t.val / 17 + (y 0).val
    ∧ (((win0_8.blk t).view.emb y : S8x4352x1024.Idx) 1).val = 256 * (t.val % 17) + (y 1).val
    ∧ (((win0_8.blk t).view.emb y : S8x4352x1024.Idx) 2).val = (y 2).val := by
  refine ⟨?_, ?_, ?_⟩ <;> blk_simp [idx t] <;> simp <;> omega

/-- Where an element of step `t`'s block sits in the second result. -/
theorem place9 (t : Fin cfg0.N) (y : S1x256x1024.Idx) :
    (((win0_9.blk t).view.emb y : S8x4352x1024.Idx) 0).val = t.val / 17 + (y 0).val
    ∧ (((win0_9.blk t).view.emb y : S8x4352x1024.Idx) 1).val = 256 * (t.val % 17) + (y 1).val
    ∧ (((win0_9.blk t).view.emb y : S8x4352x1024.Idx) 2).val = (y 2).val := by
  refine ⟨?_, ?_, ?_⟩ <;> blk_simp [idx t] <;> simp <;> omega

/-- The first result array after the run. -/
theorem final8 (c : Dev nD) : (dats m 0 c).arrAt 8 (cfgs 0).N = stream (given m c) := by
  refine (dats m 0 c).arrAt_eq_of_covers 8 _ (by decide +kernel) fun t hf y => ?_
  blk_simp
  rw [after0_8]
  obtain ⟨i, q, o, rfl⟩ : ∃ (i : Fin 1) (q : Fin 256) (o : Fin 1024), y = ix3 i q o := ⟨y 0, y 1, y 2, eq_ix3 y⟩
  obtain rfl : i = 0 := Subsingleton.elim _ _
  obtain ⟨e0, e1, e2⟩ := place8 t (ix3 0 q o)
  refine Eq.trans ?_ (at_three (streamAt (given m c)) _ (seqOf t) (posOf t q) o e0 e1 e2)
  unfold outsAt0 out0_A_8; frame_out
  exact (stream_apply _ _ q o).trans (stream_row m c t q o)

/-- The second result array after the run. -/
theorem final9 (c : Dev nD) : (dats m 0 c).arrAt 9 (cfgs 0).N = next (given m c) (m ((c : Thread nD τ).loc main_arg6)) := by
  refine (dats m 0 c).arrAt_eq_of_covers 9 _ (by decide +kernel) fun t hf y => ?_
  blk_simp
  rw [after0_9]
  obtain ⟨i, q, o, rfl⟩ : ∃ (i : Fin 1) (q : Fin 256) (o : Fin 1024), y = ix3 i q o := ⟨y 0, y 1, y 2, eq_ix3 y⟩
  obtain rfl : i = 0 := Subsingleton.elim _ _
  obtain ⟨e0, e1, e2⟩ := place9 t (ix3 0 q o)
  refine Eq.trans ?_ (at_three (nextAt (given m c) (m ((c : Thread nD τ).loc main_arg6))) _ (seqOf t) (posOf t q) o e0 e1 e2)
  unfold outsAt0 out0_A_9; frame_out
  exact (next_apply _ _ _ _ q o).trans (modulated_eq (funext fun k => stream_row m c t q k) (funext fun k => blk_6 m c t q k)
    (funext fun k => blk_7 m c t q k) o)

end Cert.Kernel9Ideal.Last

namespace Cert.Reference9Ideal.Last

open Idealize.ShloMosaic Idealize.ShloMosaic.TcCoe Cert.Reference9Ideal Cert.Reference9Ideal.Gen Cert.Merge Cert.Last

/-- The arguments as the reference finds them. -/
def given (m : (ℓ : Loc nD τ sig) → Buf (Elt Ideal) ℓ) (c : Dev nD) : Given where
  x := m ((c.tc : Thread nD τ).loc main_arg0)
  pt := m ((c.tc : Thread nD τ).loc main_arg1)
  ys := m ((c.tc : Thread nD τ).loc main_arg2)
  mod3 := m ((c.tc : Thread nD τ).loc main_arg3)
  g := m ((c.tc : Thread nD τ).loc main_arg4)
  b := m ((c.tc : Thread nD τ).loc main_arg5)

/-- The sorted answers back in place, by groups of 1024 positions. -/
def groups (a : Given) : FVec Ideal S34x1024x1024 .f32 :=
  Host.dotGeneral dot_S34x1024x1152_S34x1152x1024_S34x1024x1024_2_1_1_2_0_0 none (shapeCast _ (extf .f32 a.pt bitsLt_bf16_f32) shapeCasts_S34816x1152_S34x1024x1152) (extf .f32 (extractStridedSlice S34x1152x1024 ![0, 0, 0] a.ys slices_S34x1440x1024_S34x1152x1024_0_0_0) bitsLt_bf16_f32)

/-- The sorted answers back in place. -/
def placed (a : Given) : FVec Ideal S8x4352x1024 .f32 := shapeCast _ (groups a) shapeCasts_S34x1024x1024_S8x4352x1024

/-- The places' table by groups, at an element. -/
theorem table_apply (v : FVec Ideal S34816x1152 .f32) (n : Fin 34) (q : Fin 1024) (r : Fin 1152) :
    shapeCast S34x1024x1152 v shapeCasts_S34816x1152_S34x1024x1152 (ix3 n q r) = v (ix2 ⟨n.val * 1024 + q.val, by omega⟩ r) := by
  pointwise []

/-- The groups at an element. -/
theorem groups_apply (a : Given) (n : Fin 34) (q o : Fin 1024) :
    groups a (ix3 n q o) = ∑ r : Fin 1152, a.pt (ix2 ⟨n.val * 1024 + q.val, by omega⟩ r) * a.ys (ix3 n ⟨r.val, by omega⟩ o) := by
  pointwise [groups]

/-- A regrouping at an element. -/
theorem regroup_apply (v : FVec Ideal S34x1024x1024 .f32) (b : Fin 8) (p : Fin 4352) (o : Fin 1024) :
    shapeCast S8x4352x1024 v shapeCasts_S34x1024x1024_S8x4352x1024 (ix3 b p o)
      = v (ix3 ⟨(4352 * b.val + p.val) / 1024, by omega⟩ ⟨(4352 * b.val + p.val) % 1024, by omega⟩ o) := by
  pointwise []
  exact congrArg₂ (fun (n : Fin 34) (q : Fin 1024) => v (ix3 n q o))
    (Fin.ext (by show (b.val * 4456448 + p.val * 1024 + o.val) / 1048576 = (4352 * b.val + p.val) / 1024; omega))
    (Fin.ext (by show (b.val * 4456448 + p.val * 1024 + o.val) / 1024 % 1024 = (4352 * b.val + p.val) % 1024; omega))

/-- The answers in place at an element. -/
theorem placed_apply (a : Given) (b : Fin 8) (p : Fin 4352) (o : Fin 1024) : placed a (ix3 b p o) = answer a b p o := by
  refine (regroup_apply (groups a) b p o).trans ((groups_apply a _ _ o).trans (Finset.sum_congr rfl fun r _ => product_eq ?_ rfl))
  exact congrArg (fun n : Fin 34816 => a.pt (ix2 n r))
    (Fin.ext (by show (4352 * b.val + p.val) / 1024 * 1024 + (4352 * b.val + p.val) % 1024 = 4352 * b.val + p.val; omega))

/-- The mean of every row. -/
def rowMean (y : FVec Ideal S8x4352x1024 .f32) : FVec Ideal S8x4352x1 .f32 :=
  Host.divf (broadcastInDim S8x4352x1 ![0, 1] bcast_S8x4352_S8x4352x1_0_1 (Host.reduceAdd y (constant S_ .f32 0x00000000#32) reducesTo_S8x4352x1024_S8x4352_d2 h_S_)) (broadcastInDim S8x4352x1 ![] bcast_S_S8x4352x1 (constant S_ .f32 0x44800000#32))

/-- The rows less their mean. -/
def rowCentred (y : FVec Ideal S8x4352x1024 .f32) : FVec Ideal S8x4352x1024 .f32 :=
  subf y (broadcastInDim S8x4352x1024 ![0, 1, 2] bcast_S8x4352x1_S8x4352x1024_0_1_2 (rowMean y))

/-- The rows normalised. -/
def rowNormed (y : FVec Ideal S8x4352x1024 .f32) : FVec Ideal S8x4352x1024 .f32 :=
  mulf (rowCentred y) (broadcastInDim S8x4352x1024 ![0, 1, 2] bcast_S8x4352x1_S8x4352x1024_0_1_2 (Host.rsqrt (addf (rowMean (mulf (rowCentred y) (rowCentred y))) (broadcastInDim S8x4352x1 ![] bcast_S_S8x4352x1 (constant S_ .f32 0x358637BD#32)))))

/-- A row of 1024 numbers at every position. -/
def wide (g : FVec Ideal S1024 .f32) : FVec Ideal S8x4352x1024 .f32 :=
  broadcastInDim S8x4352x1024 ![0, 1, 2] bcast_S1x1x1024_S8x4352x1024_0_1_2 (broadcastInDim S1x1x1024 ![2] bcast_S1024_S1x1x1024_2 g)

/-- The rows normalised, with scale and offset. -/
def rowScaled (y : FVec Ideal S8x4352x1024 .f32) (g b : FVec Ideal S1024 .f32) : FVec Ideal S8x4352x1024 .f32 :=
  addf (mulf (rowNormed y) (wide g)) (wide b)

/-- A row normalised at an element. -/
theorem rowNormed_apply (y : FVec Ideal S8x4352x1024 .f32) (b : Fin 8) (p : Fin 4352) (o : Fin 1024) :
    rowNormed y (ix3 b p o) = normed (fun k => y (ix3 b p k)) o := by
  pointwise [rowNormed, rowCentred, rowMean, normed, mean]

/-- A row normalised, with scale and offset, at an element. -/
theorem rowScaled_apply (y : FVec Ideal S8x4352x1024 .f32) (g v : FVec Ideal S1024 .f32) (b : Fin 8) (p : Fin 4352) (o : Fin 1024) :
    rowScaled y g v (ix3 b p o) = normed (fun k => y (ix3 b p k)) o * g (ix1 o) + v (ix1 o) := by
  rw [← rowNormed_apply]
  unfold rowScaled
  generalize rowNormed y = z
  pointwise [wide]

/-- 1024 columns of the modulation at every position, the first 256 of them from row 8. -/
def spread (v : FVec Ideal S16x1x1024 .f32) : FVec Ideal S8x4352x1024 .f32 :=
  concatenate S8x4352x1024 1 [⟨S8x256x1024, (broadcastInDim S8x256x1024 ![0, 1, 2] bcast_S1x1x1024_S8x256x1024_0_1_2 (extractStridedSlice S1x1x1024 ![8, 0, 0] v slices_S16x1x1024_S1x1x1024_8_0_0))⟩, ⟨S8x4096x1024, (broadcastInDim S8x4096x1024 ![0, 1, 2] bcast_S8x1x1024_S8x4096x1024_0_1_2 (extractStridedSlice S8x1x1024 ![0, 0, 0] v slices_S16x1x1024_S8x1x1024_0_0_0))⟩] concatenates_S8x256x1024_S8x4096x1024_S8x4352x1024_d1

/-- A modulation number at an element. -/
theorem spread_apply (v : FVec Ideal S16x1x1024 .f32) (b : Fin 8) (p : Fin 4352) (o : Fin 1024) : spread v (ix3 b p o) = v (ix3 (rowOf b p) 0 o) := by
  unfold rowOf
  pointwise [spread]
  by_cases h : p.val < 256
  · rw [dif_pos h, if_pos h]
  · rw [dif_neg h, if_neg h]

/-- The gate at every position. -/
def gate (a : Given) : FVec Ideal S8x4352x1024 .f32 := spread (extractStridedSlice S16x1x1024 ![0, 0, 5120] a.mod3 slices_S16x1x6144_S16x1x1024_0_0_5120)

/-- The next layer's shift at every position. -/
def shift (n : FVec Ideal S16x1x6144 .f32) : FVec Ideal S8x4352x1024 .f32 := spread (extractStridedSlice S16x1x1024 ![0, 0, 0] n slices_S16x1x6144_S16x1x1024_0_0_0)

/-- The next layer's scale at every position. -/
def scale (n : FVec Ideal S16x1x6144 .f32) : FVec Ideal S8x4352x1024 .f32 := spread (extractStridedSlice S16x1x1024 ![0, 0, 1024] n slices_S16x1x6144_S16x1x1024_0_0_1024)

/-- The gate at an element. -/
theorem gate_apply (a : Given) (b : Fin 8) (p : Fin 4352) (o : Fin 1024) : gate a (ix3 b p o) = modAt a.mod3 5120 (by norm_num) b p o := by
  refine (spread_apply _ b p o).trans ?_
  unfold modAt
  pointwise []

/-- The shift at an element. -/
theorem shift_apply (n : FVec Ideal S16x1x6144 .f32) (b : Fin 8) (p : Fin 4352) (o : Fin 1024) : shift n (ix3 b p o) = modAt n 0 (by norm_num) b p o := by
  refine (spread_apply _ b p o).trans ?_
  unfold modAt
  pointwise []

/-- The scale at an element. -/
theorem scale_apply (n : FVec Ideal S16x1x6144 .f32) (b : Fin 8) (p : Fin 4352) (o : Fin 1024) : scale n (ix3 b p o) = modAt n 1024 (by norm_num) b p o := by
  refine (spread_apply _ b p o).trans ?_
  unfold modAt
  pointwise []

/-- The residual. -/
def left (a : Given) : FVec Ideal S8x4352x1024 .f32 :=
  addf (mulf (broadcastInDim S8x4352x1024 ![] bcast_S_S8x4352x1024 (constant S_ .f32 0x3FB504F3#32)) a.x) (mulf (gate a) (placed a))

/-- The residual at an element. -/
theorem left_apply (a : Given) (b : Fin 8) (p : Fin 4352) (o : Fin 1024) : left a (ix3 b p o) = leftAt a b p o := by
  refine Eq.trans ?_ (resid_eq rfl (gate_apply a b p o) (placed_apply a b p o))
  unfold left
  generalize gate a = u
  generalize placed a = v
  pointwise []

/-- The reference's first term at an element. -/
theorem stream_apply (a : Given) (b : Fin 8) (p : Fin 4352) (o : Fin 1024) : rowScaled (left a) a.g a.b (ix3 b p o) = streamAt a b p o := by
  rw [rowScaled_apply, show (fun k => left a (ix3 b p k)) = leftAt a b p from funext fun k => left_apply a b p k]
  rfl

/-- The second result from the first. -/
def modded (y : FVec Ideal S8x4352x1024 .f32) (n : FVec Ideal S16x1x6144 .f32) : FVec Ideal S8x4352x1024 .bf16 :=
  truncf .bf16 (addf (mulf (rowNormed y) (addf (broadcastInDim S8x4352x1024 ![] bcast_S_S8x4352x1024 (constant S_ .f32 0x3F800000#32)) (scale n))) (shift n)) bitsLt_bf16_f32

/-- The second result at an element, from the first. -/
theorem modded_apply (y : FVec Ideal S8x4352x1024 .f32) (n : FVec Ideal S16x1x6144 .f32) (b : Fin 8) (p : Fin 4352) (o : Fin 1024) :
    modded y n (ix3 b p o) = rowNormed y (ix3 b p o) * (Ideal.ofBits .f32 0x3F800000#32 + scale n (ix3 b p o)) + shift n (ix3 b p o) := by
  unfold modded
  generalize rowNormed y = z
  generalize scale n = u
  generalize shift n = v
  pointwise []

/-- The reference's second term at an element. -/
theorem next_apply (a : Given) (n : FVec Ideal S16x1x6144 .f32) (b : Fin 8) (p : Fin 4352) (o : Fin 1024) :
    modded (rowScaled (left a) a.g a.b) n (ix3 b p o) = nextAt a n b p o := by
  rw [modded_apply, rowNormed_apply, scale_apply, shift_apply,
    show (fun k => rowScaled (left a) a.g a.b (ix3 b p k)) = streamAt a b p from funext fun k => stream_apply a b p k]
  rfl

/-- The reference's first term is the stream after the layer. -/
theorem ref_stream (a : Given) : rowScaled (left a) a.g a.b = stream a :=
  funext fun y => (congrArg _ (eq_ix3 y)).trans (stream_apply a (y 0) (y 1) (y 2))

/-- The reference's second term is the next layer's input. -/
theorem ref_next (a : Given) (n : FVec Ideal S16x1x6144 .f32) : modded (rowScaled (left a) a.g a.b) n = next a n :=
  funext fun y => (congrArg _ (eq_ix3 y)).trans (next_apply a n (y 0) (y 1) (y 2))

/-- The reference's first result, as printed. -/
theorem printed_stream (m : (ℓ : Loc nD τ sig) → Buf (Elt Ideal) ℓ) (c : Dev nD) : Value.res_main_v44 m c = stream (given m c) :=
  Eq.trans rfl (ref_stream (given m c))

/-- The reference's second result, as printed. -/
theorem printed_next (m : (ℓ : Loc nD τ sig) → Buf (Elt Ideal) ℓ) (c : Dev nD) :
    Value.res_main_v89 m c = next (given m c) (m ((c.tc : Thread nD τ).loc main_arg6)) :=
  Eq.trans rfl (ref_next (given m c) _)

end Cert.Reference9Ideal.Last

end
-- ==== Proof.LastLatent.lean ====
/- The last norm of the last layer: the kernel's result and the reference's. -/
module

public import proofs.«01_k».proof.Proof.Gen.Kernel10Ideal.Value
public import proofs.«01_k».proof.Proof.Gen.Reference10Ideal.Run
public import proofs.«01_k».proof.Proof.LastSpec
public import Idealize.ShloMosaic.Lib.Pointwise
public import Idealize.ShloMosaic.Lib.Pipeline.ValueKit

@[expose] public section

set_option maxRecDepth 65536

noncomputable section

namespace Cert.Kernel10Ideal.Last

open Idealize.ShloMosaic Idealize.ShloMosaic.TcCoe Cert.Kernel10Ideal Cert.Kernel10Ideal.Gen Cert.Merge Cert.Last

variable (m : (ℓ : Loc nD τ sig) → Buf (Elt Ideal) ℓ)

/-- The arguments as the kernel finds them. -/
def given (c : Dev nD) : Given where
  x := m ((c : Thread nD τ).loc main_arg0)
  pt := m ((c : Thread nD τ).loc main_arg1)
  ys := m ((c : Thread nD τ).loc main_arg2)
  mod3 := m ((c : Thread nD τ).loc main_arg3)
  g := m ((c : Thread nD τ).loc main_arg4)
  b := m ((c : Thread nD τ).loc main_arg5)

/-- The row of the modulation read at step `t`. -/
def row (t : Fin cfg0.N) : ℕ := if t.val % 17 < 1 then 8 else t.val / 17

/-- The index maps: sequence `t / 17`, row tile `t % 17`, of which the first is the context's. -/
theorem idx : ∀ t : Fin cfg0.N, win0_0.index t = ![t.val / 17, t.val % 17, 0] ∧ win0_1.index t = ![t.val, 0]
    ∧ win0_2.index t = ![t.val / 4, 0, 0] ∧ win0_3.index t = ![row t, 0, 5] ∧ win0_4.index t = ![0, 0] ∧ win0_5.index t = ![0, 0]
    ∧ win0_6.index t = ![t.val / 17, t.val % 17 - 1, 0] :=
  (by decide +kernel : ∀ t : Fin grid0.N, _)

/-- The sequence of step `t`. -/
def seqOf (t : Fin cfg0.N) : Fin 8 := ⟨t.val / 17, by have : t.val < 136 := t.isLt; omega⟩

/-- The position of row `q` at step `t`. -/
def posOf (t : Fin cfg0.N) (q : Fin 256) : Fin 4352 := ⟨256 * (t.val % 17) + q.val, by omega⟩

/-- The row of the modulation is the one the position takes. -/
theorem row_eq (t : Fin cfg0.N) (q : Fin 256) : rowOf (seqOf t) (posOf t q) = ⟨row t, by unfold row; have : t.val < 136 := t.isLt; split <;> omega⟩ := by
  apply Fin.ext
  show (rowOf (seqOf t) (posOf t q)).val = row t
  by_cases h : t.val % 17 < 1
  · exact (congrArg Fin.val (if_pos (show 256 * (t.val % 17) + q.val < 256 by omega))).trans (if_pos h).symm
  · exact (congrArg Fin.val (if_neg (show ¬ 256 * (t.val % 17) + q.val < 256 by omega))).trans (if_neg h).symm

/-- The stream's block. -/
theorem blk_0 (c : Dev nD) (t : Fin cfg0.N) (q : Fin 256) (o : Fin 1024) :
    iblk m c 0 t (ix3 0 q o) = (given m c).x (ix3 (seqOf t) (posOf t q) o) :=
  (show iblk m c 0 t (ix3 0 q o) = V m c main_arg0 (ix3 (seqOf t) (posOf t q) o) by blk_ext [iblk, idx t, seqOf, posOf]).trans
    (congrFun (V_main_arg0 m c) _)

/-- The block of the table of places. -/
theorem blk_1 (c : Dev nD) (t : Fin cfg0.N) (q : Fin 256) (r : Fin 1152) :
    iblk m c 1 t (ix2 q r) = (given m c).pt (ix2 ⟨4352 * (seqOf t).val + (posOf t q).val, by omega⟩ r) := by
  have ht : t.val < 136 := t.isLt
  refine (show iblk m c 1 t (ix2 q r) = V m c main_arg1 (ix2 ⟨256 * t.val + q.val, by omega⟩ r) by blk_ext [iblk, idx t]).trans
    ((congrFun (V_main_arg1 m c) _).trans ?_)
  exact congrArg (fun n : Fin 34816 => m ((c : Thread nD τ).loc main_arg1) (ix2 n r))
    (Fin.ext (by show 256 * t.val + q.val = 4352 * (t.val / 17) + (256 * (t.val % 17) + q.val); omega))

/-- The block of the sorted answers. -/
theorem blk_2 (c : Dev nD) (t : Fin cfg0.N) (q : Fin 256) (r : Fin 1152) (o : Fin 1024) :
    X0_2 m c t (ix3 0 r o) = (given m c).ys (ix3 ⟨(4352 * (seqOf t).val + (posOf t q).val) / 1024, by omega⟩ ⟨r.val, by omega⟩ o) := by
  have ht : t.val < 136 := t.isLt
  refine (show X0_2 m c t (ix3 0 r o) = V m c main_arg2 (ix3 ⟨t.val / 4, by omega⟩ ⟨r.val, by omega⟩ o) by
    unfold X0_2 Pipeline.Window.fill
    rw [dif_pos (moved0_2 t (ix3 0 r o))]
    blk_ext [iblk, idx t]).trans ((congrFun (V_main_arg2 m c) _).trans ?_)
  exact congrArg (fun n : Fin 34 => m ((c : Thread nD τ).loc main_arg2) (ix3 n ⟨r.val, by omega⟩ o))
    (Fin.ext (by show t.val / 4 = (4352 * (t.val / 17) + (256 * (t.val % 17) + q.val)) / 1024; omega))

/-- The block of the gate. -/
theorem blk_3 (c : Dev nD) (t : Fin cfg0.N) (q : Fin 256) (o : Fin 1024) :
    iblk m c 3 t (ix3 0 0 o) = modAt (m ((c : Thread nD τ).loc main_arg3)) 5120 (by norm_num) (seqOf t) (posOf t q) o := by
  have hr : row t < 16 := by unfold row; have : t.val < 136 := t.isLt; split <;> omega
  refine (show iblk m c 3 t (ix3 0 0 o) = V m c main_arg3 (ix3 ⟨row t, hr⟩ 0 ⟨5120 + o.val, by omega⟩) by
    blk_ext [iblk, idx t]).trans ((congrFun (V_main_arg3 m c) _).trans ?_)
  unfold modAt
  rw [row_eq t q]

/-- The norm's scale as the call finds it. -/
theorem found_4 (c : Dev nD) : V m c main_v0 = shapeCast S1x1024 (m ((c : Thread nD τ).loc main_arg4)) shapeCasts_S1024_S1x1024 := by
  show StableHlo.after hostOps0 (fun b => m (c, b)) (Proc.devRef .tc main_v0) = _
  simp only [hostOps0, List.flatten_cons, List.flatten_nil, List.append_nil]
  after_results
  rfl

/-- The block of the norm's scale. -/
theorem blk_4 (c : Dev nD) (t : Fin cfg0.N) (l : Fin 1024) :
    iblk m c 4 t (ix2 0 l) = m ((c : Thread nD τ).loc main_arg4) (ix1 l) := by
  refine (show iblk m c 4 t (ix2 0 l) = V m c main_v0 (ix2 0 l) by blk_ext [iblk, idx t]).trans
    ((congrFun (found_4 m c) _).trans ?_)
  generalize m ((c : Thread nD τ).loc main_arg4) = v
  pointwise []

/-- The norm's offset as the call finds it. -/
theorem found_5 (c : Dev nD) : V m c main_v1 = shapeCast S1x1024 (m ((c : Thread nD τ).loc main_arg5)) shapeCasts_S1024_S1x1024 := by
  show StableHlo.after hostOps0 (fun b => m (c, b)) (Proc.devRef .tc main_v1) = _
  simp only [hostOps0, List.flatten_cons, List.flatten_nil, List.append_nil]
  after_results
  rfl

/-- The block of the norm's offset. -/
theorem blk_5 (c : Dev nD) (t : Fin cfg0.N) (l : Fin 1024) :
    iblk m c 5 t (ix2 0 l) = m ((c : Thread nD τ).loc main_arg5) (ix1 l) := by
  refine (show iblk m c 5 t (ix2 0 l) = V m c main_v1 (ix2 0 l) by blk_ext [iblk, idx t]).trans
    ((congrFun (found_5 m c) _).trans ?_)
  generalize m ((c : Thread nD τ).loc main_arg5) = v
  pointwise []

/-- The residual of the kernel's blocks. -/
def left (v0 : FVec Ideal S256x1152 .bf16) (v1 : FVec Ideal S1x1152x1024 .bf16) (v4 : FVec Ideal S1x256x1024 .f32) (v8 : FVec Ideal S1x1x1024 .f32)
    (q : Fin 256) (o : Fin 1024) : EReal :=
  Ideal.ofBits .f32 0x3FB504F3#32 * v4 (ix3 0 q o) + v8 (ix3 0 0 o) * ∑ r : Fin 1152, v0 (ix2 q r) * v1 (ix3 0 r o)

/-- The scaled norm of the residual at an element. -/
theorem norm_apply (v0 : FVec Ideal S256x1152 .bf16) (v1 : FVec Ideal S1x1152x1024 .bf16) (v4 : FVec Ideal S1x256x1024 .f32) (v8 : FVec Ideal S1x1x1024 .f32)
    (v29 : FVec Ideal S1x1024 .f32) (q : Fin 256) (o : Fin 1024) :
    k0_pay2 (F := Ideal) v0 v1 v4 v8 v29 (ix2 q o) = normed (left v0 v1 v4 v8 q) o * v29 (ix2 0 o) := by
  pointwise [k0_pay2, left, normed, mean]

/-- The offset at an element. -/
theorem offset_apply (v33 : FVec Ideal S1x1024 .f32) (q : Fin 256) (o : Fin 1024) : k0_pay3 (F := Ideal) v33 (ix2 q o) = v33 (ix2 0 o) := by
  pointwise [k0_pay3]

/-- The residual of step `t`'s blocks is the positions'. -/
theorem left_eq (c : Dev nD) (t : Fin cfg0.N) (q : Fin 256) :
    left (iblk m c 1 t) (X0_2 m c t) (iblk m c 0 t) (iblk m c 3 t) q = leftAt (given m c) (seqOf t) (posOf t q) :=
  funext fun o => resid_eq (blk_0 m c t q o) (blk_3 m c t q o)
    (Finset.sum_congr rfl fun r _ => product_eq (blk_1 m c t q r) (blk_2 m c t q r o))

/-- The stored block at an element. -/
theorem stream_apply (u v : FVec Ideal S256x1024 .f32) (q : Fin 256) (o : Fin 1024) : k0_pay1 (F := Ideal) u v (ix3 0 q o) = u (ix2 q o) + v (ix2 q o) := by
  pointwise [k0_pay1]

/-- The stored block is the positions' stream. -/
theorem stream_row (c : Dev nD) (t : Fin cfg0.N) (q : Fin 256) (o : Fin 1024) :
    k0_pay1 (F := Ideal) (k0_pay2 (iblk m c 1 t) (X0_2 m c t) (iblk m c 0 t) (iblk m c 3 t) (iblk m c 4 t)) (k0_pay3 (iblk m c 5 t)) (ix3 0 q o)
      = streamAt (given m c) (seqOf t) (posOf t q) o := by
  rw [stream_apply, norm_apply, offset_apply]
  exact scaled_eq (left_eq m c t q) (blk_4 m c t o) (blk_5 m c t o) o

/-- The context's tile is never written back: the next step overwrites it in place. -/
theorem written : ∀ t : Fin cfg0.N, win0_6.flush t = true → 1 ≤ t.val % 17 :=
  (by decide +kernel : ∀ t : Fin grid0.N, _)

/-- Where an element of step `t`'s block sits in the result. -/
theorem place6 (t : Fin cfg0.N) (y : S1x256x1024.Idx) :
    (((win0_6.blk t).view.emb y : S8x4096x1024.Idx) 0).val = t.val / 17 + (y 0).val
    ∧ (((win0_6.blk t).view.emb y : S8x4096x1024.Idx) 1).val = 256 * (t.val % 17 - 1) + (y 1).val
    ∧ (((win0_6.blk t).view.emb y : S8x4096x1024.Idx) 2).val = (y 2).val := by
  refine ⟨?_, ?_, ?_⟩ <;> blk_simp [idx t] <;> simp <;> omega

/-- The result array after the run. -/
theorem final6 (c : Dev nD) : (dats m 0 c).arrAt 6 (cfgs 0).N = latent (given m c) := by
  refine (dats m 0 c).arrAt_eq_of_covers 6 _ (by decide +kernel) fun t hf y => ?_
  have hw := written t hf
  blk_simp
  rw [after0_6]
  obtain ⟨i, q, o, rfl⟩ : ∃ (i : Fin 1) (q : Fin 256) (o : Fin 1024), y = ix3 i q o := ⟨y 0, y 1, y 2, eq_ix3 y⟩
  obtain rfl : i = 0 := Subsingleton.elim _ _
  obtain ⟨e0, e1, e2⟩ := place6 t (ix3 0 q o)
  refine Eq.trans ?_ (at_latent (streamAt (given m c)) _ (seqOf t) (posOf t q) o e0
    ((congrArg (256 + ·) e1).trans (by show 256 + (256 * (t.val % 17 - 1) + q.val) = 256 * (t.val % 17) + q.val; omega)) e2)
  unfold outsAt0 out0_A_6; frame_out
  exact stream_row m c t q o

end Cert.Kernel10Ideal.Last

namespace Cert.Reference10Ideal.Last

open Idealize.ShloMosaic Idealize.ShloMosaic.TcCoe Cert.Reference10Ideal Cert.Reference10Ideal.Gen Cert.Merge Cert.Last

/-- The arguments as the reference finds them. -/
def given (m : (ℓ : Loc nD τ sig) → Buf (Elt Ideal) ℓ) (c : Dev nD) : Given where
  x := m ((c.tc : Thread nD τ).loc main_arg0)
  pt := m ((c.tc : Thread nD τ).loc main_arg1)
  ys := m ((c.tc : Thread nD τ).loc main_arg2)
  mod3 := m ((c.tc : Thread nD τ).loc main_arg3)
  g := m ((c.tc : Thread nD τ).loc main_arg4)
  b := m ((c.tc : Thread nD τ).loc main_arg5)

/-- The sorted answers back in place, by groups of 1024 positions. -/
def groups (a : Given) : FVec Ideal S34x1024x1024 .f32 :=
  Host.dotGeneral dot_S34x1024x1152_S34x1152x1024_S34x1024x1024_2_1_1_2_0_0 none (shapeCast _ (extf .f32 a.pt bitsLt_bf16_f32) shapeCasts_S34816x1152_S34x1024x1152) (extf .f32 (extractStridedSlice S34x1152x1024 ![0, 0, 0] a.ys slices_S34x1440x1024_S34x1152x1024_0_0_0) bitsLt_bf16_f32)

/-- The sorted answers back in place. -/
def placed (a : Given) : FVec Ideal S8x4352x1024 .f32 := shapeCast _ (groups a) shapeCasts_S34x1024x1024_S8x4352x1024

/-- The places' table by groups, at an element. -/
theorem table_apply (v : FVec Ideal S34816x1152 .f32) (n : Fin 34) (q : Fin 1024) (r : Fin 1152) :
    shapeCast S34x1024x1152 v shapeCasts_S34816x1152_S34x1024x1152 (ix3 n q r) = v (ix2 ⟨n.val * 1024 + q.val, by omega⟩ r) := by
  pointwise []

/-- The groups at an element. -/
theorem groups_apply (a : Given) (n : Fin 34) (q o : Fin 1024) :
    groups a (ix3 n q o) = ∑ r : Fin 1152, a.pt (ix2 ⟨n.val * 1024 + q.val, by omega⟩ r) * a.ys (ix3 n ⟨r.val, by omega⟩ o) := by
  pointwise [groups]

/-- A regrouping at an element. -/
theorem regroup_apply (v : FVec Ideal S34x1024x1024 .f32) (b : Fin 8) (p : Fin 4352) (o : Fin 1024) :
    shapeCast S8x4352x1024 v shapeCasts_S34x1024x1024_S8x4352x1024 (ix3 b p o)
      = v (ix3 ⟨(4352 * b.val + p.val) / 1024, by omega⟩ ⟨(4352 * b.val + p.val) % 1024, by omega⟩ o) := by
  pointwise []
  exact congrArg₂ (fun (n : Fin 34) (q : Fin 1024) => v (ix3 n q o))
    (Fin.ext (by show (b.val * 4456448 + p.val * 1024 + o.val) / 1048576 = (4352 * b.val + p.val) / 1024; omega))
    (Fin.ext (by show (b.val * 4456448 + p.val * 1024 + o.val) / 1024 % 1024 = (4352 * b.val + p.val) % 1024; omega))

/-- The answers in place at an element. -/
theorem placed_apply (a : Given) (b : Fin 8) (p : Fin 4352) (o : Fin 1024) : placed a (ix3 b p o) = answer a b p o := by
  refine (regroup_apply (groups a) b p o).trans ((groups_apply a _ _ o).trans (Finset.sum_congr rfl fun r _ => product_eq ?_ rfl))
  exact congrArg (fun n : Fin 34816 => a.pt (ix2 n r))
    (Fin.ext (by show (4352 * b.val + p.val) / 1024 * 1024 + (4352 * b.val + p.val) % 1024 = 4352 * b.val + p.val; omega))

/-- The mean of every row. -/
def rowMean (y : FVec Ideal S8x4096x1024 .f32) : FVec Ideal S8x4096x1 .f32 :=
  Host.divf (broadcastInDim S8x4096x1 ![0, 1] bcast_S8x4096_S8x4096x1_0_1 (Host.reduceAdd y (constant S_ .f32 0x00000000#32) reducesTo_S8x4096x1024_S8x4096_d2 h_S_)) (broadcastInDim S8x4096x1 ![] bcast_S_S8x4096x1 (constant S_ .f32 0x44800000#32))

/-- The rows less their mean. -/
def rowCentred (y : FVec Ideal S8x4096x1024 .f32) : FVec Ideal S8x4096x1024 .f32 :=
  subf y (broadcastInDim S8x4096x1024 ![0, 1, 2] bcast_S8x4096x1_S8x4096x1024_0_1_2 (rowMean y))

/-- The rows normalised. -/
def rowNormed (y : FVec Ideal S8x4096x1024 .f32) : FVec Ideal S8x4096x1024 .f32 :=
  mulf (rowCentred y) (broadcastInDim S8x4096x1024 ![0, 1, 2] bcast_S8x4096x1_S8x4096x1024_0_1_2 (Host.rsqrt (addf (rowMean (mulf (rowCentred y) (rowCentred y))) (broadcastInDim S8x4096x1 ![] bcast_S_S8x4096x1 (constant S_ .f32 0x358637BD#32)))))

/-- A row of 1024 numbers at every position. -/
def wide (g : FVec Ideal S1024 .f32) : FVec Ideal S8x4096x1024 .f32 :=
  broadcastInDim S8x4096x1024 ![0, 1, 2] bcast_S1x1x1024_S8x4096x1024_0_1_2 (broadcastInDim S1x1x1024 ![2] bcast_S1024_S1x1x1024_2 g)

/-- The rows normalised, with scale and offset. -/
def rowScaled (y : FVec Ideal S8x4096x1024 .f32) (g b : FVec Ideal S1024 .f32) : FVec Ideal S8x4096x1024 .f32 :=
  addf (mulf (rowNormed y) (wide g)) (wide b)

/-- A row normalised at an element. -/
theorem rowNormed_apply (y : FVec Ideal S8x4096x1024 .f32) (b : Fin 8) (p : Fin 4096) (o : Fin 1024) :
    rowNormed y (ix3 b p o) = normed (fun k => y (ix3 b p k)) o := by
  pointwise [rowNormed, rowCentred, rowMean, normed, mean]

/-- A row normalised, with scale and offset, at an element. -/
theorem rowScaled_apply (y : FVec Ideal S8x4096x1024 .f32) (g v : FVec Ideal S1024 .f32) (b : Fin 8) (p : Fin 4096) (o : Fin 1024) :
    rowScaled y g v (ix3 b p o) = normed (fun k => y (ix3 b p k)) o * g (ix1 o) + v (ix1 o) := by
  rw [← rowNormed_apply]
  unfold rowScaled
  generalize rowNormed y = z
  pointwise [wide]

/-- The gate at the latent's positions. -/
def gate (a : Given) : FVec Ideal S8x4096x1024 .f32 :=
  broadcastInDim S8x4096x1024 ![0, 1, 2] bcast_S8x1x1024_S8x4096x1024_0_1_2 (extractStridedSlice S8x1x1024 ![0, 0, 5120] (extractStridedSlice S8x1x6144 ![0, 0, 0] a.mod3 slices_S16x1x6144_S8x1x6144_0_0_0) slices_S8x1x6144_S8x1x1024_0_0_5120)

/-- The gate at an element. -/
theorem gate_apply (a : Given) (b : Fin 8) (p : Fin 4096) (o : Fin 1024) : gate a (ix3 b p o) = modAt a.mod3 5120 (by norm_num) b (after p) o := by
  have hm : rowOf b (after p) = ⟨b.val, by omega⟩ := if_neg (show ¬ 256 + p.val < 256 by omega)
  unfold modAt
  rw [hm]
  pointwise [gate]

/-- The latent's rows of a stream. -/
def rowsOf (y : FVec Ideal S8x4352x1024 .f32) : FVec Ideal S8x4096x1024 .f32 := extractStridedSlice S8x4096x1024 ![0, 256, 0] y slices_S8x4352x1024_S8x4096x1024_0_256_0

/-- The latent's rows at an element. -/
theorem rowsOf_apply (y : FVec Ideal S8x4352x1024 .f32) (b : Fin 8) (p : Fin 4096) (o : Fin 1024) : rowsOf y (ix3 b p o) = y (ix3 b (after p) o) := by
  pointwise [rowsOf, after]

/-- The residual of the latent. -/
def left (a : Given) : FVec Ideal S8x4096x1024 .f32 :=
  addf (mulf (broadcastInDim S8x4096x1024 ![] bcast_S_S8x4096x1024 (constant S_ .f32 0x3FB504F3#32)) (rowsOf a.x)) (mulf (gate a) (rowsOf (placed a)))

/-- The residual at an element. -/
theorem left_apply (a : Given) (b : Fin 8) (p : Fin 4096) (o : Fin 1024) : left a (ix3 b p o) = leftAt a b (after p) o := by
  refine Eq.trans ?_ (resid_eq (rowsOf_apply a.x b p o) (gate_apply a b p o) ((rowsOf_apply (placed a) b p o).trans (placed_apply a b (after p) o)))
  unfold left
  generalize gate a = u
  generalize rowsOf (placed a) = v
  generalize rowsOf a.x = w
  pointwise []

/-- The reference's term at an element. -/
theorem stream_apply (a : Given) (b : Fin 8) (p : Fin 4096) (o : Fin 1024) : rowScaled (left a) a.g a.b (ix3 b p o) = streamAt a b (after p) o := by
  rw [rowScaled_apply, show (fun k => left a (ix3 b p k)) = leftAt a b (after p) from funext fun k => left_apply a b p k]
  rfl

/-- The reference's term is the latent's stream after the layer. -/
theorem ref_latent (a : Given) : rowScaled (left a) a.g a.b = latent a :=
  funext fun y => (congrArg _ (eq_ix3 y)).trans (stream_apply a (y 0) (y 1) (y 2))

/-- The reference's result, as printed. -/
theorem printed_latent (m : (ℓ : Loc nD τ sig) → Buf (Elt Ideal) ℓ) (c : Dev nD) : Value.res_main_v43 m c = latent (given m c) :=
  Eq.trans rfl (ref_latent (given m c))

end Cert.Reference10Ideal.Last

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.MergeFrameBits
public import proofs.«01_k».proof.Proof.MergeFinal
public import proofs.«01_k».proof.Proof.MergeRef
public import proofs.«01_k».proof.Proof.FiniteRec
public import proofs.«01_k».proof.Proof.Finite
public import proofs.«01_k».proof.Proof.Final
public import proofs.«01_k».proof.Proof.RefFinal
public import proofs.«01_k».proof.Proof.MoeValue
public import proofs.«01_k».proof.Proof.MoeRef
public import proofs.«01_k».proof.Proof.ProjectRwkv
public import proofs.«01_k».proof.Proof.ProjectConv
public import proofs.«01_k».proof.Proof.ProjectAttn
public import proofs.«01_k».proof.Proof.Ada
public import proofs.«01_k».proof.Proof.First
public import proofs.«01_k».proof.Proof.Last
public import proofs.«01_k».proof.Proof.LastLatent
public import Idealize.ShloMosaic.Adequacy
public import Idealize.ShloMosaic.Init

@[expose] public section

noncomputable section

namespace Cert.Proof

open Idealize.ShloMosaic Idealize.SL.Sem

/-- The attention reference runs, keeps its arguments and leaves every counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Both attention programs end with the attention of the arguments, where queries and keys are real numbers. -/
theorem value : Cert.algebraic_KernelIdeal_ReferenceIdeal_pre_finite_queries_keys := by
  intro m ρ m' ρ' hpre hagree
  refine ⟨fun c => Cert.Attend.att (m (c.tc.loc Cert.KernelIdeal.main_arg0)) (m (c.tc.loc Cert.KernelIdeal.main_arg1))
      (m (c.tc.loc Cert.KernelIdeal.main_arg2)), ?_, ?_⟩
  · refine (θ_run Cert.KernelIdeal.defs _ _).mono (fun r h c => ⟨?_, (h c).2⟩) (Cert.KernelIdeal.Value.run_blocks (F := Ideal) m ρ)
    exact (h c).1.trans (Cert.KernelIdeal.Final.final m c)
  · refine (θ_run Cert.ReferenceIdeal.defs _ _).mono (fun r h c => ⟨?_, (h c).2⟩) (Cert.ReferenceIdeal.Value.run (F := Ideal) m' ρ')
    obtain ⟨hq, hk⟩ := Cert.Pre_finite_queries_keys.real_of _ _ _ (hpre c)
    exact (h c).1.trans (Cert.ReferenceIdeal.RefFinal.ref_final m' c _ _ _ (hagree c).1 (hagree c).2.1 (hagree c).2.2 hq hk)

/-- The expert reference runs, keeps its arguments and leaves every counter at zero. -/
theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The expert call's frame on machine numbers: what its body assumes of the table is what its idealization's does. -/
theorem frame_experts : Cert.quiescent_Kernel2 := fun m ρ hp =>
  Cert.Kernel2.Gen.frame m ρ trivial (Cert.Kernel2.Gen.Hyps.of fun c t =>
    Cert.Kernel2Ideal.Gen.Hyps.c0 (F := Bits) (Cert.Moe.Sorted.hyps (F := Bits) (m := m) hp) c t)

/-- Both expert programs end with every row's gated answers, where rows are sorted by group. -/
theorem value2 : Cert.algebraic_Kernel2Ideal_Reference2Ideal := by
  intro m ρ m' ρ' hpre hagree
  refine ⟨fun c => Cert.Moe.gated (m (c.tc.loc Cert.Kernel2Ideal.main_arg0)) (m (c.tc.loc Cert.Kernel2Ideal.main_arg1))
      (m (c.tc.loc Cert.Kernel2Ideal.main_arg3)) (m (c.tc.loc Cert.Kernel2Ideal.main_arg4)) (m (c.tc.loc Cert.Kernel2Ideal.main_arg5)), ?_, ?_⟩
  · exact Cert.Moe.run_gated m ρ hpre
  · refine (θ_run Cert.Reference2Ideal.defs _ _).mono (fun r h c => ⟨?_, (h c).2⟩) (Cert.Reference2Ideal.Value.run (F := Ideal) m' ρ')
    obtain ⟨a0, a1, -, a3, a4, a5⟩ := hagree c
    refine ((h c).1.trans (Cert.Reference2Ideal.Experts.ref_eq _ _ _ _ _)).trans ?_
    exact (congrArg (fun a => Cert.Moe.gated a _ _ _ _) a0).trans ((congrArg (fun a => Cert.Moe.gated _ a _ _ _) a1).trans
      ((congrArg (fun a => Cert.Moe.gated _ _ a _ _) a3).trans ((congrArg (fun a => Cert.Moe.gated _ _ _ a _) a4).trans
        (congrArg (fun a => Cert.Moe.gated _ _ _ _ a) a5))))

/-- The reference of the recurrence's columns runs, keeps its arguments and leaves every counter at zero. -/
theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- Both programs end with the recurrence's columns of the input projection, for any arguments. -/
theorem value3 : Cert.algebraic_Kernel3Ideal_Reference3Ideal := by
  intro m ρ m' ρ' _ hagree
  refine ⟨fun c => Cert.Project.proj 0 1024 (by decide) (m (c.tc.loc Cert.Kernel3Ideal.main_arg0)) (m (c.tc.loc Cert.Kernel3Ideal.main_arg1)), ?_, ?_⟩
  · refine (θ_run Cert.Kernel3Ideal.defs _ _).mono (fun r h c => ⟨?_, (h c).2⟩) (Cert.Kernel3Ideal.Value.run_blocks (F := Ideal) m ρ)
    exact (h c).1.trans (Cert.Kernel3Ideal.Columns.final m c)
  · refine (θ_run Cert.Reference3Ideal.defs _ _).mono (fun r h c => ⟨?_, (h c).2⟩) (Cert.Reference3Ideal.Value.run (F := Ideal) m' ρ')
    obtain ⟨a0, a1⟩ := hagree c
    exact ((h c).1.trans (Cert.Reference3Ideal.Columns.ref_eq _ _)).trans (congrArg₂ (Cert.Project.proj 0 1024 (by decide)) a0 a1)

/-- The reference of the convolutions' columns runs, keeps its arguments and leaves every counter at zero. -/
theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- Both programs end with the convolutions' columns of the input projection, for any arguments. -/
theorem value4 : Cert.algebraic_Kernel4Ideal_Reference4Ideal := by
  intro m ρ m' ρ' _ hagree
  refine ⟨fun c => Cert.Project.proj 1024 1536 (by decide) (m (c.tc.loc Cert.Kernel4Ideal.main_arg0)) (m (c.tc.loc Cert.Kernel4Ideal.main_arg1)), ?_, ?_⟩
  · refine (θ_run Cert.Kernel4Ideal.defs _ _).mono (fun r h c => ⟨?_, (h c).2⟩) (Cert.Kernel4Ideal.Value.run_blocks (F := Ideal) m ρ)
    exact (h c).1.trans (Cert.Kernel4Ideal.Columns.final m c)
  · refine (θ_run Cert.Reference4Ideal.defs _ _).mono (fun r h c => ⟨?_, (h c).2⟩) (Cert.Reference4Ideal.Value.run (F := Ideal) m' ρ')
    obtain ⟨a0, a1⟩ := hagree c
    exact ((h c).1.trans (Cert.Reference4Ideal.Columns.ref_eq _ _)).trans (congrArg₂ (Cert.Project.proj 1024 1536 (by decide)) a0 a1)

/-- The reference of the attention's columns runs, keeps its arguments and leaves every counter at zero. -/
theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- Both programs end with the attention's columns of the input projection, for any arguments. -/
theorem value5 : Cert.algebraic_Kernel5Ideal_Reference5Ideal := by
  intro m ρ m' ρ' _ hagree
  refine ⟨fun c => Cert.Project.proj 2560 512 (by decide) (m (c.tc.loc Cert.Kernel5Ideal.main_arg0)) (m (c.tc.loc Cert.Kernel5Ideal.main_arg1)), ?_, ?_⟩
  · refine (θ_run Cert.Kernel5Ideal.defs _ _).mono (fun r h c => ⟨?_, (h c).2⟩) (Cert.Kernel5Ideal.Value.run_blocks (F := Ideal) m ρ)
    exact (h c).1.trans (Cert.Kernel5Ideal.Columns.final m c)
  · refine (θ_run Cert.Reference5Ideal.defs _ _).mono (fun r h c => ⟨?_, (h c).2⟩) (Cert.Reference5Ideal.Value.run (F := Ideal) m' ρ')
    obtain ⟨a0, a1⟩ := hagree c
    exact ((h c).1.trans (Cert.Reference5Ideal.Columns.ref_eq _ _)).trans (congrArg₂ (Cert.Project.proj 2560 512 (by decide)) a0 a1)

/-- The two programs' merges, given the same arguments, are given the same. -/
theorem same_given (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (h : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)) :
    Cert.Reference6Ideal.Rows.given m' c = Cert.Kernel6Ideal.Step.given m c := by
  obtain ⟨a0, a1, a2, a3, a4, a5, a6, a7, a8, a9, a10, a11, a12, a13, a14, a15, a16, a17, -, -, a20, a21⟩ := h
  unfold Cert.Reference6Ideal.Rows.given Cert.Kernel6Ideal.Step.given
  rw [Cert.Merge.In.mk.injEq]
  exact ⟨a0, a1, a2, a3, a4, a5, a6, a7, a8, a9, a10, a11, a12, a13, a14, a15, a16, a17, a20, a21⟩

/-- The merge's reference runs, keeps its arguments and leaves every counter at zero. -/
theorem frame_reference6 : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

/-- Both merges end with the new residual stream and its modulated norm, where the recurrence's two results are real numbers. -/
theorem value6 : Cert.algebraic_Kernel6Ideal_Reference6Ideal_pre_finite_recurrence := by
  intro m ρ m' ρ' hpre hagree
  refine ⟨fun c => Cert.Merge.x1 (Cert.Kernel6Ideal.Step.given m c), fun c => Cert.Merge.hf (Cert.Kernel6Ideal.Step.given m c), ?_, ?_⟩
  · refine (θ_run Cert.Kernel6Ideal.defs _ _).mono (fun r h c => ⟨?_, ?_, h.2.1 c⟩)
      (θ_run_and (Cert.Kernel6Ideal.Run.run_main (F := Ideal) m ρ) (Cert.Kernel6Ideal.Run.frame (F := Ideal) m ρ))
    · obtain ⟨hf, hr⟩ := Cert.Pre_finite_recurrence.real_of _ _ _ _ _ _ _ _ _ _ _ _ _ _ _ _ _ _ _ _ _ _ (hpre c)
      exact ((h.1 c).1 28).trans (Cert.Kernel6Ideal.Step.final28 m c hf hr)
    · obtain ⟨hf, hr⟩ := Cert.Pre_finite_recurrence.real_of _ _ _ _ _ _ _ _ _ _ _ _ _ _ _ _ _ _ _ _ _ _ (hpre c)
      exact ((h.1 c).1 29).trans (Cert.Kernel6Ideal.Step.final29 m c hf hr)
  · refine (θ_run Cert.Reference6Ideal.defs _ _).mono (fun r h c => ⟨?_, ?_, (h.2 c).2.2⟩)
      (θ_run_and (Cert.Reference6Ideal.Rows.run_merge m' ρ') (Cert.Reference6Ideal.Value.run (F := Ideal) m' ρ'))
    · exact (h.1 c).1.trans (congrArg Cert.Merge.x1 (same_given m m' c (hagree c)))
    · exact (h.1 c).2.trans (congrArg Cert.Merge.hf (same_given m m' c (hagree c)))

/-- The modulation's reference runs, keeps its arguments and leaves every counter at zero. -/
theorem frame_reference7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- Both programs end with the modulation of both layers, for any arguments. -/
theorem value7 : Cert.algebraic_Kernel7Ideal_Reference7Ideal := by
  intro m ρ m' ρ' _ hagree
  refine ⟨fun c => Cert.Ada.table (m (c.tc.loc Cert.Kernel7Ideal.main_arg0)) (m (c.tc.loc Cert.Kernel7Ideal.main_arg1))
      (m (c.tc.loc Cert.Kernel7Ideal.main_arg2)), ?_, ?_⟩
  · refine (θ_run Cert.Kernel7Ideal.defs _ _).mono (fun r h c => ⟨?_, (h c).2⟩) (Cert.Kernel7Ideal.Value.run_blocks (F := Ideal) m ρ)
    exact (h c).1.trans (Cert.Kernel7Ideal.Ada.final m c)
  · refine (θ_run Cert.Reference7Ideal.defs _ _).mono (fun r h c => ⟨?_, (h c).2⟩) (Cert.Reference7Ideal.Value.run (F := Ideal) m' ρ')
    obtain ⟨a0, a1, a2⟩ := hagree c
    refine ((h c).1.trans (Cert.Reference7Ideal.Ada.ref_eq _ _ _)).trans ?_
    exact (congrArg (fun a => Cert.Ada.table a _ _) a0).trans ((congrArg (fun a => Cert.Ada.table _ a _) a1).trans
      (congrArg (fun a => Cert.Ada.table _ _ a) a2))

/-- The first norm's reference runs, keeps its arguments and leaves every counter at zero. -/
theorem frame_reference8 : Cert.quiescent_Reference8Ideal := fun m ρ _ =>
  (θ_run Cert.Reference8Ideal.defs _ _).mono
    (fun r h => ⟨fun c => (h c).2.2, Idealize.ShloMosaic.sem_eq_zero_of_no_sems (by decide) r.2⟩)
    (Cert.Reference8Ideal.Value.run (F := Ideal) m ρ)

/-- Both programs end with context and latent one after the other and with their modulated norms, for any arguments. -/
theorem value8 : Cert.algebraic_Kernel8Ideal_Reference8Ideal := by
  intro m ρ m' ρ' _ hagree
  refine ⟨fun c => Cert.First.rowsAll (m (c.tc.loc Cert.Kernel8Ideal.main_arg0)) (m (c.tc.loc Cert.Kernel8Ideal.main_arg1)),
    fun c => Cert.First.modAll (m (c.tc.loc Cert.Kernel8Ideal.main_arg0)) (m (c.tc.loc Cert.Kernel8Ideal.main_arg1))
      (m (c.tc.loc Cert.Kernel8Ideal.main_arg2)), ?_, ?_⟩
  · refine (θ_run Cert.Kernel8Ideal.defs _ _).mono (fun r h c => ⟨?_, ?_, (h c).2.2⟩) (Cert.Kernel8Ideal.Value.run_blocks (F := Ideal) m ρ)
    · exact (h c).1.trans (Cert.Kernel8Ideal.First.final4 m c)
    · exact (h c).2.1.trans (Cert.Kernel8Ideal.First.final5 m c)
  · refine (θ_run Cert.Reference8Ideal.defs _ _).mono (fun r h c => ⟨?_, ?_, (h c).2.2⟩) (Cert.Reference8Ideal.Value.run (F := Ideal) m' ρ')
    · obtain ⟨a0, a1, -⟩ := hagree c
      exact ((h c).1.trans (Cert.Reference8Ideal.First.ref_rows _ _)).trans (congrArg₂ Cert.First.rowsAll a0 a1)
    · obtain ⟨a0, a1, a2⟩ := hagree c
      refine ((h c).2.1.trans (Cert.Reference8Ideal.First.printed_mods m' c)).trans ?_
      exact (congrArg (fun a => Cert.First.modAll a _ _) a0).trans ((congrArg (fun a => Cert.First.modAll _ a _) a1).trans
        (congrArg (fun a => Cert.First.modAll _ _ a) a2))

/-- The last norm's reference between the layers runs, keeps its arguments and leaves every counter at zero. -/
theorem frame_reference9 : Cert.quiescent_Reference9Ideal := fun m ρ _ =>
  (θ_run Cert.Reference9Ideal.defs _ _).mono
    (fun r h => ⟨fun c => (h c).2.2, Idealize.ShloMosaic.sem_eq_zero_of_no_sems (by decide) r.2⟩)
    (Cert.Reference9Ideal.Value.run (F := Ideal) m ρ)

/-- Six arguments equal one by one are the same arguments. -/
theorem given_eq {x x' : FVec Ideal ⟨3, ![8, 4352, 1024]⟩ .f32} {pt pt' : FVec Ideal ⟨2, ![34816, 1152]⟩ .bf16}
    {ys ys' : FVec Ideal ⟨3, ![34, 1440, 1024]⟩ .bf16} {mod3 mod3' : FVec Ideal ⟨3, ![16, 1, 6144]⟩ .f32} {g g' b b' : FVec Ideal ⟨1, ![1024]⟩ .f32}
    (h0 : x = x') (h1 : pt = pt') (h2 : ys = ys') (h3 : mod3 = mod3') (h4 : g = g') (h5 : b = b') :
    Cert.Last.Given.mk x pt ys mod3 g b = Cert.Last.Given.mk x' pt' ys' mod3' g' b' := by
  rw [h0, h1, h2, h3, h4, h5]

/-- Both programs end with the stream after the layer and the next layer's input, for any arguments. -/
theorem value9 : Cert.algebraic_Kernel9Ideal_Reference9Ideal := by
  intro m ρ m' ρ' _ hagree
  refine ⟨fun c => Cert.Last.stream (Cert.Kernel9Ideal.Last.given m c),
    fun c => Cert.Last.next (Cert.Kernel9Ideal.Last.given m c) (m (c.tc.loc Cert.Kernel9Ideal.main_arg6)), ?_, ?_⟩
  · refine (θ_run Cert.Kernel9Ideal.defs _ _).mono (fun r h c => ⟨?_, ?_, (h c).2.2⟩) (Cert.Kernel9Ideal.Value.run_blocks (F := Ideal) m ρ)
    · exact (h c).1.trans (Cert.Kernel9Ideal.Last.final8 m c)
    · exact (h c).2.1.trans (Cert.Kernel9Ideal.Last.final9 m c)
  · refine (θ_run Cert.Reference9Ideal.defs _ _).mono (fun r h c => ⟨?_, ?_, (h c).2.2⟩) (Cert.Reference9Ideal.Value.run (F := Ideal) m' ρ')
    · obtain ⟨a0, a1, a2, a3, a4, a5, -⟩ := hagree c
      exact ((h c).1.trans (Cert.Reference9Ideal.Last.printed_stream m' c)).trans (congrArg Cert.Last.stream (given_eq a0 a1 a2 a3 a4 a5))
    · obtain ⟨a0, a1, a2, a3, a4, a5, a6⟩ := hagree c
      exact ((h c).2.1.trans (Cert.Reference9Ideal.Last.printed_next m' c)).trans (congrArg₂ Cert.Last.next (given_eq a0 a1 a2 a3 a4 a5) a6)

/-- The last layer's last norm's reference runs, keeps its arguments and leaves every counter at zero. -/
theorem frame_reference10 : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- Both programs end with the latent's stream after the last layer, for any arguments. -/
theorem value10 : Cert.algebraic_Kernel10Ideal_Reference10Ideal := by
  intro m ρ m' ρ' _ hagree
  refine ⟨fun c => Cert.Last.latent (Cert.Kernel10Ideal.Last.given m c), ?_, ?_⟩
  · refine (θ_run Cert.Kernel10Ideal.defs _ _).mono (fun r h c => ⟨?_, (h c).2⟩) (Cert.Kernel10Ideal.Value.run_blocks (F := Ideal) m ρ)
    exact (h c).1.trans (Cert.Kernel10Ideal.Last.final6 m c)
  · refine (θ_run Cert.Reference10Ideal.defs _ _).mono (fun r h c => ⟨?_, (h c).2⟩) (Cert.Reference10Ideal.Value.run (F := Ideal) m' ρ')
    obtain ⟨a0, a1, a2, a3, a4, a5⟩ := hagree c
    exact ((h c).1.trans (Cert.Reference10Ideal.Last.printed_latent m' c)).trans (congrArg Cert.Last.latent (given_eq a0 a1 a2 a3 a4 a5))

/-- Every claim: the frames and preservations of all ten programs, and their values. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts,
    Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts, Cert.Kernel8Ideal.Gen.facts,
    Cert.Reference8Ideal.Gen.facts, Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite_queries_keys.facts, Cert.Pre_sorted_by_group.facts, Cert.Pre_finite_recurrence.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    frame_experts, fun m ρ hp => Cert.Kernel2Ideal.Gen.frame m ρ trivial (Cert.Moe.Sorted.hyps (m := m) hp),
    frame_reference2, fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Run.frame m ρ, fun m ρ _ => Cert.Kernel6Ideal.Run.frame m ρ, fun m ρ _ => Cert.Kernel6Ideal.Run.frame m ρ,
    frame_reference6, fun m ρ _ => frame_reference6 m ρ trivial,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    trivial, value, trivial, value2, trivial, value3, trivial, value4, trivial, value5, trivial, value6,
    trivial, value7, trivial, value8, trivial, value9, trivial, value10⟩

end Cert.Proof

end
